-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))
      ∧ r.2.sem = fun _ => 0)

def preserves_Kernel_KernelIdeal : Prop :=
  IdealRules.named_const.Statement Cert.KernelIdeal.κ "inv_48" .f32 0x3CAAAAAB#32 ((1 / 48 : ℝ) : EReal)
  ∧ IdealRules.named_const.Statement Cert.KernelIdeal.κ "half_log2_e" .f32 0x3F38AA3B#32 (((2 * (Real.log 2))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v998) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32x3x224x224 : Shape := ⟨4, ![32, 3, 224, 224]⟩
abbrev S32x1x224x224 : Shape := ⟨4, ![32, 1, 224, 224]⟩
abbrev S32x48x3 : Shape := ⟨3, ![32, 48, 3]⟩
abbrev S48x1x16x16 : Shape := ⟨4, ![48, 1, 16, 16]⟩
abbrev S48 : Shape := ⟨1, ![48]⟩
abbrev S3x48 : Shape := ⟨2, ![3, 48]⟩
abbrev S6x48 : Shape := ⟨2, ![6, 48]⟩
abbrev S6x48x144 : Shape := ⟨3, ![6, 48, 144]⟩
abbrev S6x144 : Shape := ⟨2, ![6, 144]⟩
abbrev S6x48x48 : Shape := ⟨3, ![6, 48, 48]⟩
abbrev S6x48x192 : Shape := ⟨3, ![6, 48, 192]⟩
abbrev S6x192 : Shape := ⟨2, ![6, 192]⟩
abbrev S6x192x48 : Shape := ⟨3, ![6, 192, 48]⟩
abbrev S48x48 : Shape := ⟨2, ![48, 48]⟩
abbrev S9408x48 : Shape := ⟨2, ![9408, 48]⟩
abbrev S_ : Shape := ⟨0, ![]⟩

class Facts : Prop where
  bcast_S_S32x1x224x224 : S_.BroadcastsInDim S32x1x224x224 (![] : Fin 0 → Fin S32x1x224x224.rank)
  reducesTo_S32x1x224x224_S_d0_1_2_3 : S32x1x224x224.ReducesTo [0, 1, 2, 3] S_
  h_S_ : 0 < S_.numel
  bcast_S_S32x48x3 : S_.BroadcastsInDim S32x48x3 (![] : Fin 0 → Fin S32x48x3.rank)
  reducesTo_S32x48x3_S_d0_1_2 : S32x48x3.ReducesTo [0, 1, 2] S_
  bcast_S_S48x1x16x16 : S_.BroadcastsInDim S48x1x16x16 (![] : Fin 0 → Fin S48x1x16x16.rank)
  reducesTo_S48x1x16x16_S_d0_1_2_3 : S48x1x16x16.ReducesTo [0, 1, 2, 3] S_
  bcast_S_S48 : S_.BroadcastsInDim S48 (![] : Fin 0 → Fin S48.rank)
  reducesTo_S48_S_d0 : S48.ReducesTo [0] S_
  bcast_S_S3x48 : S_.BroadcastsInDim S3x48 (![] : Fin 0 → Fin S3x48.rank)
  reducesTo_S3x48_S_d0_1 : S3x48.ReducesTo [0, 1] S_
  bcast_S_S6x48 : S_.BroadcastsInDim S6x48 (![] : Fin 0 → Fin S6x48.rank)
  reducesTo_S6x48_S_d0_1 : S6x48.ReducesTo [0, 1] S_
  bcast_S_S6x48x144 : S_.BroadcastsInDim S6x48x144 (![] : Fin 0 → Fin S6x48x144.rank)
  reducesTo_S6x48x144_S_d0_1_2 : S6x48x144.ReducesTo [0, 1, 2] S_
  bcast_S_S6x144 : S_.BroadcastsInDim S6x144 (![] : Fin 0 → Fin S6x144.rank)
  reducesTo_S6x144_S_d0_1 : S6x144.ReducesTo [0, 1] S_
  bcast_S_S6x48x48 : S_.BroadcastsInDim S6x48x48 (![] : Fin 0 → Fin S6x48x48.rank)
  reducesTo_S6x48x48_S_d0_1_2 : S6x48x48.ReducesTo [0, 1, 2] S_
  bcast_S_S6x48x192 : S_.BroadcastsInDim S6x48x192 (![] : Fin 0 → Fin S6x48x192.rank)
  reducesTo_S6x48x192_S_d0_1_2 : S6x48x192.ReducesTo [0, 1, 2] S_
  bcast_S_S6x192 : S_.BroadcastsInDim S6x192 (![] : Fin 0 → Fin S6x192.rank)
  reducesTo_S6x192_S_d0_1 : S6x192.ReducesTo [0, 1] S_
  bcast_S_S6x192x48 : S_.BroadcastsInDim S6x192x48 (![] : Fin 0 → Fin S6x192x48.rank)
  reducesTo_S6x192x48_S_d0_1_2 : S6x192x48.ReducesTo [0, 1, 2] S_
  bcast_S_S48x48 : S_.BroadcastsInDim S48x48 (![] : Fin 0 → Fin S48x48.rank)
  reducesTo_S48x48_S_d0_1 : S48x48.ReducesTo [0, 1] S_
  bcast_S_S9408x48 : S_.BroadcastsInDim S9408x48 (![] : Fin 0 → Fin S9408x48.rank)
  reducesTo_S9408x48_S_d0_1 : S9408x48.ReducesTo [0, 1] S_

variable [Facts]

def fn_part7 {F : FTy → Type} [FloatOps F] (main_v55 : IVec S_ 1) (main_v59 : IVec S_ 1) (main_v63 : IVec S_ 1) (main_v67 : IVec S_ 1) (main_v71 : IVec S_ 1) (main_v75 : IVec S_ 1) (main_v79 : IVec S_ 1) (main_v83 : IVec S_ 1) (main_v87 : IVec S_ 1) (main_v91 : IVec S_ 1) (main_v95 : IVec S_ 1) (main_v99 : IVec S_ 1) (main_v103 : IVec S_ 1) (main_v115 : IVec S_ 1) : IVec S_ 1 :=
  let main_v116 : IVec S_ 1 := andi main_v115 main_v55
  let main_v117 : IVec S_ 1 := andi main_v116 main_v59
  let main_v118 : IVec S_ 1 := andi main_v117 main_v63
  let main_v119 : IVec S_ 1 := andi main_v118 main_v67
  let main_v120 : IVec S_ 1 := andi main_v119 main_v71
  let main_v121 : IVec S_ 1 := andi main_v120 main_v75
  let main_v122 : IVec S_ 1 := andi main_v121 main_v79
  let main_v123 : IVec S_ 1 := andi main_v122 main_v83
  let main_v124 : IVec S_ 1 := andi main_v123 main_v87
  let main_v125 : IVec S_ 1 := andi main_v124 main_v91
  let main_v126 : IVec S_ 1 := andi main_v125 main_v95
  let main_v127 : IVec S_ 1 := andi main_v126 main_v99
  let main_v128 : IVec S_ 1 := andi main_v127 main_v103
  main_v128

def fn_part6 {F : FTy → Type} [FloatOps F] (main_arg25 : FVec F S9408x48 .f32) (main_arg26 : FVec F S48 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) (main_v51 : IVec S_ 1) (main_v55 : IVec S_ 1) (main_v59 : IVec S_ 1) (main_v63 : IVec S_ 1) (main_v67 : IVec S_ 1) (main_v71 : IVec S_ 1) (main_v75 : IVec S_ 1) (main_v79 : IVec S_ 1) (main_v83 : IVec S_ 1) (main_v87 : IVec S_ 1) (main_v91 : IVec S_ 1) (main_v95 : IVec S_ 1) : IVec S_ 1 :=
  let main_v96 : FVec F S9408x48 .f32 := Host.absf main_arg25
  let main_cst_46 : FVec F S_ .f32 := constant S_ .f32 0x7F800000#32
  let main_v97 : FVec F S9408x48 .f32 := broadcastInDim S9408x48 ![] bcast_S_S9408x48 main_cst_46
  let main_v98 : IVec S9408x48 1 := cmpf .olt main_v96 main_v97
  let main_c_47 : IVec S_ 1 := constantI S_ 1 1#1
  let main_v99 : IVec S_ 1 := (fun x v => Host.reduce IntOp.andi x v reducesTo_S9408x48_S_d0_1 h_S_) main_v98 main_c_47
  let main_v100 : FVec F S48 .f32 := Host.absf main_arg26
  let main_cst_48 : FVec F S_ .f32 := constant S_ .f32 0x7F800000#32
  let main_v101 : FVec F S48 .f32 := broadcastInDim S48 ![] bcast_S_S48 main_cst_48
  let main_v102 : IVec S48 1 := cmpf .olt main_v100 main_v101
  let main_c_49 : IVec S_ 1 := constantI S_ 1 1#1
  let main_v103 : IVec S_ 1 := (fun x v => Host.reduce IntOp.andi x v reducesTo_S48_S_d0 h_S_) main_v102 main_c_49
  let main_v104 : IVec S_ 1 := andi main_v3 main_v7
  let main_v105 : IVec S_ 1 := andi main_v104 main_v11
  let main_v106 : IVec S_ 1 := andi main_v105 main_v15
  let main_v107 : IVec S_ 1 := andi main_v106 main_v19
  let main_v108 : IVec S_ 1 := andi main_v107 main_v23
  let main_v109 : IVec S_ 1 := andi main_v108 main_v27
  let main_v110 : IVec S_ 1 := andi main_v109 main_v31
  let main_v111 : IVec S_ 1 := andi main_v110 main_v35
  let main_v112 : IVec S_ 1 := andi main_v111 main_v39
  let main_v113 : IVec S_ 1 := andi main_v112 main_v43
  let main_v114 : IVec S_ 1 := andi main_v113 main_v47
  let main_v115 : IVec S_ 1 := andi main_v114 main_v51
  fn_part7 (F := F) main_v55 main_v59 main_v63 main_v67 main_v71 main_v75 main_v79 main_v83 main_v87 main_v91 main_v95 main_v99 main_v103 main_v115

def fn_part5 {F : FTy → Type} [FloatOps F] (main_arg21 : FVec F S48 .f32) (main_arg22 : FVec F S48 .f32) (main_arg23 : FVec F S48 .f32) (main_arg24 : FVec F S48 .f32) (main_arg25 : FVec F S9408x48 .f32) (main_arg26 : FVec F S48 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) (main_v51 : IVec S_ 1) (main_v55 : IVec S_ 1) (main_v59 : IVec S_ 1) (main_v63 : IVec S_ 1) (main_v67 : IVec S_ 1) (main_v71 : IVec S_ 1) (main_v75 : IVec S_ 1) (main_v79 : IVec S_ 1) : IVec S_ 1 :=
  let main_v80 : FVec F S48 .f32 := Host.absf main_arg21
  let main_cst_38 : FVec F S_ .f32 := constant S_ .f32 0x7F800000#32
  let main_v81 : FVec F S48 .f32 := broadcastInDim S48 ![] bcast_S_S48 main_cst_38
  let main_v82 : IVec S48 1 := cmpf .olt main_v80 main_v81
  let main_c_39 : IVec S_ 1 := constantI S_ 1 1#1
  let main_v83 : IVec S_ 1 := (fun x v => Host.reduce IntOp.andi x v reducesTo_S48_S_d0 h_S_) main_v82 main_c_39
  let main_v84 : FVec F S48 .f32 := Host.absf main_arg22
  let main_cst_40 : FVec F S_ .f32 := constant S_ .f32 0x7F800000#32
  let main_v85 : FVec F S48 .f32 := broadcastInDim S48 ![] bcast_S_S48 main_cst_40
  let main_v86 : IVec S48 1 := cmpf .olt main_v84 main_v85
  let main_c_41 : IVec S_ 1 := constantI S_ 1 1#1
  let main_v87 : IVec S_ 1 := (fun x v => Host.reduce IntOp.andi x v reducesTo_S48_S_d0 h_S_) main_v86 main_c_41
  let main_v88 : FVec F S48 .f32 := Host.absf main_arg23
  let main_cst_42 : FVec F S_ .f32 := constant S_ .f32 0x7F800000#32
  let main_v89 : FVec F S48 .f32 := broadcastInDim S48 ![] bcast_S_S48 main_cst_42
  let main_v90 : IVec S48 1 := cmpf .olt main_v88 main_v89
  let main_c_43 : IVec S_ 1 := constantI S_ 1 1#1
  let main_v91 : IVec S_ 1 := (fun x v => Host.reduce IntOp.andi x v reducesTo_S48_S_d0 h_S_) main_v90 main_c_43
  let main_v92 : FVec F S48 .f32 := Host.absf main_arg24
  let main_cst_44 : FVec F S_ .f32 := constant S_ .f32 0x7F800000#32
  let main_v93 : FVec F S48 .f32 := broadcastInDim S48 ![] bcast_S_S48 main_cst_44
  let main_v94 : IVec S48 1 := cmpf .olt main_v92 main_v93
  let main_c_45 : IVec S_ 1 := constantI S_ 1 1#1
  let main_v95 : IVec S_ 1 := (fun x v => Host.reduce IntOp.andi x v reducesTo_S48_S_d0 h_S_) main_v94 main_c_45
  fn_part6 (F := F) main_arg25 main_arg26 main_v3 main_v7 main_v11 main_v15 main_v19 main_v23 main_v27 main_v31 main_v35 main_v39 main_v43 main_v47 main_v51 main_v55 main_v59 main_v63 main_v67 main_v71 main_v75 main_v79 main_v83 main_v87 main_v91 main_v95

def fn_part4 {F : FTy → Type} [FloatOps F] (main_arg17 : FVec F S6x192x48 .f32) (main_arg18 : FVec F S6x48 .f32) (main_arg19 : FVec F S48x48 .f32) (main_arg20 : FVec F S48x48 .f32) (main_arg21 : FVec F S48 .f32) (main_arg22 : FVec F S48 .f32) (main_arg23 : FVec F S48 .f32) (main_arg24 : FVec F S48 .f32) (main_arg25 : FVec F S9408x48 .f32) (main_arg26 : FVec F S48 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) (main_v51 : IVec S_ 1) (main_v55 : IVec S_ 1) (main_v59 : IVec S_ 1) (main_v63 : IVec S_ 1) : IVec S_ 1 :=
  let main_v64 : FVec F S6x192x48 .f32 := Host.absf main_arg17
  let main_cst_30 : FVec F S_ .f32 := constant S_ .f32 0x7F800000#32
  let main_v65 : FVec F S6x192x48 .f32 := broadcastInDim S6x192x48 ![] bcast_S_S6x192x48 main_cst_30
  let main_v66 : IVec S6x192x48 1 := cmpf .olt main_v64 main_v65
  let main_c_31 : IVec S_ 1 := constantI S_ 1 1#1
  let main_v67 : IVec S_ 1 := (fun x v => Host.reduce IntOp.andi x v reducesTo_S6x192x48_S_d0_1_2 h_S_) main_v66 main_c_31
  let main_v68 : FVec F S6x48 .f32 := Host.absf main_arg18
  let main_cst_32 : FVec F S_ .f32 := constant S_ .f32 0x7F800000#32
  let main_v69 : FVec F S6x48 .f32 := broadcastInDim S6x48 ![] bcast_S_S6x48 main_cst_32
  let main_v70 : IVec S6x48 1 := cmpf .olt main_v68 main_v69
  let main_c_33 : IVec S_ 1 := constantI S_ 1 1#1
  let main_v71 : IVec S_ 1 := (fun x v => Host.reduce IntOp.andi x v reducesTo_S6x48_S_d0_1 h_S_) main_v70 main_c_33
  let main_v72 : FVec F S48x48 .f32 := Host.absf main_arg19
  let main_cst_34 : FVec F S_ .f32 := constant S_ .f32 0x7F800000#32
  let main_v73 : FVec F S48x48 .f32 := broadcastInDim S48x48 ![] bcast_S_S48x48 main_cst_34
  let main_v74 : IVec S48x48 1 := cmpf .olt main_v72 main_v73
  let main_c_35 : IVec S_ 1 := constantI S_ 1 1#1
  let main_v75 : IVec S_ 1 := (fun x v => Host.reduce IntOp.andi x v reducesTo_S48x48_S_d0_1 h_S_) main_v74 main_c_35
  let main_v76 : FVec F S48x48 .f32 := Host.absf main_arg20
  let main_cst_36 : FVec F S_ .f32 := constant S_ .f32 0x7F800000#32
  let main_v77 : FVec F S48x48 .f32 := broadcastInDim S48x48 ![] bcast_S_S48x48 main_cst_36
  let main_v78 : IVec S48x48 1 := cmpf .olt main_v76 main_v77
  let main_c_37 : IVec S_ 1 := constantI S_ 1 1#1
  let main_v79 : IVec S_ 1 := (fun x v => Host.reduce IntOp.andi x v reducesTo_S48x48_S_d0_1 h_S_) main_v78 main_c_37
  fn_part5 (F := F) main_arg21 main_arg22 main_arg23 main_arg24 main_arg25 main_arg26 main_v3 main_v7 main_v11 main_v15 main_v19 main_v23 main_v27 main_v31 main_v35 main_v39 main_v43 main_v47 main_v51 main_v55 main_v59 main_v63 main_v67 main_v71 main_v75 main_v79

def fn_part3 {F : FTy → Type} [FloatOps F] (main_arg13 : FVec F S6x48 .f32) (main_arg14 : FVec F S6x48 .f32) (main_arg15 : FVec F S6x48x192 .f32) (main_arg16 : FVec F S6x192 .f32) (main_arg17 : FVec F S6x192x48 .f32) (main_arg18 : FVec F S6x48 .f32) (main_arg19 : FVec F S48x48 .f32) (main_arg20 : FVec F S48x48 .f32) (main_arg21 : FVec F S48 .f32) (main_arg22 : FVec F S48 .f32) (main_arg23 : FVec F S48 .f32) (main_arg24 : FVec F S48 .f32) (main_arg25 : FVec F S9408x48 .f32) (main_arg26 : FVec F S48 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) : IVec S_ 1 :=
  let main_v48 : FVec F S6x48 .f32 := Host.absf main_arg13
  let main_cst_22 : FVec F S_ .f32 := constant S_ .f32 0x7F800000#32
  let main_v49 : FVec F S6x48 .f32 := broadcastInDim S6x48 ![] bcast_S_S6x48 main_cst_22
  let main_v50 : IVec S6x48 1 := cmpf .olt main_v48 main_v49
  let main_c_23 : IVec S_ 1 := constantI S_ 1 1#1
  let main_v51 : IVec S_ 1 := (fun x v => Host.reduce IntOp.andi x v reducesTo_S6x48_S_d0_1 h_S_) main_v50 main_c_23
  let main_v52 : FVec F S6x48 .f32 := Host.absf main_arg14
  let main_cst_24 : FVec F S_ .f32 := constant S_ .f32 0x7F800000#32
  let main_v53 : FVec F S6x48 .f32 := broadcastInDim S6x48 ![] bcast_S_S6x48 main_cst_24
  let main_v54 : IVec S6x48 1 := cmpf .olt main_v52 main_v53
  let main_c_25 : IVec S_ 1 := constantI S_ 1 1#1
  let main_v55 : IVec S_ 1 := (fun x v => Host.reduce IntOp.andi x v reducesTo_S6x48_S_d0_1 h_S_) main_v54 main_c_25
  let main_v56 : FVec F S6x48x192 .f32 := Host.absf main_arg15
  let main_cst_26 : FVec F S_ .f32 := constant S_ .f32 0x7F800000#32
  let main_v57 : FVec F S6x48x192 .f32 := broadcastInDim S6x48x192 ![] bcast_S_S6x48x192 main_cst_26
  let main_v58 : IVec S6x48x192 1 := cmpf .olt main_v56 main_v57
  let main_c_27 : IVec S_ 1 := constantI S_ 1 1#1
  let main_v59 : IVec S_ 1 := (fun x v => Host.reduce IntOp.andi x v reducesTo_S6x48x192_S_d0_1_2 h_S_) main_v58 main_c_27
  let main_v60 : FVec F S6x192 .f32 := Host.absf main_arg16
  let main_cst_28 : FVec F S_ .f32 := constant S_ .f32 0x7F800000#32
  let main_v61 : FVec F S6x192 .f32 := broadcastInDim S6x192 ![] bcast_S_S6x192 main_cst_28
  let main_v62 : IVec S6x192 1 := cmpf .olt main_v60 main_v61
  let main_c_29 : IVec S_ 1 := constantI S_ 1 1#1
  let main_v63 : IVec S_ 1 := (fun x v => Host.reduce IntOp.andi x v reducesTo_S6x192_S_d0_1 h_S_) main_v62 main_c_29
  fn_part4 (F := F) main_arg17 main_arg18 main_arg19 main_arg20 main_arg21 main_arg22 main_arg23 main_arg24 main_arg25 main_arg26 main_v3 main_v7 main_v11 main_v15 main_v19 main_v23 main_v27 main_v31 main_v35 main_v39 main_v43 main_v47 main_v51 main_v55 main_v59 main_v63

def fn_part2 {F : FTy → Type} [FloatOps F] (main_arg9 : FVec F S6x48x144 .f32) (main_arg10 : FVec F S6x144 .f32) (main_arg11 : FVec F S6x48x48 .f32) (main_arg12 : FVec F S6x48 .f32) (main_arg13 : FVec F S6x48 .f32) (main_arg14 : FVec F S6x48 .f32) (main_arg15 : FVec F S6x48x192 .f32) (main_arg16 : FVec F S6x192 .f32) (main_arg17 : FVec F S6x192x48 .f32) (main_arg18 : FVec F S6x48 .f32) (main_arg19 : FVec F S48x48 .f32) (main_arg20 : FVec F S48x48 .f32) (main_arg21 : FVec F S48 .f32) (main_arg22 : FVec F S48 .f32) (main_arg23 : FVec F S48 .f32) (main_arg24 : FVec F S48 .f32) (main_arg25 : FVec F S9408x48 .f32) (main_arg26 : FVec F S48 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S6x48x144 .f32 := Host.absf main_arg9
  let main_cst_14 : FVec F S_ .f32 := constant S_ .f32 0x7F800000#32
  let main_v33 : FVec F S6x48x144 .f32 := broadcastInDim S6x48x144 ![] bcast_S_S6x48x144 main_cst_14
  let main_v34 : IVec S6x48x144 1 := cmpf .olt main_v32 main_v33
  let main_c_15 : IVec S_ 1 := constantI S_ 1 1#1
  let main_v35 : IVec S_ 1 := (fun x v => Host.reduce IntOp.andi x v reducesTo_S6x48x144_S_d0_1_2 h_S_) main_v34 main_c_15
  let main_v36 : FVec F S6x144 .f32 := Host.absf main_arg10
  let main_cst_16 : FVec F S_ .f32 := constant S_ .f32 0x7F800000#32
  let main_v37 : FVec F S6x144 .f32 := broadcastInDim S6x144 ![] bcast_S_S6x144 main_cst_16
  let main_v38 : IVec S6x144 1 := cmpf .olt main_v36 main_v37
  let main_c_17 : IVec S_ 1 := constantI S_ 1 1#1
  let main_v39 : IVec S_ 1 := (fun x v => Host.reduce IntOp.andi x v reducesTo_S6x144_S_d0_1 h_S_) main_v38 main_c_17
  let main_v40 : FVec F S6x48x48 .f32 := Host.absf main_arg11
  let main_cst_18 : FVec F S_ .f32 := constant S_ .f32 0x7F800000#32
  let main_v41 : FVec F S6x48x48 .f32 := broadcastInDim S6x48x48 ![] bcast_S_S6x48x48 main_cst_18
  let main_v42 : IVec S6x48x48 1 := cmpf .olt main_v40 main_v41
  let main_c_19 : IVec S_ 1 := constantI S_ 1 1#1
  let main_v43 : IVec S_ 1 := (fun x v => Host.reduce IntOp.andi x v reducesTo_S6x48x48_S_d0_1_2 h_S_) main_v42 main_c_19
  let main_v44 : FVec F S6x48 .f32 := Host.absf main_arg12
  let main_cst_20 : FVec F S_ .f32 := constant S_ .f32 0x7F800000#32
  let main_v45 : FVec F S6x48 .f32 := broadcastInDim S6x48 ![] bcast_S_S6x48 main_cst_20
  let main_v46 : IVec S6x48 1 := cmpf .olt main_v44 main_v45
  let main_c_21 : IVec S_ 1 := constantI S_ 1 1#1
  let main_v47 : IVec S_ 1 := (fun x v => Host.reduce IntOp.andi x v reducesTo_S6x48_S_d0_1 h_S_) main_v46 main_c_21
  fn_part3 (F := F) main_arg13 main_arg14 main_arg15 main_arg16 main_arg17 main_arg18 main_arg19 main_arg20 main_arg21 main_arg22 main_arg23 main_arg24 main_arg25 main_arg26 main_v3 main_v7 main_v11 main_v15 main_v19 main_v23 main_v27 main_v31 main_v35 main_v39 main_v43 main_v47

def fn_part1 {F : FTy → Type} [FloatOps F] (main_arg5 : FVec F S3x48 .f32) (main_arg6 : FVec F S48 .f32) (main_arg7 : FVec F S6x48 .f32) (main_arg8 : FVec F S6x48 .f32) (main_arg9 : FVec F S6x48x144 .f32) (main_arg10 : FVec F S6x144 .f32) (main_arg11 : FVec F S6x48x48 .f32) (main_arg12 : FVec F S6x48 .f32) (main_arg13 : FVec F S6x48 .f32) (main_arg14 : FVec F S6x48 .f32) (main_arg15 : FVec F S6x48x192 .f32) (main_arg16 : FVec F S6x192 .f32) (main_arg17 : FVec F S6x192x48 .f32) (main_arg18 : FVec F S6x48 .f32) (main_arg19 : FVec F S48x48 .f32) (main_arg20 : FVec F S48x48 .f32) (main_arg21 : FVec F S48 .f32) (main_arg22 : FVec F S48 .f32) (main_arg23 : FVec F S48 .f32) (main_arg24 : FVec F S48 .f32) (main_arg25 : FVec F S9408x48 .f32) (main_arg26 : FVec F S48 .f32) (main_v3 : IVec S_ 1) (main_v7 : IVec S_ 1) (main_v11 : IVec S_ 1) (main_v15 : IVec S_ 1) : IVec S_ 1 :=
  let main_v16 : FVec F S3x48 .f32 := Host.absf main_arg5
  let main_cst_6 : FVec F S_ .f32 := constant S_ .f32 0x7F800000#32
  let main_v17 : FVec F S3x48 .f32 := broadcastInDim S3x48 ![] bcast_S_S3x48 main_cst_6
  let main_v18 : IVec S3x48 1 := cmpf .olt main_v16 main_v17
  let main_c_7 : IVec S_ 1 := constantI S_ 1 1#1
  let main_v19 : IVec S_ 1 := (fun x v => Host.reduce IntOp.andi x v reducesTo_S3x48_S_d0_1 h_S_) main_v18 main_c_7
  let main_v20 : FVec F S48 .f32 := Host.absf main_arg6
  let main_cst_8 : FVec F S_ .f32 := constant S_ .f32 0x7F800000#32
  let main_v21 : FVec F S48 .f32 := broadcastInDim S48 ![] bcast_S_S48 main_cst_8
  let main_v22 : IVec S48 1 := cmpf .olt main_v20 main_v21
  let main_c_9 : IVec S_ 1 := constantI S_ 1 1#1
  let main_v23 : IVec S_ 1 := (fun x v => Host.reduce IntOp.andi x v reducesTo_S48_S_d0 h_S_) main_v22 main_c_9
  let main_v24 : FVec F S6x48 .f32 := Host.absf main_arg7
  let main_cst_10 : FVec F S_ .f32 := constant S_ .f32 0x7F800000#32
  let main_v25 : FVec F S6x48 .f32 := broadcastInDim S6x48 ![] bcast_S_S6x48 main_cst_10
  let main_v26 : IVec S6x48 1 := cmpf .olt main_v24 main_v25
  let main_c_11 : IVec S_ 1 := constantI S_ 1 1#1
  let main_v27 : IVec S_ 1 := (fun x v => Host.reduce IntOp.andi x v reducesTo_S6x48_S_d0_1 h_S_) main_v26 main_c_11
  let main_v28 : FVec F S6x48 .f32 := Host.absf main_arg8
  let main_cst_12 : FVec F S_ .f32 := constant S_ .f32 0x7F800000#32
  let main_v29 : FVec F S6x48 .f32 := broadcastInDim S6x48 ![] bcast_S_S6x48 main_cst_12
  let main_v30 : IVec S6x48 1 := cmpf .olt main_v28 main_v29
  let main_c_13 : IVec S_ 1 := constantI S_ 1 1#1
  let main_v31 : IVec S_ 1 := (fun x v => Host.reduce IntOp.andi x v reducesTo_S6x48_S_d0_1 h_S_) main_v30 main_c_13
  fn_part2 (F := F) main_arg9 main_arg10 main_arg11 main_arg12 main_arg13 main_arg14 main_arg15 main_arg16 main_arg17 main_arg18 main_arg19 main_arg20 main_arg21 main_arg22 main_arg23 main_arg24 main_arg25 main_arg26 main_v3 main_v7 main_v11 main_v15 main_v19 main_v23 main_v27 main_v31

def fn {F : FTy → Type} [FloatOps F] (main_arg0 : FVec F S32x3x224x224 .f32) (main_arg1 : FVec F S32x1x224x224 .f32) (main_arg2 : FVec F S32x48x3 .f32) (main_arg3 : FVec F S48x1x16x16 .f32) (main_arg4 : FVec F S48 .f32) (main_arg5 : FVec F S3x48 .f32) (main_arg6 : FVec F S48 .f32) (main_arg7 : FVec F S6x48 .f32) (main_arg8 : FVec F S6x48 .f32) (main_arg9 : FVec F S6x48x144 .f32) (main_arg10 : FVec F S6x144 .f32) (main_arg11 : FVec F S6x48x48 .f32) (main_arg12 : FVec F S6x48 .f32) (main_arg13 : FVec F S6x48 .f32) (main_arg14 : FVec F S6x48 .f32) (main_arg15 : FVec F S6x48x192 .f32) (main_arg16 : FVec F S6x192 .f32) (main_arg17 : FVec F S6x192x48 .f32) (main_arg18 : FVec F S6x48 .f32) (main_arg19 : FVec F S48x48 .f32) (main_arg20 : FVec F S48x48 .f32) (main_arg21 : FVec F S48 .f32) (main_arg22 : FVec F S48 .f32) (main_arg23 : FVec F S48 .f32) (main_arg24 : FVec F S48 .f32) (main_arg25 : FVec F S9408x48 .f32) (main_arg26 : FVec F S48 .f32) : IVec S_ 1 :=
  let main_v0 : FVec F S32x1x224x224 .f32 := Host.absf main_arg1
  let main_cst : FVec F S_ .f32 := constant S_ .f32 0x7F800000#32
  let main_v1 : FVec F S32x1x224x224 .f32 := broadcastInDim S32x1x224x224 ![] bcast_S_S32x1x224x224 main_cst
  let main_v2 : IVec S32x1x224x224 1 := cmpf .olt main_v0 main_v1
  let main_c : IVec S_ 1 := constantI S_ 1 1#1
  let main_v3 : IVec S_ 1 := (fun x v => Host.reduce IntOp.andi x v reducesTo_S32x1x224x224_S_d0_1_2_3 h_S_) main_v2 main_c
  let main_v4 : FVec F S32x48x3 .f32 := Host.absf main_arg2
  let main_cst_0 : FVec F S_ .f32 := constant S_ .f32 0x7F800000#32
  let main_v5 : FVec F S32x48x3 .f32 := broadcastInDim S32x48x3 ![] bcast_S_S32x48x3 main_cst_0
  let main_v6 : IVec S32x48x3 1 := cmpf .olt main_v4 main_v5
  let main_c_1 : IVec S_ 1 := constantI S_ 1 1#1
  let main_v7 : IVec S_ 1 := (fun x v => Host.reduce IntOp.andi x v reducesTo_S32x48x3_S_d0_1_2 h_S_) main_v6 main_c_1
  let main_v8 : FVec F S48x1x16x16 .f32 := Host.absf main_arg3
  let main_cst_2 : FVec F S_ .f32 := constant S_ .f32 0x7F800000#32
  let main_v9 : FVec F S48x1x16x16 .f32 := broadcastInDim S48x1x16x16 ![] bcast_S_S48x1x16x16 main_cst_2
  let main_v10 : IVec S48x1x16x16 1 := cmpf .olt main_v8 main_v9
  let main_c_3 : IVec S_ 1 := constantI S_ 1 1#1
  let main_v11 : IVec S_ 1 := (fun x v => Host.reduce IntOp.andi x v reducesTo_S48x1x16x16_S_d0_1_2_3 h_S_) main_v10 main_c_3
  let main_v12 : FVec F S48 .f32 := Host.absf main_arg4
  let main_cst_4 : FVec F S_ .f32 := constant S_ .f32 0x7F800000#32
  let main_v13 : FVec F S48 .f32 := broadcastInDim S48 ![] bcast_S_S48 main_cst_4
  let main_v14 : IVec S48 1 := cmpf .olt main_v12 main_v13
  let main_c_5 : IVec S_ 1 := constantI S_ 1 1#1
  let main_v15 : IVec S_ 1 := (fun x v => Host.reduce IntOp.andi x v reducesTo_S48_S_d0 h_S_) main_v14 main_c_5
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v3 main_v7 main_v11 main_v15
-- ==== Kernel.lean ====
abbrev S32x3x224x224 : Shape := ⟨4, ![32, 3, 224, 224]⟩
abbrev S32x1x224x224 : Shape := ⟨4, ![32, 1, 224, 224]⟩
abbrev S32x48x3 : Shape := ⟨3, ![32, 48, 3]⟩
abbrev S48x1x16x16 : Shape := ⟨4, ![48, 1, 16, 16]⟩
abbrev S48 : Shape := ⟨1, ![48]⟩
abbrev S3x48 : Shape := ⟨2, ![3, 48]⟩
abbrev S6x48 : Shape := ⟨2, ![6, 48]⟩
abbrev S6x48x144 : Shape := ⟨3, ![6, 48, 144]⟩
abbrev S6x144 : Shape := ⟨2, ![6, 144]⟩
abbrev S6x48x48 : Shape := ⟨3, ![6, 48, 48]⟩
abbrev S6x48x192 : Shape := ⟨3, ![6, 48, 192]⟩
abbrev S6x192 : Shape := ⟨2, ![6, 192]⟩
abbrev S6x192x48 : Shape := ⟨3, ![6, 192, 48]⟩
abbrev S48x48 : Shape := ⟨2, ![48, 48]⟩
abbrev S9408x48 : Shape := ⟨2, ![9408, 48]⟩
abbrev S32x14x16x14x16 : Shape := ⟨5, ![32, 14, 16, 14, 16]⟩
abbrev S32x14x14x16x16 : Shape := ⟨5, ![32, 14, 14, 16, 16]⟩
abbrev S32x196x256 : Shape := ⟨3, ![32, 196, 256]⟩
abbrev S_ : Shape := ⟨0, ![]⟩
abbrev S32x256x256 : Shape := ⟨3, ![32, 256, 256]⟩
abbrev S48x256 : Shape := ⟨2, ![48, 256]⟩
abbrev S256x48 : Shape := ⟨2, ![256, 48]⟩
abbrev S196x48x48 : Shape := ⟨3, ![196, 48, 48]⟩
abbrev S196x2304 : Shape := ⟨2, ![196, 2304]⟩
abbrev S256x2304 : Shape := ⟨2, ![256, 2304]⟩
abbrev S1x48 : Shape := ⟨2, ![1, 48]⟩
abbrev S6x1x48 : Shape := ⟨3, ![6, 1, 48]⟩
abbrev S6x1x144 : Shape := ⟨3, ![6, 1, 144]⟩
abbrev S6x1x192 : Shape := ⟨3, ![6, 1, 192]⟩
abbrev S32x2x224x224 : Shape := ⟨4, ![32, 2, 224, 224]⟩
abbrev S1x256x256 : Shape := ⟨3, ![1, 256, 256]⟩
abbrev S1x48x3 : Shape := ⟨3, ![1, 48, 3]⟩
abbrev S1x2x224x224 : Shape := ⟨4, ![1, 2, 224, 224]⟩
abbrev S8x128 : Shape := ⟨2, ![8, 128]⟩
abbrev S3072x48 : Shape := ⟨2, ![3072, 48]⟩
abbrev S12x1x48 : Shape := ⟨3, ![12, 1, 48]⟩
abbrev S3072x256 : Shape := ⟨2, ![3072, 256]⟩
abbrev S48x2304 : Shape := ⟨2, ![48, 2304]⟩
abbrev S2304x48 : Shape := ⟨2, ![2304, 48]⟩
abbrev S24x24 : Shape := ⟨2, ![24, 24]⟩
abbrev S24x224 : Shape := ⟨2, ![24, 224]⟩
abbrev S256x256 : Shape := ⟨2, ![256, 256]⟩
abbrev S48x3 : Shape := ⟨2, ![48, 3]⟩
abbrev S1x1x48 : Shape := ⟨3, ![1, 1, 48]⟩
abbrev S1x48x144 : Shape := ⟨3, ![1, 48, 144]⟩
abbrev S48x144 : Shape := ⟨2, ![48, 144]⟩
abbrev S256x144 : Shape := ⟨2, ![256, 144]⟩
abbrev S1x1x144 : Shape := ⟨3, ![1, 1, 144]⟩
abbrev S1x144 : Shape := ⟨2, ![1, 144]⟩
abbrev S256x96 : Shape := ⟨2, ![256, 96]⟩
abbrev S3072x96 : Shape := ⟨2, ![3072, 96]⟩
abbrev S12x256x48 : Shape := ⟨3, ![12, 256, 48]⟩
abbrev S1x48x48 : Shape := ⟨3, ![1, 48, 48]⟩
abbrev S1x48x192 : Shape := ⟨3, ![1, 48, 192]⟩
abbrev S48x192 : Shape := ⟨2, ![48, 192]⟩
abbrev S256x192 : Shape := ⟨2, ![256, 192]⟩
abbrev S1x1x192 : Shape := ⟨3, ![1, 1, 192]⟩
abbrev S1x192 : Shape := ⟨2, ![1, 192]⟩
abbrev S1x192x48 : Shape := ⟨3, ![1, 192, 48]⟩
abbrev S192x48 : Shape := ⟨2, ![192, 48]⟩
abbrev S2304 : Shape := ⟨1, ![2304]⟩
abbrev S1x2304 : Shape := ⟨2, ![1, 2304]⟩
abbrev S48x1 : Shape := ⟨2, ![48, 1]⟩
abbrev S24x1 : Shape := ⟨2, ![24, 1]⟩
abbrev S1x24x1 : Shape := ⟨3, ![1, 24, 1]⟩
abbrev S1 : Shape := ⟨1, ![1]⟩
abbrev S1x1x1 : Shape := ⟨3, ![1, 1, 1]⟩
abbrev S224x224 : Shape := ⟨2, ![224, 224]⟩
abbrev S1x224x224 : Shape := ⟨3, ![1, 224, 224]⟩
abbrev S1x1x224x224 : Shape := ⟨4, ![1, 1, 224, 224]⟩

abbrev nBuf : Space → Nat
  | .hbm => 56
  | .vmem => 31
  | .smem => 0
  | _ => 0

abbrev bufTy : (tb : Table) → Fin (tcTables nBuf tb) → BufTy
  | .hbm, ⟨0, _⟩ => ⟨S32x3x224x224, .f32⟩
  | .hbm, ⟨1, _⟩ => ⟨S32x1x224x224, .f32⟩
  | .hbm, ⟨2, _⟩ => ⟨S32x48x3, .f32⟩
  | .hbm, ⟨3, _⟩ => ⟨S48x1x16x16, .f32⟩
  | .hbm, ⟨4, _⟩ => ⟨S48, .f32⟩
  | .hbm, ⟨5, _⟩ => ⟨S3x48, .f32⟩
  | .hbm, ⟨6, _⟩ => ⟨S48, .f32⟩
  | .hbm, ⟨7, _⟩ => ⟨S6x48, .f32⟩
  | .hbm, ⟨8, _⟩ => ⟨S6x48, .f32⟩
  | .hbm, ⟨9, _⟩ => ⟨S6x48x144, .f32⟩
  | .hbm, ⟨10, _⟩ => ⟨S6x144, .f32⟩
  | .hbm, ⟨11, _⟩ => ⟨S6x48x48, .f32⟩
  | .hbm, ⟨12, _⟩ => ⟨S6x48, .f32⟩
  | .hbm, ⟨13, _⟩ => ⟨S6x48, .f32⟩
  | .hbm, ⟨14, _⟩ => ⟨S6x48, .f32⟩
  | .hbm, ⟨15, _⟩ => ⟨S6x48x192, .f32⟩
  | .hbm, ⟨16, _⟩ => ⟨S6x192, .f32⟩
  | .hbm, ⟨17, _⟩ => ⟨S6x192x48, .f32⟩
  | .hbm, ⟨18, _⟩ => ⟨S6x48, .f32⟩
  | .hbm, ⟨19, _⟩ => ⟨S48x48, .f32⟩
  | .hbm, ⟨20, _⟩ => ⟨S48x48, .f32⟩
  | .hbm, ⟨21, _⟩ => ⟨S48, .f32⟩
  | .hbm, ⟨22, _⟩ => ⟨S48, .f32⟩
  | .hbm, ⟨23, _⟩ => ⟨S48, .f32⟩
  | .hbm, ⟨24, _⟩ => ⟨S48, .f32⟩
  | .hbm, ⟨25, _⟩ => ⟨S9408x48, .f32⟩
  | .hbm, ⟨26, _⟩ => ⟨S48, .f32⟩
  | .hbm, ⟨27, _⟩ => ⟨S32x14x16x14x16, .f32⟩
  | .hbm, ⟨28, _⟩ => ⟨S32x14x14x16x16, .f32⟩
  | .hbm, ⟨29, _⟩ => ⟨S32x196x256, .f32⟩
  | .hbm, ⟨30, _⟩ => ⟨S_, .i32⟩
  | .hbm, ⟨31, _⟩ => ⟨S_, .f32⟩
  | .hbm, ⟨32, _⟩ => ⟨S32x256x256, .f32⟩
  | .hbm, ⟨33, _⟩ => ⟨S48x256, .f32⟩
  | .hbm, ⟨34, _⟩ => ⟨S256x48, .f32⟩
  | .hbm, ⟨35, _⟩ => ⟨S196x48x48, .f32⟩
  | .hbm, ⟨36, _⟩ => ⟨S196x2304, .f32⟩
  | .hbm, ⟨37, _⟩ => ⟨S_, .i32⟩
  | .hbm, ⟨38, _⟩ => ⟨S_, .f32⟩
  | .hbm, ⟨39, _⟩ => ⟨S256x2304, .f32⟩
  | .hbm, ⟨40, _⟩ => ⟨S1x48, .f32⟩
  | .hbm, ⟨41, _⟩ => ⟨S1x48, .f32⟩
  | .hbm, ⟨42, _⟩ => ⟨S6x1x48, .f32⟩
  | .hbm, ⟨43, _⟩ => ⟨S6x1x48, .f32⟩
  | .hbm, ⟨44, _⟩ => ⟨S6x1x144, .f32⟩
  | .hbm, ⟨45, _⟩ => ⟨S6x1x48, .f32⟩
  | .hbm, ⟨46, _⟩ => ⟨S6x1x48, .f32⟩
  | .hbm, ⟨47, _⟩ => ⟨S6x1x48, .f32⟩
  | .hbm, ⟨48, _⟩ => ⟨S6x1x192, .f32⟩
  | .hbm, ⟨49, _⟩ => ⟨S6x1x48, .f32⟩
  | .hbm, ⟨50, _⟩ => ⟨S1x48, .f32⟩
  | .hbm, ⟨51, _⟩ => ⟨S1x48, .f32⟩
  | .hbm, ⟨52, _⟩ => ⟨S1x48, .f32⟩
  | .hbm, ⟨53, _⟩ => ⟨S1x48, .f32⟩
  | .hbm, ⟨54, _⟩ => ⟨S1x48, .f32⟩
  | .hbm, ⟨55, _⟩ => ⟨S32x2x224x224, .f32⟩
  | .local _ .vmem, ⟨0, _⟩ => ⟨S1x256x256, .f32⟩
  | .local _ .vmem, ⟨1, _⟩ => ⟨S1x256x256, .f32⟩
  | .local _ .vmem, ⟨2, _⟩ => ⟨S1x48x3, .f32⟩
  | .local _ .vmem, ⟨3, _⟩ => ⟨S1x48x3, .f32⟩
  | .local _ .vmem, ⟨4, _⟩ => ⟨S256x48, .f32⟩
  | .local _ .vmem, ⟨5, _⟩ => ⟨S1x48, .f32⟩
  | .local _ .vmem, ⟨6, _⟩ => ⟨S3x48, .f32⟩
  | .local _ .vmem, ⟨7, _⟩ => ⟨S1x48, .f32⟩
  | .local _ .vmem, ⟨8, _⟩ => ⟨S6x1x48, .f32⟩
  | .local _ .vmem, ⟨9, _⟩ => ⟨S6x1x48, .f32⟩
  | .local _ .vmem, ⟨10, _⟩ => ⟨S6x48x144, .f32⟩
  | .local _ .vmem, ⟨11, _⟩ => ⟨S6x1x144, .f32⟩
  | .local _ .vmem, ⟨12, _⟩ => ⟨S6x48x48, .f32⟩
  | .local _ .vmem, ⟨13, _⟩ => ⟨S6x1x48, .f32⟩
  | .local _ .vmem, ⟨14, _⟩ => ⟨S6x1x48, .f32⟩
  | .local _ .vmem, ⟨15, _⟩ => ⟨S6x1x48, .f32⟩
  | .local _ .vmem, ⟨16, _⟩ => ⟨S6x48x192, .f32⟩
  | .local _ .vmem, ⟨17, _⟩ => ⟨S6x1x192, .f32⟩
  | .local _ .vmem, ⟨18, _⟩ => ⟨S6x192x48, .f32⟩
  | .local _ .vmem, ⟨19, _⟩ => ⟨S6x1x48, .f32⟩
  | .local _ .vmem, ⟨20, _⟩ => ⟨S48x48, .f32⟩
  | .local _ .vmem, ⟨21, _⟩ => ⟨S48x48, .f32⟩
  | .local _ .vmem, ⟨22, _⟩ => ⟨S1x48, .f32⟩
  | .local _ .vmem, ⟨23, _⟩ => ⟨S1x48, .f32⟩
  | .local _ .vmem, ⟨24, _⟩ => ⟨S1x48, .f32⟩
  | .local _ .vmem, ⟨25, _⟩ => ⟨S1x48, .f32⟩
  | .local _ .vmem, ⟨26, _⟩ => ⟨S256x2304, .f32⟩
  | .local _ .vmem, ⟨27, _⟩ => ⟨S1x48, .f32⟩
  | .local _ .vmem, ⟨28, _⟩ => ⟨S1x2x224x224, .f32⟩
  | .local _ .vmem, ⟨29, _⟩ => ⟨S1x2x224x224, .f32⟩
  | .local _ .vmem, ⟨30, _⟩ => ⟨S8x128, .f32⟩
  | _, _ => ⟨S32x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_c : Ref sig .tc := ⟨.hbm, 30, rfl⟩
abbrev main_call0_v0 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_c_0 : Ref sig .tc := ⟨.hbm, 37, rfl⟩
abbrev main_call1_v0 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg23_0 : Ref sig .tc := ⟨.vmem, 25, rfl⟩
abbrev cc0_stg24_0 : Ref sig .tc := ⟨.vmem, 26, rfl⟩
abbrev cc0_stg25_0 : Ref sig .tc := ⟨.vmem, 27, rfl⟩
abbrev cc0_stg26_0 : Ref sig .tc := ⟨.vmem, 28, rfl⟩
abbrev cc0_stg26_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem23_0 : DmaSem sig := 25
abbrev cc0_sem24_0 : DmaSem sig := 26
abbrev cc0_sem25_0 : DmaSem sig := 27
abbrev cc0_sem26_0 : DmaSem sig := 28
abbrev cc0_sem26_1 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x48x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x48 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x48 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x48 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x48 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S6x1x48 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S6x1x48 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S6x48x144 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S6x1x144 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S6x48x48 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S6x1x48 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S6x1x48 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S6x1x48 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S6x48x192 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S6x1x192 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S6x192x48 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S6x1x48 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S48x48 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S48x48 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x48 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x48 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x48 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x48 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S256x2304 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x48 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 2 → Memref sig .tc .vmem S1x2x224x224 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]
-- ==== KernelIdeal.lean ====
variable {F : FTy → Type} [FloatOps F] [Named F]
def κ : String → Option EReal := fun
  | "half_log2_e" => some (((2 * (Real.log 2))⁻¹ : ℝ) : EReal)
  | "inv_48" => some ((1 / 48 : ℝ) : EReal)
  | _ => none
-- ==== ReferenceIdeal.lean ====
abbrev S32x3x224x224 : Shape := ⟨4, ![32, 3, 224, 224]⟩
abbrev S32x1x224x224 : Shape := ⟨4, ![32, 1, 224, 224]⟩
abbrev S32x48x3 : Shape := ⟨3, ![32, 48, 3]⟩
abbrev S48x1x16x16 : Shape := ⟨4, ![48, 1, 16, 16]⟩
abbrev S48 : Shape := ⟨1, ![48]⟩
abbrev S3x48 : Shape := ⟨2, ![3, 48]⟩
abbrev S6x48 : Shape := ⟨2, ![6, 48]⟩
abbrev S6x48x144 : Shape := ⟨3, ![6, 48, 144]⟩
abbrev S6x144 : Shape := ⟨2, ![6, 144]⟩
abbrev S6x48x48 : Shape := ⟨3, ![6, 48, 48]⟩
abbrev S6x48x192 : Shape := ⟨3, ![6, 48, 192]⟩
abbrev S6x192 : Shape := ⟨2, ![6, 192]⟩
abbrev S6x192x48 : Shape := ⟨3, ![6, 192, 48]⟩
abbrev S48x48 : Shape := ⟨2, ![48, 48]⟩
abbrev S9408x48 : Shape := ⟨2, ![9408, 48]⟩
abbrev S32x14x16x14x16 : Shape := ⟨5, ![32, 14, 16, 14, 16]⟩
abbrev S48x16x16 : Shape := ⟨3, ![48, 16, 16]⟩
abbrev S32x14x14x48 : Shape := ⟨4, ![32, 14, 14, 48]⟩
abbrev S1x1x1x48 : Shape := ⟨4, ![1, 1, 1, 48]⟩
abbrev S32x196x48 : Shape := ⟨3, ![32, 196, 48]⟩
abbrev S32x48x48 : Shape := ⟨3, ![32, 48, 48]⟩
abbrev S1x1x48 : Shape := ⟨3, ![1, 1, 48]⟩
abbrev S32x244x48 : Shape := ⟨3, ![32, 244, 48]⟩
abbrev S1x48 : Shape := ⟨2, ![1, 48]⟩
abbrev S_ : Shape := ⟨0, ![]⟩
abbrev S32x244 : Shape := ⟨2, ![32, 244]⟩
abbrev S32x244x1 : Shape := ⟨3, ![32, 244, 1]⟩
abbrev S1x48x144 : Shape := ⟨3, ![1, 48, 144]⟩
abbrev S48x144 : Shape := ⟨2, ![48, 144]⟩
abbrev S32x244x144 : Shape := ⟨3, ![32, 244, 144]⟩
abbrev S1x144 : Shape := ⟨2, ![1, 144]⟩
abbrev S144 : Shape := ⟨1, ![144]⟩
abbrev S1x1x144 : Shape := ⟨3, ![1, 1, 144]⟩
abbrev S32x244x3x12x4 : Shape := ⟨5, ![32, 244, 3, 12, 4]⟩
abbrev S32x244x1x12x4 : Shape := ⟨5, ![32, 244, 1, 12, 4]⟩
abbrev S32x244x12x4 : Shape := ⟨4, ![32, 244, 12, 4]⟩
abbrev S32x12x244x4 : Shape := ⟨4, ![32, 12, 244, 4]⟩
abbrev S32x12x244x244 : Shape := ⟨4, ![32, 12, 244, 244]⟩
abbrev S32x12x244 : Shape := ⟨3, ![32, 12, 244]⟩
abbrev S32x12x244x1 : Shape := ⟨4, ![32, 12, 244, 1]⟩
abbrev S1x48x48 : Shape := ⟨3, ![1, 48, 48]⟩
abbrev S1x48x192 : Shape := ⟨3, ![1, 48, 192]⟩
abbrev S48x192 : Shape := ⟨2, ![48, 192]⟩
abbrev S32x244x192 : Shape := ⟨3, ![32, 244, 192]⟩
abbrev S1x192 : Shape := ⟨2, ![1, 192]⟩
abbrev S192 : Shape := ⟨1, ![192]⟩
abbrev S1x1x192 : Shape := ⟨3, ![1, 1, 192]⟩
abbrev S1x192x48 : Shape := ⟨3, ![1, 192, 48]⟩
abbrev S192x48 : Shape := ⟨2, ![192, 48]⟩
abbrev S32x196 : Shape := ⟨2, ![32, 196]⟩
abbrev S32x196x1 : Shape := ⟨3, ![32, 196, 1]⟩
abbrev S32x48 : Shape := ⟨2, ![32, 48]⟩
abbrev S32x48x1 : Shape := ⟨3, ![32, 48, 1]⟩
abbrev S32x9408 : Shape := ⟨2, ![32, 9408]⟩
abbrev S32x24x3 : Shape := ⟨3, ![32, 24, 3]⟩
abbrev S32x24 : Shape := ⟨2, ![32, 24]⟩
abbrev S32x24x2 : Shape := ⟨3, ![32, 24, 2]⟩
abbrev S32x24x1 : Shape := ⟨3, ![32, 24, 1]⟩
abbrev S1 : Shape := ⟨1, ![1]⟩
abbrev S1x1x1 : Shape := ⟨3, ![1, 1, 1]⟩
abbrev S224 : Shape := ⟨1, ![224]⟩
abbrev S1x1x224 : Shape := ⟨3, ![1, 1, 224]⟩
abbrev S32x24x224 : Shape := ⟨3, ![32, 24, 224]⟩
abbrev S32x24x224x1 : Shape := ⟨4, ![32, 24, 224, 1]⟩
abbrev S32x24x1x224 : Shape := ⟨4, ![32, 24, 1, 224]⟩
abbrev S32x24x224x224 : Shape := ⟨4, ![32, 24, 224, 224]⟩
abbrev S32x24x1x1 : Shape := ⟨4, ![32, 24, 1, 1]⟩
abbrev S32 : Shape := ⟨1, ![32]⟩
abbrev S32x224x224 : Shape := ⟨3, ![32, 224, 224]⟩
abbrev S32x1x1 : Shape := ⟨3, ![32, 1, 1]⟩
abbrev S32x2x224x224 : Shape := ⟨4, ![32, 2, 224, 224]⟩

abbrev nBuf : Space → Nat
  | .hbm => 1251
  | .vmem => 0
  | .smem => 0
  | _ => 0

abbrev hbmTy0_0 (i : Nat) : BufTy := match i % 128 with
  | 0 => ⟨S32x3x224x224, .f32⟩
  | 1 => ⟨S32x1x224x224, .f32⟩
  | 2 => ⟨S32x48x3, .f32⟩
  | 3 => ⟨S48x1x16x16, .f32⟩
  | 4 => ⟨S48, .f32⟩
  | 5 => ⟨S3x48, .f32⟩
  | 6 => ⟨S48, .f32⟩
  | 7 => ⟨S6x48, .f32⟩
  | 8 => ⟨S6x48, .f32⟩
  | 9 => ⟨S6x48x144, .f32⟩
  | 10 => ⟨S6x144, .f32⟩
  | 11 => ⟨S6x48x48, .f32⟩
  | 12 => ⟨S6x48, .f32⟩
  | 13 => ⟨S6x48, .f32⟩
  | 14 => ⟨S6x48, .f32⟩
  | 15 => ⟨S6x48x192, .f32⟩
  | 16 => ⟨S6x192, .f32⟩
  | 17 => ⟨S6x192x48, .f32⟩
  | 18 => ⟨S6x48, .f32⟩
  | 19 => ⟨S48x48, .f32⟩
  | 20 => ⟨S48x48, .f32⟩
  | 21 => ⟨S48, .f32⟩
  | 22 => ⟨S48, .f32⟩
  | 23 => ⟨S48, .f32⟩
  | 24 => ⟨S48, .f32⟩
  | 25 => ⟨S9408x48, .f32⟩
  | 26 => ⟨S48, .f32⟩
  | 27 => ⟨S32x14x16x14x16, .f32⟩
  | 28 => ⟨S48x16x16, .f32⟩
  | 29 => ⟨S32x14x14x48, .f32⟩
  | 30 => ⟨S1x1x1x48, .f32⟩
  | 31 => ⟨S32x14x14x48, .f32⟩
  | 32 => ⟨S32x14x14x48, .f32⟩
  | 33 => ⟨S32x196x48, .f32⟩
  | 34 => ⟨S32x48x48, .f32⟩
  | 35 => ⟨S1x1x48, .f32⟩
  | 36 => ⟨S32x48x48, .f32⟩
  | 37 => ⟨S32x48x48, .f32⟩
  | 38 => ⟨S32x244x48, .f32⟩
  | 39 => ⟨S1x48, .f32⟩
  | 40 => ⟨S48, .f32⟩
  | 41 => ⟨S1x48, .f32⟩
  | 42 => ⟨S48, .f32⟩
  | 43 => ⟨S_, .f32⟩
  | 44 => ⟨S32x244, .f32⟩
  | 45 => ⟨S32x244x1, .f32⟩
  | 46 => ⟨S_, .f32⟩
  | 47 => ⟨S32x244x1, .f32⟩
  | 48 => ⟨S32x244x1, .f32⟩
  | 49 => ⟨S32x244x48, .f32⟩
  | 50 => ⟨S32x244x48, .f32⟩
  | 51 => ⟨S32x244x48, .f32⟩
  | 52 => ⟨S_, .f32⟩
  | 53 => ⟨S32x244, .f32⟩
  | 54 => ⟨S32x244x1, .f32⟩
  | 55 => ⟨S_, .f32⟩
  | 56 => ⟨S32x244x1, .f32⟩
  | 57 => ⟨S32x244x1, .f32⟩
  | 58 => ⟨S32x244x48, .f32⟩
  | 59 => ⟨S32x244x48, .f32⟩
  | 60 => ⟨S_, .f32⟩
  | 61 => ⟨S32x244x1, .f32⟩
  | 62 => ⟨S32x244x1, .f32⟩
  | 63 => ⟨S32x244x1, .f32⟩
  | 64 => ⟨S32x244x48, .f32⟩
  | 65 => ⟨S32x244x48, .f32⟩
  | 66 => ⟨S1x1x48, .f32⟩
  | 67 => ⟨S32x244x48, .f32⟩
  | 68 => ⟨S32x244x48, .f32⟩
  | 69 => ⟨S1x1x48, .f32⟩
  | 70 => ⟨S32x244x48, .f32⟩
  | 71 => ⟨S32x244x48, .f32⟩
  | 72 => ⟨S1x48x144, .f32⟩
  | 73 => ⟨S48x144, .f32⟩
  | 74 => ⟨S32x244x144, .f32⟩
  | 75 => ⟨S1x144, .f32⟩
  | 76 => ⟨S144, .f32⟩
  | 77 => ⟨S1x1x144, .f32⟩
  | 78 => ⟨S32x244x144, .f32⟩
  | 79 => ⟨S32x244x144, .f32⟩
  | 80 => ⟨S32x244x3x12x4, .f32⟩
  | 81 => ⟨S32x244x1x12x4, .f32⟩
  | 82 => ⟨S32x244x12x4, .f32⟩
  | 83 => ⟨S32x12x244x4, .f32⟩
  | 84 => ⟨S32x244x1x12x4, .f32⟩
  | 85 => ⟨S32x244x12x4, .f32⟩
  | 86 => ⟨S32x12x244x4, .f32⟩
  | 87 => ⟨S32x244x1x12x4, .f32⟩
  | 88 => ⟨S32x244x12x4, .f32⟩
  | 89 => ⟨S32x12x244x4, .f32⟩
  | 90 => ⟨S32x12x244x244, .f32⟩
  | 91 => ⟨S_, .f32⟩
  | 92 => ⟨S32x12x244x244, .f32⟩
  | 93 => ⟨S32x12x244x244, .f32⟩
  | 94 => ⟨S_, .f32⟩
  | 95 => ⟨S32x12x244, .f32⟩
  | 96 => ⟨S_, .f32⟩
  | 97 => ⟨S32x12x244, .f32⟩
  | 98 => ⟨S32x12x244, .f32⟩
  | 99 => ⟨S32x12x244x1, .f32⟩
  | 100 => ⟨S32x12x244x244, .f32⟩
  | 101 => ⟨S32x12x244x244, .f32⟩
  | 102 => ⟨S32x12x244x244, .f32⟩
  | 103 => ⟨S_, .f32⟩
  | 104 => ⟨S32x12x244, .f32⟩
  | 105 => ⟨S32x12x244x1, .f32⟩
  | 106 => ⟨S32x12x244x244, .f32⟩
  | 107 => ⟨S32x12x244x244, .f32⟩
  | 108 => ⟨S32x12x244x4, .f32⟩
  | 109 => ⟨S32x244x12x4, .f32⟩
  | 110 => ⟨S32x244x48, .f32⟩
  | 111 => ⟨S1x48x48, .f32⟩
  | 112 => ⟨S48x48, .f32⟩
  | 113 => ⟨S32x244x48, .f32⟩
  | 114 => ⟨S1x48, .f32⟩
  | 115 => ⟨S48, .f32⟩
  | 116 => ⟨S1x1x48, .f32⟩
  | 117 => ⟨S32x244x48, .f32⟩
  | 118 => ⟨S32x244x48, .f32⟩
  | 119 => ⟨S32x244x48, .f32⟩
  | 120 => ⟨S1x48, .f32⟩
  | 121 => ⟨S48, .f32⟩
  | 122 => ⟨S1x48, .f32⟩
  | 123 => ⟨S48, .f32⟩
  | 124 => ⟨S_, .f32⟩
  | 125 => ⟨S32x244, .f32⟩
  | 126 => ⟨S32x244x1, .f32⟩
  | 127 => ⟨S_, .f32⟩
  | _ => ⟨S32x3x224x224, .f32⟩

abbrev hbmTy0_1 (i : Nat) : BufTy := match i % 128 with
  | 0 => ⟨S32x244x1, .f32⟩
  | 1 => ⟨S32x244x1, .f32⟩
  | 2 => ⟨S32x244x48, .f32⟩
  | 3 => ⟨S32x244x48, .f32⟩
  | 4 => ⟨S32x244x48, .f32⟩
  | 5 => ⟨S_, .f32⟩
  | 6 => ⟨S32x244, .f32⟩
  | 7 => ⟨S32x244x1, .f32⟩
  | 8 => ⟨S_, .f32⟩
  | 9 => ⟨S32x244x1, .f32⟩
  | 10 => ⟨S32x244x1, .f32⟩
  | 11 => ⟨S32x244x48, .f32⟩
  | 12 => ⟨S32x244x48, .f32⟩
  | 13 => ⟨S_, .f32⟩
  | 14 => ⟨S32x244x1, .f32⟩
  | 15 => ⟨S32x244x1, .f32⟩
  | 16 => ⟨S32x244x1, .f32⟩
  | 17 => ⟨S32x244x48, .f32⟩
  | 18 => ⟨S32x244x48, .f32⟩
  | 19 => ⟨S1x1x48, .f32⟩
  | 20 => ⟨S32x244x48, .f32⟩
  | 21 => ⟨S32x244x48, .f32⟩
  | 22 => ⟨S1x1x48, .f32⟩
  | 23 => ⟨S32x244x48, .f32⟩
  | 24 => ⟨S32x244x48, .f32⟩
  | 25 => ⟨S1x48x192, .f32⟩
  | 26 => ⟨S48x192, .f32⟩
  | 27 => ⟨S32x244x192, .f32⟩
  | 28 => ⟨S1x192, .f32⟩
  | 29 => ⟨S192, .f32⟩
  | 30 => ⟨S1x1x192, .f32⟩
  | 31 => ⟨S32x244x192, .f32⟩
  | 32 => ⟨S32x244x192, .f32⟩
  | 33 => ⟨S_, .f32⟩
  | 34 => ⟨S32x244x192, .f32⟩
  | 35 => ⟨S32x244x192, .f32⟩
  | 36 => ⟨S32x244x192, .f32⟩
  | 37 => ⟨S_, .f32⟩
  | 38 => ⟨S32x244x192, .f32⟩
  | 39 => ⟨S32x244x192, .f32⟩
  | 40 => ⟨S32x244x192, .f32⟩
  | 41 => ⟨S32x244x192, .f32⟩
  | 42 => ⟨S1x192x48, .f32⟩
  | 43 => ⟨S192x48, .f32⟩
  | 44 => ⟨S32x244x48, .f32⟩
  | 45 => ⟨S1x48, .f32⟩
  | 46 => ⟨S48, .f32⟩
  | 47 => ⟨S1x1x48, .f32⟩
  | 48 => ⟨S32x244x48, .f32⟩
  | 49 => ⟨S32x244x48, .f32⟩
  | 50 => ⟨S32x244x48, .f32⟩
  | 51 => ⟨S1x48, .f32⟩
  | 52 => ⟨S48, .f32⟩
  | 53 => ⟨S1x48, .f32⟩
  | 54 => ⟨S48, .f32⟩
  | 55 => ⟨S_, .f32⟩
  | 56 => ⟨S32x244, .f32⟩
  | 57 => ⟨S32x244x1, .f32⟩
  | 58 => ⟨S_, .f32⟩
  | 59 => ⟨S32x244x1, .f32⟩
  | 60 => ⟨S32x244x1, .f32⟩
  | 61 => ⟨S32x244x48, .f32⟩
  | 62 => ⟨S32x244x48, .f32⟩
  | 63 => ⟨S32x244x48, .f32⟩
  | 64 => ⟨S_, .f32⟩
  | 65 => ⟨S32x244, .f32⟩
  | 66 => ⟨S32x244x1, .f32⟩
  | 67 => ⟨S_, .f32⟩
  | 68 => ⟨S32x244x1, .f32⟩
  | 69 => ⟨S32x244x1, .f32⟩
  | 70 => ⟨S32x244x48, .f32⟩
  | 71 => ⟨S32x244x48, .f32⟩
  | 72 => ⟨S_, .f32⟩
  | 73 => ⟨S32x244x1, .f32⟩
  | 74 => ⟨S32x244x1, .f32⟩
  | 75 => ⟨S32x244x1, .f32⟩
  | 76 => ⟨S32x244x48, .f32⟩
  | 77 => ⟨S32x244x48, .f32⟩
  | 78 => ⟨S1x1x48, .f32⟩
  | 79 => ⟨S32x244x48, .f32⟩
  | 80 => ⟨S32x244x48, .f32⟩
  | 81 => ⟨S1x1x48, .f32⟩
  | 82 => ⟨S32x244x48, .f32⟩
  | 83 => ⟨S32x244x48, .f32⟩
  | 84 => ⟨S1x48x144, .f32⟩
  | 85 => ⟨S48x144, .f32⟩
  | 86 => ⟨S32x244x144, .f32⟩
  | 87 => ⟨S1x144, .f32⟩
  | 88 => ⟨S144, .f32⟩
  | 89 => ⟨S1x1x144, .f32⟩
  | 90 => ⟨S32x244x144, .f32⟩
  | 91 => ⟨S32x244x144, .f32⟩
  | 92 => ⟨S32x244x3x12x4, .f32⟩
  | 93 => ⟨S32x244x1x12x4, .f32⟩
  | 94 => ⟨S32x244x12x4, .f32⟩
  | 95 => ⟨S32x12x244x4, .f32⟩
  | 96 => ⟨S32x244x1x12x4, .f32⟩
  | 97 => ⟨S32x244x12x4, .f32⟩
  | 98 => ⟨S32x12x244x4, .f32⟩
  | 99 => ⟨S32x244x1x12x4, .f32⟩
  | 100 => ⟨S32x244x12x4, .f32⟩
  | 101 => ⟨S32x12x244x4, .f32⟩
  | 102 => ⟨S32x12x244x244, .f32⟩
  | 103 => ⟨S_, .f32⟩
  | 104 => ⟨S32x12x244x244, .f32⟩
  | 105 => ⟨S32x12x244x244, .f32⟩
  | 106 => ⟨S_, .f32⟩
  | 107 => ⟨S32x12x244, .f32⟩
  | 108 => ⟨S_, .f32⟩
  | 109 => ⟨S32x12x244, .f32⟩
  | 110 => ⟨S32x12x244, .f32⟩
  | 111 => ⟨S32x12x244x1, .f32⟩
  | 112 => ⟨S32x12x244x244, .f32⟩
  | 113 => ⟨S32x12x244x244, .f32⟩
  | 114 => ⟨S32x12x244x244, .f32⟩
  | 115 => ⟨S_, .f32⟩
  | 116 => ⟨S32x12x244, .f32⟩
  | 117 => ⟨S32x12x244x1, .f32⟩
  | 118 => ⟨S32x12x244x244, .f32⟩
  | 119 => ⟨S32x12x244x244, .f32⟩
  | 120 => ⟨S32x12x244x4, .f32⟩
  | 121 => ⟨S32x244x12x4, .f32⟩
  | 122 => ⟨S32x244x48, .f32⟩
  | 123 => ⟨S1x48x48, .f32⟩
  | 124 => ⟨S48x48, .f32⟩
  | 125 => ⟨S32x244x48, .f32⟩
  | 126 => ⟨S1x48, .f32⟩
  | 127 => ⟨S48, .f32⟩
  | _ => ⟨S32x3x224x224, .f32⟩

abbrev hbmTy0_2 (i : Nat) : BufTy := match i % 128 with
  | 0 => ⟨S1x1x48, .f32⟩
  | 1 => ⟨S32x244x48, .f32⟩
  | 2 => ⟨S32x244x48, .f32⟩
  | 3 => ⟨S32x244x48, .f32⟩
  | 4 => ⟨S1x48, .f32⟩
  | 5 => ⟨S48, .f32⟩
  | 6 => ⟨S1x48, .f32⟩
  | 7 => ⟨S48, .f32⟩
  | 8 => ⟨S_, .f32⟩
  | 9 => ⟨S32x244, .f32⟩
  | 10 => ⟨S32x244x1, .f32⟩
  | 11 => ⟨S_, .f32⟩
  | 12 => ⟨S32x244x1, .f32⟩
  | 13 => ⟨S32x244x1, .f32⟩
  | 14 => ⟨S32x244x48, .f32⟩
  | 15 => ⟨S32x244x48, .f32⟩
  | 16 => ⟨S32x244x48, .f32⟩
  | 17 => ⟨S_, .f32⟩
  | 18 => ⟨S32x244, .f32⟩
  | 19 => ⟨S32x244x1, .f32⟩
  | 20 => ⟨S_, .f32⟩
  | 21 => ⟨S32x244x1, .f32⟩
  | 22 => ⟨S32x244x1, .f32⟩
  | 23 => ⟨S32x244x48, .f32⟩
  | 24 => ⟨S32x244x48, .f32⟩
  | 25 => ⟨S_, .f32⟩
  | 26 => ⟨S32x244x1, .f32⟩
  | 27 => ⟨S32x244x1, .f32⟩
  | 28 => ⟨S32x244x1, .f32⟩
  | 29 => ⟨S32x244x48, .f32⟩
  | 30 => ⟨S32x244x48, .f32⟩
  | 31 => ⟨S1x1x48, .f32⟩
  | 32 => ⟨S32x244x48, .f32⟩
  | 33 => ⟨S32x244x48, .f32⟩
  | 34 => ⟨S1x1x48, .f32⟩
  | 35 => ⟨S32x244x48, .f32⟩
  | 36 => ⟨S32x244x48, .f32⟩
  | 37 => ⟨S1x48x192, .f32⟩
  | 38 => ⟨S48x192, .f32⟩
  | 39 => ⟨S32x244x192, .f32⟩
  | 40 => ⟨S1x192, .f32⟩
  | 41 => ⟨S192, .f32⟩
  | 42 => ⟨S1x1x192, .f32⟩
  | 43 => ⟨S32x244x192, .f32⟩
  | 44 => ⟨S32x244x192, .f32⟩
  | 45 => ⟨S_, .f32⟩
  | 46 => ⟨S32x244x192, .f32⟩
  | 47 => ⟨S32x244x192, .f32⟩
  | 48 => ⟨S32x244x192, .f32⟩
  | 49 => ⟨S_, .f32⟩
  | 50 => ⟨S32x244x192, .f32⟩
  | 51 => ⟨S32x244x192, .f32⟩
  | 52 => ⟨S32x244x192, .f32⟩
  | 53 => ⟨S32x244x192, .f32⟩
  | 54 => ⟨S1x192x48, .f32⟩
  | 55 => ⟨S192x48, .f32⟩
  | 56 => ⟨S32x244x48, .f32⟩
  | 57 => ⟨S1x48, .f32⟩
  | 58 => ⟨S48, .f32⟩
  | 59 => ⟨S1x1x48, .f32⟩
  | 60 => ⟨S32x244x48, .f32⟩
  | 61 => ⟨S32x244x48, .f32⟩
  | 62 => ⟨S32x244x48, .f32⟩
  | 63 => ⟨S1x48, .f32⟩
  | 64 => ⟨S48, .f32⟩
  | 65 => ⟨S1x48, .f32⟩
  | 66 => ⟨S48, .f32⟩
  | 67 => ⟨S_, .f32⟩
  | 68 => ⟨S32x244, .f32⟩
  | 69 => ⟨S32x244x1, .f32⟩
  | 70 => ⟨S_, .f32⟩
  | 71 => ⟨S32x244x1, .f32⟩
  | 72 => ⟨S32x244x1, .f32⟩
  | 73 => ⟨S32x244x48, .f32⟩
  | 74 => ⟨S32x244x48, .f32⟩
  | 75 => ⟨S32x244x48, .f32⟩
  | 76 => ⟨S_, .f32⟩
  | 77 => ⟨S32x244, .f32⟩
  | 78 => ⟨S32x244x1, .f32⟩
  | 79 => ⟨S_, .f32⟩
  | 80 => ⟨S32x244x1, .f32⟩
  | 81 => ⟨S32x244x1, .f32⟩
  | 82 => ⟨S32x244x48, .f32⟩
  | 83 => ⟨S32x244x48, .f32⟩
  | 84 => ⟨S_, .f32⟩
  | 85 => ⟨S32x244x1, .f32⟩
  | 86 => ⟨S32x244x1, .f32⟩
  | 87 => ⟨S32x244x1, .f32⟩
  | 88 => ⟨S32x244x48, .f32⟩
  | 89 => ⟨S32x244x48, .f32⟩
  | 90 => ⟨S1x1x48, .f32⟩
  | 91 => ⟨S32x244x48, .f32⟩
  | 92 => ⟨S32x244x48, .f32⟩
  | 93 => ⟨S1x1x48, .f32⟩
  | 94 => ⟨S32x244x48, .f32⟩
  | 95 => ⟨S32x244x48, .f32⟩
  | 96 => ⟨S1x48x144, .f32⟩
  | 97 => ⟨S48x144, .f32⟩
  | 98 => ⟨S32x244x144, .f32⟩
  | 99 => ⟨S1x144, .f32⟩
  | 100 => ⟨S144, .f32⟩
  | 101 => ⟨S1x1x144, .f32⟩
  | 102 => ⟨S32x244x144, .f32⟩
  | 103 => ⟨S32x244x144, .f32⟩
  | 104 => ⟨S32x244x3x12x4, .f32⟩
  | 105 => ⟨S32x244x1x12x4, .f32⟩
  | 106 => ⟨S32x244x12x4, .f32⟩
  | 107 => ⟨S32x12x244x4, .f32⟩
  | 108 => ⟨S32x244x1x12x4, .f32⟩
  | 109 => ⟨S32x244x12x4, .f32⟩
  | 110 => ⟨S32x12x244x4, .f32⟩
  | 111 => ⟨S32x244x1x12x4, .f32⟩
  | 112 => ⟨S32x244x12x4, .f32⟩
  | 113 => ⟨S32x12x244x4, .f32⟩
  | 114 => ⟨S32x12x244x244, .f32⟩
  | 115 => ⟨S_, .f32⟩
  | 116 => ⟨S32x12x244x244, .f32⟩
  | 117 => ⟨S32x12x244x244, .f32⟩
  | 118 => ⟨S_, .f32⟩
  | 119 => ⟨S32x12x244, .f32⟩
  | 120 => ⟨S_, .f32⟩
  | 121 => ⟨S32x12x244, .f32⟩
  | 122 => ⟨S32x12x244, .f32⟩
  | 123 => ⟨S32x12x244x1, .f32⟩
  | 124 => ⟨S32x12x244x244, .f32⟩
  | 125 => ⟨S32x12x244x244, .f32⟩
  | 126 => ⟨S32x12x244x244, .f32⟩
  | 127 => ⟨S_, .f32⟩
  | _ => ⟨S32x3x224x224, .f32⟩

abbrev hbmTy0_3 (i : Nat) : BufTy := match i % 128 with
  | 0 => ⟨S32x12x244, .f32⟩
  | 1 => ⟨S32x12x244x1, .f32⟩
  | 2 => ⟨S32x12x244x244, .f32⟩
  | 3 => ⟨S32x12x244x244, .f32⟩
  | 4 => ⟨S32x12x244x4, .f32⟩
  | 5 => ⟨S32x244x12x4, .f32⟩
  | 6 => ⟨S32x244x48, .f32⟩
  | 7 => ⟨S1x48x48, .f32⟩
  | 8 => ⟨S48x48, .f32⟩
  | 9 => ⟨S32x244x48, .f32⟩
  | 10 => ⟨S1x48, .f32⟩
  | 11 => ⟨S48, .f32⟩
  | 12 => ⟨S1x1x48, .f32⟩
  | 13 => ⟨S32x244x48, .f32⟩
  | 14 => ⟨S32x244x48, .f32⟩
  | 15 => ⟨S32x244x48, .f32⟩
  | 16 => ⟨S1x48, .f32⟩
  | 17 => ⟨S48, .f32⟩
  | 18 => ⟨S1x48, .f32⟩
  | 19 => ⟨S48, .f32⟩
  | 20 => ⟨S_, .f32⟩
  | 21 => ⟨S32x244, .f32⟩
  | 22 => ⟨S32x244x1, .f32⟩
  | 23 => ⟨S_, .f32⟩
  | 24 => ⟨S32x244x1, .f32⟩
  | 25 => ⟨S32x244x1, .f32⟩
  | 26 => ⟨S32x244x48, .f32⟩
  | 27 => ⟨S32x244x48, .f32⟩
  | 28 => ⟨S32x244x48, .f32⟩
  | 29 => ⟨S_, .f32⟩
  | 30 => ⟨S32x244, .f32⟩
  | 31 => ⟨S32x244x1, .f32⟩
  | 32 => ⟨S_, .f32⟩
  | 33 => ⟨S32x244x1, .f32⟩
  | 34 => ⟨S32x244x1, .f32⟩
  | 35 => ⟨S32x244x48, .f32⟩
  | 36 => ⟨S32x244x48, .f32⟩
  | 37 => ⟨S_, .f32⟩
  | 38 => ⟨S32x244x1, .f32⟩
  | 39 => ⟨S32x244x1, .f32⟩
  | 40 => ⟨S32x244x1, .f32⟩
  | 41 => ⟨S32x244x48, .f32⟩
  | 42 => ⟨S32x244x48, .f32⟩
  | 43 => ⟨S1x1x48, .f32⟩
  | 44 => ⟨S32x244x48, .f32⟩
  | 45 => ⟨S32x244x48, .f32⟩
  | 46 => ⟨S1x1x48, .f32⟩
  | 47 => ⟨S32x244x48, .f32⟩
  | 48 => ⟨S32x244x48, .f32⟩
  | 49 => ⟨S1x48x192, .f32⟩
  | 50 => ⟨S48x192, .f32⟩
  | 51 => ⟨S32x244x192, .f32⟩
  | 52 => ⟨S1x192, .f32⟩
  | 53 => ⟨S192, .f32⟩
  | 54 => ⟨S1x1x192, .f32⟩
  | 55 => ⟨S32x244x192, .f32⟩
  | 56 => ⟨S32x244x192, .f32⟩
  | 57 => ⟨S_, .f32⟩
  | 58 => ⟨S32x244x192, .f32⟩
  | 59 => ⟨S32x244x192, .f32⟩
  | 60 => ⟨S32x244x192, .f32⟩
  | 61 => ⟨S_, .f32⟩
  | 62 => ⟨S32x244x192, .f32⟩
  | 63 => ⟨S32x244x192, .f32⟩
  | 64 => ⟨S32x244x192, .f32⟩
  | 65 => ⟨S32x244x192, .f32⟩
  | 66 => ⟨S1x192x48, .f32⟩
  | 67 => ⟨S192x48, .f32⟩
  | 68 => ⟨S32x244x48, .f32⟩
  | 69 => ⟨S1x48, .f32⟩
  | 70 => ⟨S48, .f32⟩
  | 71 => ⟨S1x1x48, .f32⟩
  | 72 => ⟨S32x244x48, .f32⟩
  | 73 => ⟨S32x244x48, .f32⟩
  | 74 => ⟨S32x244x48, .f32⟩
  | 75 => ⟨S1x48, .f32⟩
  | 76 => ⟨S48, .f32⟩
  | 77 => ⟨S1x48, .f32⟩
  | 78 => ⟨S48, .f32⟩
  | 79 => ⟨S_, .f32⟩
  | 80 => ⟨S32x244, .f32⟩
  | 81 => ⟨S32x244x1, .f32⟩
  | 82 => ⟨S_, .f32⟩
  | 83 => ⟨S32x244x1, .f32⟩
  | 84 => ⟨S32x244x1, .f32⟩
  | 85 => ⟨S32x244x48, .f32⟩
  | 86 => ⟨S32x244x48, .f32⟩
  | 87 => ⟨S32x244x48, .f32⟩
  | 88 => ⟨S_, .f32⟩
  | 89 => ⟨S32x244, .f32⟩
  | 90 => ⟨S32x244x1, .f32⟩
  | 91 => ⟨S_, .f32⟩
  | 92 => ⟨S32x244x1, .f32⟩
  | 93 => ⟨S32x244x1, .f32⟩
  | 94 => ⟨S32x244x48, .f32⟩
  | 95 => ⟨S32x244x48, .f32⟩
  | 96 => ⟨S_, .f32⟩
  | 97 => ⟨S32x244x1, .f32⟩
  | 98 => ⟨S32x244x1, .f32⟩
  | 99 => ⟨S32x244x1, .f32⟩
  | 100 => ⟨S32x244x48, .f32⟩
  | 101 => ⟨S32x244x48, .f32⟩
  | 102 => ⟨S1x1x48, .f32⟩
  | 103 => ⟨S32x244x48, .f32⟩
  | 104 => ⟨S32x244x48, .f32⟩
  | 105 => ⟨S1x1x48, .f32⟩
  | 106 => ⟨S32x244x48, .f32⟩
  | 107 => ⟨S32x244x48, .f32⟩
  | 108 => ⟨S1x48x144, .f32⟩
  | 109 => ⟨S48x144, .f32⟩
  | 110 => ⟨S32x244x144, .f32⟩
  | 111 => ⟨S1x144, .f32⟩
  | 112 => ⟨S144, .f32⟩
  | 113 => ⟨S1x1x144, .f32⟩
  | 114 => ⟨S32x244x144, .f32⟩
  | 115 => ⟨S32x244x144, .f32⟩
  | 116 => ⟨S32x244x3x12x4, .f32⟩
  | 117 => ⟨S32x244x1x12x4, .f32⟩
  | 118 => ⟨S32x244x12x4, .f32⟩
  | 119 => ⟨S32x12x244x4, .f32⟩
  | 120 => ⟨S32x244x1x12x4, .f32⟩
  | 121 => ⟨S32x244x12x4, .f32⟩
  | 122 => ⟨S32x12x244x4, .f32⟩
  | 123 => ⟨S32x244x1x12x4, .f32⟩
  | 124 => ⟨S32x244x12x4, .f32⟩
  | 125 => ⟨S32x12x244x4, .f32⟩
  | 126 => ⟨S32x12x244x244, .f32⟩
  | 127 => ⟨S_, .f32⟩
  | _ => ⟨S32x3x224x224, .f32⟩

abbrev hbmTy0_4 (i : Nat) : BufTy := match i % 128 with
  | 0 => ⟨S32x12x244x244, .f32⟩
  | 1 => ⟨S32x12x244x244, .f32⟩
  | 2 => ⟨S_, .f32⟩
  | 3 => ⟨S32x12x244, .f32⟩
  | 4 => ⟨S_, .f32⟩
  | 5 => ⟨S32x12x244, .f32⟩
  | 6 => ⟨S32x12x244, .f32⟩
  | 7 => ⟨S32x12x244x1, .f32⟩
  | 8 => ⟨S32x12x244x244, .f32⟩
  | 9 => ⟨S32x12x244x244, .f32⟩
  | 10 => ⟨S32x12x244x244, .f32⟩
  | 11 => ⟨S_, .f32⟩
  | 12 => ⟨S32x12x244, .f32⟩
  | 13 => ⟨S32x12x244x1, .f32⟩
  | 14 => ⟨S32x12x244x244, .f32⟩
  | 15 => ⟨S32x12x244x244, .f32⟩
  | 16 => ⟨S32x12x244x4, .f32⟩
  | 17 => ⟨S32x244x12x4, .f32⟩
  | 18 => ⟨S32x244x48, .f32⟩
  | 19 => ⟨S1x48x48, .f32⟩
  | 20 => ⟨S48x48, .f32⟩
  | 21 => ⟨S32x244x48, .f32⟩
  | 22 => ⟨S1x48, .f32⟩
  | 23 => ⟨S48, .f32⟩
  | 24 => ⟨S1x1x48, .f32⟩
  | 25 => ⟨S32x244x48, .f32⟩
  | 26 => ⟨S32x244x48, .f32⟩
  | 27 => ⟨S32x244x48, .f32⟩
  | 28 => ⟨S1x48, .f32⟩
  | 29 => ⟨S48, .f32⟩
  | 30 => ⟨S1x48, .f32⟩
  | 31 => ⟨S48, .f32⟩
  | 32 => ⟨S_, .f32⟩
  | 33 => ⟨S32x244, .f32⟩
  | 34 => ⟨S32x244x1, .f32⟩
  | 35 => ⟨S_, .f32⟩
  | 36 => ⟨S32x244x1, .f32⟩
  | 37 => ⟨S32x244x1, .f32⟩
  | 38 => ⟨S32x244x48, .f32⟩
  | 39 => ⟨S32x244x48, .f32⟩
  | 40 => ⟨S32x244x48, .f32⟩
  | 41 => ⟨S_, .f32⟩
  | 42 => ⟨S32x244, .f32⟩
  | 43 => ⟨S32x244x1, .f32⟩
  | 44 => ⟨S_, .f32⟩
  | 45 => ⟨S32x244x1, .f32⟩
  | 46 => ⟨S32x244x1, .f32⟩
  | 47 => ⟨S32x244x48, .f32⟩
  | 48 => ⟨S32x244x48, .f32⟩
  | 49 => ⟨S_, .f32⟩
  | 50 => ⟨S32x244x1, .f32⟩
  | 51 => ⟨S32x244x1, .f32⟩
  | 52 => ⟨S32x244x1, .f32⟩
  | 53 => ⟨S32x244x48, .f32⟩
  | 54 => ⟨S32x244x48, .f32⟩
  | 55 => ⟨S1x1x48, .f32⟩
  | 56 => ⟨S32x244x48, .f32⟩
  | 57 => ⟨S32x244x48, .f32⟩
  | 58 => ⟨S1x1x48, .f32⟩
  | 59 => ⟨S32x244x48, .f32⟩
  | 60 => ⟨S32x244x48, .f32⟩
  | 61 => ⟨S1x48x192, .f32⟩
  | 62 => ⟨S48x192, .f32⟩
  | 63 => ⟨S32x244x192, .f32⟩
  | 64 => ⟨S1x192, .f32⟩
  | 65 => ⟨S192, .f32⟩
  | 66 => ⟨S1x1x192, .f32⟩
  | 67 => ⟨S32x244x192, .f32⟩
  | 68 => ⟨S32x244x192, .f32⟩
  | 69 => ⟨S_, .f32⟩
  | 70 => ⟨S32x244x192, .f32⟩
  | 71 => ⟨S32x244x192, .f32⟩
  | 72 => ⟨S32x244x192, .f32⟩
  | 73 => ⟨S_, .f32⟩
  | 74 => ⟨S32x244x192, .f32⟩
  | 75 => ⟨S32x244x192, .f32⟩
  | 76 => ⟨S32x244x192, .f32⟩
  | 77 => ⟨S32x244x192, .f32⟩
  | 78 => ⟨S1x192x48, .f32⟩
  | 79 => ⟨S192x48, .f32⟩
  | 80 => ⟨S32x244x48, .f32⟩
  | 81 => ⟨S1x48, .f32⟩
  | 82 => ⟨S48, .f32⟩
  | 83 => ⟨S1x1x48, .f32⟩
  | 84 => ⟨S32x244x48, .f32⟩
  | 85 => ⟨S32x244x48, .f32⟩
  | 86 => ⟨S32x244x48, .f32⟩
  | 87 => ⟨S1x48, .f32⟩
  | 88 => ⟨S48, .f32⟩
  | 89 => ⟨S1x48, .f32⟩
  | 90 => ⟨S48, .f32⟩
  | 91 => ⟨S_, .f32⟩
  | 92 => ⟨S32x244, .f32⟩
  | 93 => ⟨S32x244x1, .f32⟩
  | 94 => ⟨S_, .f32⟩
  | 95 => ⟨S32x244x1, .f32⟩
  | 96 => ⟨S32x244x1, .f32⟩
  | 97 => ⟨S32x244x48, .f32⟩
  | 98 => ⟨S32x244x48, .f32⟩
  | 99 => ⟨S32x244x48, .f32⟩
  | 100 => ⟨S_, .f32⟩
  | 101 => ⟨S32x244, .f32⟩
  | 102 => ⟨S32x244x1, .f32⟩
  | 103 => ⟨S_, .f32⟩
  | 104 => ⟨S32x244x1, .f32⟩
  | 105 => ⟨S32x244x1, .f32⟩
  | 106 => ⟨S32x244x48, .f32⟩
  | 107 => ⟨S32x244x48, .f32⟩
  | 108 => ⟨S_, .f32⟩
  | 109 => ⟨S32x244x1, .f32⟩
  | 110 => ⟨S32x244x1, .f32⟩
  | 111 => ⟨S32x244x1, .f32⟩
  | 112 => ⟨S32x244x48, .f32⟩
  | 113 => ⟨S32x244x48, .f32⟩
  | 114 => ⟨S1x1x48, .f32⟩
  | 115 => ⟨S32x244x48, .f32⟩
  | 116 => ⟨S32x244x48, .f32⟩
  | 117 => ⟨S1x1x48, .f32⟩
  | 118 => ⟨S32x244x48, .f32⟩
  | 119 => ⟨S32x244x48, .f32⟩
  | 120 => ⟨S1x48x144, .f32⟩
  | 121 => ⟨S48x144, .f32⟩
  | 122 => ⟨S32x244x144, .f32⟩
  | 123 => ⟨S1x144, .f32⟩
  | 124 => ⟨S144, .f32⟩
  | 125 => ⟨S1x1x144, .f32⟩
  | 126 => ⟨S32x244x144, .f32⟩
  | 127 => ⟨S32x244x144, .f32⟩
  | _ => ⟨S32x3x224x224, .f32⟩

abbrev hbmTy0_5 (i : Nat) : BufTy := match i % 128 with
  | 0 => ⟨S32x244x3x12x4, .f32⟩
  | 1 => ⟨S32x244x1x12x4, .f32⟩
  | 2 => ⟨S32x244x12x4, .f32⟩
  | 3 => ⟨S32x12x244x4, .f32⟩
  | 4 => ⟨S32x244x1x12x4, .f32⟩
  | 5 => ⟨S32x244x12x4, .f32⟩
  | 6 => ⟨S32x12x244x4, .f32⟩
  | 7 => ⟨S32x244x1x12x4, .f32⟩
  | 8 => ⟨S32x244x12x4, .f32⟩
  | 9 => ⟨S32x12x244x4, .f32⟩
  | 10 => ⟨S32x12x244x244, .f32⟩
  | 11 => ⟨S_, .f32⟩
  | 12 => ⟨S32x12x244x244, .f32⟩
  | 13 => ⟨S32x12x244x244, .f32⟩
  | 14 => ⟨S_, .f32⟩
  | 15 => ⟨S32x12x244, .f32⟩
  | 16 => ⟨S_, .f32⟩
  | 17 => ⟨S32x12x244, .f32⟩
  | 18 => ⟨S32x12x244, .f32⟩
  | 19 => ⟨S32x12x244x1, .f32⟩
  | 20 => ⟨S32x12x244x244, .f32⟩
  | 21 => ⟨S32x12x244x244, .f32⟩
  | 22 => ⟨S32x12x244x244, .f32⟩
  | 23 => ⟨S_, .f32⟩
  | 24 => ⟨S32x12x244, .f32⟩
  | 25 => ⟨S32x12x244x1, .f32⟩
  | 26 => ⟨S32x12x244x244, .f32⟩
  | 27 => ⟨S32x12x244x244, .f32⟩
  | 28 => ⟨S32x12x244x4, .f32⟩
  | 29 => ⟨S32x244x12x4, .f32⟩
  | 30 => ⟨S32x244x48, .f32⟩
  | 31 => ⟨S1x48x48, .f32⟩
  | 32 => ⟨S48x48, .f32⟩
  | 33 => ⟨S32x244x48, .f32⟩
  | 34 => ⟨S1x48, .f32⟩
  | 35 => ⟨S48, .f32⟩
  | 36 => ⟨S1x1x48, .f32⟩
  | 37 => ⟨S32x244x48, .f32⟩
  | 38 => ⟨S32x244x48, .f32⟩
  | 39 => ⟨S32x244x48, .f32⟩
  | 40 => ⟨S1x48, .f32⟩
  | 41 => ⟨S48, .f32⟩
  | 42 => ⟨S1x48, .f32⟩
  | 43 => ⟨S48, .f32⟩
  | 44 => ⟨S_, .f32⟩
  | 45 => ⟨S32x244, .f32⟩
  | 46 => ⟨S32x244x1, .f32⟩
  | 47 => ⟨S_, .f32⟩
  | 48 => ⟨S32x244x1, .f32⟩
  | 49 => ⟨S32x244x1, .f32⟩
  | 50 => ⟨S32x244x48, .f32⟩
  | 51 => ⟨S32x244x48, .f32⟩
  | 52 => ⟨S32x244x48, .f32⟩
  | 53 => ⟨S_, .f32⟩
  | 54 => ⟨S32x244, .f32⟩
  | 55 => ⟨S32x244x1, .f32⟩
  | 56 => ⟨S_, .f32⟩
  | 57 => ⟨S32x244x1, .f32⟩
  | 58 => ⟨S32x244x1, .f32⟩
  | 59 => ⟨S32x244x48, .f32⟩
  | 60 => ⟨S32x244x48, .f32⟩
  | 61 => ⟨S_, .f32⟩
  | 62 => ⟨S32x244x1, .f32⟩
  | 63 => ⟨S32x244x1, .f32⟩
  | 64 => ⟨S32x244x1, .f32⟩
  | 65 => ⟨S32x244x48, .f32⟩
  | 66 => ⟨S32x244x48, .f32⟩
  | 67 => ⟨S1x1x48, .f32⟩
  | 68 => ⟨S32x244x48, .f32⟩
  | 69 => ⟨S32x244x48, .f32⟩
  | 70 => ⟨S1x1x48, .f32⟩
  | 71 => ⟨S32x244x48, .f32⟩
  | 72 => ⟨S32x244x48, .f32⟩
  | 73 => ⟨S1x48x192, .f32⟩
  | 74 => ⟨S48x192, .f32⟩
  | 75 => ⟨S32x244x192, .f32⟩
  | 76 => ⟨S1x192, .f32⟩
  | 77 => ⟨S192, .f32⟩
  | 78 => ⟨S1x1x192, .f32⟩
  | 79 => ⟨S32x244x192, .f32⟩
  | 80 => ⟨S32x244x192, .f32⟩
  | 81 => ⟨S_, .f32⟩
  | 82 => ⟨S32x244x192, .f32⟩
  | 83 => ⟨S32x244x192, .f32⟩
  | 84 => ⟨S32x244x192, .f32⟩
  | 85 => ⟨S_, .f32⟩
  | 86 => ⟨S32x244x192, .f32⟩
  | 87 => ⟨S32x244x192, .f32⟩
  | 88 => ⟨S32x244x192, .f32⟩
  | 89 => ⟨S32x244x192, .f32⟩
  | 90 => ⟨S1x192x48, .f32⟩
  | 91 => ⟨S192x48, .f32⟩
  | 92 => ⟨S32x244x48, .f32⟩
  | 93 => ⟨S1x48, .f32⟩
  | 94 => ⟨S48, .f32⟩
  | 95 => ⟨S1x1x48, .f32⟩
  | 96 => ⟨S32x244x48, .f32⟩
  | 97 => ⟨S32x244x48, .f32⟩
  | 98 => ⟨S32x244x48, .f32⟩
  | 99 => ⟨S1x48, .f32⟩
  | 100 => ⟨S48, .f32⟩
  | 101 => ⟨S1x48, .f32⟩
  | 102 => ⟨S48, .f32⟩
  | 103 => ⟨S_, .f32⟩
  | 104 => ⟨S32x244, .f32⟩
  | 105 => ⟨S32x244x1, .f32⟩
  | 106 => ⟨S_, .f32⟩
  | 107 => ⟨S32x244x1, .f32⟩
  | 108 => ⟨S32x244x1, .f32⟩
  | 109 => ⟨S32x244x48, .f32⟩
  | 110 => ⟨S32x244x48, .f32⟩
  | 111 => ⟨S32x244x48, .f32⟩
  | 112 => ⟨S_, .f32⟩
  | 113 => ⟨S32x244, .f32⟩
  | 114 => ⟨S32x244x1, .f32⟩
  | 115 => ⟨S_, .f32⟩
  | 116 => ⟨S32x244x1, .f32⟩
  | 117 => ⟨S32x244x1, .f32⟩
  | 118 => ⟨S32x244x48, .f32⟩
  | 119 => ⟨S32x244x48, .f32⟩
  | 120 => ⟨S_, .f32⟩
  | 121 => ⟨S32x244x1, .f32⟩
  | 122 => ⟨S32x244x1, .f32⟩
  | 123 => ⟨S32x244x1, .f32⟩
  | 124 => ⟨S32x244x48, .f32⟩
  | 125 => ⟨S32x244x48, .f32⟩
  | 126 => ⟨S1x1x48, .f32⟩
  | 127 => ⟨S32x244x48, .f32⟩
  | _ => ⟨S32x3x224x224, .f32⟩

abbrev hbmTy0_6 (i : Nat) : BufTy := match i % 128 with
  | 0 => ⟨S32x244x48, .f32⟩
  | 1 => ⟨S1x1x48, .f32⟩
  | 2 => ⟨S32x244x48, .f32⟩
  | 3 => ⟨S32x244x48, .f32⟩
  | 4 => ⟨S1x48x144, .f32⟩
  | 5 => ⟨S48x144, .f32⟩
  | 6 => ⟨S32x244x144, .f32⟩
  | 7 => ⟨S1x144, .f32⟩
  | 8 => ⟨S144, .f32⟩
  | 9 => ⟨S1x1x144, .f32⟩
  | 10 => ⟨S32x244x144, .f32⟩
  | 11 => ⟨S32x244x144, .f32⟩
  | 12 => ⟨S32x244x3x12x4, .f32⟩
  | 13 => ⟨S32x244x1x12x4, .f32⟩
  | 14 => ⟨S32x244x12x4, .f32⟩
  | 15 => ⟨S32x12x244x4, .f32⟩
  | 16 => ⟨S32x244x1x12x4, .f32⟩
  | 17 => ⟨S32x244x12x4, .f32⟩
  | 18 => ⟨S32x12x244x4, .f32⟩
  | 19 => ⟨S32x244x1x12x4, .f32⟩
  | 20 => ⟨S32x244x12x4, .f32⟩
  | 21 => ⟨S32x12x244x4, .f32⟩
  | 22 => ⟨S32x12x244x244, .f32⟩
  | 23 => ⟨S_, .f32⟩
  | 24 => ⟨S32x12x244x244, .f32⟩
  | 25 => ⟨S32x12x244x244, .f32⟩
  | 26 => ⟨S_, .f32⟩
  | 27 => ⟨S32x12x244, .f32⟩
  | 28 => ⟨S_, .f32⟩
  | 29 => ⟨S32x12x244, .f32⟩
  | 30 => ⟨S32x12x244, .f32⟩
  | 31 => ⟨S32x12x244x1, .f32⟩
  | 32 => ⟨S32x12x244x244, .f32⟩
  | 33 => ⟨S32x12x244x244, .f32⟩
  | 34 => ⟨S32x12x244x244, .f32⟩
  | 35 => ⟨S_, .f32⟩
  | 36 => ⟨S32x12x244, .f32⟩
  | 37 => ⟨S32x12x244x1, .f32⟩
  | 38 => ⟨S32x12x244x244, .f32⟩
  | 39 => ⟨S32x12x244x244, .f32⟩
  | 40 => ⟨S32x12x244x4, .f32⟩
  | 41 => ⟨S32x244x12x4, .f32⟩
  | 42 => ⟨S32x244x48, .f32⟩
  | 43 => ⟨S1x48x48, .f32⟩
  | 44 => ⟨S48x48, .f32⟩
  | 45 => ⟨S32x244x48, .f32⟩
  | 46 => ⟨S1x48, .f32⟩
  | 47 => ⟨S48, .f32⟩
  | 48 => ⟨S1x1x48, .f32⟩
  | 49 => ⟨S32x244x48, .f32⟩
  | 50 => ⟨S32x244x48, .f32⟩
  | 51 => ⟨S32x244x48, .f32⟩
  | 52 => ⟨S1x48, .f32⟩
  | 53 => ⟨S48, .f32⟩
  | 54 => ⟨S1x48, .f32⟩
  | 55 => ⟨S48, .f32⟩
  | 56 => ⟨S_, .f32⟩
  | 57 => ⟨S32x244, .f32⟩
  | 58 => ⟨S32x244x1, .f32⟩
  | 59 => ⟨S_, .f32⟩
  | 60 => ⟨S32x244x1, .f32⟩
  | 61 => ⟨S32x244x1, .f32⟩
  | 62 => ⟨S32x244x48, .f32⟩
  | 63 => ⟨S32x244x48, .f32⟩
  | 64 => ⟨S32x244x48, .f32⟩
  | 65 => ⟨S_, .f32⟩
  | 66 => ⟨S32x244, .f32⟩
  | 67 => ⟨S32x244x1, .f32⟩
  | 68 => ⟨S_, .f32⟩
  | 69 => ⟨S32x244x1, .f32⟩
  | 70 => ⟨S32x244x1, .f32⟩
  | 71 => ⟨S32x244x48, .f32⟩
  | 72 => ⟨S32x244x48, .f32⟩
  | 73 => ⟨S_, .f32⟩
  | 74 => ⟨S32x244x1, .f32⟩
  | 75 => ⟨S32x244x1, .f32⟩
  | 76 => ⟨S32x244x1, .f32⟩
  | 77 => ⟨S32x244x48, .f32⟩
  | 78 => ⟨S32x244x48, .f32⟩
  | 79 => ⟨S1x1x48, .f32⟩
  | 80 => ⟨S32x244x48, .f32⟩
  | 81 => ⟨S32x244x48, .f32⟩
  | 82 => ⟨S1x1x48, .f32⟩
  | 83 => ⟨S32x244x48, .f32⟩
  | 84 => ⟨S32x244x48, .f32⟩
  | 85 => ⟨S1x48x192, .f32⟩
  | 86 => ⟨S48x192, .f32⟩
  | 87 => ⟨S32x244x192, .f32⟩
  | 88 => ⟨S1x192, .f32⟩
  | 89 => ⟨S192, .f32⟩
  | 90 => ⟨S1x1x192, .f32⟩
  | 91 => ⟨S32x244x192, .f32⟩
  | 92 => ⟨S32x244x192, .f32⟩
  | 93 => ⟨S_, .f32⟩
  | 94 => ⟨S32x244x192, .f32⟩
  | 95 => ⟨S32x244x192, .f32⟩
  | 96 => ⟨S32x244x192, .f32⟩
  | 97 => ⟨S_, .f32⟩
  | 98 => ⟨S32x244x192, .f32⟩
  | 99 => ⟨S32x244x192, .f32⟩
  | 100 => ⟨S32x244x192, .f32⟩
  | 101 => ⟨S32x244x192, .f32⟩
  | 102 => ⟨S1x192x48, .f32⟩
  | 103 => ⟨S192x48, .f32⟩
  | 104 => ⟨S32x244x48, .f32⟩
  | 105 => ⟨S1x48, .f32⟩
  | 106 => ⟨S48, .f32⟩
  | 107 => ⟨S1x1x48, .f32⟩
  | 108 => ⟨S32x244x48, .f32⟩
  | 109 => ⟨S32x244x48, .f32⟩
  | 110 => ⟨S32x244x48, .f32⟩
  | 111 => ⟨S_, .f32⟩
  | 112 => ⟨S32x244, .f32⟩
  | 113 => ⟨S32x244x1, .f32⟩
  | 114 => ⟨S_, .f32⟩
  | 115 => ⟨S32x244x1, .f32⟩
  | 116 => ⟨S32x244x1, .f32⟩
  | 117 => ⟨S32x244x48, .f32⟩
  | 118 => ⟨S32x244x48, .f32⟩
  | 119 => ⟨S32x244x48, .f32⟩
  | 120 => ⟨S_, .f32⟩
  | 121 => ⟨S32x244, .f32⟩
  | 122 => ⟨S32x244x1, .f32⟩
  | 123 => ⟨S_, .f32⟩
  | 124 => ⟨S32x244x1, .f32⟩
  | 125 => ⟨S32x244x1, .f32⟩
  | 126 => ⟨S32x244x48, .f32⟩
  | 127 => ⟨S32x244x48, .f32⟩
  | _ => ⟨S32x3x224x224, .f32⟩

abbrev hbmTy0_7 (i : Nat) : BufTy := match i % 128 with
  | 0 => ⟨S_, .f32⟩
  | 1 => ⟨S32x244x1, .f32⟩
  | 2 => ⟨S32x244x1, .f32⟩
  | 3 => ⟨S32x244x1, .f32⟩
  | 4 => ⟨S32x244x48, .f32⟩
  | 5 => ⟨S32x244x48, .f32⟩
  | 6 => ⟨S1x1x48, .f32⟩
  | 7 => ⟨S32x244x48, .f32⟩
  | 8 => ⟨S32x244x48, .f32⟩
  | 9 => ⟨S1x1x48, .f32⟩
  | 10 => ⟨S32x244x48, .f32⟩
  | 11 => ⟨S32x244x48, .f32⟩
  | 12 => ⟨S32x196x48, .f32⟩
  | 13 => ⟨S32x196x48, .f32⟩
  | 14 => ⟨S32x196x48, .f32⟩
  | 15 => ⟨S_, .f32⟩
  | 16 => ⟨S32x196, .f32⟩
  | 17 => ⟨S32x196x1, .f32⟩
  | 18 => ⟨S32x196x1, .f32⟩
  | 19 => ⟨S_, .f32⟩
  | 20 => ⟨S32x196x1, .f32⟩
  | 21 => ⟨S32x196x1, .i1⟩
  | 22 => ⟨S_, .f32⟩
  | 23 => ⟨S_, .f32⟩
  | 24 => ⟨S32x196x1, .f32⟩
  | 25 => ⟨S32x196x1, .f32⟩
  | 26 => ⟨S32x196x48, .f32⟩
  | 27 => ⟨S32x196x48, .f32⟩
  | 28 => ⟨S32x48x48, .f32⟩
  | 29 => ⟨S32x48x48, .f32⟩
  | 30 => ⟨S32x48x48, .f32⟩
  | 31 => ⟨S_, .f32⟩
  | 32 => ⟨S32x48, .f32⟩
  | 33 => ⟨S32x48x1, .f32⟩
  | 34 => ⟨S32x48x1, .f32⟩
  | 35 => ⟨S_, .f32⟩
  | 36 => ⟨S32x48x1, .f32⟩
  | 37 => ⟨S32x48x1, .i1⟩
  | 38 => ⟨S_, .f32⟩
  | 39 => ⟨S_, .f32⟩
  | 40 => ⟨S32x48x1, .f32⟩
  | 41 => ⟨S32x48x1, .f32⟩
  | 42 => ⟨S32x48x48, .f32⟩
  | 43 => ⟨S32x48x48, .f32⟩
  | 44 => ⟨S32x196x48, .f32⟩
  | 45 => ⟨S_, .f32⟩
  | 46 => ⟨S32x196, .f32⟩
  | 47 => ⟨S32x196x1, .f32⟩
  | 48 => ⟨S_, .f32⟩
  | 49 => ⟨S32x196x1, .f32⟩
  | 50 => ⟨S32x196x1, .f32⟩
  | 51 => ⟨S32x196x48, .f32⟩
  | 52 => ⟨S32x196x48, .f32⟩
  | 53 => ⟨S32x196x48, .f32⟩
  | 54 => ⟨S_, .f32⟩
  | 55 => ⟨S32x196, .f32⟩
  | 56 => ⟨S32x196x1, .f32⟩
  | 57 => ⟨S_, .f32⟩
  | 58 => ⟨S32x196x1, .f32⟩
  | 59 => ⟨S32x196x1, .f32⟩
  | 60 => ⟨S32x196x48, .f32⟩
  | 61 => ⟨S32x196x48, .f32⟩
  | 62 => ⟨S_, .f32⟩
  | 63 => ⟨S32x196x1, .f32⟩
  | 64 => ⟨S32x196x1, .f32⟩
  | 65 => ⟨S32x196x1, .f32⟩
  | 66 => ⟨S32x196x48, .f32⟩
  | 67 => ⟨S32x196x48, .f32⟩
  | 68 => ⟨S1x1x48, .f32⟩
  | 69 => ⟨S32x196x48, .f32⟩
  | 70 => ⟨S32x196x48, .f32⟩
  | 71 => ⟨S1x1x48, .f32⟩
  | 72 => ⟨S32x196x48, .f32⟩
  | 73 => ⟨S32x196x48, .f32⟩
  | 74 => ⟨S32x9408, .f32⟩
  | 75 => ⟨S_, .f32⟩
  | 76 => ⟨S32x9408, .f32⟩
  | 77 => ⟨S32x9408, .f32⟩
  | 78 => ⟨S32x9408, .f32⟩
  | 79 => ⟨S_, .f32⟩
  | 80 => ⟨S32x9408, .f32⟩
  | 81 => ⟨S32x9408, .f32⟩
  | 82 => ⟨S32x9408, .f32⟩
  | 83 => ⟨S32x9408, .f32⟩
  | 84 => ⟨S32x48, .f32⟩
  | 85 => ⟨S1x48, .f32⟩
  | 86 => ⟨S32x48, .f32⟩
  | 87 => ⟨S32x48, .f32⟩
  | 88 => ⟨S_, .f32⟩
  | 89 => ⟨S_, .f32⟩
  | 90 => ⟨S_, .f32⟩
  | 91 => ⟨S32x48, .f32⟩
  | 92 => ⟨S32x48, .f32⟩
  | 93 => ⟨S_, .f32⟩
  | 94 => ⟨S32x48, .f32⟩
  | 95 => ⟨S32x48, .f32⟩
  | 96 => ⟨S32x24x3, .f32⟩
  | 97 => ⟨S32x24, .f32⟩
  | 98 => ⟨S32x24x2, .f32⟩
  | 99 => ⟨S_, .f32⟩
  | 100 => ⟨S32x24, .f32⟩
  | 101 => ⟨S_, .f32⟩
  | 102 => ⟨S32x24, .f32⟩
  | 103 => ⟨S32x24, .i1⟩
  | 104 => ⟨S32x24, .i32⟩
  | 105 => ⟨S_, .i32⟩
  | 106 => ⟨S_, .i32⟩
  | 107 => ⟨S32x24, .i32⟩
  | 108 => ⟨S_, .i32⟩
  | 109 => ⟨S32x24, .i32⟩
  | 110 => ⟨S32x24, .i32⟩
  | 111 => ⟨S_, .i32⟩
  | 112 => ⟨S_, .i32⟩
  | 113 => ⟨S_, .i32⟩
  | 114 => ⟨S32x24, .i32⟩
  | 115 => ⟨S32x24, .i32⟩
  | 116 => ⟨S_, .i32⟩
  | 117 => ⟨S32x24, .i32⟩
  | 118 => ⟨S32x24, .i32⟩
  | 119 => ⟨S_, .i32⟩
  | 120 => ⟨S32x24, .i32⟩
  | 121 => ⟨S32x24, .i1⟩
  | 122 => ⟨S_, .i32⟩
  | 123 => ⟨S32x24, .i32⟩
  | 124 => ⟨S32x24, .i32⟩
  | 125 => ⟨S32x24, .i32⟩
  | 126 => ⟨S32x24x1, .i32⟩
  | 127 => ⟨S1, .i32⟩
  | _ => ⟨S32x3x224x224, .f32⟩

abbrev hbmTy0_8 (i : Nat) : BufTy := match i % 128 with
  | 0 => ⟨S_, .i32⟩
  | 1 => ⟨S32x24x1, .i32⟩
  | 2 => ⟨S32x24x1, .i1⟩
  | 3 => ⟨S1x1x1, .i32⟩
  | 4 => ⟨S32x24x1, .i32⟩
  | 5 => ⟨S32x24x1, .i1⟩
  | 6 => ⟨S32x24x1, .i1⟩
  | 7 => ⟨S_, .i1⟩
  | 8 => ⟨S32x24, .i1⟩
  | 9 => ⟨S32x24, .f32⟩
  | 10 => ⟨S_, .f32⟩
  | 11 => ⟨S32x24, .f32⟩
  | 12 => ⟨S32x24, .f32⟩
  | 13 => ⟨S_, .f32⟩
  | 14 => ⟨S32x24, .f32⟩
  | 15 => ⟨S32x24, .f32⟩
  | 16 => ⟨S224, .f32⟩
  | 17 => ⟨S224, .f32⟩
  | 18 => ⟨S1x1x224, .f32⟩
  | 19 => ⟨S32x24x1, .f32⟩
  | 20 => ⟨S32x24x224, .f32⟩
  | 21 => ⟨S32x24x224, .f32⟩
  | 22 => ⟨S32x24x224, .f32⟩
  | 23 => ⟨S32x24x224, .f32⟩
  | 24 => ⟨S1x1x224, .f32⟩
  | 25 => ⟨S32x24x1, .f32⟩
  | 26 => ⟨S32x24x224, .f32⟩
  | 27 => ⟨S32x24x224, .f32⟩
  | 28 => ⟨S32x24x224, .f32⟩
  | 29 => ⟨S32x24x224, .f32⟩
  | 30 => ⟨S32x24, .f32⟩
  | 31 => ⟨S_, .f32⟩
  | 32 => ⟨S32x24, .f32⟩
  | 33 => ⟨S32x24, .f32⟩
  | 34 => ⟨S32x24x224x1, .f32⟩
  | 35 => ⟨S32x24x1x224, .f32⟩
  | 36 => ⟨S32x24x224x224, .f32⟩
  | 37 => ⟨S32x24x224x224, .f32⟩
  | 38 => ⟨S32x24x224x224, .f32⟩
  | 39 => ⟨S32x24x224x224, .f32⟩
  | 40 => ⟨S32x24x1x1, .f32⟩
  | 41 => ⟨S32x24x224x224, .f32⟩
  | 42 => ⟨S32x24x224x224, .f32⟩
  | 43 => ⟨S32x24x224x224, .f32⟩
  | 44 => ⟨S_, .f32⟩
  | 45 => ⟨S32x24, .f32⟩
  | 46 => ⟨S32x24, .f32⟩
  | 47 => ⟨S32x24x1x1, .f32⟩
  | 48 => ⟨S32x24x224x224, .f32⟩
  | 49 => ⟨S32x24x224x224, .f32⟩
  | 50 => ⟨S32x24x1x1, .i1⟩
  | 51 => ⟨S32x24x1x1, .f32⟩
  | 52 => ⟨S32x24x224x224, .f32⟩
  | 53 => ⟨S32x24x224x224, .f32⟩
  | 54 => ⟨S32x24, .i32⟩
  | 55 => ⟨S_, .i32⟩
  | 56 => ⟨S32, .i32⟩
  | 57 => ⟨S_, .f32⟩
  | 58 => ⟨S32x224x224, .f32⟩
  | 59 => ⟨S_, .i32⟩
  | 60 => ⟨S32, .i32⟩
  | 61 => ⟨S32, .i32⟩
  | 62 => ⟨S32x1x1, .i32⟩
  | 63 => ⟨S32x1x1, .f32⟩
  | 64 => ⟨S32x224x224, .f32⟩
  | 65 => ⟨S32x224x224, .f32⟩
  | 66 => ⟨S_, .f32⟩
  | 67 => ⟨S32, .f32⟩
  | 68 => ⟨S32x1x1, .f32⟩
  | 69 => ⟨S_, .f32⟩
  | 70 => ⟨S32, .f32⟩
  | 71 => ⟨S32x1x1, .f32⟩
  | 72 => ⟨S32x1x1, .i1⟩
  | 73 => ⟨S32x1x1, .f32⟩
  | 74 => ⟨S_, .f32⟩
  | 75 => ⟨S_, .f32⟩
  | 76 => ⟨S32x1x1, .f32⟩
  | 77 => ⟨S32x1x1, .f32⟩
  | 78 => ⟨S32x224x224, .f32⟩
  | 79 => ⟨S32x224x224, .f32⟩
  | 80 => ⟨S_, .f32⟩
  | 81 => ⟨S32x224x224, .f32⟩
  | 82 => ⟨S32x224x224, .f32⟩
  | 83 => ⟨S32x224x224, .f32⟩
  | 84 => ⟨S32x224x224, .f32⟩
  | 85 => ⟨S_, .f32⟩
  | 86 => ⟨S32x224x224, .f32⟩
  | 87 => ⟨S32x224x224, .f32⟩
  | 88 => ⟨S_, .i32⟩
  | 89 => ⟨S32, .i32⟩
  | 90 => ⟨S32, .i1⟩
  | 91 => ⟨S32x1x1, .i1⟩
  | 92 => ⟨S_, .f32⟩
  | 93 => ⟨S32x224x224, .f32⟩
  | 94 => ⟨S32x224x224, .i1⟩
  | 95 => ⟨S32x224x224, .f32⟩
  | 96 => ⟨S32x24x3, .f32⟩
  | 97 => ⟨S32x24, .f32⟩
  | 98 => ⟨S32x24x2, .f32⟩
  | 99 => ⟨S_, .f32⟩
  | 100 => ⟨S32x24, .f32⟩
  | 101 => ⟨S_, .f32⟩
  | 102 => ⟨S32x24, .f32⟩
  | 103 => ⟨S32x24, .i1⟩
  | 104 => ⟨S32x24, .i32⟩
  | 105 => ⟨S_, .i32⟩
  | 106 => ⟨S_, .i32⟩
  | 107 => ⟨S32x24, .i32⟩
  | 108 => ⟨S_, .i32⟩
  | 109 => ⟨S32x24, .i32⟩
  | 110 => ⟨S32x24, .i32⟩
  | 111 => ⟨S_, .i32⟩
  | 112 => ⟨S_, .i32⟩
  | 113 => ⟨S_, .i32⟩
  | 114 => ⟨S32x24, .i32⟩
  | 115 => ⟨S32x24, .i32⟩
  | 116 => ⟨S_, .i32⟩
  | 117 => ⟨S32x24, .i32⟩
  | 118 => ⟨S32x24, .i32⟩
  | 119 => ⟨S_, .i32⟩
  | 120 => ⟨S32x24, .i32⟩
  | 121 => ⟨S32x24, .i1⟩
  | 122 => ⟨S_, .i32⟩
  | 123 => ⟨S32x24, .i32⟩
  | 124 => ⟨S32x24, .i32⟩
  | 125 => ⟨S32x24, .i32⟩
  | 126 => ⟨S32x24x1, .i32⟩
  | 127 => ⟨S1, .i32⟩
  | _ => ⟨S32x3x224x224, .f32⟩

abbrev hbmTy0_9 (i : Nat) : BufTy := match i % 128 with
  | 0 => ⟨S_, .i32⟩
  | 1 => ⟨S32x24x1, .i32⟩
  | 2 => ⟨S32x24x1, .i1⟩
  | 3 => ⟨S1x1x1, .i32⟩
  | 4 => ⟨S32x24x1, .i32⟩
  | 5 => ⟨S32x24x1, .i1⟩
  | 6 => ⟨S32x24x1, .i1⟩
  | 7 => ⟨S_, .i1⟩
  | 8 => ⟨S32x24, .i1⟩
  | 9 => ⟨S32x24, .f32⟩
  | 10 => ⟨S_, .f32⟩
  | 11 => ⟨S32x24, .f32⟩
  | 12 => ⟨S32x24, .f32⟩
  | 13 => ⟨S_, .f32⟩
  | 14 => ⟨S32x24, .f32⟩
  | 15 => ⟨S32x24, .f32⟩
  | 16 => ⟨S224, .f32⟩
  | 17 => ⟨S224, .f32⟩
  | 18 => ⟨S1x1x224, .f32⟩
  | 19 => ⟨S32x24x1, .f32⟩
  | 20 => ⟨S32x24x224, .f32⟩
  | 21 => ⟨S32x24x224, .f32⟩
  | 22 => ⟨S32x24x224, .f32⟩
  | 23 => ⟨S32x24x224, .f32⟩
  | 24 => ⟨S1x1x224, .f32⟩
  | 25 => ⟨S32x24x1, .f32⟩
  | 26 => ⟨S32x24x224, .f32⟩
  | 27 => ⟨S32x24x224, .f32⟩
  | 28 => ⟨S32x24x224, .f32⟩
  | 29 => ⟨S32x24x224, .f32⟩
  | 30 => ⟨S32x24, .f32⟩
  | 31 => ⟨S_, .f32⟩
  | 32 => ⟨S32x24, .f32⟩
  | 33 => ⟨S32x24, .f32⟩
  | 34 => ⟨S32x24x224x1, .f32⟩
  | 35 => ⟨S32x24x1x224, .f32⟩
  | 36 => ⟨S32x24x224x224, .f32⟩
  | 37 => ⟨S32x24x224x224, .f32⟩
  | 38 => ⟨S32x24x224x224, .f32⟩
  | 39 => ⟨S32x24x224x224, .f32⟩
  | 40 => ⟨S32x24x1x1, .f32⟩
  | 41 => ⟨S32x24x224x224, .f32⟩
  | 42 => ⟨S32x24x224x224, .f32⟩
  | 43 => ⟨S32x24x224x224, .f32⟩
  | 44 => ⟨S_, .f32⟩
  | 45 => ⟨S32x24, .f32⟩
  | 46 => ⟨S32x24, .f32⟩
  | 47 => ⟨S32x24x1x1, .f32⟩
  | 48 => ⟨S32x24x224x224, .f32⟩
  | 49 => ⟨S32x24x224x224, .f32⟩
  | 50 => ⟨S32x24x1x1, .i1⟩
  | 51 => ⟨S32x24x1x1, .f32⟩
  | 52 => ⟨S32x24x224x224, .f32⟩
  | 53 => ⟨S32x24x224x224, .f32⟩
  | 54 => ⟨S32x24, .i32⟩
  | 55 => ⟨S_, .i32⟩
  | 56 => ⟨S32, .i32⟩
  | 57 => ⟨S_, .f32⟩
  | 58 => ⟨S32x224x224, .f32⟩
  | 59 => ⟨S_, .i32⟩
  | 60 => ⟨S32, .i32⟩
  | 61 => ⟨S32, .i32⟩
  | 62 => ⟨S32x1x1, .i32⟩
  | 63 => ⟨S32x1x1, .f32⟩
  | 64 => ⟨S32x224x224, .f32⟩
  | 65 => ⟨S32x224x224, .f32⟩
  | 66 => ⟨S_, .f32⟩
  | 67 => ⟨S32, .f32⟩
  | 68 => ⟨S32x1x1, .f32⟩
  | 69 => ⟨S_, .f32⟩
  | 70 => ⟨S32, .f32⟩
  | 71 => ⟨S32x1x1, .f32⟩
  | 72 => ⟨S32x1x1, .i1⟩
  | 73 => ⟨S32x1x1, .f32⟩
  | 74 => ⟨S_, .f32⟩
  | 75 => ⟨S_, .f32⟩
  | 76 => ⟨S32x1x1, .f32⟩
  | 77 => ⟨S32x1x1, .f32⟩
  | 78 => ⟨S32x224x224, .f32⟩
  | 79 => ⟨S32x224x224, .f32⟩
  | 80 => ⟨S_, .f32⟩
  | 81 => ⟨S32x224x224, .f32⟩
  | 82 => ⟨S32x224x224, .f32⟩
  | 83 => ⟨S32x224x224, .f32⟩
  | 84 => ⟨S32x224x224, .f32⟩
  | 85 => ⟨S_, .f32⟩
  | 86 => ⟨S32x224x224, .f32⟩
  | 87 => ⟨S32x224x224, .f32⟩
  | 88 => ⟨S_, .i32⟩
  | 89 => ⟨S32, .i32⟩
  | 90 => ⟨S32, .i1⟩
  | 91 => ⟨S32x1x1, .i1⟩
  | 92 => ⟨S_, .f32⟩
  | 93 => ⟨S32x224x224, .f32⟩
  | 94 => ⟨S32x224x224, .i1⟩
  | 95 => ⟨S32x224x224, .f32⟩
  | 96 => ⟨S32x1x224x224, .f32⟩
  | 97 => ⟨S32x1x224x224, .f32⟩
  | 98 => ⟨S32x2x224x224, .f32⟩
  | _ => ⟨S32x3x224x224, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | _ => ⟨S32x3x224x224, .f32⟩

abbrev bufTy : (tb : Table) → Fin (tcTables nBuf tb) → BufTy
  | .hbm, ⟨i, _⟩ => hbmTy i
  | _, _ => ⟨S32x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_cst : Ref sig .tc := ⟨.hbm, 43, rfl⟩
abbrev main_v16 : Ref sig .tc := ⟨.hbm, 44, rfl⟩
abbrev main_v17 : Ref sig .tc := ⟨.hbm, 45, rfl⟩
abbrev main_cst_0 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_cst_1 : Ref sig .tc := ⟨.hbm, 52, rfl⟩
abbrev main_v23 : Ref sig .tc := ⟨.hbm, 53, rfl⟩
abbrev main_v24 : Ref sig .tc := ⟨.hbm, 54, rfl⟩
abbrev main_cst_2 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_cst_3 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_4 : Ref sig .tc := ⟨.hbm, 91, rfl⟩
abbrev main_v59 : Ref sig .tc := ⟨.hbm, 92, rfl⟩
abbrev main_v60 : Ref sig .tc := ⟨.hbm, 93, rfl⟩
abbrev main_cst_5 : Ref sig .tc := ⟨.hbm, 94, rfl⟩
abbrev main_v61 : Ref sig .tc := ⟨.hbm, 95, rfl⟩
abbrev main_cst_6 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_7 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_8 : Ref sig .tc := ⟨.hbm, 124, rfl⟩
abbrev main_v88 : Ref sig .tc := ⟨.hbm, 125, rfl⟩
abbrev main_v89 : Ref sig .tc := ⟨.hbm, 126, rfl⟩
abbrev main_cst_9 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_cst_10 : Ref sig .tc := ⟨.hbm, 133, rfl⟩
abbrev main_v95 : Ref sig .tc := ⟨.hbm, 134, rfl⟩
abbrev main_v96 : Ref sig .tc := ⟨.hbm, 135, rfl⟩
abbrev main_cst_11 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_cst_12 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_cst_13 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_cst_14 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_cst_15 : Ref sig .tc := ⟨.hbm, 183, rfl⟩
abbrev main_v140 : Ref sig .tc := ⟨.hbm, 184, rfl⟩
abbrev main_v141 : Ref sig .tc := ⟨.hbm, 185, rfl⟩
abbrev main_cst_16 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_cst_17 : Ref sig .tc := ⟨.hbm, 192, rfl⟩
abbrev main_v147 : Ref sig .tc := ⟨.hbm, 193, rfl⟩
abbrev main_v148 : Ref sig .tc := ⟨.hbm, 194, rfl⟩
abbrev main_cst_18 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_cst_19 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_cst_20 : Ref sig .tc := ⟨.hbm, 231, rfl⟩
abbrev main_v183 : Ref sig .tc := ⟨.hbm, 232, rfl⟩
abbrev main_v184 : Ref sig .tc := ⟨.hbm, 233, rfl⟩
abbrev main_cst_21 : Ref sig .tc := ⟨.hbm, 234, rfl⟩
abbrev main_v185 : Ref sig .tc := ⟨.hbm, 235, rfl⟩
abbrev main_cst_22 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩
abbrev main_v191 : Ref sig .tc := ⟨.hbm, 242, rfl⟩
abbrev main_cst_23 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_v197 : Ref sig .tc := ⟨.hbm, 249, rfl⟩
abbrev main_v198 : Ref sig .tc := ⟨.hbm, 250, rfl⟩
abbrev main_v199 : Ref sig .tc := ⟨.hbm, 251, rfl⟩
abbrev main_v200 : Ref sig .tc := ⟨.hbm, 252, rfl⟩
abbrev main_v201 : Ref sig .tc := ⟨.hbm, 253, rfl⟩
abbrev main_v202 : Ref sig .tc := ⟨.hbm, 254, rfl⟩
abbrev main_v203 : Ref sig .tc := ⟨.hbm, 255, rfl⟩
abbrev main_v204 : Ref sig .tc := ⟨.hbm, 256, rfl⟩
abbrev main_v205 : Ref sig .tc := ⟨.hbm, 257, rfl⟩
abbrev main_v206 : Ref sig .tc := ⟨.hbm, 258, rfl⟩
abbrev main_v207 : Ref sig .tc := ⟨.hbm, 259, rfl⟩
abbrev main_v208 : Ref sig .tc := ⟨.hbm, 260, rfl⟩
abbrev main_v209 : Ref sig .tc := ⟨.hbm, 261, rfl⟩
abbrev main_v210 : Ref sig .tc := ⟨.hbm, 262, rfl⟩
abbrev main_v211 : Ref sig .tc := ⟨.hbm, 263, rfl⟩
abbrev main_cst_24 : Ref sig .tc := ⟨.hbm, 264, rfl⟩
abbrev main_v212 : Ref sig .tc := ⟨.hbm, 265, rfl⟩
abbrev main_v213 : Ref sig .tc := ⟨.hbm, 266, rfl⟩
abbrev main_cst_25 : Ref sig .tc := ⟨.hbm, 267, rfl⟩
abbrev main_v214 : Ref sig .tc := ⟨.hbm, 268, rfl⟩
abbrev main_v215 : Ref sig .tc := ⟨.hbm, 269, rfl⟩
abbrev main_v216 : Ref sig .tc := ⟨.hbm, 270, rfl⟩
abbrev main_v217 : Ref sig .tc := ⟨.hbm, 271, rfl⟩
abbrev main_v218 : Ref sig .tc := ⟨.hbm, 272, rfl⟩
abbrev main_cst_26 : Ref sig .tc := ⟨.hbm, 273, rfl⟩
abbrev main_v219 : Ref sig .tc := ⟨.hbm, 274, rfl⟩
abbrev main_v220 : Ref sig .tc := ⟨.hbm, 275, rfl⟩
abbrev main_cst_27 : Ref sig .tc := ⟨.hbm, 276, rfl⟩
abbrev main_v221 : Ref sig .tc := ⟨.hbm, 277, rfl⟩
abbrev main_v222 : Ref sig .tc := ⟨.hbm, 278, rfl⟩
abbrev main_v223 : Ref sig .tc := ⟨.hbm, 279, rfl⟩
abbrev main_v224 : Ref sig .tc := ⟨.hbm, 280, rfl⟩
abbrev main_cst_28 : Ref sig .tc := ⟨.hbm, 281, rfl⟩
abbrev main_v225 : Ref sig .tc := ⟨.hbm, 282, rfl⟩
abbrev main_v226 : Ref sig .tc := ⟨.hbm, 283, rfl⟩
abbrev main_v227 : Ref sig .tc := ⟨.hbm, 284, rfl⟩
abbrev main_v228 : Ref sig .tc := ⟨.hbm, 285, rfl⟩
abbrev main_v229 : Ref sig .tc := ⟨.hbm, 286, rfl⟩
abbrev main_v230 : Ref sig .tc := ⟨.hbm, 287, rfl⟩
abbrev main_v231 : Ref sig .tc := ⟨.hbm, 288, rfl⟩
abbrev main_v232 : Ref sig .tc := ⟨.hbm, 289, rfl⟩
abbrev main_v233 : Ref sig .tc := ⟨.hbm, 290, rfl⟩
abbrev main_v234 : Ref sig .tc := ⟨.hbm, 291, rfl⟩
abbrev main_v235 : Ref sig .tc := ⟨.hbm, 292, rfl⟩
abbrev main_v236 : Ref sig .tc := ⟨.hbm, 293, rfl⟩
abbrev main_v237 : Ref sig .tc := ⟨.hbm, 294, rfl⟩
abbrev main_v238 : Ref sig .tc := ⟨.hbm, 295, rfl⟩
abbrev main_v239 : Ref sig .tc := ⟨.hbm, 296, rfl⟩
abbrev main_v240 : Ref sig .tc := ⟨.hbm, 297, rfl⟩
abbrev main_v241 : Ref sig .tc := ⟨.hbm, 298, rfl⟩
abbrev main_v242 : Ref sig .tc := ⟨.hbm, 299, rfl⟩
abbrev main_v243 : Ref sig .tc := ⟨.hbm, 300, rfl⟩
abbrev main_cst_29 : Ref sig .tc := ⟨.hbm, 301, rfl⟩
abbrev main_v244 : Ref sig .tc := ⟨.hbm, 302, rfl⟩
abbrev main_v245 : Ref sig .tc := ⟨.hbm, 303, rfl⟩
abbrev main_v246 : Ref sig .tc := ⟨.hbm, 304, rfl⟩
abbrev main_cst_30 : Ref sig .tc := ⟨.hbm, 305, rfl⟩
abbrev main_v247 : Ref sig .tc := ⟨.hbm, 306, rfl⟩
abbrev main_v248 : Ref sig .tc := ⟨.hbm, 307, rfl⟩
abbrev main_v249 : Ref sig .tc := ⟨.hbm, 308, rfl⟩
abbrev main_v250 : Ref sig .tc := ⟨.hbm, 309, rfl⟩
abbrev main_v251 : Ref sig .tc := ⟨.hbm, 310, rfl⟩
abbrev main_v252 : Ref sig .tc := ⟨.hbm, 311, rfl⟩
abbrev main_v253 : Ref sig .tc := ⟨.hbm, 312, rfl⟩
abbrev main_v254 : Ref sig .tc := ⟨.hbm, 313, rfl⟩
abbrev main_v255 : Ref sig .tc := ⟨.hbm, 314, rfl⟩
abbrev main_v256 : Ref sig .tc := ⟨.hbm, 315, rfl⟩
abbrev main_v257 : Ref sig .tc := ⟨.hbm, 316, rfl⟩
abbrev main_v258 : Ref sig .tc := ⟨.hbm, 317, rfl⟩
abbrev main_v259 : Ref sig .tc := ⟨.hbm, 318, rfl⟩
abbrev main_v260 : Ref sig .tc := ⟨.hbm, 319, rfl⟩
abbrev main_v261 : Ref sig .tc := ⟨.hbm, 320, rfl⟩
abbrev main_v262 : Ref sig .tc := ⟨.hbm, 321, rfl⟩
abbrev main_v263 : Ref sig .tc := ⟨.hbm, 322, rfl⟩
abbrev main_cst_31 : Ref sig .tc := ⟨.hbm, 323, rfl⟩
abbrev main_v264 : Ref sig .tc := ⟨.hbm, 324, rfl⟩
abbrev main_v265 : Ref sig .tc := ⟨.hbm, 325, rfl⟩
abbrev main_cst_32 : Ref sig .tc := ⟨.hbm, 326, rfl⟩
abbrev main_v266 : Ref sig .tc := ⟨.hbm, 327, rfl⟩
abbrev main_v267 : Ref sig .tc := ⟨.hbm, 328, rfl⟩
abbrev main_v268 : Ref sig .tc := ⟨.hbm, 329, rfl⟩
abbrev main_v269 : Ref sig .tc := ⟨.hbm, 330, rfl⟩
abbrev main_v270 : Ref sig .tc := ⟨.hbm, 331, rfl⟩
abbrev main_cst_33 : Ref sig .tc := ⟨.hbm, 332, rfl⟩
abbrev main_v271 : Ref sig .tc := ⟨.hbm, 333, rfl⟩
abbrev main_v272 : Ref sig .tc := ⟨.hbm, 334, rfl⟩
abbrev main_cst_34 : Ref sig .tc := ⟨.hbm, 335, rfl⟩
abbrev main_v273 : Ref sig .tc := ⟨.hbm, 336, rfl⟩
abbrev main_v274 : Ref sig .tc := ⟨.hbm, 337, rfl⟩
abbrev main_v275 : Ref sig .tc := ⟨.hbm, 338, rfl⟩
abbrev main_v276 : Ref sig .tc := ⟨.hbm, 339, rfl⟩
abbrev main_cst_35 : Ref sig .tc := ⟨.hbm, 340, rfl⟩
abbrev main_v277 : Ref sig .tc := ⟨.hbm, 341, rfl⟩
abbrev main_v278 : Ref sig .tc := ⟨.hbm, 342, rfl⟩
abbrev main_v279 : Ref sig .tc := ⟨.hbm, 343, rfl⟩
abbrev main_v280 : Ref sig .tc := ⟨.hbm, 344, rfl⟩
abbrev main_v281 : Ref sig .tc := ⟨.hbm, 345, rfl⟩
abbrev main_v282 : Ref sig .tc := ⟨.hbm, 346, rfl⟩
abbrev main_v283 : Ref sig .tc := ⟨.hbm, 347, rfl⟩
abbrev main_v284 : Ref sig .tc := ⟨.hbm, 348, rfl⟩
abbrev main_v285 : Ref sig .tc := ⟨.hbm, 349, rfl⟩
abbrev main_v286 : Ref sig .tc := ⟨.hbm, 350, rfl⟩
abbrev main_v287 : Ref sig .tc := ⟨.hbm, 351, rfl⟩
abbrev main_v288 : Ref sig .tc := ⟨.hbm, 352, rfl⟩
abbrev main_v289 : Ref sig .tc := ⟨.hbm, 353, rfl⟩
abbrev main_v290 : Ref sig .tc := ⟨.hbm, 354, rfl⟩
abbrev main_v291 : Ref sig .tc := ⟨.hbm, 355, rfl⟩
abbrev main_v292 : Ref sig .tc := ⟨.hbm, 356, rfl⟩
abbrev main_v293 : Ref sig .tc := ⟨.hbm, 357, rfl⟩
abbrev main_v294 : Ref sig .tc := ⟨.hbm, 358, rfl⟩
abbrev main_v295 : Ref sig .tc := ⟨.hbm, 359, rfl⟩
abbrev main_v296 : Ref sig .tc := ⟨.hbm, 360, rfl⟩
abbrev main_v297 : Ref sig .tc := ⟨.hbm, 361, rfl⟩
abbrev main_v298 : Ref sig .tc := ⟨.hbm, 362, rfl⟩
abbrev main_v299 : Ref sig .tc := ⟨.hbm, 363, rfl⟩
abbrev main_v300 : Ref sig .tc := ⟨.hbm, 364, rfl⟩
abbrev main_v301 : Ref sig .tc := ⟨.hbm, 365, rfl⟩
abbrev main_v302 : Ref sig .tc := ⟨.hbm, 366, rfl⟩
abbrev main_v303 : Ref sig .tc := ⟨.hbm, 367, rfl⟩
abbrev main_v304 : Ref sig .tc := ⟨.hbm, 368, rfl⟩
abbrev main_v305 : Ref sig .tc := ⟨.hbm, 369, rfl⟩
abbrev main_v306 : Ref sig .tc := ⟨.hbm, 370, rfl⟩
abbrev main_cst_36 : Ref sig .tc := ⟨.hbm, 371, rfl⟩
abbrev main_v307 : Ref sig .tc := ⟨.hbm, 372, rfl⟩
abbrev main_v308 : Ref sig .tc := ⟨.hbm, 373, rfl⟩
abbrev main_cst_37 : Ref sig .tc := ⟨.hbm, 374, rfl⟩
abbrev main_v309 : Ref sig .tc := ⟨.hbm, 375, rfl⟩
abbrev main_cst_38 : Ref sig .tc := ⟨.hbm, 376, rfl⟩
abbrev main_v310 : Ref sig .tc := ⟨.hbm, 377, rfl⟩
abbrev main_v311 : Ref sig .tc := ⟨.hbm, 378, rfl⟩
abbrev main_v312 : Ref sig .tc := ⟨.hbm, 379, rfl⟩
abbrev main_v313 : Ref sig .tc := ⟨.hbm, 380, rfl⟩
abbrev main_v314 : Ref sig .tc := ⟨.hbm, 381, rfl⟩
abbrev main_v315 : Ref sig .tc := ⟨.hbm, 382, rfl⟩
abbrev main_cst_39 : Ref sig .tc := ⟨.hbm, 383, rfl⟩
abbrev main_v316 : Ref sig .tc := ⟨.hbm, 384, rfl⟩
abbrev main_v317 : Ref sig .tc := ⟨.hbm, 385, rfl⟩
abbrev main_v318 : Ref sig .tc := ⟨.hbm, 386, rfl⟩
abbrev main_v319 : Ref sig .tc := ⟨.hbm, 387, rfl⟩
abbrev main_v320 : Ref sig .tc := ⟨.hbm, 388, rfl⟩
abbrev main_v321 : Ref sig .tc := ⟨.hbm, 389, rfl⟩
abbrev main_v322 : Ref sig .tc := ⟨.hbm, 390, rfl⟩
abbrev main_v323 : Ref sig .tc := ⟨.hbm, 391, rfl⟩
abbrev main_v324 : Ref sig .tc := ⟨.hbm, 392, rfl⟩
abbrev main_v325 : Ref sig .tc := ⟨.hbm, 393, rfl⟩
abbrev main_v326 : Ref sig .tc := ⟨.hbm, 394, rfl⟩
abbrev main_v327 : Ref sig .tc := ⟨.hbm, 395, rfl⟩
abbrev main_v328 : Ref sig .tc := ⟨.hbm, 396, rfl⟩
abbrev main_v329 : Ref sig .tc := ⟨.hbm, 397, rfl⟩
abbrev main_v330 : Ref sig .tc := ⟨.hbm, 398, rfl⟩
abbrev main_v331 : Ref sig .tc := ⟨.hbm, 399, rfl⟩
abbrev main_v332 : Ref sig .tc := ⟨.hbm, 400, rfl⟩
abbrev main_v333 : Ref sig .tc := ⟨.hbm, 401, rfl⟩
abbrev main_v334 : Ref sig .tc := ⟨.hbm, 402, rfl⟩
abbrev main_v335 : Ref sig .tc := ⟨.hbm, 403, rfl⟩
abbrev main_cst_40 : Ref sig .tc := ⟨.hbm, 404, rfl⟩
abbrev main_v336 : Ref sig .tc := ⟨.hbm, 405, rfl⟩
abbrev main_v337 : Ref sig .tc := ⟨.hbm, 406, rfl⟩
abbrev main_cst_41 : Ref sig .tc := ⟨.hbm, 407, rfl⟩
abbrev main_v338 : Ref sig .tc := ⟨.hbm, 408, rfl⟩
abbrev main_v339 : Ref sig .tc := ⟨.hbm, 409, rfl⟩
abbrev main_v340 : Ref sig .tc := ⟨.hbm, 410, rfl⟩
abbrev main_v341 : Ref sig .tc := ⟨.hbm, 411, rfl⟩
abbrev main_v342 : Ref sig .tc := ⟨.hbm, 412, rfl⟩
abbrev main_cst_42 : Ref sig .tc := ⟨.hbm, 413, rfl⟩
abbrev main_v343 : Ref sig .tc := ⟨.hbm, 414, rfl⟩
abbrev main_v344 : Ref sig .tc := ⟨.hbm, 415, rfl⟩
abbrev main_cst_43 : Ref sig .tc := ⟨.hbm, 416, rfl⟩
abbrev main_v345 : Ref sig .tc := ⟨.hbm, 417, rfl⟩
abbrev main_v346 : Ref sig .tc := ⟨.hbm, 418, rfl⟩
abbrev main_v347 : Ref sig .tc := ⟨.hbm, 419, rfl⟩
abbrev main_v348 : Ref sig .tc := ⟨.hbm, 420, rfl⟩
abbrev main_cst_44 : Ref sig .tc := ⟨.hbm, 421, rfl⟩
abbrev main_v349 : Ref sig .tc := ⟨.hbm, 422, rfl⟩
abbrev main_v350 : Ref sig .tc := ⟨.hbm, 423, rfl⟩
abbrev main_v351 : Ref sig .tc := ⟨.hbm, 424, rfl⟩
abbrev main_v352 : Ref sig .tc := ⟨.hbm, 425, rfl⟩
abbrev main_v353 : Ref sig .tc := ⟨.hbm, 426, rfl⟩
abbrev main_v354 : Ref sig .tc := ⟨.hbm, 427, rfl⟩
abbrev main_v355 : Ref sig .tc := ⟨.hbm, 428, rfl⟩
abbrev main_v356 : Ref sig .tc := ⟨.hbm, 429, rfl⟩
abbrev main_v357 : Ref sig .tc := ⟨.hbm, 430, rfl⟩
abbrev main_v358 : Ref sig .tc := ⟨.hbm, 431, rfl⟩
abbrev main_v359 : Ref sig .tc := ⟨.hbm, 432, rfl⟩
abbrev main_v360 : Ref sig .tc := ⟨.hbm, 433, rfl⟩
abbrev main_v361 : Ref sig .tc := ⟨.hbm, 434, rfl⟩
abbrev main_v362 : Ref sig .tc := ⟨.hbm, 435, rfl⟩
abbrev main_v363 : Ref sig .tc := ⟨.hbm, 436, rfl⟩
abbrev main_v364 : Ref sig .tc := ⟨.hbm, 437, rfl⟩
abbrev main_v365 : Ref sig .tc := ⟨.hbm, 438, rfl⟩
abbrev main_v366 : Ref sig .tc := ⟨.hbm, 439, rfl⟩
abbrev main_v367 : Ref sig .tc := ⟨.hbm, 440, rfl⟩
abbrev main_cst_45 : Ref sig .tc := ⟨.hbm, 441, rfl⟩
abbrev main_v368 : Ref sig .tc := ⟨.hbm, 442, rfl⟩
abbrev main_v369 : Ref sig .tc := ⟨.hbm, 443, rfl⟩
abbrev main_v370 : Ref sig .tc := ⟨.hbm, 444, rfl⟩
abbrev main_cst_46 : Ref sig .tc := ⟨.hbm, 445, rfl⟩
abbrev main_v371 : Ref sig .tc := ⟨.hbm, 446, rfl⟩
abbrev main_v372 : Ref sig .tc := ⟨.hbm, 447, rfl⟩
abbrev main_v373 : Ref sig .tc := ⟨.hbm, 448, rfl⟩
abbrev main_v374 : Ref sig .tc := ⟨.hbm, 449, rfl⟩
abbrev main_v375 : Ref sig .tc := ⟨.hbm, 450, rfl⟩
abbrev main_v376 : Ref sig .tc := ⟨.hbm, 451, rfl⟩
abbrev main_v377 : Ref sig .tc := ⟨.hbm, 452, rfl⟩
abbrev main_v378 : Ref sig .tc := ⟨.hbm, 453, rfl⟩
abbrev main_v379 : Ref sig .tc := ⟨.hbm, 454, rfl⟩
abbrev main_v380 : Ref sig .tc := ⟨.hbm, 455, rfl⟩
abbrev main_v381 : Ref sig .tc := ⟨.hbm, 456, rfl⟩
abbrev main_v382 : Ref sig .tc := ⟨.hbm, 457, rfl⟩
abbrev main_v383 : Ref sig .tc := ⟨.hbm, 458, rfl⟩
abbrev main_v384 : Ref sig .tc := ⟨.hbm, 459, rfl⟩
abbrev main_v385 : Ref sig .tc := ⟨.hbm, 460, rfl⟩
abbrev main_v386 : Ref sig .tc := ⟨.hbm, 461, rfl⟩
abbrev main_v387 : Ref sig .tc := ⟨.hbm, 462, rfl⟩
abbrev main_cst_47 : Ref sig .tc := ⟨.hbm, 463, rfl⟩
abbrev main_v388 : Ref sig .tc := ⟨.hbm, 464, rfl⟩
abbrev main_v389 : Ref sig .tc := ⟨.hbm, 465, rfl⟩
abbrev main_cst_48 : Ref sig .tc := ⟨.hbm, 466, rfl⟩
abbrev main_v390 : Ref sig .tc := ⟨.hbm, 467, rfl⟩
abbrev main_v391 : Ref sig .tc := ⟨.hbm, 468, rfl⟩
abbrev main_v392 : Ref sig .tc := ⟨.hbm, 469, rfl⟩
abbrev main_v393 : Ref sig .tc := ⟨.hbm, 470, rfl⟩
abbrev main_v394 : Ref sig .tc := ⟨.hbm, 471, rfl⟩
abbrev main_cst_49 : Ref sig .tc := ⟨.hbm, 472, rfl⟩
abbrev main_v395 : Ref sig .tc := ⟨.hbm, 473, rfl⟩
abbrev main_v396 : Ref sig .tc := ⟨.hbm, 474, rfl⟩
abbrev main_cst_50 : Ref sig .tc := ⟨.hbm, 475, rfl⟩
abbrev main_v397 : Ref sig .tc := ⟨.hbm, 476, rfl⟩
abbrev main_v398 : Ref sig .tc := ⟨.hbm, 477, rfl⟩
abbrev main_v399 : Ref sig .tc := ⟨.hbm, 478, rfl⟩
abbrev main_v400 : Ref sig .tc := ⟨.hbm, 479, rfl⟩
abbrev main_cst_51 : Ref sig .tc := ⟨.hbm, 480, rfl⟩
abbrev main_v401 : Ref sig .tc := ⟨.hbm, 481, rfl⟩
abbrev main_v402 : Ref sig .tc := ⟨.hbm, 482, rfl⟩
abbrev main_v403 : Ref sig .tc := ⟨.hbm, 483, rfl⟩
abbrev main_v404 : Ref sig .tc := ⟨.hbm, 484, rfl⟩
abbrev main_v405 : Ref sig .tc := ⟨.hbm, 485, rfl⟩
abbrev main_v406 : Ref sig .tc := ⟨.hbm, 486, rfl⟩
abbrev main_v407 : Ref sig .tc := ⟨.hbm, 487, rfl⟩
abbrev main_v408 : Ref sig .tc := ⟨.hbm, 488, rfl⟩
abbrev main_v409 : Ref sig .tc := ⟨.hbm, 489, rfl⟩
abbrev main_v410 : Ref sig .tc := ⟨.hbm, 490, rfl⟩
abbrev main_v411 : Ref sig .tc := ⟨.hbm, 491, rfl⟩
abbrev main_v412 : Ref sig .tc := ⟨.hbm, 492, rfl⟩
abbrev main_v413 : Ref sig .tc := ⟨.hbm, 493, rfl⟩
abbrev main_v414 : Ref sig .tc := ⟨.hbm, 494, rfl⟩
abbrev main_v415 : Ref sig .tc := ⟨.hbm, 495, rfl⟩
abbrev main_v416 : Ref sig .tc := ⟨.hbm, 496, rfl⟩
abbrev main_v417 : Ref sig .tc := ⟨.hbm, 497, rfl⟩
abbrev main_v418 : Ref sig .tc := ⟨.hbm, 498, rfl⟩
abbrev main_v419 : Ref sig .tc := ⟨.hbm, 499, rfl⟩
abbrev main_v420 : Ref sig .tc := ⟨.hbm, 500, rfl⟩
abbrev main_v421 : Ref sig .tc := ⟨.hbm, 501, rfl⟩
abbrev main_v422 : Ref sig .tc := ⟨.hbm, 502, rfl⟩
abbrev main_v423 : Ref sig .tc := ⟨.hbm, 503, rfl⟩
abbrev main_v424 : Ref sig .tc := ⟨.hbm, 504, rfl⟩
abbrev main_v425 : Ref sig .tc := ⟨.hbm, 505, rfl⟩
abbrev main_v426 : Ref sig .tc := ⟨.hbm, 506, rfl⟩
abbrev main_v427 : Ref sig .tc := ⟨.hbm, 507, rfl⟩
abbrev main_v428 : Ref sig .tc := ⟨.hbm, 508, rfl⟩
abbrev main_v429 : Ref sig .tc := ⟨.hbm, 509, rfl⟩
abbrev main_v430 : Ref sig .tc := ⟨.hbm, 510, rfl⟩
abbrev main_cst_52 : Ref sig .tc := ⟨.hbm, 511, rfl⟩
abbrev main_v431 : Ref sig .tc := ⟨.hbm, 512, rfl⟩
abbrev main_v432 : Ref sig .tc := ⟨.hbm, 513, rfl⟩
abbrev main_cst_53 : Ref sig .tc := ⟨.hbm, 514, rfl⟩
abbrev main_v433 : Ref sig .tc := ⟨.hbm, 515, rfl⟩
abbrev main_cst_54 : Ref sig .tc := ⟨.hbm, 516, rfl⟩
abbrev main_v434 : Ref sig .tc := ⟨.hbm, 517, rfl⟩
abbrev main_v435 : Ref sig .tc := ⟨.hbm, 518, rfl⟩
abbrev main_v436 : Ref sig .tc := ⟨.hbm, 519, rfl⟩
abbrev main_v437 : Ref sig .tc := ⟨.hbm, 520, rfl⟩
abbrev main_v438 : Ref sig .tc := ⟨.hbm, 521, rfl⟩
abbrev main_v439 : Ref sig .tc := ⟨.hbm, 522, rfl⟩
abbrev main_cst_55 : Ref sig .tc := ⟨.hbm, 523, rfl⟩
abbrev main_v440 : Ref sig .tc := ⟨.hbm, 524, rfl⟩
abbrev main_v441 : Ref sig .tc := ⟨.hbm, 525, rfl⟩
abbrev main_v442 : Ref sig .tc := ⟨.hbm, 526, rfl⟩
abbrev main_v443 : Ref sig .tc := ⟨.hbm, 527, rfl⟩
abbrev main_v444 : Ref sig .tc := ⟨.hbm, 528, rfl⟩
abbrev main_v445 : Ref sig .tc := ⟨.hbm, 529, rfl⟩
abbrev main_v446 : Ref sig .tc := ⟨.hbm, 530, rfl⟩
abbrev main_v447 : Ref sig .tc := ⟨.hbm, 531, rfl⟩
abbrev main_v448 : Ref sig .tc := ⟨.hbm, 532, rfl⟩
abbrev main_v449 : Ref sig .tc := ⟨.hbm, 533, rfl⟩
abbrev main_v450 : Ref sig .tc := ⟨.hbm, 534, rfl⟩
abbrev main_v451 : Ref sig .tc := ⟨.hbm, 535, rfl⟩
abbrev main_v452 : Ref sig .tc := ⟨.hbm, 536, rfl⟩
abbrev main_v453 : Ref sig .tc := ⟨.hbm, 537, rfl⟩
abbrev main_v454 : Ref sig .tc := ⟨.hbm, 538, rfl⟩
abbrev main_v455 : Ref sig .tc := ⟨.hbm, 539, rfl⟩
abbrev main_v456 : Ref sig .tc := ⟨.hbm, 540, rfl⟩
abbrev main_v457 : Ref sig .tc := ⟨.hbm, 541, rfl⟩
abbrev main_v458 : Ref sig .tc := ⟨.hbm, 542, rfl⟩
abbrev main_v459 : Ref sig .tc := ⟨.hbm, 543, rfl⟩
abbrev main_cst_56 : Ref sig .tc := ⟨.hbm, 544, rfl⟩
abbrev main_v460 : Ref sig .tc := ⟨.hbm, 545, rfl⟩
abbrev main_v461 : Ref sig .tc := ⟨.hbm, 546, rfl⟩
abbrev main_cst_57 : Ref sig .tc := ⟨.hbm, 547, rfl⟩
abbrev main_v462 : Ref sig .tc := ⟨.hbm, 548, rfl⟩
abbrev main_v463 : Ref sig .tc := ⟨.hbm, 549, rfl⟩
abbrev main_v464 : Ref sig .tc := ⟨.hbm, 550, rfl⟩
abbrev main_v465 : Ref sig .tc := ⟨.hbm, 551, rfl⟩
abbrev main_v466 : Ref sig .tc := ⟨.hbm, 552, rfl⟩
abbrev main_cst_58 : Ref sig .tc := ⟨.hbm, 553, rfl⟩
abbrev main_v467 : Ref sig .tc := ⟨.hbm, 554, rfl⟩
abbrev main_v468 : Ref sig .tc := ⟨.hbm, 555, rfl⟩
abbrev main_cst_59 : Ref sig .tc := ⟨.hbm, 556, rfl⟩
abbrev main_v469 : Ref sig .tc := ⟨.hbm, 557, rfl⟩
abbrev main_v470 : Ref sig .tc := ⟨.hbm, 558, rfl⟩
abbrev main_v471 : Ref sig .tc := ⟨.hbm, 559, rfl⟩
abbrev main_v472 : Ref sig .tc := ⟨.hbm, 560, rfl⟩
abbrev main_cst_60 : Ref sig .tc := ⟨.hbm, 561, rfl⟩
abbrev main_v473 : Ref sig .tc := ⟨.hbm, 562, rfl⟩
abbrev main_v474 : Ref sig .tc := ⟨.hbm, 563, rfl⟩
abbrev main_v475 : Ref sig .tc := ⟨.hbm, 564, rfl⟩
abbrev main_v476 : Ref sig .tc := ⟨.hbm, 565, rfl⟩
abbrev main_v477 : Ref sig .tc := ⟨.hbm, 566, rfl⟩
abbrev main_v478 : Ref sig .tc := ⟨.hbm, 567, rfl⟩
abbrev main_v479 : Ref sig .tc := ⟨.hbm, 568, rfl⟩
abbrev main_v480 : Ref sig .tc := ⟨.hbm, 569, rfl⟩
abbrev main_v481 : Ref sig .tc := ⟨.hbm, 570, rfl⟩
abbrev main_v482 : Ref sig .tc := ⟨.hbm, 571, rfl⟩
abbrev main_v483 : Ref sig .tc := ⟨.hbm, 572, rfl⟩
abbrev main_v484 : Ref sig .tc := ⟨.hbm, 573, rfl⟩
abbrev main_v485 : Ref sig .tc := ⟨.hbm, 574, rfl⟩
abbrev main_v486 : Ref sig .tc := ⟨.hbm, 575, rfl⟩
abbrev main_v487 : Ref sig .tc := ⟨.hbm, 576, rfl⟩
abbrev main_v488 : Ref sig .tc := ⟨.hbm, 577, rfl⟩
abbrev main_v489 : Ref sig .tc := ⟨.hbm, 578, rfl⟩
abbrev main_v490 : Ref sig .tc := ⟨.hbm, 579, rfl⟩
abbrev main_v491 : Ref sig .tc := ⟨.hbm, 580, rfl⟩
abbrev main_cst_61 : Ref sig .tc := ⟨.hbm, 581, rfl⟩
abbrev main_v492 : Ref sig .tc := ⟨.hbm, 582, rfl⟩
abbrev main_v493 : Ref sig .tc := ⟨.hbm, 583, rfl⟩
abbrev main_v494 : Ref sig .tc := ⟨.hbm, 584, rfl⟩
abbrev main_cst_62 : Ref sig .tc := ⟨.hbm, 585, rfl⟩
abbrev main_v495 : Ref sig .tc := ⟨.hbm, 586, rfl⟩
abbrev main_v496 : Ref sig .tc := ⟨.hbm, 587, rfl⟩
abbrev main_v497 : Ref sig .tc := ⟨.hbm, 588, rfl⟩
abbrev main_v498 : Ref sig .tc := ⟨.hbm, 589, rfl⟩
abbrev main_v499 : Ref sig .tc := ⟨.hbm, 590, rfl⟩
abbrev main_v500 : Ref sig .tc := ⟨.hbm, 591, rfl⟩
abbrev main_v501 : Ref sig .tc := ⟨.hbm, 592, rfl⟩
abbrev main_v502 : Ref sig .tc := ⟨.hbm, 593, rfl⟩
abbrev main_v503 : Ref sig .tc := ⟨.hbm, 594, rfl⟩
abbrev main_v504 : Ref sig .tc := ⟨.hbm, 595, rfl⟩
abbrev main_v505 : Ref sig .tc := ⟨.hbm, 596, rfl⟩
abbrev main_v506 : Ref sig .tc := ⟨.hbm, 597, rfl⟩
abbrev main_v507 : Ref sig .tc := ⟨.hbm, 598, rfl⟩
abbrev main_v508 : Ref sig .tc := ⟨.hbm, 599, rfl⟩
abbrev main_v509 : Ref sig .tc := ⟨.hbm, 600, rfl⟩
abbrev main_v510 : Ref sig .tc := ⟨.hbm, 601, rfl⟩
abbrev main_v511 : Ref sig .tc := ⟨.hbm, 602, rfl⟩
abbrev main_cst_63 : Ref sig .tc := ⟨.hbm, 603, rfl⟩
abbrev main_v512 : Ref sig .tc := ⟨.hbm, 604, rfl⟩
abbrev main_v513 : Ref sig .tc := ⟨.hbm, 605, rfl⟩
abbrev main_cst_64 : Ref sig .tc := ⟨.hbm, 606, rfl⟩
abbrev main_v514 : Ref sig .tc := ⟨.hbm, 607, rfl⟩
abbrev main_v515 : Ref sig .tc := ⟨.hbm, 608, rfl⟩
abbrev main_v516 : Ref sig .tc := ⟨.hbm, 609, rfl⟩
abbrev main_v517 : Ref sig .tc := ⟨.hbm, 610, rfl⟩
abbrev main_v518 : Ref sig .tc := ⟨.hbm, 611, rfl⟩
abbrev main_cst_65 : Ref sig .tc := ⟨.hbm, 612, rfl⟩
abbrev main_v519 : Ref sig .tc := ⟨.hbm, 613, rfl⟩
abbrev main_v520 : Ref sig .tc := ⟨.hbm, 614, rfl⟩
abbrev main_cst_66 : Ref sig .tc := ⟨.hbm, 615, rfl⟩
abbrev main_v521 : Ref sig .tc := ⟨.hbm, 616, rfl⟩
abbrev main_v522 : Ref sig .tc := ⟨.hbm, 617, rfl⟩
abbrev main_v523 : Ref sig .tc := ⟨.hbm, 618, rfl⟩
abbrev main_v524 : Ref sig .tc := ⟨.hbm, 619, rfl⟩
abbrev main_cst_67 : Ref sig .tc := ⟨.hbm, 620, rfl⟩
abbrev main_v525 : Ref sig .tc := ⟨.hbm, 621, rfl⟩
abbrev main_v526 : Ref sig .tc := ⟨.hbm, 622, rfl⟩
abbrev main_v527 : Ref sig .tc := ⟨.hbm, 623, rfl⟩
abbrev main_v528 : Ref sig .tc := ⟨.hbm, 624, rfl⟩
abbrev main_v529 : Ref sig .tc := ⟨.hbm, 625, rfl⟩
abbrev main_v530 : Ref sig .tc := ⟨.hbm, 626, rfl⟩
abbrev main_v531 : Ref sig .tc := ⟨.hbm, 627, rfl⟩
abbrev main_v532 : Ref sig .tc := ⟨.hbm, 628, rfl⟩
abbrev main_v533 : Ref sig .tc := ⟨.hbm, 629, rfl⟩
abbrev main_v534 : Ref sig .tc := ⟨.hbm, 630, rfl⟩
abbrev main_v535 : Ref sig .tc := ⟨.hbm, 631, rfl⟩
abbrev main_v536 : Ref sig .tc := ⟨.hbm, 632, rfl⟩
abbrev main_v537 : Ref sig .tc := ⟨.hbm, 633, rfl⟩
abbrev main_v538 : Ref sig .tc := ⟨.hbm, 634, rfl⟩
abbrev main_v539 : Ref sig .tc := ⟨.hbm, 635, rfl⟩
abbrev main_v540 : Ref sig .tc := ⟨.hbm, 636, rfl⟩
abbrev main_v541 : Ref sig .tc := ⟨.hbm, 637, rfl⟩
abbrev main_v542 : Ref sig .tc := ⟨.hbm, 638, rfl⟩
abbrev main_v543 : Ref sig .tc := ⟨.hbm, 639, rfl⟩
abbrev main_v544 : Ref sig .tc := ⟨.hbm, 640, rfl⟩
abbrev main_v545 : Ref sig .tc := ⟨.hbm, 641, rfl⟩
abbrev main_v546 : Ref sig .tc := ⟨.hbm, 642, rfl⟩
abbrev main_v547 : Ref sig .tc := ⟨.hbm, 643, rfl⟩
abbrev main_v548 : Ref sig .tc := ⟨.hbm, 644, rfl⟩
abbrev main_v549 : Ref sig .tc := ⟨.hbm, 645, rfl⟩
abbrev main_v550 : Ref sig .tc := ⟨.hbm, 646, rfl⟩
abbrev main_v551 : Ref sig .tc := ⟨.hbm, 647, rfl⟩
abbrev main_v552 : Ref sig .tc := ⟨.hbm, 648, rfl⟩
abbrev main_v553 : Ref sig .tc := ⟨.hbm, 649, rfl⟩
abbrev main_v554 : Ref sig .tc := ⟨.hbm, 650, rfl⟩
abbrev main_cst_68 : Ref sig .tc := ⟨.hbm, 651, rfl⟩
abbrev main_v555 : Ref sig .tc := ⟨.hbm, 652, rfl⟩
abbrev main_v556 : Ref sig .tc := ⟨.hbm, 653, rfl⟩
abbrev main_cst_69 : Ref sig .tc := ⟨.hbm, 654, rfl⟩
abbrev main_v557 : Ref sig .tc := ⟨.hbm, 655, rfl⟩
abbrev main_cst_70 : Ref sig .tc := ⟨.hbm, 656, rfl⟩
abbrev main_v558 : Ref sig .tc := ⟨.hbm, 657, rfl⟩
abbrev main_v559 : Ref sig .tc := ⟨.hbm, 658, rfl⟩
abbrev main_v560 : Ref sig .tc := ⟨.hbm, 659, rfl⟩
abbrev main_v561 : Ref sig .tc := ⟨.hbm, 660, rfl⟩
abbrev main_v562 : Ref sig .tc := ⟨.hbm, 661, rfl⟩
abbrev main_v563 : Ref sig .tc := ⟨.hbm, 662, rfl⟩
abbrev main_cst_71 : Ref sig .tc := ⟨.hbm, 663, rfl⟩
abbrev main_v564 : Ref sig .tc := ⟨.hbm, 664, rfl⟩
abbrev main_v565 : Ref sig .tc := ⟨.hbm, 665, rfl⟩
abbrev main_v566 : Ref sig .tc := ⟨.hbm, 666, rfl⟩
abbrev main_v567 : Ref sig .tc := ⟨.hbm, 667, rfl⟩
abbrev main_v568 : Ref sig .tc := ⟨.hbm, 668, rfl⟩
abbrev main_v569 : Ref sig .tc := ⟨.hbm, 669, rfl⟩
abbrev main_v570 : Ref sig .tc := ⟨.hbm, 670, rfl⟩
abbrev main_v571 : Ref sig .tc := ⟨.hbm, 671, rfl⟩
abbrev main_v572 : Ref sig .tc := ⟨.hbm, 672, rfl⟩
abbrev main_v573 : Ref sig .tc := ⟨.hbm, 673, rfl⟩
abbrev main_v574 : Ref sig .tc := ⟨.hbm, 674, rfl⟩
abbrev main_v575 : Ref sig .tc := ⟨.hbm, 675, rfl⟩
abbrev main_v576 : Ref sig .tc := ⟨.hbm, 676, rfl⟩
abbrev main_v577 : Ref sig .tc := ⟨.hbm, 677, rfl⟩
abbrev main_v578 : Ref sig .tc := ⟨.hbm, 678, rfl⟩
abbrev main_v579 : Ref sig .tc := ⟨.hbm, 679, rfl⟩
abbrev main_v580 : Ref sig .tc := ⟨.hbm, 680, rfl⟩
abbrev main_v581 : Ref sig .tc := ⟨.hbm, 681, rfl⟩
abbrev main_v582 : Ref sig .tc := ⟨.hbm, 682, rfl⟩
abbrev main_v583 : Ref sig .tc := ⟨.hbm, 683, rfl⟩
abbrev main_cst_72 : Ref sig .tc := ⟨.hbm, 684, rfl⟩
abbrev main_v584 : Ref sig .tc := ⟨.hbm, 685, rfl⟩
abbrev main_v585 : Ref sig .tc := ⟨.hbm, 686, rfl⟩
abbrev main_cst_73 : Ref sig .tc := ⟨.hbm, 687, rfl⟩
abbrev main_v586 : Ref sig .tc := ⟨.hbm, 688, rfl⟩
abbrev main_v587 : Ref sig .tc := ⟨.hbm, 689, rfl⟩
abbrev main_v588 : Ref sig .tc := ⟨.hbm, 690, rfl⟩
abbrev main_v589 : Ref sig .tc := ⟨.hbm, 691, rfl⟩
abbrev main_v590 : Ref sig .tc := ⟨.hbm, 692, rfl⟩
abbrev main_cst_74 : Ref sig .tc := ⟨.hbm, 693, rfl⟩
abbrev main_v591 : Ref sig .tc := ⟨.hbm, 694, rfl⟩
abbrev main_v592 : Ref sig .tc := ⟨.hbm, 695, rfl⟩
abbrev main_cst_75 : Ref sig .tc := ⟨.hbm, 696, rfl⟩
abbrev main_v593 : Ref sig .tc := ⟨.hbm, 697, rfl⟩
abbrev main_v594 : Ref sig .tc := ⟨.hbm, 698, rfl⟩
abbrev main_v595 : Ref sig .tc := ⟨.hbm, 699, rfl⟩
abbrev main_v596 : Ref sig .tc := ⟨.hbm, 700, rfl⟩
abbrev main_cst_76 : Ref sig .tc := ⟨.hbm, 701, rfl⟩
abbrev main_v597 : Ref sig .tc := ⟨.hbm, 702, rfl⟩
abbrev main_v598 : Ref sig .tc := ⟨.hbm, 703, rfl⟩
abbrev main_v599 : Ref sig .tc := ⟨.hbm, 704, rfl⟩
abbrev main_v600 : Ref sig .tc := ⟨.hbm, 705, rfl⟩
abbrev main_v601 : Ref sig .tc := ⟨.hbm, 706, rfl⟩
abbrev main_v602 : Ref sig .tc := ⟨.hbm, 707, rfl⟩
abbrev main_v603 : Ref sig .tc := ⟨.hbm, 708, rfl⟩
abbrev main_v604 : Ref sig .tc := ⟨.hbm, 709, rfl⟩
abbrev main_v605 : Ref sig .tc := ⟨.hbm, 710, rfl⟩
abbrev main_v606 : Ref sig .tc := ⟨.hbm, 711, rfl⟩
abbrev main_v607 : Ref sig .tc := ⟨.hbm, 712, rfl⟩
abbrev main_v608 : Ref sig .tc := ⟨.hbm, 713, rfl⟩
abbrev main_v609 : Ref sig .tc := ⟨.hbm, 714, rfl⟩
abbrev main_v610 : Ref sig .tc := ⟨.hbm, 715, rfl⟩
abbrev main_v611 : Ref sig .tc := ⟨.hbm, 716, rfl⟩
abbrev main_v612 : Ref sig .tc := ⟨.hbm, 717, rfl⟩
abbrev main_v613 : Ref sig .tc := ⟨.hbm, 718, rfl⟩
abbrev main_v614 : Ref sig .tc := ⟨.hbm, 719, rfl⟩
abbrev main_v615 : Ref sig .tc := ⟨.hbm, 720, rfl⟩
abbrev main_cst_77 : Ref sig .tc := ⟨.hbm, 721, rfl⟩
abbrev main_v616 : Ref sig .tc := ⟨.hbm, 722, rfl⟩
abbrev main_v617 : Ref sig .tc := ⟨.hbm, 723, rfl⟩
abbrev main_v618 : Ref sig .tc := ⟨.hbm, 724, rfl⟩
abbrev main_cst_78 : Ref sig .tc := ⟨.hbm, 725, rfl⟩
abbrev main_v619 : Ref sig .tc := ⟨.hbm, 726, rfl⟩
abbrev main_v620 : Ref sig .tc := ⟨.hbm, 727, rfl⟩
abbrev main_v621 : Ref sig .tc := ⟨.hbm, 728, rfl⟩
abbrev main_v622 : Ref sig .tc := ⟨.hbm, 729, rfl⟩
abbrev main_v623 : Ref sig .tc := ⟨.hbm, 730, rfl⟩
abbrev main_v624 : Ref sig .tc := ⟨.hbm, 731, rfl⟩
abbrev main_v625 : Ref sig .tc := ⟨.hbm, 732, rfl⟩
abbrev main_v626 : Ref sig .tc := ⟨.hbm, 733, rfl⟩
abbrev main_v627 : Ref sig .tc := ⟨.hbm, 734, rfl⟩
abbrev main_v628 : Ref sig .tc := ⟨.hbm, 735, rfl⟩
abbrev main_v629 : Ref sig .tc := ⟨.hbm, 736, rfl⟩
abbrev main_v630 : Ref sig .tc := ⟨.hbm, 737, rfl⟩
abbrev main_v631 : Ref sig .tc := ⟨.hbm, 738, rfl⟩
abbrev main_v632 : Ref sig .tc := ⟨.hbm, 739, rfl⟩
abbrev main_v633 : Ref sig .tc := ⟨.hbm, 740, rfl⟩
abbrev main_v634 : Ref sig .tc := ⟨.hbm, 741, rfl⟩
abbrev main_v635 : Ref sig .tc := ⟨.hbm, 742, rfl⟩
abbrev main_cst_79 : Ref sig .tc := ⟨.hbm, 743, rfl⟩
abbrev main_v636 : Ref sig .tc := ⟨.hbm, 744, rfl⟩
abbrev main_v637 : Ref sig .tc := ⟨.hbm, 745, rfl⟩
abbrev main_cst_80 : Ref sig .tc := ⟨.hbm, 746, rfl⟩
abbrev main_v638 : Ref sig .tc := ⟨.hbm, 747, rfl⟩
abbrev main_v639 : Ref sig .tc := ⟨.hbm, 748, rfl⟩
abbrev main_v640 : Ref sig .tc := ⟨.hbm, 749, rfl⟩
abbrev main_v641 : Ref sig .tc := ⟨.hbm, 750, rfl⟩
abbrev main_v642 : Ref sig .tc := ⟨.hbm, 751, rfl⟩
abbrev main_cst_81 : Ref sig .tc := ⟨.hbm, 752, rfl⟩
abbrev main_v643 : Ref sig .tc := ⟨.hbm, 753, rfl⟩
abbrev main_v644 : Ref sig .tc := ⟨.hbm, 754, rfl⟩
abbrev main_cst_82 : Ref sig .tc := ⟨.hbm, 755, rfl⟩
abbrev main_v645 : Ref sig .tc := ⟨.hbm, 756, rfl⟩
abbrev main_v646 : Ref sig .tc := ⟨.hbm, 757, rfl⟩
abbrev main_v647 : Ref sig .tc := ⟨.hbm, 758, rfl⟩
abbrev main_v648 : Ref sig .tc := ⟨.hbm, 759, rfl⟩
abbrev main_cst_83 : Ref sig .tc := ⟨.hbm, 760, rfl⟩
abbrev main_v649 : Ref sig .tc := ⟨.hbm, 761, rfl⟩
abbrev main_v650 : Ref sig .tc := ⟨.hbm, 762, rfl⟩
abbrev main_v651 : Ref sig .tc := ⟨.hbm, 763, rfl⟩
abbrev main_v652 : Ref sig .tc := ⟨.hbm, 764, rfl⟩
abbrev main_v653 : Ref sig .tc := ⟨.hbm, 765, rfl⟩
abbrev main_v654 : Ref sig .tc := ⟨.hbm, 766, rfl⟩
abbrev main_v655 : Ref sig .tc := ⟨.hbm, 767, rfl⟩
abbrev main_v656 : Ref sig .tc := ⟨.hbm, 768, rfl⟩
abbrev main_v657 : Ref sig .tc := ⟨.hbm, 769, rfl⟩
abbrev main_v658 : Ref sig .tc := ⟨.hbm, 770, rfl⟩
abbrev main_v659 : Ref sig .tc := ⟨.hbm, 771, rfl⟩
abbrev main_v660 : Ref sig .tc := ⟨.hbm, 772, rfl⟩
abbrev main_v661 : Ref sig .tc := ⟨.hbm, 773, rfl⟩
abbrev main_v662 : Ref sig .tc := ⟨.hbm, 774, rfl⟩
abbrev main_v663 : Ref sig .tc := ⟨.hbm, 775, rfl⟩
abbrev main_v664 : Ref sig .tc := ⟨.hbm, 776, rfl⟩
abbrev main_v665 : Ref sig .tc := ⟨.hbm, 777, rfl⟩
abbrev main_v666 : Ref sig .tc := ⟨.hbm, 778, rfl⟩
abbrev main_v667 : Ref sig .tc := ⟨.hbm, 779, rfl⟩
abbrev main_v668 : Ref sig .tc := ⟨.hbm, 780, rfl⟩
abbrev main_v669 : Ref sig .tc := ⟨.hbm, 781, rfl⟩
abbrev main_v670 : Ref sig .tc := ⟨.hbm, 782, rfl⟩
abbrev main_v671 : Ref sig .tc := ⟨.hbm, 783, rfl⟩
abbrev main_v672 : Ref sig .tc := ⟨.hbm, 784, rfl⟩
abbrev main_v673 : Ref sig .tc := ⟨.hbm, 785, rfl⟩
abbrev main_v674 : Ref sig .tc := ⟨.hbm, 786, rfl⟩
abbrev main_v675 : Ref sig .tc := ⟨.hbm, 787, rfl⟩
abbrev main_v676 : Ref sig .tc := ⟨.hbm, 788, rfl⟩
abbrev main_v677 : Ref sig .tc := ⟨.hbm, 789, rfl⟩
abbrev main_v678 : Ref sig .tc := ⟨.hbm, 790, rfl⟩
abbrev main_cst_84 : Ref sig .tc := ⟨.hbm, 791, rfl⟩
abbrev main_v679 : Ref sig .tc := ⟨.hbm, 792, rfl⟩
abbrev main_v680 : Ref sig .tc := ⟨.hbm, 793, rfl⟩
abbrev main_cst_85 : Ref sig .tc := ⟨.hbm, 794, rfl⟩
abbrev main_v681 : Ref sig .tc := ⟨.hbm, 795, rfl⟩
abbrev main_cst_86 : Ref sig .tc := ⟨.hbm, 796, rfl⟩
abbrev main_v682 : Ref sig .tc := ⟨.hbm, 797, rfl⟩
abbrev main_v683 : Ref sig .tc := ⟨.hbm, 798, rfl⟩
abbrev main_v684 : Ref sig .tc := ⟨.hbm, 799, rfl⟩
abbrev main_v685 : Ref sig .tc := ⟨.hbm, 800, rfl⟩
abbrev main_v686 : Ref sig .tc := ⟨.hbm, 801, rfl⟩
abbrev main_v687 : Ref sig .tc := ⟨.hbm, 802, rfl⟩
abbrev main_cst_87 : Ref sig .tc := ⟨.hbm, 803, rfl⟩
abbrev main_v688 : Ref sig .tc := ⟨.hbm, 804, rfl⟩
abbrev main_v689 : Ref sig .tc := ⟨.hbm, 805, rfl⟩
abbrev main_v690 : Ref sig .tc := ⟨.hbm, 806, rfl⟩
abbrev main_v691 : Ref sig .tc := ⟨.hbm, 807, rfl⟩
abbrev main_v692 : Ref sig .tc := ⟨.hbm, 808, rfl⟩
abbrev main_v693 : Ref sig .tc := ⟨.hbm, 809, rfl⟩
abbrev main_v694 : Ref sig .tc := ⟨.hbm, 810, rfl⟩
abbrev main_v695 : Ref sig .tc := ⟨.hbm, 811, rfl⟩
abbrev main_v696 : Ref sig .tc := ⟨.hbm, 812, rfl⟩
abbrev main_v697 : Ref sig .tc := ⟨.hbm, 813, rfl⟩
abbrev main_v698 : Ref sig .tc := ⟨.hbm, 814, rfl⟩
abbrev main_v699 : Ref sig .tc := ⟨.hbm, 815, rfl⟩
abbrev main_v700 : Ref sig .tc := ⟨.hbm, 816, rfl⟩
abbrev main_v701 : Ref sig .tc := ⟨.hbm, 817, rfl⟩
abbrev main_v702 : Ref sig .tc := ⟨.hbm, 818, rfl⟩
abbrev main_v703 : Ref sig .tc := ⟨.hbm, 819, rfl⟩
abbrev main_v704 : Ref sig .tc := ⟨.hbm, 820, rfl⟩
abbrev main_v705 : Ref sig .tc := ⟨.hbm, 821, rfl⟩
abbrev main_v706 : Ref sig .tc := ⟨.hbm, 822, rfl⟩
abbrev main_v707 : Ref sig .tc := ⟨.hbm, 823, rfl⟩
abbrev main_cst_88 : Ref sig .tc := ⟨.hbm, 824, rfl⟩
abbrev main_v708 : Ref sig .tc := ⟨.hbm, 825, rfl⟩
abbrev main_v709 : Ref sig .tc := ⟨.hbm, 826, rfl⟩
abbrev main_cst_89 : Ref sig .tc := ⟨.hbm, 827, rfl⟩
abbrev main_v710 : Ref sig .tc := ⟨.hbm, 828, rfl⟩
abbrev main_v711 : Ref sig .tc := ⟨.hbm, 829, rfl⟩
abbrev main_v712 : Ref sig .tc := ⟨.hbm, 830, rfl⟩
abbrev main_v713 : Ref sig .tc := ⟨.hbm, 831, rfl⟩
abbrev main_v714 : Ref sig .tc := ⟨.hbm, 832, rfl⟩
abbrev main_cst_90 : Ref sig .tc := ⟨.hbm, 833, rfl⟩
abbrev main_v715 : Ref sig .tc := ⟨.hbm, 834, rfl⟩
abbrev main_v716 : Ref sig .tc := ⟨.hbm, 835, rfl⟩
abbrev main_cst_91 : Ref sig .tc := ⟨.hbm, 836, rfl⟩
abbrev main_v717 : Ref sig .tc := ⟨.hbm, 837, rfl⟩
abbrev main_v718 : Ref sig .tc := ⟨.hbm, 838, rfl⟩
abbrev main_v719 : Ref sig .tc := ⟨.hbm, 839, rfl⟩
abbrev main_v720 : Ref sig .tc := ⟨.hbm, 840, rfl⟩
abbrev main_cst_92 : Ref sig .tc := ⟨.hbm, 841, rfl⟩
abbrev main_v721 : Ref sig .tc := ⟨.hbm, 842, rfl⟩
abbrev main_v722 : Ref sig .tc := ⟨.hbm, 843, rfl⟩
abbrev main_v723 : Ref sig .tc := ⟨.hbm, 844, rfl⟩
abbrev main_v724 : Ref sig .tc := ⟨.hbm, 845, rfl⟩
abbrev main_v725 : Ref sig .tc := ⟨.hbm, 846, rfl⟩
abbrev main_v726 : Ref sig .tc := ⟨.hbm, 847, rfl⟩
abbrev main_v727 : Ref sig .tc := ⟨.hbm, 848, rfl⟩
abbrev main_v728 : Ref sig .tc := ⟨.hbm, 849, rfl⟩
abbrev main_v729 : Ref sig .tc := ⟨.hbm, 850, rfl⟩
abbrev main_v730 : Ref sig .tc := ⟨.hbm, 851, rfl⟩
abbrev main_v731 : Ref sig .tc := ⟨.hbm, 852, rfl⟩
abbrev main_v732 : Ref sig .tc := ⟨.hbm, 853, rfl⟩
abbrev main_v733 : Ref sig .tc := ⟨.hbm, 854, rfl⟩
abbrev main_v734 : Ref sig .tc := ⟨.hbm, 855, rfl⟩
abbrev main_v735 : Ref sig .tc := ⟨.hbm, 856, rfl⟩
abbrev main_v736 : Ref sig .tc := ⟨.hbm, 857, rfl⟩
abbrev main_v737 : Ref sig .tc := ⟨.hbm, 858, rfl⟩
abbrev main_v738 : Ref sig .tc := ⟨.hbm, 859, rfl⟩
abbrev main_v739 : Ref sig .tc := ⟨.hbm, 860, rfl⟩
abbrev main_cst_93 : Ref sig .tc := ⟨.hbm, 861, rfl⟩
abbrev main_v740 : Ref sig .tc := ⟨.hbm, 862, rfl⟩
abbrev main_v741 : Ref sig .tc := ⟨.hbm, 863, rfl⟩
abbrev main_v742 : Ref sig .tc := ⟨.hbm, 864, rfl⟩
abbrev main_cst_94 : Ref sig .tc := ⟨.hbm, 865, rfl⟩
abbrev main_v743 : Ref sig .tc := ⟨.hbm, 866, rfl⟩
abbrev main_v744 : Ref sig .tc := ⟨.hbm, 867, rfl⟩
abbrev main_v745 : Ref sig .tc := ⟨.hbm, 868, rfl⟩
abbrev main_v746 : Ref sig .tc := ⟨.hbm, 869, rfl⟩
abbrev main_v747 : Ref sig .tc := ⟨.hbm, 870, rfl⟩
abbrev main_v748 : Ref sig .tc := ⟨.hbm, 871, rfl⟩
abbrev main_v749 : Ref sig .tc := ⟨.hbm, 872, rfl⟩
abbrev main_v750 : Ref sig .tc := ⟨.hbm, 873, rfl⟩
abbrev main_v751 : Ref sig .tc := ⟨.hbm, 874, rfl⟩
abbrev main_v752 : Ref sig .tc := ⟨.hbm, 875, rfl⟩
abbrev main_v753 : Ref sig .tc := ⟨.hbm, 876, rfl⟩
abbrev main_v754 : Ref sig .tc := ⟨.hbm, 877, rfl⟩
abbrev main_v755 : Ref sig .tc := ⟨.hbm, 878, rfl⟩
abbrev main_cst_95 : Ref sig .tc := ⟨.hbm, 879, rfl⟩
abbrev main_v756 : Ref sig .tc := ⟨.hbm, 880, rfl⟩
abbrev main_v757 : Ref sig .tc := ⟨.hbm, 881, rfl⟩
abbrev main_cst_96 : Ref sig .tc := ⟨.hbm, 882, rfl⟩
abbrev main_v758 : Ref sig .tc := ⟨.hbm, 883, rfl⟩
abbrev main_v759 : Ref sig .tc := ⟨.hbm, 884, rfl⟩
abbrev main_v760 : Ref sig .tc := ⟨.hbm, 885, rfl⟩
abbrev main_v761 : Ref sig .tc := ⟨.hbm, 886, rfl⟩
abbrev main_v762 : Ref sig .tc := ⟨.hbm, 887, rfl⟩
abbrev main_cst_97 : Ref sig .tc := ⟨.hbm, 888, rfl⟩
abbrev main_v763 : Ref sig .tc := ⟨.hbm, 889, rfl⟩
abbrev main_v764 : Ref sig .tc := ⟨.hbm, 890, rfl⟩
abbrev main_cst_98 : Ref sig .tc := ⟨.hbm, 891, rfl⟩
abbrev main_v765 : Ref sig .tc := ⟨.hbm, 892, rfl⟩
abbrev main_v766 : Ref sig .tc := ⟨.hbm, 893, rfl⟩
abbrev main_v767 : Ref sig .tc := ⟨.hbm, 894, rfl⟩
abbrev main_v768 : Ref sig .tc := ⟨.hbm, 895, rfl⟩
abbrev main_cst_99 : Ref sig .tc := ⟨.hbm, 896, rfl⟩
abbrev main_v769 : Ref sig .tc := ⟨.hbm, 897, rfl⟩
abbrev main_v770 : Ref sig .tc := ⟨.hbm, 898, rfl⟩
abbrev main_v771 : Ref sig .tc := ⟨.hbm, 899, rfl⟩
abbrev main_v772 : Ref sig .tc := ⟨.hbm, 900, rfl⟩
abbrev main_v773 : Ref sig .tc := ⟨.hbm, 901, rfl⟩
abbrev main_v774 : Ref sig .tc := ⟨.hbm, 902, rfl⟩
abbrev main_v775 : Ref sig .tc := ⟨.hbm, 903, rfl⟩
abbrev main_v776 : Ref sig .tc := ⟨.hbm, 904, rfl⟩
abbrev main_v777 : Ref sig .tc := ⟨.hbm, 905, rfl⟩
abbrev main_v778 : Ref sig .tc := ⟨.hbm, 906, rfl⟩
abbrev main_v779 : Ref sig .tc := ⟨.hbm, 907, rfl⟩
abbrev main_v780 : Ref sig .tc := ⟨.hbm, 908, rfl⟩
abbrev main_v781 : Ref sig .tc := ⟨.hbm, 909, rfl⟩
abbrev main_v782 : Ref sig .tc := ⟨.hbm, 910, rfl⟩
abbrev main_cst_100 : Ref sig .tc := ⟨.hbm, 911, rfl⟩
abbrev main_v783 : Ref sig .tc := ⟨.hbm, 912, rfl⟩
abbrev main_v784 : Ref sig .tc := ⟨.hbm, 913, rfl⟩
abbrev main_v785 : Ref sig .tc := ⟨.hbm, 914, rfl⟩
abbrev main_cst_101 : Ref sig .tc := ⟨.hbm, 915, rfl⟩
abbrev main_v786 : Ref sig .tc := ⟨.hbm, 916, rfl⟩
abbrev main_v787 : Ref sig .tc := ⟨.hbm, 917, rfl⟩
abbrev main_cst_102 : Ref sig .tc := ⟨.hbm, 918, rfl⟩
abbrev main_call0_v0 : Ref sig .tc := ⟨.hbm, 919, rfl⟩
abbrev main_call0_v1 : Ref sig .tc := ⟨.hbm, 920, rfl⟩
abbrev main_v788 : Ref sig .tc := ⟨.hbm, 921, rfl⟩
abbrev main_v789 : Ref sig .tc := ⟨.hbm, 922, rfl⟩
abbrev main_v790 : Ref sig .tc := ⟨.hbm, 923, rfl⟩
abbrev main_v791 : Ref sig .tc := ⟨.hbm, 924, rfl⟩
abbrev main_v792 : Ref sig .tc := ⟨.hbm, 925, rfl⟩
abbrev main_v793 : Ref sig .tc := ⟨.hbm, 926, rfl⟩
abbrev main_cst_103 : Ref sig .tc := ⟨.hbm, 927, rfl⟩
abbrev main_v794 : Ref sig .tc := ⟨.hbm, 928, rfl⟩
abbrev main_v795 : Ref sig .tc := ⟨.hbm, 929, rfl⟩
abbrev main_v796 : Ref sig .tc := ⟨.hbm, 930, rfl⟩
abbrev main_cst_104 : Ref sig .tc := ⟨.hbm, 931, rfl⟩
abbrev main_v797 : Ref sig .tc := ⟨.hbm, 932, rfl⟩
abbrev main_v798 : Ref sig .tc := ⟨.hbm, 933, rfl⟩
abbrev main_cst_105 : Ref sig .tc := ⟨.hbm, 934, rfl⟩
abbrev main_call1_v0 : Ref sig .tc := ⟨.hbm, 935, rfl⟩
abbrev main_call1_v1 : Ref sig .tc := ⟨.hbm, 936, rfl⟩
abbrev main_v799 : Ref sig .tc := ⟨.hbm, 937, rfl⟩
abbrev main_v800 : Ref sig .tc := ⟨.hbm, 938, rfl⟩
abbrev main_v801 : Ref sig .tc := ⟨.hbm, 939, rfl⟩
abbrev main_v802 : Ref sig .tc := ⟨.hbm, 940, rfl⟩
abbrev main_cst_106 : Ref sig .tc := ⟨.hbm, 941, rfl⟩
abbrev main_v803 : Ref sig .tc := ⟨.hbm, 942, rfl⟩
abbrev main_v804 : Ref sig .tc := ⟨.hbm, 943, rfl⟩
abbrev main_cst_107 : Ref sig .tc := ⟨.hbm, 944, rfl⟩
abbrev main_v805 : Ref sig .tc := ⟨.hbm, 945, rfl⟩
abbrev main_v806 : Ref sig .tc := ⟨.hbm, 946, rfl⟩
abbrev main_v807 : Ref sig .tc := ⟨.hbm, 947, rfl⟩
abbrev main_v808 : Ref sig .tc := ⟨.hbm, 948, rfl⟩
abbrev main_v809 : Ref sig .tc := ⟨.hbm, 949, rfl⟩
abbrev main_cst_108 : Ref sig .tc := ⟨.hbm, 950, rfl⟩
abbrev main_v810 : Ref sig .tc := ⟨.hbm, 951, rfl⟩
abbrev main_v811 : Ref sig .tc := ⟨.hbm, 952, rfl⟩
abbrev main_cst_109 : Ref sig .tc := ⟨.hbm, 953, rfl⟩
abbrev main_v812 : Ref sig .tc := ⟨.hbm, 954, rfl⟩
abbrev main_v813 : Ref sig .tc := ⟨.hbm, 955, rfl⟩
abbrev main_v814 : Ref sig .tc := ⟨.hbm, 956, rfl⟩
abbrev main_v815 : Ref sig .tc := ⟨.hbm, 957, rfl⟩
abbrev main_cst_110 : Ref sig .tc := ⟨.hbm, 958, rfl⟩
abbrev main_v816 : Ref sig .tc := ⟨.hbm, 959, rfl⟩
abbrev main_v817 : Ref sig .tc := ⟨.hbm, 960, rfl⟩
abbrev main_v818 : Ref sig .tc := ⟨.hbm, 961, rfl⟩
abbrev main_v819 : Ref sig .tc := ⟨.hbm, 962, rfl⟩
abbrev main_v820 : Ref sig .tc := ⟨.hbm, 963, rfl⟩
abbrev main_v821 : Ref sig .tc := ⟨.hbm, 964, rfl⟩
abbrev main_v822 : Ref sig .tc := ⟨.hbm, 965, rfl⟩
abbrev main_v823 : Ref sig .tc := ⟨.hbm, 966, rfl⟩
abbrev main_v824 : Ref sig .tc := ⟨.hbm, 967, rfl⟩
abbrev main_v825 : Ref sig .tc := ⟨.hbm, 968, rfl⟩
abbrev main_v826 : Ref sig .tc := ⟨.hbm, 969, rfl⟩
abbrev main_v827 : Ref sig .tc := ⟨.hbm, 970, rfl⟩
abbrev main_cst_111 : Ref sig .tc := ⟨.hbm, 971, rfl⟩
abbrev main_v828 : Ref sig .tc := ⟨.hbm, 972, rfl⟩
abbrev main_v829 : Ref sig .tc := ⟨.hbm, 973, rfl⟩
abbrev main_v830 : Ref sig .tc := ⟨.hbm, 974, rfl⟩
abbrev main_cst_112 : Ref sig .tc := ⟨.hbm, 975, rfl⟩
abbrev main_v831 : Ref sig .tc := ⟨.hbm, 976, rfl⟩
abbrev main_v832 : Ref sig .tc := ⟨.hbm, 977, rfl⟩
abbrev main_v833 : Ref sig .tc := ⟨.hbm, 978, rfl⟩
abbrev main_v834 : Ref sig .tc := ⟨.hbm, 979, rfl⟩
abbrev main_v835 : Ref sig .tc := ⟨.hbm, 980, rfl⟩
abbrev main_v836 : Ref sig .tc := ⟨.hbm, 981, rfl⟩
abbrev main_v837 : Ref sig .tc := ⟨.hbm, 982, rfl⟩
abbrev main_v838 : Ref sig .tc := ⟨.hbm, 983, rfl⟩
abbrev main_cst_113 : Ref sig .tc := ⟨.hbm, 984, rfl⟩
abbrev main_cst_114 : Ref sig .tc := ⟨.hbm, 985, rfl⟩
abbrev main_call2_v0 : Ref sig .tc := ⟨.hbm, 986, rfl⟩
abbrev main_call2_v1 : Ref sig .tc := ⟨.hbm, 987, rfl⟩
abbrev main_call2_v2 : Ref sig .tc := ⟨.hbm, 988, rfl⟩
abbrev main_call2_v3 : Ref sig .tc := ⟨.hbm, 989, rfl⟩
abbrev main_call2_v4 : Ref sig .tc := ⟨.hbm, 990, rfl⟩
abbrev main_v839 : Ref sig .tc := ⟨.hbm, 991, rfl⟩
abbrev main_v840 : Ref sig .tc := ⟨.hbm, 992, rfl⟩
abbrev main_v841 : Ref sig .tc := ⟨.hbm, 993, rfl⟩
abbrev main_v842 : Ref sig .tc := ⟨.hbm, 994, rfl⟩
abbrev main_cst_115 : Ref sig .tc := ⟨.hbm, 995, rfl⟩
abbrev main_v843 : Ref sig .tc := ⟨.hbm, 996, rfl⟩
abbrev main_cst_116 : Ref sig .tc := ⟨.hbm, 997, rfl⟩
abbrev main_v844 : Ref sig .tc := ⟨.hbm, 998, rfl⟩
abbrev main_v845 : Ref sig .tc := ⟨.hbm, 999, rfl⟩
abbrev main_call3_v0 : Ref sig .tc := ⟨.hbm, 1000, rfl⟩
abbrev main_call3_call0_c : Ref sig .tc := ⟨.hbm, 1001, rfl⟩
abbrev main_call3_call0_v0 : Ref sig .tc := ⟨.hbm, 1002, rfl⟩
abbrev main_v846 : Ref sig .tc := ⟨.hbm, 1003, rfl⟩
abbrev main_c : Ref sig .tc := ⟨.hbm, 1004, rfl⟩
abbrev main_v847 : Ref sig .tc := ⟨.hbm, 1005, rfl⟩
abbrev main_v848 : Ref sig .tc := ⟨.hbm, 1006, rfl⟩
abbrev main_c_117 : Ref sig .tc := ⟨.hbm, 1007, rfl⟩
abbrev main_c_118 : Ref sig .tc := ⟨.hbm, 1008, rfl⟩
abbrev main_call4_v0 : Ref sig .tc := ⟨.hbm, 1009, rfl⟩
abbrev main_call4_v1 : Ref sig .tc := ⟨.hbm, 1010, rfl⟩
abbrev main_call4_v2 : Ref sig .tc := ⟨.hbm, 1011, rfl⟩
abbrev main_call4_v3 : Ref sig .tc := ⟨.hbm, 1012, rfl⟩
abbrev main_call4_v4 : Ref sig .tc := ⟨.hbm, 1013, rfl⟩
abbrev main_v849 : Ref sig .tc := ⟨.hbm, 1014, rfl⟩
abbrev main_call5_c : Ref sig .tc := ⟨.hbm, 1015, rfl⟩
abbrev main_call5_v0 : Ref sig .tc := ⟨.hbm, 1016, rfl⟩
abbrev main_call5_v1 : Ref sig .tc := ⟨.hbm, 1017, rfl⟩
abbrev main_call5_c_0 : Ref sig .tc := ⟨.hbm, 1018, rfl⟩
abbrev main_call5_v2 : Ref sig .tc := ⟨.hbm, 1019, rfl⟩
abbrev main_call5_v3 : Ref sig .tc := ⟨.hbm, 1020, rfl⟩
abbrev main_call5_v4 : Ref sig .tc := ⟨.hbm, 1021, rfl⟩
abbrev main_call5_v5 : Ref sig .tc := ⟨.hbm, 1022, rfl⟩
abbrev main_call5_c_1 : Ref sig .tc := ⟨.hbm, 1023, rfl⟩
abbrev main_call5_c_2 : Ref sig .tc := ⟨.hbm, 1024, rfl⟩
abbrev main_call5_v6 : Ref sig .tc := ⟨.hbm, 1025, rfl⟩
abbrev main_call5_v7 : Ref sig .tc := ⟨.hbm, 1026, rfl⟩
abbrev main_call5_v8 : Ref sig .tc := ⟨.hbm, 1027, rfl⟩
abbrev main_call5_v9 : Ref sig .tc := ⟨.hbm, 1028, rfl⟩
abbrev main_call5_v10 : Ref sig .tc := ⟨.hbm, 1029, rfl⟩
abbrev main_call5_v11 : Ref sig .tc := ⟨.hbm, 1030, rfl⟩
abbrev main_call5_c_3 : Ref sig .tc := ⟨.hbm, 1031, rfl⟩
abbrev main_call5_v12 : Ref sig .tc := ⟨.hbm, 1032, rfl⟩
abbrev main_call5_v13 : Ref sig .tc := ⟨.hbm, 1033, rfl⟩
abbrev main_call5_cst : Ref sig .tc := ⟨.hbm, 1034, rfl⟩
abbrev main_call5_v14 : Ref sig .tc := ⟨.hbm, 1035, rfl⟩
abbrev main_v850 : Ref sig .tc := ⟨.hbm, 1036, rfl⟩
abbrev main_cst_119 : Ref sig .tc := ⟨.hbm, 1037, rfl⟩
abbrev main_v851 : Ref sig .tc := ⟨.hbm, 1038, rfl⟩
abbrev main_v852 : Ref sig .tc := ⟨.hbm, 1039, rfl⟩
abbrev main_v853 : Ref sig .tc := ⟨.hbm, 1040, rfl⟩
abbrev main_v854 : Ref sig .tc := ⟨.hbm, 1041, rfl⟩
abbrev main_v855 : Ref sig .tc := ⟨.hbm, 1042, rfl⟩
abbrev main_v856 : Ref sig .tc := ⟨.hbm, 1043, rfl⟩
abbrev main_v857 : Ref sig .tc := ⟨.hbm, 1044, rfl⟩
abbrev main_v858 : Ref sig .tc := ⟨.hbm, 1045, rfl⟩
abbrev main_v859 : Ref sig .tc := ⟨.hbm, 1046, rfl⟩
abbrev main_v860 : Ref sig .tc := ⟨.hbm, 1047, rfl⟩
abbrev main_v861 : Ref sig .tc := ⟨.hbm, 1048, rfl⟩
abbrev main_v862 : Ref sig .tc := ⟨.hbm, 1049, rfl⟩
abbrev main_v863 : Ref sig .tc := ⟨.hbm, 1050, rfl⟩
abbrev main_v864 : Ref sig .tc := ⟨.hbm, 1051, rfl⟩
abbrev main_v865 : Ref sig .tc := ⟨.hbm, 1052, rfl⟩
abbrev main_v866 : Ref sig .tc := ⟨.hbm, 1053, rfl⟩
abbrev main_v867 : Ref sig .tc := ⟨.hbm, 1054, rfl⟩
abbrev main_cst_120 : Ref sig .tc := ⟨.hbm, 1055, rfl⟩
abbrev main_v868 : Ref sig .tc := ⟨.hbm, 1056, rfl⟩
abbrev main_v869 : Ref sig .tc := ⟨.hbm, 1057, rfl⟩
abbrev main_v870 : Ref sig .tc := ⟨.hbm, 1058, rfl⟩
abbrev main_v871 : Ref sig .tc := ⟨.hbm, 1059, rfl⟩
abbrev main_v872 : Ref sig .tc := ⟨.hbm, 1060, rfl⟩
abbrev main_v873 : Ref sig .tc := ⟨.hbm, 1061, rfl⟩
abbrev main_v874 : Ref sig .tc := ⟨.hbm, 1062, rfl⟩
abbrev main_v875 : Ref sig .tc := ⟨.hbm, 1063, rfl⟩
abbrev main_v876 : Ref sig .tc := ⟨.hbm, 1064, rfl⟩
abbrev main_v877 : Ref sig .tc := ⟨.hbm, 1065, rfl⟩
abbrev main_v878 : Ref sig .tc := ⟨.hbm, 1066, rfl⟩
abbrev main_v879 : Ref sig .tc := ⟨.hbm, 1067, rfl⟩
abbrev main_cst_121 : Ref sig .tc := ⟨.hbm, 1068, rfl⟩
abbrev main_v880 : Ref sig .tc := ⟨.hbm, 1069, rfl⟩
abbrev main_v881 : Ref sig .tc := ⟨.hbm, 1070, rfl⟩
abbrev main_v882 : Ref sig .tc := ⟨.hbm, 1071, rfl⟩
abbrev main_v883 : Ref sig .tc := ⟨.hbm, 1072, rfl⟩
abbrev main_v884 : Ref sig .tc := ⟨.hbm, 1073, rfl⟩
abbrev main_v885 : Ref sig .tc := ⟨.hbm, 1074, rfl⟩
abbrev main_v886 : Ref sig .tc := ⟨.hbm, 1075, rfl⟩
abbrev main_v887 : Ref sig .tc := ⟨.hbm, 1076, rfl⟩
abbrev main_v888 : Ref sig .tc := ⟨.hbm, 1077, rfl⟩
abbrev main_v889 : Ref sig .tc := ⟨.hbm, 1078, rfl⟩
abbrev main_c_122 : Ref sig .tc := ⟨.hbm, 1079, rfl⟩
abbrev main_v890 : Ref sig .tc := ⟨.hbm, 1080, rfl⟩
abbrev main_cst_123 : Ref sig .tc := ⟨.hbm, 1081, rfl⟩
abbrev main_v891 : Ref sig .tc := ⟨.hbm, 1082, rfl⟩
abbrev main_c_124 : Ref sig .tc := ⟨.hbm, 1083, rfl⟩
abbrev main_v892 : Ref sig .tc := ⟨.hbm, 1084, rfl⟩
abbrev main_v893 : Ref sig .tc := ⟨.hbm, 1085, rfl⟩
abbrev main_v894 : Ref sig .tc := ⟨.hbm, 1086, rfl⟩
abbrev main_v895 : Ref sig .tc := ⟨.hbm, 1087, rfl⟩
abbrev main_v896 : Ref sig .tc := ⟨.hbm, 1088, rfl⟩
abbrev main_v897 : Ref sig .tc := ⟨.hbm, 1089, rfl⟩
abbrev main_cst_125 : Ref sig .tc := ⟨.hbm, 1090, rfl⟩
abbrev main_v898 : Ref sig .tc := ⟨.hbm, 1091, rfl⟩
abbrev main_v899 : Ref sig .tc := ⟨.hbm, 1092, rfl⟩
abbrev main_cst_126 : Ref sig .tc := ⟨.hbm, 1093, rfl⟩
abbrev main_v900 : Ref sig .tc := ⟨.hbm, 1094, rfl⟩
abbrev main_v901 : Ref sig .tc := ⟨.hbm, 1095, rfl⟩
abbrev main_v902 : Ref sig .tc := ⟨.hbm, 1096, rfl⟩
abbrev main_v903 : Ref sig .tc := ⟨.hbm, 1097, rfl⟩
abbrev main_cst_127 : Ref sig .tc := ⟨.hbm, 1098, rfl⟩
abbrev main_call6_v0 : Ref sig .tc := ⟨.hbm, 1099, rfl⟩
abbrev main_call6_v1 : Ref sig .tc := ⟨.hbm, 1100, rfl⟩
abbrev main_v904 : Ref sig .tc := ⟨.hbm, 1101, rfl⟩
abbrev main_v905 : Ref sig .tc := ⟨.hbm, 1102, rfl⟩
abbrev main_v906 : Ref sig .tc := ⟨.hbm, 1103, rfl⟩
abbrev main_cst_128 : Ref sig .tc := ⟨.hbm, 1104, rfl⟩
abbrev main_v907 : Ref sig .tc := ⟨.hbm, 1105, rfl⟩
abbrev main_v908 : Ref sig .tc := ⟨.hbm, 1106, rfl⟩
abbrev main_v909 : Ref sig .tc := ⟨.hbm, 1107, rfl⟩
abbrev main_v910 : Ref sig .tc := ⟨.hbm, 1108, rfl⟩
abbrev main_cst_129 : Ref sig .tc := ⟨.hbm, 1109, rfl⟩
abbrev main_v911 : Ref sig .tc := ⟨.hbm, 1110, rfl⟩
abbrev main_v912 : Ref sig .tc := ⟨.hbm, 1111, rfl⟩
abbrev main_c_130 : Ref sig .tc := ⟨.hbm, 1112, rfl⟩
abbrev main_v913 : Ref sig .tc := ⟨.hbm, 1113, rfl⟩
abbrev main_v914 : Ref sig .tc := ⟨.hbm, 1114, rfl⟩
abbrev main_v915 : Ref sig .tc := ⟨.hbm, 1115, rfl⟩
abbrev main_cst_131 : Ref sig .tc := ⟨.hbm, 1116, rfl⟩
abbrev main_v916 : Ref sig .tc := ⟨.hbm, 1117, rfl⟩
abbrev main_call7_v0 : Ref sig .tc := ⟨.hbm, 1118, rfl⟩
abbrev main_v917 : Ref sig .tc := ⟨.hbm, 1119, rfl⟩
abbrev main_v918 : Ref sig .tc := ⟨.hbm, 1120, rfl⟩
abbrev main_v919 : Ref sig .tc := ⟨.hbm, 1121, rfl⟩
abbrev main_v920 : Ref sig .tc := ⟨.hbm, 1122, rfl⟩
abbrev main_cst_132 : Ref sig .tc := ⟨.hbm, 1123, rfl⟩
abbrev main_v921 : Ref sig .tc := ⟨.hbm, 1124, rfl⟩
abbrev main_cst_133 : Ref sig .tc := ⟨.hbm, 1125, rfl⟩
abbrev main_v922 : Ref sig .tc := ⟨.hbm, 1126, rfl⟩
abbrev main_v923 : Ref sig .tc := ⟨.hbm, 1127, rfl⟩
abbrev main_call8_v0 : Ref sig .tc := ⟨.hbm, 1128, rfl⟩
abbrev main_call8_call0_c : Ref sig .tc := ⟨.hbm, 1129, rfl⟩
abbrev main_call8_call0_v0 : Ref sig .tc := ⟨.hbm, 1130, rfl⟩
abbrev main_v924 : Ref sig .tc := ⟨.hbm, 1131, rfl⟩
abbrev main_c_134 : Ref sig .tc := ⟨.hbm, 1132, rfl⟩
abbrev main_v925 : Ref sig .tc := ⟨.hbm, 1133, rfl⟩
abbrev main_v926 : Ref sig .tc := ⟨.hbm, 1134, rfl⟩
abbrev main_c_135 : Ref sig .tc := ⟨.hbm, 1135, rfl⟩
abbrev main_c_136 : Ref sig .tc := ⟨.hbm, 1136, rfl⟩
abbrev main_call9_v0 : Ref sig .tc := ⟨.hbm, 1137, rfl⟩
abbrev main_call9_v1 : Ref sig .tc := ⟨.hbm, 1138, rfl⟩
abbrev main_call9_v2 : Ref sig .tc := ⟨.hbm, 1139, rfl⟩
abbrev main_call9_v3 : Ref sig .tc := ⟨.hbm, 1140, rfl⟩
abbrev main_call9_v4 : Ref sig .tc := ⟨.hbm, 1141, rfl⟩
abbrev main_v927 : Ref sig .tc := ⟨.hbm, 1142, rfl⟩
abbrev main_call10_c : Ref sig .tc := ⟨.hbm, 1143, rfl⟩
abbrev main_call10_v0 : Ref sig .tc := ⟨.hbm, 1144, rfl⟩
abbrev main_call10_v1 : Ref sig .tc := ⟨.hbm, 1145, rfl⟩
abbrev main_call10_c_0 : Ref sig .tc := ⟨.hbm, 1146, rfl⟩
abbrev main_call10_v2 : Ref sig .tc := ⟨.hbm, 1147, rfl⟩
abbrev main_call10_v3 : Ref sig .tc := ⟨.hbm, 1148, rfl⟩
abbrev main_call10_v4 : Ref sig .tc := ⟨.hbm, 1149, rfl⟩
abbrev main_call10_v5 : Ref sig .tc := ⟨.hbm, 1150, rfl⟩
abbrev main_call10_c_1 : Ref sig .tc := ⟨.hbm, 1151, rfl⟩
abbrev main_call10_c_2 : Ref sig .tc := ⟨.hbm, 1152, rfl⟩
abbrev main_call10_v6 : Ref sig .tc := ⟨.hbm, 1153, rfl⟩
abbrev main_call10_v7 : Ref sig .tc := ⟨.hbm, 1154, rfl⟩
abbrev main_call10_v8 : Ref sig .tc := ⟨.hbm, 1155, rfl⟩
abbrev main_call10_v9 : Ref sig .tc := ⟨.hbm, 1156, rfl⟩
abbrev main_call10_v10 : Ref sig .tc := ⟨.hbm, 1157, rfl⟩
abbrev main_call10_v11 : Ref sig .tc := ⟨.hbm, 1158, rfl⟩
abbrev main_call10_c_3 : Ref sig .tc := ⟨.hbm, 1159, rfl⟩
abbrev main_call10_v12 : Ref sig .tc := ⟨.hbm, 1160, rfl⟩
abbrev main_call10_v13 : Ref sig .tc := ⟨.hbm, 1161, rfl⟩
abbrev main_call10_cst : Ref sig .tc := ⟨.hbm, 1162, rfl⟩
abbrev main_call10_v14 : Ref sig .tc := ⟨.hbm, 1163, rfl⟩
abbrev main_v928 : Ref sig .tc := ⟨.hbm, 1164, rfl⟩
abbrev main_cst_137 : Ref sig .tc := ⟨.hbm, 1165, rfl⟩
abbrev main_v929 : Ref sig .tc := ⟨.hbm, 1166, rfl⟩
abbrev main_v930 : Ref sig .tc := ⟨.hbm, 1167, rfl⟩
abbrev main_v931 : Ref sig .tc := ⟨.hbm, 1168, rfl⟩
abbrev main_v932 : Ref sig .tc := ⟨.hbm, 1169, rfl⟩
abbrev main_v933 : Ref sig .tc := ⟨.hbm, 1170, rfl⟩
abbrev main_v934 : Ref sig .tc := ⟨.hbm, 1171, rfl⟩
abbrev main_v935 : Ref sig .tc := ⟨.hbm, 1172, rfl⟩
abbrev main_v936 : Ref sig .tc := ⟨.hbm, 1173, rfl⟩
abbrev main_v937 : Ref sig .tc := ⟨.hbm, 1174, rfl⟩
abbrev main_v938 : Ref sig .tc := ⟨.hbm, 1175, rfl⟩
abbrev main_v939 : Ref sig .tc := ⟨.hbm, 1176, rfl⟩
abbrev main_v940 : Ref sig .tc := ⟨.hbm, 1177, rfl⟩
abbrev main_v941 : Ref sig .tc := ⟨.hbm, 1178, rfl⟩
abbrev main_v942 : Ref sig .tc := ⟨.hbm, 1179, rfl⟩
abbrev main_v943 : Ref sig .tc := ⟨.hbm, 1180, rfl⟩
abbrev main_v944 : Ref sig .tc := ⟨.hbm, 1181, rfl⟩
abbrev main_v945 : Ref sig .tc := ⟨.hbm, 1182, rfl⟩
abbrev main_cst_138 : Ref sig .tc := ⟨.hbm, 1183, rfl⟩
abbrev main_v946 : Ref sig .tc := ⟨.hbm, 1184, rfl⟩
abbrev main_v947 : Ref sig .tc := ⟨.hbm, 1185, rfl⟩
abbrev main_v948 : Ref sig .tc := ⟨.hbm, 1186, rfl⟩
abbrev main_v949 : Ref sig .tc := ⟨.hbm, 1187, rfl⟩
abbrev main_v950 : Ref sig .tc := ⟨.hbm, 1188, rfl⟩
abbrev main_v951 : Ref sig .tc := ⟨.hbm, 1189, rfl⟩
abbrev main_v952 : Ref sig .tc := ⟨.hbm, 1190, rfl⟩
abbrev main_v953 : Ref sig .tc := ⟨.hbm, 1191, rfl⟩
abbrev main_v954 : Ref sig .tc := ⟨.hbm, 1192, rfl⟩
abbrev main_v955 : Ref sig .tc := ⟨.hbm, 1193, rfl⟩
abbrev main_v956 : Ref sig .tc := ⟨.hbm, 1194, rfl⟩
abbrev main_v957 : Ref sig .tc := ⟨.hbm, 1195, rfl⟩
abbrev main_cst_139 : Ref sig .tc := ⟨.hbm, 1196, rfl⟩
abbrev main_v958 : Ref sig .tc := ⟨.hbm, 1197, rfl⟩
abbrev main_v959 : Ref sig .tc := ⟨.hbm, 1198, rfl⟩
abbrev main_v960 : Ref sig .tc := ⟨.hbm, 1199, rfl⟩
abbrev main_v961 : Ref sig .tc := ⟨.hbm, 1200, rfl⟩
abbrev main_v962 : Ref sig .tc := ⟨.hbm, 1201, rfl⟩
abbrev main_v963 : Ref sig .tc := ⟨.hbm, 1202, rfl⟩
abbrev main_v964 : Ref sig .tc := ⟨.hbm, 1203, rfl⟩
abbrev main_v965 : Ref sig .tc := ⟨.hbm, 1204, rfl⟩
abbrev main_v966 : Ref sig .tc := ⟨.hbm, 1205, rfl⟩
abbrev main_v967 : Ref sig .tc := ⟨.hbm, 1206, rfl⟩
abbrev main_c_140 : Ref sig .tc := ⟨.hbm, 1207, rfl⟩
abbrev main_v968 : Ref sig .tc := ⟨.hbm, 1208, rfl⟩
abbrev main_cst_141 : Ref sig .tc := ⟨.hbm, 1209, rfl⟩
abbrev main_v969 : Ref sig .tc := ⟨.hbm, 1210, rfl⟩
abbrev main_c_142 : Ref sig .tc := ⟨.hbm, 1211, rfl⟩
abbrev main_v970 : Ref sig .tc := ⟨.hbm, 1212, rfl⟩
abbrev main_v971 : Ref sig .tc := ⟨.hbm, 1213, rfl⟩
abbrev main_v972 : Ref sig .tc := ⟨.hbm, 1214, rfl⟩
abbrev main_v973 : Ref sig .tc := ⟨.hbm, 1215, rfl⟩
abbrev main_v974 : Ref sig .tc := ⟨.hbm, 1216, rfl⟩
abbrev main_v975 : Ref sig .tc := ⟨.hbm, 1217, rfl⟩
abbrev main_cst_143 : Ref sig .tc := ⟨.hbm, 1218, rfl⟩
abbrev main_v976 : Ref sig .tc := ⟨.hbm, 1219, rfl⟩
abbrev main_v977 : Ref sig .tc := ⟨.hbm, 1220, rfl⟩
abbrev main_cst_144 : Ref sig .tc := ⟨.hbm, 1221, rfl⟩
abbrev main_v978 : Ref sig .tc := ⟨.hbm, 1222, rfl⟩
abbrev main_v979 : Ref sig .tc := ⟨.hbm, 1223, rfl⟩
abbrev main_v980 : Ref sig .tc := ⟨.hbm, 1224, rfl⟩
abbrev main_v981 : Ref sig .tc := ⟨.hbm, 1225, rfl⟩
abbrev main_cst_145 : Ref sig .tc := ⟨.hbm, 1226, rfl⟩
abbrev main_call11_v0 : Ref sig .tc := ⟨.hbm, 1227, rfl⟩
abbrev main_call11_v1 : Ref sig .tc := ⟨.hbm, 1228, rfl⟩
abbrev main_v982 : Ref sig .tc := ⟨.hbm, 1229, rfl⟩
abbrev main_v983 : Ref sig .tc := ⟨.hbm, 1230, rfl⟩
abbrev main_v984 : Ref sig .tc := ⟨.hbm, 1231, rfl⟩
abbrev main_cst_146 : Ref sig .tc := ⟨.hbm, 1232, rfl⟩
abbrev main_v985 : Ref sig .tc := ⟨.hbm, 1233, rfl⟩
abbrev main_v986 : Ref sig .tc := ⟨.hbm, 1234, rfl⟩
abbrev main_v987 : Ref sig .tc := ⟨.hbm, 1235, rfl⟩
abbrev main_v988 : Ref sig .tc := ⟨.hbm, 1236, rfl⟩
abbrev main_cst_147 : Ref sig .tc := ⟨.hbm, 1237, rfl⟩
abbrev main_v989 : Ref sig .tc := ⟨.hbm, 1238, rfl⟩
abbrev main_v990 : Ref sig .tc := ⟨.hbm, 1239, rfl⟩
abbrev main_c_148 : Ref sig .tc := ⟨.hbm, 1240, rfl⟩
abbrev main_v991 : Ref sig .tc := ⟨.hbm, 1241, rfl⟩
abbrev main_v992 : Ref sig .tc := ⟨.hbm, 1242, rfl⟩
abbrev main_v993 : Ref sig .tc := ⟨.hbm, 1243, rfl⟩
abbrev main_cst_149 : Ref sig .tc := ⟨.hbm, 1244, rfl⟩
abbrev main_v994 : Ref sig .tc := ⟨.hbm, 1245, rfl⟩
abbrev main_call12_v0 : Ref sig .tc := ⟨.hbm, 1246, rfl⟩
abbrev main_v995 : Ref sig .tc := ⟨.hbm, 1247, rfl⟩
abbrev main_v996 : Ref sig .tc := ⟨.hbm, 1248, rfl⟩
abbrev main_v997 : Ref sig .tc := ⟨.hbm, 1249, rfl⟩
abbrev main_v998 : Ref sig .tc := ⟨.hbm, 1250, rfl⟩

abbrev nD : Nat := 1
abbrev τ : Topo := Topo.v7x

variable {F : FTy → Type} [FloatOps F]
-- ==== Proof.Launch.KernelIdealRun.lean ====
/- SET-UP of the launch of `KernelIdeal`: the kernel's whole body run once, over any values.
   The run's pieces for every buffer are found by the symbolic execution and kept as the subtype's witness.
   It follows the library's own text for a kernel of one case. -/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 8000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S1x256x256 .f32) (harg1 : arg1.IsWhole) (arg2 : Memref sig .tc .vmem S1x48x3 .f32) (harg2 : arg2.IsWhole) (arg3 : Memref sig .tc .vmem S256x48 .f32) (harg3 : arg3.IsWhole) (arg4 : Memref sig .tc .vmem S1x48 .f32) (harg4 : arg4.IsWhole) (arg5 : Memref sig .tc .vmem S3x48 .f32) (harg5 : arg5.IsWhole) (arg6 : Memref sig .tc .vmem S1x48 .f32) (harg6 : arg6.IsWhole) (arg7 : Memref sig .tc .vmem S6x1x48 .f32) (harg7 : arg7.IsWhole) (arg8 : Memref sig .tc .vmem S6x1x48 .f32) (harg8 : arg8.IsWhole) (arg9 : Memref sig .tc .vmem S6x48x144 .f32) (harg9 : arg9.IsWhole) (arg10 : Memref sig .tc .vmem S6x1x144 .f32) (harg10 : arg10.IsWhole) (arg11 : Memref sig .tc .vmem S6x48x48 .f32) (harg11 : arg11.IsWhole) (arg12 : Memref sig .tc .vmem S6x1x48 .f32) (harg12 : arg12.IsWhole) (arg13 : Memref sig .tc .vmem S6x1x48 .f32) (harg13 : arg13.IsWhole) (arg14 : Memref sig .tc .vmem S6x1x48 .f32) (harg14 : arg14.IsWhole) (arg15 : Memref sig .tc .vmem S6x48x192 .f32) (harg15 : arg15.IsWhole) (arg16 : Memref sig .tc .vmem S6x1x192 .f32) (harg16 : arg16.IsWhole) (arg17 : Memref sig .tc .vmem S6x192x48 .f32) (harg17 : arg17.IsWhole) (arg18 : Memref sig .tc .vmem S6x1x48 .f32) (harg18 : arg18.IsWhole) (arg19 : Memref sig .tc .vmem S48x48 .f32) (harg19 : arg19.IsWhole) (arg20 : Memref sig .tc .vmem S48x48 .f32) (harg20 : arg20.IsWhole) (arg21 : Memref sig .tc .vmem S1x48 .f32) (harg21 : arg21.IsWhole) (arg22 : Memref sig .tc .vmem S1x48 .f32) (harg22 : arg22.IsWhole) (arg23 : Memref sig .tc .vmem S1x48 .f32) (harg23 : arg23.IsWhole) (arg24 : Memref sig .tc .vmem S1x48 .f32) (harg24 : arg24.IsWhole) (arg25 : Memref sig .tc .vmem S256x2304 .f32) (harg25 : arg25.IsWhole) (arg26 : Memref sig .tc .vmem S1x48 .f32) (harg26 : arg26.IsWhole) (arg27 : Memref sig .tc .vmem S1x2x224x224 .f32) (harg27 : arg27.IsWhole) (arg28 : Memref sig .tc .vmem S8x128 .f32) (harg28 : arg28.IsWhole)
    (x0 : Vec F S1x256x256 .f32) (x1 : Vec F S1x48x3 .f32) (x2 : Vec F S256x48 .f32) (x3 : Vec F S1x48 .f32) (x4 : Vec F S3x48 .f32) (x5 : Vec F S1x48 .f32) (x6 : Vec F S6x1x48 .f32) (x7 : Vec F S6x1x48 .f32) (x8 : Vec F S6x48x144 .f32) (x9 : Vec F S6x1x144 .f32) (x10 : Vec F S6x48x48 .f32) (x11 : Vec F S6x1x48 .f32) (x12 : Vec F S6x1x48 .f32) (x13 : Vec F S6x1x48 .f32) (x14 : Vec F S6x48x192 .f32) (x15 : Vec F S6x1x192 .f32) (x16 : Vec F S6x192x48 .f32) (x17 : Vec F S6x1x48 .f32) (x18 : Vec F S48x48 .f32) (x19 : Vec F S48x48 .f32) (x20 : Vec F S1x48 .f32) (x21 : Vec F S1x48 .f32) (x22 : Vec F S1x48 .f32) (x23 : Vec F S1x48 .f32) (x24 : Vec F S256x2304 .f32) (x25 : Vec F S1x48 .f32) :
    { L26 : List (View.Piece (Elt F) S1x2x224x224 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ (∃ d, owns (c : Thread nD τ) arg27 fullShare d) ∗ (∃ d, owns (c : Thread nD τ) arg28 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ (∃ f, arg27.view.loc (c : Thread nD τ) ↦[arg27.view.set]{fullShare} arg27.view.writes (Elt F) f L26) ∗ (∃ d, owns (c : Thread nD τ) arg28 fullShare d)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
  refine ⟨?_, fun E K => ?run⟩
  case run =>
    simp only [cc0__fused_kernel_eq_skeleton]; unfold cc0__fused_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%d26, %f26, -, H26⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23; obtain rfl := harg25.eq_unread hf24; obtain rfl := harg26.eq_unread hf25
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]
    · iexists _; isplitr; · ipureintro; exact harg24.read_unread _
      iexact H23
    isplitl [H24]
    · iexists _; isplitr; · ipureintro; exact harg25.read_unread _
      iexact H24
    isplitl [H25]
    · iexists _; isplitr; · ipureintro; exact harg26.read_unread _
      iexact H25
    isplitl [H26]; · iexists _; iexact H26
    iexists _, _; isplitr; swap; · iexact HS0
    ipureintro; rfl

end Cert.KernelIdeal.Gen

end
-- ==== Proof.Launch.KernelIdealFrame.lean ====
/- SET-UP of the launch of `KernelIdeal`: what the output holds after every point, the launch's proof data, and the frame.
   It follows the library's own text for a kernel of one case. -/
module

public import proofs.«01_k».proof.Proof.Launch.KernelIdealRun
public import Idealize.ShloMosaic.Lib.Claim

@[expose] public section

set_option maxHeartbeats 8000000
-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The run's pieces for output 26 tile its block (2 stores of `S1x1x224x224`, checked by the kernel's evaluation: Lib/Ring.lean `Piece.tiledL`, linear in the pieces, through a loop's `@[irreducible]` trip theorem too), so they cover it. -/
theorem cover0_A_26 (c : Dev nD) (i : grid0.Coords) (arg1 : Memref sig .tc .vmem S1x256x256 .f32) (harg1 : arg1.IsWhole) (arg2 : Memref sig .tc .vmem S1x48x3 .f32) (harg2 : arg2.IsWhole) (arg3 : Memref sig .tc .vmem S256x48 .f32) (harg3 : arg3.IsWhole) (arg4 : Memref sig .tc .vmem S1x48 .f32) (harg4 : arg4.IsWhole) (arg5 : Memref sig .tc .vmem S3x48 .f32) (harg5 : arg5.IsWhole) (arg6 : Memref sig .tc .vmem S1x48 .f32) (harg6 : arg6.IsWhole) (arg7 : Memref sig .tc .vmem S6x1x48 .f32) (harg7 : arg7.IsWhole) (arg8 : Memref sig .tc .vmem S6x1x48 .f32) (harg8 : arg8.IsWhole) (arg9 : Memref sig .tc .vmem S6x48x144 .f32) (harg9 : arg9.IsWhole) (arg10 : Memref sig .tc .vmem S6x1x144 .f32) (harg10 : arg10.IsWhole) (arg11 : Memref sig .tc .vmem S6x48x48 .f32) (harg11 : arg11.IsWhole) (arg12 : Memref sig .tc .vmem S6x1x48 .f32) (harg12 : arg12.IsWhole) (arg13 : Memref sig .tc .vmem S6x1x48 .f32) (harg13 : arg13.IsWhole) (arg14 : Memref sig .tc .vmem S6x1x48 .f32) (harg14 : arg14.IsWhole) (arg15 : Memref sig .tc .vmem S6x48x192 .f32) (harg15 : arg15.IsWhole) (arg16 : Memref sig .tc .vmem S6x1x192 .f32) (harg16 : arg16.IsWhole) (arg17 : Memref sig .tc .vmem S6x192x48 .f32) (harg17 : arg17.IsWhole) (arg18 : Memref sig .tc .vmem S6x1x48 .f32) (harg18 : arg18.IsWhole) (arg19 : Memref sig .tc .vmem S48x48 .f32) (harg19 : arg19.IsWhole) (arg20 : Memref sig .tc .vmem S48x48 .f32) (harg20 : arg20.IsWhole) (arg21 : Memref sig .tc .vmem S1x48 .f32) (harg21 : arg21.IsWhole) (arg22 : Memref sig .tc .vmem S1x48 .f32) (harg22 : arg22.IsWhole) (arg23 : Memref sig .tc .vmem S1x48 .f32) (harg23 : arg23.IsWhole) (arg24 : Memref sig .tc .vmem S1x48 .f32) (harg24 : arg24.IsWhole) (arg25 : Memref sig .tc .vmem S256x2304 .f32) (harg25 : arg25.IsWhole) (arg26 : Memref sig .tc .vmem S1x48 .f32) (harg26 : arg26.IsWhole) (arg27 : Memref sig .tc .vmem S1x2x224x224 .f32) (harg27 : arg27.IsWhole) (arg28 : Memref sig .tc .vmem S8x128 .f32) (harg28 : arg28.IsWhole)
    (x0 : Vec F S1x256x256 .f32) (x1 : Vec F S1x48x3 .f32) (x2 : Vec F S256x48 .f32) (x3 : Vec F S1x48 .f32) (x4 : Vec F S3x48 .f32) (x5 : Vec F S1x48 .f32) (x6 : Vec F S6x1x48 .f32) (x7 : Vec F S6x1x48 .f32) (x8 : Vec F S6x48x144 .f32) (x9 : Vec F S6x1x144 .f32) (x10 : Vec F S6x48x48 .f32) (x11 : Vec F S6x1x48 .f32) (x12 : Vec F S6x1x48 .f32) (x13 : Vec F S6x1x48 .f32) (x14 : Vec F S6x48x192 .f32) (x15 : Vec F S6x1x192 .f32) (x16 : Vec F S6x192x48 .f32) (x17 : Vec F S6x1x48 .f32) (x18 : Vec F S48x48 .f32) (x19 : Vec F S48x48 .f32) (x20 : Vec F S1x48 .f32) (x21 : Vec F S1x48 .f32) (x22 : Vec F S1x48 .f32) (x23 : Vec F S1x48 .f32) (x24 : Vec F S256x2304 .f32) (x25 : Vec F S1x48 .f32) (y : S1x2x224x224.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22 x23 x24 x25).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22 x23 x24 x25).1 S1x1x224x224.size (by sl_kernel_rfl) y

/-- What the run leaves in output 26's staging buffer: its pieces read back over junk. -/
def out0_A_26 (c : Dev nD) (i : grid0.Coords) (arg1 : Memref sig .tc .vmem S1x256x256 .f32) (harg1 : arg1.IsWhole) (arg2 : Memref sig .tc .vmem S1x48x3 .f32) (harg2 : arg2.IsWhole) (arg3 : Memref sig .tc .vmem S256x48 .f32) (harg3 : arg3.IsWhole) (arg4 : Memref sig .tc .vmem S1x48 .f32) (harg4 : arg4.IsWhole) (arg5 : Memref sig .tc .vmem S3x48 .f32) (harg5 : arg5.IsWhole) (arg6 : Memref sig .tc .vmem S1x48 .f32) (harg6 : arg6.IsWhole) (arg7 : Memref sig .tc .vmem S6x1x48 .f32) (harg7 : arg7.IsWhole) (arg8 : Memref sig .tc .vmem S6x1x48 .f32) (harg8 : arg8.IsWhole) (arg9 : Memref sig .tc .vmem S6x48x144 .f32) (harg9 : arg9.IsWhole) (arg10 : Memref sig .tc .vmem S6x1x144 .f32) (harg10 : arg10.IsWhole) (arg11 : Memref sig .tc .vmem S6x48x48 .f32) (harg11 : arg11.IsWhole) (arg12 : Memref sig .tc .vmem S6x1x48 .f32) (harg12 : arg12.IsWhole) (arg13 : Memref sig .tc .vmem S6x1x48 .f32) (harg13 : arg13.IsWhole) (arg14 : Memref sig .tc .vmem S6x1x48 .f32) (harg14 : arg14.IsWhole) (arg15 : Memref sig .tc .vmem S6x48x192 .f32) (harg15 : arg15.IsWhole) (arg16 : Memref sig .tc .vmem S6x1x192 .f32) (harg16 : arg16.IsWhole) (arg17 : Memref sig .tc .vmem S6x192x48 .f32) (harg17 : arg17.IsWhole) (arg18 : Memref sig .tc .vmem S6x1x48 .f32) (harg18 : arg18.IsWhole) (arg19 : Memref sig .tc .vmem S48x48 .f32) (harg19 : arg19.IsWhole) (arg20 : Memref sig .tc .vmem S48x48 .f32) (harg20 : arg20.IsWhole) (arg21 : Memref sig .tc .vmem S1x48 .f32) (harg21 : arg21.IsWhole) (arg22 : Memref sig .tc .vmem S1x48 .f32) (harg22 : arg22.IsWhole) (arg23 : Memref sig .tc .vmem S1x48 .f32) (harg23 : arg23.IsWhole) (arg24 : Memref sig .tc .vmem S1x48 .f32) (harg24 : arg24.IsWhole) (arg25 : Memref sig .tc .vmem S256x2304 .f32) (harg25 : arg25.IsWhole) (arg26 : Memref sig .tc .vmem S1x48 .f32) (harg26 : arg26.IsWhole) (arg27 : Memref sig .tc .vmem S1x2x224x224 .f32) (harg27 : arg27.IsWhole) (arg28 : Memref sig .tc .vmem S8x128 .f32) (harg28 : arg28.IsWhole)
    (x0 : Vec F S1x256x256 .f32) (x1 : Vec F S1x48x3 .f32) (x2 : Vec F S256x48 .f32) (x3 : Vec F S1x48 .f32) (x4 : Vec F S3x48 .f32) (x5 : Vec F S1x48 .f32) (x6 : Vec F S6x1x48 .f32) (x7 : Vec F S6x1x48 .f32) (x8 : Vec F S6x48x144 .f32) (x9 : Vec F S6x1x144 .f32) (x10 : Vec F S6x48x48 .f32) (x11 : Vec F S6x1x48 .f32) (x12 : Vec F S6x1x48 .f32) (x13 : Vec F S6x1x48 .f32) (x14 : Vec F S6x48x192 .f32) (x15 : Vec F S6x1x192 .f32) (x16 : Vec F S6x192x48 .f32) (x17 : Vec F S6x1x48 .f32) (x18 : Vec F S48x48 .f32) (x19 : Vec F S48x48 .f32) (x20 : Vec F S1x48 .f32) (x21 : Vec F S1x48 .f32) (x22 : Vec F S1x48 .f32) (x23 : Vec F S1x48 .f32) (x24 : Vec F S256x2304 .f32) (x25 : Vec F S1x48 .f32) : Vec F S1x2x224x224 .f32 :=
  VO0_26.read (Elt F) (VO0_26.writes (Elt F) VO0_26.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22 x23 x24 x25).1)

/-! ## What the outputs hold after each point -/

/-- What the outputs' staging buffers hold after the body at point `t`: the run's contents at
    the point's memrefs and input blocks. -/
def outsAt0 (c : Dev nD) (t : Fin cfg0.N) : Vec F S1x2x224x224 .f32 :=
  out0_A_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => (outsAt0 m c t)
    | ⟨_ + 27, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t))

set_option maxHeartbeats 2800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26]
  rw [show (dats m 0 c).Φ t.castSucc = Pipeline.ΦA spec0 c from rfl, PhiA0_eq]
  unfold outsAt0
  unfold out0_A_26
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexists _; iexact H26
  isplitl [HS0]; · iexact HS0
  iintro ⟨H0, H1, H2, H3, H4, H5, H6, H7, H8, H9, H10, H11, H12, H13, H14, H15, H16, H17, H18, H19, H20, H21, H22, H23, H24, H25, ⟨%e26, H26⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  unfold owns; iexists _; isplitr
  swap; · iexact H26
  ipureintro; exact View.read_writes_of_cover _ _ _ _ _ (cover0_A_26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26))
      ∧ r.2.sem = fun _ => 0) :=
  θ_run_and (unchanged m ρ) ((θ_run defs _ _).mono (fun _ h => h.2) (run_main_quiescent m ρ))

end Cert.KernelIdeal.Gen

end
-- ==== Proof.Frames.lean ====
/- The frames and the idealization: each program runs to its end, leaves its arguments as they were and every
   semaphore at zero; and the two literals the ideal kernel names are the numbers they stand for. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Launch.KernelFrame
public import proofs.«01_k».proof.Proof.Launch.KernelIdealFrame
public import proofs.«01_k».proof.Proof.Gen.ReferenceIdeal.Run
public import Idealize.ShloMosaic.Lib.Quiescent

@[expose] public section

noncomputable section

namespace Cert.Proof

open Idealize.ShloMosaic Idealize.SL.Sem

/-- The kernel runs, and ends with its arguments unchanged and every semaphore at zero. -/
theorem frame_p : quiescent_Kernel := fun m ρ _ => Cert.Kernel.Gen.frame m ρ

/-- The ideal kernel runs, and ends with its arguments unchanged and every semaphore at zero. -/
theorem frame_pi : quiescent_KernelIdeal := fun m ρ _ => Cert.KernelIdeal.Gen.frame m ρ

/-- The ideal reference runs, and ends with its arguments unchanged and every semaphore at zero. -/
theorem frame_ri : quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The two named numbers: 1/48, by which the layer norms average, and 1/(2 log 2), by which the scores are
    scaled before the power of two. -/
theorem preserves : preserves_Kernel_KernelIdeal :=
  ⟨IdealRules.named_const.statement Cert.KernelIdeal.κ "inv_48" .f32 0x3CAAAAAB#32 ((1 / 48 : ℝ) : EReal) rfl,
   IdealRules.named_const.statement Cert.KernelIdeal.κ "half_log2_e" .f32 0x3F38AA3B#32
    (((2 * (Real.log 2))⁻¹ : ℝ) : EReal) rfl⟩

end Cert.Proof

end
-- ==== Proof.Launch.KernelIdealValue.lean ====
/- SET-UP of the launch of `KernelIdeal`: the run read at the output, block by block.
   It follows the library's own text for a kernel of one case. -/
module

public import proofs.«01_k».proof.Proof.Launch.KernelIdealFrame
public import Idealize.ShloMosaic.Lib.Pipeline.Value

@[expose] public section

set_option maxHeartbeats 8000000

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 26's array: the run's contents for that window after the body (`Gen.outsAt0`), read through the window's block. -/
theorem flushed26 (c : Dev nD) (t : Fin cfg0.N) :
    (dats m 0 c).flushed 26 t = (cfg0.win 26).cut (grid0.coords t) (outsAt0 m c t) := by
  show (cfg0.win 26).cut (grid0.coords t) ((dats m 0 c).after 26 t) = _
  rw [after0_26]

/-- … so at a point where case A runs, what its write-back would write is that case's NAMED TERM for the window (`Gen.out0_A_26`: the pieces
    its run found, read back) at the point's memrefs and input blocks, and for an output the case reads back what the point before left (`Gen.outsAt0` at `t - 1`) — the kernel's one case, `Gen.outsAt0` by definition. -/
theorem flushed26_A (c : Dev nD) (t : Fin cfg0.N) :
    (dats m 0 c).flushed 26 t = (cfg0.win 26).cut (grid0.coords t) (out0_A_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)) := by
  simp only [flushed26, outsAt0]

/-- The index map sends distinct grid points to distinct block indices (decided over the 32 points). -/
theorem idx_inj26 : ∀ t t' : Fin cfg0.N, win0_26.index t = win0_26.index t' → t = t' :=
  (by decide +kernel : ∀ t t' : Fin grid0.N, win0_26.index t = win0_26.index t' → t = t')

/-- So two flushing points' blocks share no array index (Lib/Pipeline/Cells.lean `Window.disjoint_blk`). -/
theorem disjoint26 : ∀ t t' : Fin cfg0.N, (cfg0.win 26).flush t = true → (cfg0.win 26).flush t' = true → t ≠ t' →
    Disjoint ((cfg0.win 26).blk t).view.set ((cfg0.win 26).blk t').view.set :=
  fun t t' _ _ hne => (cfg0.win 26).disjoint_blk fun h => hne (idx_inj26 t t' h)

/-- BLOCK `t` OF THE FINAL ARRAY, read back through the window, is what point `t` wrote back (`flushed26`), for every
    point that writes back: no other point's block meets it. -/
theorem blocks26 (c : Dev nD) (t : Fin cfg0.N) (hf : (cfg0.win 26).flush t = true) :
    ((cfg0.win 26).blk t).view.read (Elt F) ((dats m 0 c).arrAt 26 cfg0.N) = (dats m 0 c).flushed 26 t :=
  (dats m 0 c).read_blk_arrAt_eq_flushed 26 disjoint26 cfg0.N t t.isLt hf

/-- An index that no flushing point's block covers keeps output window 26's array contents at region entry. -/
theorem entry26 (c : Dev nD) (i : S32x2x224x224.Idx) (h : ∀ t : Fin cfg0.N, (cfg0.win 26).flush t = true → i ∉ ((cfg0.win 26).blk t).view.set) :
    (dats m 0 c).arrAt 26 cfg0.N i = V m c (Pipeline.arrRef spec0 26) i := by
  rw [(dats m 0 c).arrAt_apply_of_forall_not_mem 26 cfg0.N i (fun t _ hf => h t hf), A_eq]

/-- After the frame run, output window 26's array is `(dats m 0 c).arrAt 26 N`. -/
theorem post26 (r : PUnit × MemSt nD τ sig (Elt F)) (h : Pipeline.FramePost cfgs (dats m) 0 (V m) r) (c : Dev nD) :
    r.2.mem ((c : Thread nD τ).loc main_v24) = (dats m 0 c).arrAt 26 cfg0.N :=
  (h c).1 26

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 1 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 1).trans (((dats m 0 c).arrAt_in 1 rfl _).trans ((A_eq m c 1).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: input window 4 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 4).trans (((dats m 0 c).arrAt_in 4 rfl _).trans ((A_eq m c 4).trans (V_main_arg5 m c)))

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: input window 8 stages it and never writes it back. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).1 8).trans (((dats m 0 c).arrAt_in 8 rfl _).trans ((A_eq m c 8).trans (V_main_arg9 m c)))

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: input window 10 stages it and never writes it back. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).1 10).trans (((dats m 0 c).arrAt_in 10 rfl _).trans ((A_eq m c 10).trans (V_main_arg11 m c)))

/-- After the frame run, argument `main_arg12` is as launched: no window stages it, and the run leaves the region's other buffers as they were. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- After the frame run, argument `main_arg13` is as launched: no window stages it, and the run leaves the region's other buffers as they were. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

/-- After the frame run, argument `main_arg14` is as launched: no window stages it, and the run leaves the region's other buffers as they were. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

/-- After the frame run, argument `main_arg15` is as launched: input window 14 stages it and never writes it back. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).1 14).trans (((dats m 0 c).arrAt_in 14 rfl _).trans ((A_eq m c 14).trans (V_main_arg15 m c)))

/-- After the frame run, argument `main_arg16` is as launched: no window stages it, and the run leaves the region's other buffers as they were. -/
theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).2 main_arg16 (Pipeline.mem_restRefs_of main_arg16 (by decide) (by decide))).trans (V_main_arg16 m c)

/-- After the frame run, argument `main_arg17` is as launched: input window 16 stages it and never writes it back. -/
theorem kept_main_arg17 (r : PUnit × MemSt nD τ sig (Elt F)) (h : Pipeline.FramePost cfgs (dats m) 0 (V m) r) (c : Dev nD) :
    r.2.mem ((c : Thread nD τ).loc main_arg17) = m ((c : Thread nD τ).loc main_arg17) :=
  ((h c).1 16).trans (((dats m 0 c).arrAt_in 16 rfl _).trans ((A_eq m c 16).trans (V_main_arg17 m c)))

/-- After the frame run, argument `main_arg18` is as launched: no window stages it, and the run leaves the region's other buffers as they were. -/
theorem kept_main_arg18 (r : PUnit × MemSt nD τ sig (Elt F)) (h : Pipeline.FramePost cfgs (dats m) 0 (V m) r) (c : Dev nD) :
    r.2.mem ((c : Thread nD τ).loc main_arg18) = m ((c : Thread nD τ).loc main_arg18) :=
  ((h c).2 main_arg18 (Pipeline.mem_restRefs_of main_arg18 (by decide) (by decide))).trans (V_main_arg18 m c)

/-- After the frame run, argument `main_arg19` is as launched: input window 18 stages it and never writes it back. -/
theorem kept_main_arg19 (r : PUnit × MemSt nD τ sig (Elt F)) (h : Pipeline.FramePost cfgs (dats m) 0 (V m) r) (c : Dev nD) :
    r.2.mem ((c : Thread nD τ).loc main_arg19) = m ((c : Thread nD τ).loc main_arg19) :=
  ((h c).1 18).trans (((dats m 0 c).arrAt_in 18 rfl _).trans ((A_eq m c 18).trans (V_main_arg19 m c)))

/-- After the frame run, argument `main_arg20` is as launched: input window 19 stages it and never writes it back. -/
theorem kept_main_arg20 (r : PUnit × MemSt nD τ sig (Elt F)) (h : Pipeline.FramePost cfgs (dats m) 0 (V m) r) (c : Dev nD) :
    r.2.mem ((c : Thread nD τ).loc main_arg20) = m ((c : Thread nD τ).loc main_arg20) :=
  ((h c).1 19).trans (((dats m 0 c).arrAt_in 19 rfl _).trans ((A_eq m c 19).trans (V_main_arg20 m c)))

/-- After the frame run, argument `main_arg21` is as launched: no window stages it, and the run leaves the region's other buffers as they were. -/
theorem kept_main_arg21 (r : PUnit × MemSt nD τ sig (Elt F)) (h : Pipeline.FramePost cfgs (dats m) 0 (V m) r) (c : Dev nD) :
    r.2.mem ((c : Thread nD τ).loc main_arg21) = m ((c : Thread nD τ).loc main_arg21) :=
  ((h c).2 main_arg21 (Pipeline.mem_restRefs_of main_arg21 (by decide) (by decide))).trans (V_main_arg21 m c)

/-- After the frame run, argument `main_arg22` is as launched: no window stages it, and the run leaves the region's other buffers as they were. -/
theorem kept_main_arg22 (r : PUnit × MemSt nD τ sig (Elt F)) (h : Pipeline.FramePost cfgs (dats m) 0 (V m) r) (c : Dev nD) :
    r.2.mem ((c : Thread nD τ).loc main_arg22) = m ((c : Thread nD τ).loc main_arg22) :=
  ((h c).2 main_arg22 (Pipeline.mem_restRefs_of main_arg22 (by decide) (by decide))).trans (V_main_arg22 m c)

/-- After the frame run, argument `main_arg23` is as launched: no window stages it, and the run leaves the region's other buffers as they were. -/
theorem kept_main_arg23 (r : PUnit × MemSt nD τ sig (Elt F)) (h : Pipeline.FramePost cfgs (dats m) 0 (V m) r) (c : Dev nD) :
    r.2.mem ((c : Thread nD τ).loc main_arg23) = m ((c : Thread nD τ).loc main_arg23) :=
  ((h c).2 main_arg23 (Pipeline.mem_restRefs_of main_arg23 (by decide) (by decide))).trans (V_main_arg23 m c)

/-- After the frame run, argument `main_arg24` is as launched: no window stages it, and the run leaves the region's other buffers as they were. -/
theorem kept_main_arg24 (r : PUnit × MemSt nD τ sig (Elt F)) (h : Pipeline.FramePost cfgs (dats m) 0 (V m) r) (c : Dev nD) :
    r.2.mem ((c : Thread nD τ).loc main_arg24) = m ((c : Thread nD τ).loc main_arg24) :=
  ((h c).2 main_arg24 (Pipeline.mem_restRefs_of main_arg24 (by decide) (by decide))).trans (V_main_arg24 m c)

/-- After the frame run, argument `main_arg25` is as launched: no window stages it, and the run leaves the region's other buffers as they were. -/
theorem kept_main_arg25 (r : PUnit × MemSt nD τ sig (Elt F)) (h : Pipeline.FramePost cfgs (dats m) 0 (V m) r) (c : Dev nD) :
    r.2.mem ((c : Thread nD τ).loc main_arg25) = m ((c : Thread nD τ).loc main_arg25) :=
  ((h c).2 main_arg25 (Pipeline.mem_restRefs_of main_arg25 (by decide) (by decide))).trans (V_main_arg25 m c)

/-- After the frame run, argument `main_arg26` is as launched: no window stages it, and the run leaves the region's other buffers as they were. -/
theorem kept_main_arg26 (r : PUnit × MemSt nD τ sig (Elt F)) (h : Pipeline.FramePost cfgs (dats m) 0 (V m) r) (c : Dev nD) :
    r.2.mem ((c : Thread nD τ).loc main_arg26) = m ((c : Thread nD τ).loc main_arg26) :=
  ((h c).2 main_arg26 (Pipeline.mem_restRefs_of main_arg26 (by decide) (by decide))).trans (V_main_arg26 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v24) = (dats m 0 c).arrAt 26 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25)
      ∧ r.2.mem ((c : Thread nD τ).loc main_arg26) = m ((c : Thread nD τ).loc main_arg26) :=
  (θ_run defs _ _).mono (fun r h c => ⟨post26 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c,
      kept_main_arg18 m r h c,
      kept_main_arg19 m r h c,
      kept_main_arg20 m r h c,
      kept_main_arg21 m r h c,
      kept_main_arg22 m r h c,
      kept_main_arg23 m r h c,
      kept_main_arg24 m r h c,
      kept_main_arg25 m r h c,
      kept_main_arg26 m r h c⟩)
    (run_main m ρ)

end Cert.KernelIdeal.Value

end
-- ==== Proof.Real.lean ====
/-
  Extended reals that are real numbers: how the operations of the ideal instance act on them, and the float literals
  that the two programs spell, as real numbers.
-/
module

public import Idealize.ShloMosaic.Lib.Pointwise
public import Mathlib.Analysis.SpecialFunctions.Pow.Real

@[expose] public section

noncomputable section

namespace Cert.Spec

open Idealize.ShloMosaic

/-- A finite sum of real numbers, taken in the extended reals, is their sum. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Dividing one real number by another that is not zero. -/
theorem div_real (x : ℝ) {y : ℝ} (h : y ≠ 0) : Ideal.div (x : EReal) (y : EReal) = ((x / y : ℝ) : EReal) := by
  rw [Ideal.div_coe h, ← EReal.coe_mul, mul_one_div]

/-- The root of a real number that is not negative. -/
theorem sqrt_real {x : ℝ} (h : 0 ≤ x) : Ideal.sqrt (x : EReal) = ((Real.sqrt x : ℝ) : EReal) := by
  rw [Ideal.sqrt_coe, if_neg (not_lt.2 h)]

/-- The reciprocal root of a positive real number. -/
theorem rsqrt_real {x : ℝ} (h : 0 < x) : Ideal.rsqrt (x : EReal) = (((Real.sqrt x)⁻¹ : ℝ) : EReal) := by
  rw [Ideal.rsqrt_coe, if_neg (not_lt.2 h.le), if_neg h.ne']

/-- The larger of two real numbers. -/
theorem max_real (x y : ℝ) : max (x : EReal) (y : EReal) = ((max x y : ℝ) : EReal) :=
  (EReal.coe_strictMono.monotone.map_max).symm

/-- The smaller of two real numbers. -/
theorem min_real (x y : ℝ) : min (x : EReal) (y : EReal) = ((min x y : ℝ) : EReal) :=
  (EReal.coe_strictMono.monotone.map_min).symm

/-- The choice between two real numbers. -/
theorem ite_real (p : Prop) [Decidable p] (x y : ℝ) :
    (if p then (x : EReal) else (y : EReal)) = ((if p then x else y : ℝ) : EReal) := by
  split <;> rfl

/-- A real number or zero. -/
theorem ite_real_zero (p : Prop) [Decidable p] (x : ℝ) :
    (if p then (x : EReal) else (0 : EReal)) = ((if p then x else 0 : ℝ) : EReal) := by
  split <;> rfl

/-- The error function on the real numbers. -/
def erfR (x : ℝ) : ℝ := 2 / Real.sqrt Real.pi * ∫ t in (0 : ℝ)..x, Real.exp (-(t ^ 2))

theorem erf_real (x : ℝ) : Ideal.erf (x : EReal) = ((erfR x : ℝ) : EReal) := Ideal.erf_coe x

/-- The stabilizing term under a layer norm's root, as its float literal spells it. -/
def eps : ℝ := 10995116 / 1099511627776

theorem eps_pos : 0 < eps := by unfold eps; norm_num

/-- The float nearest to the reciprocal of the root of two. -/
def invRoot2 : ℝ := 11863283 / 16777216

/-- The float nearest to the circle's number. -/
def piF : ℝ := 13176795 / 4194304

theorem piF_pos : 0 < piF := by unfold piF; norm_num

theorem lit_eps : Ideal.ofBits .f32 0x3727C5AC#32 = ((eps : ℝ) : EReal) := by
  unfold eps; simp [Ideal.ofBits, Ideal.ieee, -EReal.coe_mul]; norm_num
theorem lit_invRoot2 : Ideal.ofBits .f32 0x3F3504F3#32 = ((invRoot2 : ℝ) : EReal) := by
  unfold invRoot2; simp [Ideal.ofBits, Ideal.ieee, -EReal.coe_mul]; norm_num
theorem lit_pi : Ideal.ofBits .f32 0x40490FDB#32 = ((piF : ℝ) : EReal) := by
  unfold piF; simp [Ideal.ofBits, Ideal.ieee, -EReal.coe_mul]; norm_num
theorem lit_48 : Ideal.ofBits .f32 0x42400000#32 = ((48 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_2 : Ideal.ofBits .f32 0x40000000#32 = ((2 : ℝ) : EReal) := by
  simp [Ideal.ofBits, Ideal.ieee, -EReal.coe_mul]; norm_num
theorem lit_4 : Ideal.ofBits .f32 0x40800000#32 = ((4 : ℝ) : EReal) := by
  simp [Ideal.ofBits, Ideal.ieee, -EReal.coe_mul]; norm_num
theorem lit_23 : Ideal.ofBits .f32 0x41B80000#32 = ((23 : ℝ) : EReal) := by
  simp [Ideal.ofBits, Ideal.ieee, -EReal.coe_mul]; norm_num
theorem lit_ninf : Ideal.ofBits .f32 0xFF800000#32 = (⊥ : EReal) := by
  simp [Ideal.ofBits, Ideal.ieee]
theorem lit_inf : Ideal.ofBits .f32 0x7F800000#32 = (⊤ : EReal) := by
  simp [Ideal.ofBits, Ideal.ieee]
theorem one_real : (1 : EReal) = ((1 : ℝ) : EReal) := rfl
theorem zero_real : (0 : EReal) = ((0 : ℝ) : EReal) := rfl

/-- Two to the power of a number times half the binary logarithm of e is the exponential of its half. -/
theorem exp2_half (s : ℝ) : Ideal.exp2 (((s * (2 * Real.log 2)⁻¹ : ℝ)) : EReal) = ((Real.exp (s * (1 / 2)) : ℝ) : EReal) := by
  rw [Ideal.exp2_coe]
  congr 1
  show (2 : ℝ) ^ (s * (2 * Real.log 2)⁻¹) = _
  rw [Real.rpow_def_of_pos (by norm_num)]
  congr 1
  have h : Real.log 2 ≠ 0 := (Real.log_pos (by norm_num)).ne'
  field_simp

end Cert.Spec

end
-- ==== Proof.Spec.lean ====
/-
  The network over the real numbers: what a layer norm, a linear map, the exact gelu, the attention and one layer
  compute of one image's features. Features are numbered by the natural numbers, so that rows past the last token
  are allowed and ignored.
-/
module

public import proofs.«01_k».proof.Proof.Real

@[expose] public section

noncomputable section

namespace Cert.Spec

/-- The mean of 48 numbers. -/
def mean48 (x : Fin 48 → ℝ) : ℝ := (∑ k, x k) / 48

/-- The mean square distance of 48 numbers from their mean. -/
def var48 (x : Fin 48 → ℝ) : ℝ := (∑ k, (x k - mean48 x) * (x k - mean48 x)) / 48

theorem var48_nonneg (x : Fin 48 → ℝ) : 0 ≤ var48 x :=
  div_nonneg (Finset.sum_nonneg fun _ _ => mul_self_nonneg _) (by norm_num)

theorem var48_eps_pos (x : Fin 48 → ℝ) : 0 < var48 x + eps := add_pos_of_nonneg_of_pos (var48_nonneg x) eps_pos

/-- The layer norm of 48 numbers with scale `s` and shift `b`. -/
def lnS (s b x : Fin 48 → ℝ) (d : Fin 48) : ℝ := (x d - mean48 x) / Real.sqrt (var48 x + eps) * s d + b d

/-- The linear map with weights `w` and shift `b`. -/
def linS {n m : ℕ} (w : Fin n → Fin m → ℝ) (b : Fin m → ℝ) (x : Fin n → ℝ) (j : Fin m) : ℝ := (∑ k, x k * w k j) + b j

/-- The exact gelu. -/
def geluS (y : ℝ) : ℝ := 1 / 2 * y * (1 + erfR (y * invRoot2))

/-- The product of the query of token `n` and the key of token `m` in head `h`. -/
def scoreS (z : ℕ → Fin 144 → ℝ) (n m : ℕ) (h : Fin 12) : ℝ :=
  ∑ t : Fin 4, z n ⟨4 * h.val + t.val, by omega⟩ * z m ⟨48 + (4 * h.val + t.val), by omega⟩

/-- The weight that token `n` gives to token `m` in head `h`, before it is divided by the weights' sum. -/
def wgtS (z : ℕ → Fin 144 → ℝ) (n m : ℕ) (h : Fin 12) : ℝ := Real.exp (scoreS z n m h * (1 / 2))

theorem wgtS_sum_pos (z : ℕ → Fin 144 → ℝ) (n : ℕ) (h : Fin 12) : 0 < ∑ m : Fin 244, wgtS z n m.val h :=
  Finset.sum_pos (fun _ _ => Real.exp_pos _) ⟨0, Finset.mem_univ _⟩

/-- The head that a feature belongs to. -/
def headOf (c : Fin 48) : Fin 12 := ⟨c.val / 4, by omega⟩

/-- The attention's output for token `n`: the weighted mean of the values of the 244 tokens. -/
def attS (z : ℕ → Fin 144 → ℝ) (n : ℕ) (c : Fin 48) : ℝ :=
  (∑ m : Fin 244, wgtS z n m.val (headOf c) * z m.val ⟨96 + c.val, by omega⟩)
    / ∑ m : Fin 244, wgtS z n m.val (headOf c)

/-- A sum over 48 features that keeps one head's is a sum over that head's four. -/
theorem sum_head (h : Fin 12) (f : Fin 48 → ℝ) :
    ∑ x : Fin 48, (if h.val = x.val / 4 then f x else 0) = ∑ t : Fin 4, f ⟨4 * h.val + t.val, by omega⟩ := by
  rw [← (finProdFinEquiv (m := 12) (n := 4)).sum_comp, Fintype.sum_prod_type, Finset.sum_eq_single h]
  · refine Finset.sum_congr rfl fun t _ => ?_
    have e : finProdFinEquiv (h, t) = (⟨4 * h.val + t.val, by omega⟩ : Fin (12 * 4)) := Fin.ext (by simp [finProdFinEquiv]; omega)
    rw [e, if_pos (by simp; omega)]
  · intro b _ hb
    refine Finset.sum_eq_zero fun t _ => if_neg ?_
    intro e
    apply hb
    have := t.isLt
    simp [finProdFinEquiv] at e
    exact Fin.ext (by omega)
  · intro hh; exact absurd (Finset.mem_univ _) hh

/-- A sum over 256 rows that keeps the tokens' is a sum over the 244 tokens. -/
theorem sum_tokens (f : ℕ → ℝ) : ∑ m : Fin 256, (if m.val < 244 then f m.val else 0) = ∑ m : Fin 244, f m.val := by
  rw [Fin.sum_univ_eq_sum_range (fun m => if m < 244 then f m else 0) 256, Fin.sum_univ_eq_sum_range f 244,
    show (256 : ℕ) = 244 + 12 from rfl, Finset.sum_range_add, Finset.sum_eq_zero (s := Finset.range 12), add_zero]
  · exact Finset.sum_congr rfl fun m hm => if_pos (Finset.mem_range.1 hm)
  · intro m _; exact if_neg (by omega)

/-- The parameters of one layer. -/
structure LayerP where
  n1s : Fin 48 → ℝ
  n1b : Fin 48 → ℝ
  qw : Fin 48 → Fin 144 → ℝ
  qb : Fin 144 → ℝ
  aw : Fin 48 → Fin 48 → ℝ
  ab : Fin 48 → ℝ
  n2s : Fin 48 → ℝ
  n2b : Fin 48 → ℝ
  w1 : Fin 48 → Fin 192 → ℝ
  b1 : Fin 192 → ℝ
  w2 : Fin 192 → Fin 48 → ℝ
  b2 : Fin 48 → ℝ

/-- Queries, keys and values of token `n`. -/
def qkvS (P : LayerP) (f : ℕ → Fin 48 → ℝ) (n : ℕ) : Fin 144 → ℝ := linS P.qw P.qb (lnS P.n1s P.n1b (f n))

/-- A layer's first half: the features and the attention's output added. -/
def midS (P : LayerP) (f : ℕ → Fin 48 → ℝ) (n : ℕ) (d : Fin 48) : ℝ :=
  f n d + linS P.aw P.ab (attS (qkvS P f) n) d

/-- A layer's second half on one token. -/
def mlpS (P : LayerP) (g : Fin 48 → ℝ) (d : Fin 48) : ℝ :=
  g d + linS P.w2 P.b2 (fun j => geluS (linS P.w1 P.b1 (lnS P.n2s P.n2b g) j)) d

/-- One layer. -/
def layerS (P : LayerP) (f : ℕ → Fin 48 → ℝ) (n : ℕ) : Fin 48 → ℝ := mlpS P (midS P f n)

end Cert.Spec

end
-- ==== Proof.Spec2.lean ====
/-
  The network's ends over the real numbers: how an image and its points become features, what the decoder makes of the
  features' two projections, and the Gaussian maps that are drawn from it.
-/
module

public import proofs.«01_k».proof.Proof.Spec

@[expose] public section

noncomputable section

namespace Cert.Spec

open Idealize.ShloMosaic

/-- The first features: 196 patches' products with the convolution's weights, then 48 points' with theirs, then nothing. -/
def feat0 (pa : ℕ → Fin 256 → ℝ) (cw : Fin 256 → Fin 48 → ℝ) (cb : Fin 48 → ℝ) (pt : ℕ → Fin 3 → ℝ) (lw : Fin 3 → Fin 48 → ℝ)
    (lb : Fin 48 → ℝ) (n : ℕ) (d : Fin 48) : ℝ :=
  if n < 196 then (∑ k, pa n k * cw k d) + cb d else if n < 244 then (∑ k, pt (n - 196) k * lw k d) + lb d else 0

/-- The sum of the squares of 48 numbers. -/
def sq48 (x : Fin 48 → ℝ) : ℝ := ∑ k, x k * x k

theorem sq48_nonneg (x : Fin 48 → ℝ) : 0 ≤ sq48 x := Finset.sum_nonneg fun _ _ => mul_self_nonneg _

theorem sq48_zero {x : Fin 48 → ℝ} (h : sq48 x = 0) (d : Fin 48) : x d = 0 :=
  mul_self_eq_zero.1 ((Finset.sum_eq_zero_iff_of_nonneg fun _ _ => mul_self_nonneg _).1 h d (Finset.mem_univ _))

/-- A vector of 48 numbers divided by its length; the zero vector stays. -/
def unitS (x : Fin 48 → ℝ) (d : Fin 48) : ℝ := x d / (if 0 < Real.sqrt (sq48 x) then Real.sqrt (sq48 x) else 1)

/-- Multiplying by the reciprocal root of the sum of the squares divides by the length: where the sum is zero, so is
    every number. -/
theorem unit_rsqrt (x : Fin 48 → ℝ) (d : Fin 48) :
    ((x d : ℝ) : EReal) * Ideal.rsqrt ((sq48 x : ℝ) : EReal) = ((unitS x d : ℝ) : EReal) := by
  unfold unitS
  rcases (sq48_nonneg x).lt_or_eq with h | h
  · rw [rsqrt_real h, ← EReal.coe_mul, if_pos (Real.sqrt_pos.2 h), div_eq_mul_inv]
  · rw [sq48_zero h.symm d, EReal.coe_zero, zero_mul, zero_div, EReal.coe_zero]

/-- The decoder's parameters. -/
structure EndP where
  dns : Fin 48 → ℝ
  dnb : Fin 48 → ℝ
  mw : Fin 48 → Fin 48 → ℝ
  pw : Fin 48 → Fin 48 → ℝ
  mns : Fin 48 → ℝ
  mnb : Fin 48 → ℝ
  w : ℕ → Fin 48 → Fin 48 → ℝ
  b : Fin 48 → ℝ

/-- The product of features of token `n` with a matrix, after the decoder's layer norm. -/
def projS (E : EndP) (w : Fin 48 → Fin 48 → ℝ) (f : ℕ → Fin 48 → ℝ) (n : ℕ) (j : Fin 48) : ℝ :=
  ∑ k, lnS E.dns E.dnb (f n) k * w k j

/-- How alike patch `n` and point `j` are. -/
def simS (E : EndP) (f : ℕ → Fin 48 → ℝ) (n : ℕ) (j : Fin 48) : ℝ :=
  ∑ k, unitS (projS E E.mw f n) k * unitS (projS E E.pw f (j.val + 196)) k

/-- What the last linear map reads. -/
def gmS (E : EndP) (f : ℕ → Fin 48 → ℝ) (n : ℕ) (j : Fin 48) : ℝ := geluS (lnS E.mns E.mnb (simS E f n) j)

/-- The variances, between zero and four. -/
def varsS (E : EndP) (f : ℕ → Fin 48 → ℝ) (j : Fin 48) : ℝ :=
  min 4 (max 0 ((∑ n : Fin 196, ∑ i, gmS E f n.val i * E.w n.val i j) + E.b j))

theorem varsS_nonneg (E : EndP) (f : ℕ → Fin 48 → ℝ) (j : Fin 48) : 0 ≤ varsS E f j :=
  le_min (by norm_num) (le_max_left _ _)

section Maps

variable (pr pc : Fin 24 → ℝ) (vv : Fin 24 → ℝ)

/-- A point counts when one of its coordinates is positive. -/
abbrev okS (i : Fin 24) : Prop := 0 < max (pr i) (pc i)

/-- How many of the first points count. -/
def cntS (i : Fin 24) : ℕ := (Finset.univ.filter fun k : Fin 24 => k ≤ i ∧ okS pr pc k).card

/-- The position of a point among those that count. -/
def rankS (i : Fin 24) : Fin 24 := ⟨min 23 (cntS pr pc i - 1), by omega⟩

/-- Twice the square of a point's deviation. -/
def spreadS (i : Fin 24) : ℝ := 2 * (vv (rankS pr pc i) + 4) * (vv (rankS pr pc i) + 4)

theorem spreadS_pos (hv : ∀ i, 0 ≤ vv i) (i : Fin 24) : 0 < spreadS pr pc vv i := by
  have := hv (rankS pr pc i)
  unfold spreadS
  positivity

/-- How many points count. -/
def nvS : ℕ := (Finset.univ.filter fun k : Fin 24 => okS pr pc k).card

/-- The sum of the points' Gaussian maps, divided by how many count. -/
def hS (r c : Fin 224) : ℝ :=
  ∑ i, Real.exp ((0 - ((r.val : ℝ) - pr i) * ((r.val : ℝ) - pr i)) / spreadS pr pc vv i)
    * ((if okS pr pc i then 1 else 0) / (piF * spreadS pr pc vv i * max (nvS pr pc : ℝ) 1))
    * Real.exp ((0 - ((c.val : ℝ) - pc i) * ((c.val : ℝ) - pc i)) / spreadS pr pc vv i)

/-- A map stretched to the numbers from minus one to one. -/
def stretchE (H : Fin 224 → Fin 224 → EReal) (r c : Fin 224) : EReal :=
  Ideal.div ((2 : ℝ) * (H r c - Finset.fold min ⊤ (fun x : Fin 224 × Fin 224 => H x.1 x.2) Finset.univ))
    (if Finset.fold min ⊤ (fun x : Fin 224 × Fin 224 => H x.1 x.2) Finset.univ
          < Finset.fold max ⊥ (fun x : Fin 224 × Fin 224 => H x.1 x.2) Finset.univ then
        Finset.fold max ⊥ (fun x : Fin 224 × Fin 224 => H x.1 x.2) Finset.univ
          - Finset.fold min ⊤ (fun x : Fin 224 × Fin 224 => H x.1 x.2) Finset.univ
      else 1) - 1

/-- One map of the output: zero when no point counts. -/
def outE (r c : Fin 224) : EReal :=
  if 0 < nvS pr pc then stretchE (fun r c => ((hS pr pc vv r c : ℝ) : EReal)) r c else 0

end Maps

end Cert.Spec

end
-- ==== Proof.Spec3.lean ====
/-
  The network as a whole, over real numbers.
-/
module

public import proofs.«01_k».proof.Proof.Spec2

@[expose] public section

noncomputable section

namespace Cert.Spec

open Idealize.ShloMosaic

/-- The network's parameters. -/
structure NetP where
  cw : Fin 256 → Fin 48 → ℝ
  cb : Fin 48 → ℝ
  lw : Fin 3 → Fin 48 → ℝ
  lb : Fin 48 → ℝ
  L : Fin 6 → LayerP
  E : EndP

/-- The features that the six layers make of an image's patches `pa` and points `pt`. -/
def netF (N : NetP) (pa : ℕ → Fin 256 → ℝ) (pt : ℕ → Fin 3 → ℝ) : ℕ → Fin 48 → ℝ :=
  layerS (N.L 5) (layerS (N.L 4) (layerS (N.L 3) (layerS (N.L 2) (layerS (N.L 1) (layerS (N.L 0) (feat0 pa N.cw N.cb pt N.lw N.lb))))))

/-- One entry of the two maps of an image: `p` tells the points' half. -/
def netOut (N : NetP) (pa : ℕ → Fin 256 → ℝ) (pt : ℕ → Fin 3 → ℝ) (p : Fin 2) (r c : Fin 224) : EReal :=
  outE (fun i : Fin 24 => pt (24 * p.val + i.val) 0) (fun i => pt (24 * p.val + i.val) 1)
    (fun i => varsS N.E (netF N pa pt) ⟨24 * p.val + i.val, by omega⟩) r c

end Cert.Spec

end
-- ==== Proof.Arrs.lean ====
/-
  The arrays that the network reads, and the network's real parameters that their entries are.
-/
module

public import proofs.«01_k».proof.Proof.Spec3
public import Idealize.ShloMosaic.Lib.Pointwise

@[expose] public section

noncomputable section

namespace Cert.Spec

open Idealize.ShloMosaic

/-- The arrays: mask, points, and the network's parameters. -/
structure Arrs where
  a1 : FVec Ideal ⟨4, ![32, 1, 224, 224]⟩ .f32
  a2 : FVec Ideal ⟨3, ![32, 48, 3]⟩ .f32
  a3 : FVec Ideal ⟨4, ![48, 1, 16, 16]⟩ .f32
  a4 : FVec Ideal ⟨1, ![48]⟩ .f32
  a5 : FVec Ideal ⟨2, ![3, 48]⟩ .f32
  a6 : FVec Ideal ⟨1, ![48]⟩ .f32
  a7 : FVec Ideal ⟨2, ![6, 48]⟩ .f32
  a8 : FVec Ideal ⟨2, ![6, 48]⟩ .f32
  a9 : FVec Ideal ⟨3, ![6, 48, 144]⟩ .f32
  a10 : FVec Ideal ⟨2, ![6, 144]⟩ .f32
  a11 : FVec Ideal ⟨3, ![6, 48, 48]⟩ .f32
  a12 : FVec Ideal ⟨2, ![6, 48]⟩ .f32
  a13 : FVec Ideal ⟨2, ![6, 48]⟩ .f32
  a14 : FVec Ideal ⟨2, ![6, 48]⟩ .f32
  a15 : FVec Ideal ⟨3, ![6, 48, 192]⟩ .f32
  a16 : FVec Ideal ⟨2, ![6, 192]⟩ .f32
  a17 : FVec Ideal ⟨3, ![6, 192, 48]⟩ .f32
  a18 : FVec Ideal ⟨2, ![6, 48]⟩ .f32
  a19 : FVec Ideal ⟨2, ![48, 48]⟩ .f32
  a20 : FVec Ideal ⟨2, ![48, 48]⟩ .f32
  a21 : FVec Ideal ⟨1, ![48]⟩ .f32
  a22 : FVec Ideal ⟨1, ![48]⟩ .f32
  a23 : FVec Ideal ⟨1, ![48]⟩ .f32
  a24 : FVec Ideal ⟨1, ![48]⟩ .f32
  a25 : FVec Ideal ⟨2, ![9408, 48]⟩ .f32
  a26 : FVec Ideal ⟨1, ![48]⟩ .f32

/-- Every entry is a real number. -/
structure Arrs.IsReal (A : Arrs) : Prop where
  r1 : ∀ j, A.a1 j = ((A.a1 j).toReal : EReal)
  r2 : ∀ j, A.a2 j = ((A.a2 j).toReal : EReal)
  r3 : ∀ j, A.a3 j = ((A.a3 j).toReal : EReal)
  r4 : ∀ j, A.a4 j = ((A.a4 j).toReal : EReal)
  r5 : ∀ j, A.a5 j = ((A.a5 j).toReal : EReal)
  r6 : ∀ j, A.a6 j = ((A.a6 j).toReal : EReal)
  r7 : ∀ j, A.a7 j = ((A.a7 j).toReal : EReal)
  r8 : ∀ j, A.a8 j = ((A.a8 j).toReal : EReal)
  r9 : ∀ j, A.a9 j = ((A.a9 j).toReal : EReal)
  r10 : ∀ j, A.a10 j = ((A.a10 j).toReal : EReal)
  r11 : ∀ j, A.a11 j = ((A.a11 j).toReal : EReal)
  r12 : ∀ j, A.a12 j = ((A.a12 j).toReal : EReal)
  r13 : ∀ j, A.a13 j = ((A.a13 j).toReal : EReal)
  r14 : ∀ j, A.a14 j = ((A.a14 j).toReal : EReal)
  r15 : ∀ j, A.a15 j = ((A.a15 j).toReal : EReal)
  r16 : ∀ j, A.a16 j = ((A.a16 j).toReal : EReal)
  r17 : ∀ j, A.a17 j = ((A.a17 j).toReal : EReal)
  r18 : ∀ j, A.a18 j = ((A.a18 j).toReal : EReal)
  r19 : ∀ j, A.a19 j = ((A.a19 j).toReal : EReal)
  r20 : ∀ j, A.a20 j = ((A.a20 j).toReal : EReal)
  r21 : ∀ j, A.a21 j = ((A.a21 j).toReal : EReal)
  r22 : ∀ j, A.a22 j = ((A.a22 j).toReal : EReal)
  r23 : ∀ j, A.a23 j = ((A.a23 j).toReal : EReal)
  r24 : ∀ j, A.a24 j = ((A.a24 j).toReal : EReal)
  r25 : ∀ j, A.a25 j = ((A.a25 j).toReal : EReal)
  r26 : ∀ j, A.a26 j = ((A.a26 j).toReal : EReal)

variable (A : Arrs)

/-- Layer `p`'s parameters. -/
def Arrs.layer (p : Fin 6) : LayerP where
  n1s := fun d => (A.a7 (ix2 p d)).toReal
  n1b := fun d => (A.a8 (ix2 p d)).toReal
  qw := fun k d => (A.a9 (ix3 p k d)).toReal
  qb := fun d => (A.a10 (ix2 p d)).toReal
  aw := fun k d => (A.a11 (ix3 p k d)).toReal
  ab := fun d => (A.a12 (ix2 p d)).toReal
  n2s := fun d => (A.a13 (ix2 p d)).toReal
  n2b := fun d => (A.a14 (ix2 p d)).toReal
  w1 := fun k d => (A.a15 (ix3 p k d)).toReal
  b1 := fun d => (A.a16 (ix2 p d)).toReal
  w2 := fun k d => (A.a17 (ix3 p k d)).toReal
  b2 := fun d => (A.a18 (ix2 p d)).toReal

/-- The decoder's parameters. -/
def Arrs.dec : EndP where
  dns := fun d => (A.a21 (ix1 d)).toReal
  dnb := fun d => (A.a22 (ix1 d)).toReal
  mw := fun k d => (A.a19 (ix2 k d)).toReal
  pw := fun k d => (A.a20 (ix2 k d)).toReal
  mns := fun d => (A.a23 (ix1 d)).toReal
  mnb := fun d => (A.a24 (ix1 d)).toReal
  w := fun n i j => if h : n < 196 then (A.a25 (ix2 ⟨48 * n + i.val, by omega⟩ j)).toReal else 0
  b := fun d => (A.a26 (ix1 d)).toReal

/-- The network's parameters. -/
def Arrs.net : NetP where
  cw := fun k d => (A.a3 (ix4 d 0 ⟨k.val / 16, by omega⟩ ⟨k.val % 16, by omega⟩)).toReal
  cb := fun d => (A.a4 (ix1 d)).toReal
  lw := fun k d => (A.a5 (ix2 k d)).toReal
  lb := fun d => (A.a6 (ix1 d)).toReal
  L := A.layer
  E := A.dec

/-- Image `b`'s patches: 14 rows of 14 squares of 16 by 16. -/
def Arrs.pa (b : Fin 32) (n : ℕ) (k : Fin 256) : ℝ :=
  if h : n < 196 then (A.a1 (ix4 b 0 ⟨16 * (n / 14) + k.val / 16, by omega⟩ ⟨16 * (n % 14) + k.val % 16, by omega⟩)).toReal else 0

/-- Image `b`'s points. -/
def Arrs.pt (b : Fin 32) (n : ℕ) (k : Fin 3) : ℝ := if h : n < 48 then (A.a2 (ix3 b ⟨n, h⟩ k)).toReal else 0

/-- What the network makes of its arrays. -/
def Arrs.out (b : Fin 32) (p : Fin 2) (r c : Fin 224) : EReal := netOut A.net (A.pa b) (A.pt b) p r c

end Cert.Spec

end
-- ==== Proof.KLayer.lean ====
/-
  One layer of the kernel over the extended reals: where its operands are real numbers, so is what it computes, and
  it is the layer of the network.
-/
module

public import proofs.«01_k».proof.Proof.Spec
public import proofs.«01_k».proof.Proof.Gen.KernelIdeal.Skeleton

@[expose] public section

set_option synthInstance.maxSize 4096

noncomputable section

namespace Cert.KernelIdeal.KV

open Idealize.ShloMosaic Cert.KernelIdeal.Gen Cert.Spec

/-- The kernel's layer norm: means by products with a constant matrix. -/
def kLn (v0 : FVec Ideal S48x48 .f32) (x : FVec Ideal S256x48 .f32) (s b : FVec Ideal S1x48 .f32) : FVec Ideal S256x48 .f32 :=
  have m : FVec Ideal S256x48 .f32 := matmul dot_S256x48_S48x48_S256x48_1_0_0_1_n_n none (truncf .bf16 x bitsLt_bf16_f32)
    (truncf .bf16 v0 bitsLt_bf16_f32) (constant S256x48 .f32 0x00000000#32)
  have d : FVec Ideal S256x48 .f32 := subf x m
  have v : FVec Ideal S256x48 .f32 := matmul dot_S256x48_S48x48_S256x48_1_0_0_1_n_n none (truncf .bf16 (mulf d d) bitsLt_bf16_f32)
    (truncf .bf16 v0 bitsLt_bf16_f32) (constant S256x48 .f32 0x00000000#32)
  have e : FVec Ideal S256x48 .f32 := addf v (broadcast S256x48 (Scalar.ofBits .f32 0x3727C5AC#32))
  addf (mulf (mulf d (rsqrt e)) (broadcastTo S256x48 s broadcasts_S1x48_S256x48)) (broadcastTo S256x48 b broadcasts_S1x48_S256x48)

theorem kLn_apply (v0 : FVec Ideal S48x48 .f32) (x : FVec Ideal S256x48 .f32) (s b : FVec Ideal S1x48 .f32)
    (r sr br : Fin 48 → ℝ) (n : Fin 256) (d : Fin 48) (hv : ∀ i j, v0 (ix2 i j) = ((1 / 48 : ℝ) : EReal))
    (hx : ∀ d, x (ix2 n d) = ((r d : ℝ) : EReal)) (hs : ∀ d, s (ix2 0 d) = ((sr d : ℝ) : EReal)) (hb : ∀ d, b (ix2 0 d) = ((br d : ℝ) : EReal)) :
    kLn v0 x s b (ix2 n d) = ((lnS sr br r d : ℝ) : EReal) := by
  have h1 : ∀ y : Fin 48 → ℝ, ∑ k, y k * (1 / 48) = (∑ k, y k) / 48 := fun y => by
    rw [← Finset.sum_mul]; ring
  pointwise [kLn]
  simp only [hx, hv, hs, hb, lit_eps, ← EReal.coe_mul, coe_sum, ← EReal.coe_sub, ← EReal.coe_add, h1]
  have hp := rsqrt_real (var48_eps_pos r)
  unfold var48 mean48 at hp
  rw [hp]
  simp only [← EReal.coe_mul, ← EReal.coe_add]
  rfl

/-- Queries, keys and values of all tokens. -/
def kQkv (v0 : FVec Ideal S48x48 .f32) (x : FVec Ideal S256x48 .f32) (s b : FVec Ideal S1x48 .f32)
    (w : FVec Ideal S1x48x144 .f32) (c : FVec Ideal S1x1x144 .f32) : FVec Ideal S256x144 .f32 :=
  addf (matmul dot_S256x48_S48x144_S256x144_1_0_0_1_n_n none (truncf .bf16 (kLn v0 x s b) bitsLt_bf16_f32)
      (truncf .bf16 (shapeCast S48x144 w shapeCasts_S1x48x144_S48x144) bitsLt_bf16_f32) (constant S256x144 .f32 0x00000000#32))
    (broadcastTo S256x144 (shapeCast S1x144 c shapeCasts_S1x1x144_S1x144) broadcasts_S1x144_S256x144)

/-- Twelve copies of the queries, one under the other: one for each head. -/
def kRep (q : FVec Ideal S256x48 .f32) : FVec Ideal S3072x48 .f32 :=
  concatenate S3072x48 0 [⟨S256x48, q⟩, ⟨S256x48, q⟩, ⟨S256x48, q⟩, ⟨S256x48, q⟩, ⟨S256x48, q⟩, ⟨S256x48, q⟩, ⟨S256x48, q⟩, ⟨S256x48, q⟩, ⟨S256x48, q⟩, ⟨S256x48, q⟩, ⟨S256x48, q⟩, ⟨S256x48, q⟩] concatenates_S256x48_S256x48_S256x48_S256x48_S256x48_S256x48_S256x48_S256x48_S256x48_S256x48_S256x48_S256x48_S3072x48_d0

/-- All heads' weights: the copies of the queries masked to their head's columns, their products with the keys, and the
    powers of two of those, zero for keys past the last token. -/
def kExp (v53 : IVec S3072x48 1) (v83 : IVec S3072x256 1) (q k : FVec Ideal S256x48 .f32) : FVec Ideal S3072x256 .f32 :=
  have qm : FVec Ideal S3072x48 .f32 := select v53 (kRep q) (broadcast S3072x48 (Scalar.ofBits .f32 0x00000000#32))
  have sc : FVec Ideal S3072x256 .f32 := matmul dot_S3072x48_S256x48_S3072x256_1_1_0_0_n_n none (truncf .bf16 qm bitsLt_bf16_f32)
    (truncf .bf16 k bitsLt_bf16_f32) (constant S3072x256 .f32 0x00000000#32)
  have ex : FVec Ideal S3072x256 .f32 := exp2 (mulf sc (broadcast S3072x256 (Named.named κ "half_log2_e" 0x3F38AA3B#32)))
  select v83 ex (broadcast S3072x256 (Scalar.ofBits .f32 0x00000000#32))

/-- The weights' products with all heads' values, divided by the weights' sums. -/
def kDiv (e : FVec Ideal S3072x256 .f32) (v v2 : FVec Ideal S256x48 .f32) : FVec Ideal S3072x48 .f32 :=
  have rhs : FVec Ideal S256x96 .f32 := concatenate S256x96 1 [⟨S256x48, v⟩, ⟨S256x48, v2⟩] concatenates_S256x48_S256x48_S256x96_d1
  have o : FVec Ideal S3072x96 .f32 := matmul dot_S3072x256_S256x96_S3072x96_1_0_0_1_n_n none (truncf .bf16 e bitsLt_bf16_f32)
    (truncf .bf16 rhs bitsLt_bf16_f32) (constant S3072x96 .f32 0x00000000#32)
  divf (extractStridedSlice S3072x48 ![0, 0] o slices_S3072x96_o0_0_S3072x48)
    (extractStridedSlice S3072x48 ![0, 48] o slices_S3072x96_o0_48_S3072x48)

/-- Each head's own columns, brought together. -/
def kOwn (v80 : IVec S12x1x48 1) (yn : FVec Ideal S3072x48 .f32) : FVec Ideal S256x48 .f32 :=
  have y3 : FVec Ideal S12x256x48 .f32 := shapeCast S12x256x48 yn shapeCasts_S3072x48_S12x256x48
  have hm : IVec S12x256x48 1 := broadcastTo S12x256x48 (shapeCast S12x1x48 v80 shapeCasts_S12x1x48_S12x1x48) broadcasts_S12x1x48_S12x256x48
  multiReduction .add [0] S256x48 (select hm y3 (broadcast S12x256x48 (Scalar.ofBits .f32 0x00000000#32))) 0x00000000#32 reduces_S12x256x48_S256x48 (.inl rfl) rfl

/-- What attention leaves of queries, keys and values. -/
def kAtt (v2 : FVec Ideal S256x48 .f32) (v53 : IVec S3072x48 1) (v80 : IVec S12x1x48 1) (v83 : IVec S3072x256 1)
    (z : FVec Ideal S256x144 .f32) : FVec Ideal S256x48 .f32 :=
  have q : FVec Ideal S256x48 .f32 := extractStridedSlice S256x48 ![0, 0] z slices_S256x144_o0_0_S256x48
  have k : FVec Ideal S256x48 .f32 := extractStridedSlice S256x48 ![0, 48] z slices_S256x144_o0_48_S256x48
  have v : FVec Ideal S256x48 .f32 := extractStridedSlice S256x48 ![0, 96] z slices_S256x144_o0_96_S256x48
  kOwn v80 (kDiv (kExp v53 v83 q k) v v2)

/-- A layer's first half from its queries, keys and values. -/
def kMid (v2 : FVec Ideal S256x48 .f32) (v53 : IVec S3072x48 1) (v80 : IVec S12x1x48 1) (v83 : IVec S3072x256 1)
    (x : FVec Ideal S256x48 .f32) (z : FVec Ideal S256x144 .f32) (w : FVec Ideal S1x48x48 .f32) (c : FVec Ideal S1x1x48 .f32) : FVec Ideal S256x48 .f32 :=
  addf (addf x (matmul dot_S256x48_S48x48_S256x48_1_0_0_1_n_n none (truncf .bf16 (kAtt v2 v53 v80 v83 z) bitsLt_bf16_f32)
      (truncf .bf16 (shapeCast S48x48 w shapeCasts_S1x48x48_S48x48) bitsLt_bf16_f32) (constant S256x48 .f32 0x00000000#32)))
    (broadcastTo S256x48 (shapeCast S1x48 c shapeCasts_S1x1x48_S1x48) broadcasts_S1x48_S256x48)

/-- A layer's second half. -/
def kMlp (v0 : FVec Ideal S48x48 .f32) (g : FVec Ideal S256x48 .f32) (s b : FVec Ideal S1x48 .f32)
    (w1 : FVec Ideal S1x48x192 .f32) (c1 : FVec Ideal S1x1x192 .f32) (w2 : FVec Ideal S1x192x48 .f32) (c2 : FVec Ideal S1x1x48 .f32) : FVec Ideal S256x48 .f32 :=
  have h : FVec Ideal S256x192 .f32 := addf (matmul dot_S256x48_S48x192_S256x192_1_0_0_1_n_n none (truncf .bf16 (kLn v0 g s b) bitsLt_bf16_f32)
      (truncf .bf16 (shapeCast S48x192 w1 shapeCasts_S1x48x192_S48x192) bitsLt_bf16_f32) (constant S256x192 .f32 0x00000000#32))
    (broadcastTo S256x192 (shapeCast S1x192 c1 shapeCasts_S1x1x192_S1x192) broadcasts_S1x192_S256x192)
  have a : FVec Ideal S256x192 .f32 := mulf (mulf (broadcast S256x192 (Scalar.ofBits .f32 0x3F000000#32)) h)
    (addf (broadcast S256x192 (Scalar.ofBits .f32 0x3F800000#32)) (erf (mulf h (broadcast S256x192 (Scalar.ofBits .f32 0x3F3504F3#32)))))
  addf (addf g (matmul dot_S256x192_S192x48_S256x48_1_0_0_1_n_n none (truncf .bf16 a bitsLt_bf16_f32)
      (truncf .bf16 (shapeCast S192x48 w2 shapeCasts_S1x192x48_S192x48) bitsLt_bf16_f32) (constant S256x48 .f32 0x00000000#32)))
    (broadcastTo S256x48 (shapeCast S1x48 c2 shapeCasts_S1x1x48_S1x48) broadcasts_S1x48_S256x48)

theorem kQkv_apply (v0 : FVec Ideal S48x48 .f32) (x : FVec Ideal S256x48 .f32) (s b : FVec Ideal S1x48 .f32)
    (w : FVec Ideal S1x48x144 .f32) (c : FVec Ideal S1x1x144 .f32) (r sr br : Fin 48 → ℝ) (wr : Fin 48 → Fin 144 → ℝ) (cr : Fin 144 → ℝ)
    (n : Fin 256) (j : Fin 144) (hv : ∀ i j, v0 (ix2 i j) = ((1 / 48 : ℝ) : EReal))
    (hx : ∀ d, x (ix2 n d) = ((r d : ℝ) : EReal)) (hs : ∀ d, s (ix2 0 d) = ((sr d : ℝ) : EReal)) (hb : ∀ d, b (ix2 0 d) = ((br d : ℝ) : EReal))
    (hw : ∀ k j, w (ix3 0 k j) = ((wr k j : ℝ) : EReal)) (hc : ∀ j, c (ix3 0 0 j) = ((cr j : ℝ) : EReal)) :
    kQkv v0 x s b w c (ix2 n j) = ((linS wr cr (lnS sr br r) j : ℝ) : EReal) := by
  have hl := fun d => kLn_apply v0 x s b r sr br n d hv hx hs hb
  pointwise [kQkv]
  simp only [hl, hw, hc, ← EReal.coe_mul, coe_sum, ← EReal.coe_add]
  rfl

theorem kMlp_apply (v0 : FVec Ideal S48x48 .f32) (g : FVec Ideal S256x48 .f32) (s b : FVec Ideal S1x48 .f32)
    (w1 : FVec Ideal S1x48x192 .f32) (c1 : FVec Ideal S1x1x192 .f32) (w2 : FVec Ideal S1x192x48 .f32) (c2 : FVec Ideal S1x1x48 .f32)
    (P : LayerP) (r : Fin 48 → ℝ) (n : Fin 256) (d : Fin 48) (hv : ∀ i j, v0 (ix2 i j) = ((1 / 48 : ℝ) : EReal))
    (hx : ∀ d, g (ix2 n d) = ((r d : ℝ) : EReal)) (hs : ∀ d, s (ix2 0 d) = ((P.n2s d : ℝ) : EReal)) (hb : ∀ d, b (ix2 0 d) = ((P.n2b d : ℝ) : EReal))
    (hw1 : ∀ k j, w1 (ix3 0 k j) = ((P.w1 k j : ℝ) : EReal)) (hc1 : ∀ j, c1 (ix3 0 0 j) = ((P.b1 j : ℝ) : EReal))
    (hw2 : ∀ k j, w2 (ix3 0 k j) = ((P.w2 k j : ℝ) : EReal)) (hc2 : ∀ j, c2 (ix3 0 0 j) = ((P.b2 j : ℝ) : EReal)) :
    kMlp v0 g s b w1 c1 w2 c2 (ix2 n d) = ((mlpS P r d : ℝ) : EReal) := by
  have hl := fun d => kLn_apply v0 g s b r P.n2s P.n2b n d hv hx hs hb
  pointwise [kMlp]
  simp only [hl, hx, hw1, hc1, hw2, hc2, lit_half, lit_invRoot2, one_real, erf_real, ← EReal.coe_mul, coe_sum, ← EReal.coe_add]
  rw [add_assoc]
  rfl

/-- A choice between two values that are both `c`. -/
theorem of_dite {α : Type} {p : Prop} [Decidable p] {a : p → α} {b : ¬p → α} {c : α} (h1 : ∀ h, a h = c) (h2 : ∀ h, b h = c) :
    (if h : p then a h else b h) = c := by
  by_cases h : p
  · rw [dif_pos h]; exact h1 h
  · rw [dif_neg h]; exact h2 h

set_option maxRecDepth 4096 in
theorem kRep_apply (q : FVec Ideal S256x48 .f32) (r : Fin 3072) (c : Fin 48) :
    kRep q (ix2 r c) = q (ix2 ⟨r.val % 256, by omega⟩ c) := by
  pointwise [kRep]
  iterate 11
    refine of_dite (fun _ => ?_) fun _ => ?_
    · exact congrArg q (congrArg (fun i => ix2 i c) (Fin.mk_eq_mk.2 (by omega)))
  exact congrArg q (congrArg (fun i => ix2 i c) (Fin.mk_eq_mk.2 (by omega)))

/-- A choice by a word that says whether `p` holds. -/
theorem select_of {α : Type} {p : Prop} [Decidable p] {w : BitVec 1} (h : w = if p then 1#1 else 0#1) (a b : α) :
    Scalar.select w a b = if p then a else b := by
  subst h; unfold Scalar.select; split <;> simp_all

theorem half_log2_e : Named.named (F := Ideal) κ "half_log2_e" (φ := .f32) 0x3F38AA3B#32 = (((2 * Real.log 2)⁻¹ : ℝ) : EReal) :=
  IdealRules.named_const.ideal_named_scalar _ _ _ _ rfl

theorem inv_48 : Named.named (F := Ideal) κ "inv_48" (φ := .f32) 0x3CAAAAAB#32 = ((1 / 48 : ℝ) : EReal) :=
  IdealRules.named_const.ideal_named_scalar _ _ _ _ rfl

/-- The weight of head `h` for token `n` and key `m`, zero past the last token. -/
theorem kExp_apply (v53 : IVec S3072x48 1) (v83 : IVec S3072x256 1) (q k : FVec Ideal S256x48 .f32) (zr : ℕ → Fin 144 → ℝ)
    (h : Fin 12) (n : Fin 256) (m : Fin 256) (hr : h.val * 256 + n.val < 3072)
    (h53 : ∀ r c, v53 (ix2 r c) = if r.val / 256 = c.val / 4 then 1#1 else 0#1)
    (h83 : ∀ r m, v83 (ix2 r m) = if m.val < 244 then 1#1 else 0#1)
    (hq : ∀ (n : Fin 256) (c : Fin 48), q (ix2 n c) = ((zr n.val ⟨c.val, by omega⟩ : ℝ) : EReal))
    (hk : ∀ (n : Fin 256) (c : Fin 48), k (ix2 n c) = ((zr n.val ⟨48 + c.val, by omega⟩ : ℝ) : EReal)) :
    kExp v53 v83 q k (ix2 ⟨h.val * 256 + n.val, hr⟩ m) = ((if m.val < 244 then wgtS zr n.val m.val h else 0 : ℝ) : EReal) := by
  have e1 : (h.val * 256 + n.val) / 256 = h.val := by omega
  have e2 : (h.val * 256 + n.val) % 256 = n.val := by omega
  pointwise [kExp]
  simp only [select_of (h53 _ _), select_of (h83 _ _), kRep_apply, hq, hk, e1, e2, ← EReal.coe_mul, ite_real_zero, coe_sum]
  rw [sum_head h (fun x => zr n.val ⟨x.val, by omega⟩ * zr m.val ⟨48 + x.val, by omega⟩), half_log2_e, ← EReal.coe_mul]
  rw [show ∀ x : EReal, FloatOps.exp2 (F := Ideal) (φ := .f32) x = Ideal.exp2 x from fun _ => rfl, exp2_half, ite_real_zero]
  rfl

theorem kDiv_apply (e : FVec Ideal S3072x256 .f32) (v v2 : FVec Ideal S256x48 .f32) (zr : ℕ → Fin 144 → ℝ)
    (h : Fin 12) (n : Fin 256) (c : Fin 48) (hr : h.val * 256 + n.val < 3072)
    (he : ∀ m : Fin 256, e (ix2 ⟨h.val * 256 + n.val, hr⟩ m) = ((if m.val < 244 then wgtS zr n.val m.val h else 0 : ℝ) : EReal))
    (h2 : ∀ i j, v2 (ix2 i j) = ((1 : ℝ) : EReal))
    (hv : ∀ (n : Fin 256) (c : Fin 48), v (ix2 n c) = ((zr n.val ⟨96 + c.val, by omega⟩ : ℝ) : EReal)) :
    kDiv e v v2 (ix2 ⟨h.val * 256 + n.val, hr⟩ c)
      = (((∑ m : Fin 244, wgtS zr n.val m.val h * zr m.val ⟨96 + c.val, by omega⟩) / ∑ m : Fin 244, wgtS zr n.val m.val h : ℝ) : EReal) := by
  pointwise [kDiv]
  simp only [he, h2, hv, ← EReal.coe_mul, coe_sum, ite_mul, zero_mul, mul_one]
  rw [sum_tokens (fun m => wgtS zr n.val m h), sum_tokens (fun m => wgtS zr n.val m h * zr m ⟨96 + c.val, by omega⟩),
    div_real _ (wgtS_sum_pos zr n.val h).ne']

theorem kAtt_apply (v2 : FVec Ideal S256x48 .f32) (v53 : IVec S3072x48 1) (v80 : IVec S12x1x48 1) (v83 : IVec S3072x256 1)
    (z : FVec Ideal S256x144 .f32) (zr : ℕ → Fin 144 → ℝ) (n : Fin 256) (c : Fin 48)
    (h2 : ∀ i j, v2 (ix2 i j) = ((1 : ℝ) : EReal))
    (h53 : ∀ r c, v53 (ix2 r c) = if r.val / 256 = c.val / 4 then 1#1 else 0#1)
    (h80 : ∀ h c, v80 (ix3 h 0 c) = if h.val = c.val / 4 then 1#1 else 0#1)
    (h83 : ∀ r m, v83 (ix2 r m) = if m.val < 244 then 1#1 else 0#1)
    (hz : ∀ n j, z (ix2 n j) = ((zr n.val j : ℝ) : EReal)) :
    kAtt v2 v53 v80 v83 z (ix2 n c) = ((attS zr n.val c : ℝ) : EReal) := by
  have hq : ∀ (n : Fin 256) (c : Fin 48), extractStridedSlice S256x48 ![0, 0] z slices_S256x144_o0_0_S256x48 (ix2 n c)
      = ((zr n.val ⟨c.val, by omega⟩ : ℝ) : EReal) := fun n c => by pointwise; rw [hz]
  have hk : ∀ (n : Fin 256) (c : Fin 48), extractStridedSlice S256x48 ![0, 48] z slices_S256x144_o0_48_S256x48 (ix2 n c)
      = ((zr n.val ⟨48 + c.val, by omega⟩ : ℝ) : EReal) := fun n c => by pointwise; rw [hz]
  have hv : ∀ (n : Fin 256) (c : Fin 48), extractStridedSlice S256x48 ![0, 96] z slices_S256x144_o0_96_S256x48 (ix2 n c)
      = ((zr n.val ⟨96 + c.val, by omega⟩ : ℝ) : EReal) := fun n c => by pointwise; rw [hz]
  have hd := fun (h : Fin 12) => kDiv_apply _ _ v2 zr h n c (by omega)
    (fun m => kExp_apply v53 v83 _ _ zr h n m (by omega) h53 h83 hq hk) h2 hv
  unfold kAtt
  pointwise [kOwn]
  simp only [select_of (h80 _ _), hd, ite_real_zero, coe_sum]
  rw [Finset.sum_eq_single (headOf c)]
  · rw [if_pos (show (headOf c).val = c.val / 4 from rfl)]; rfl
  · intro b _ hb; exact if_neg fun e => hb (Fin.ext e)
  · intro hh; exact absurd (Finset.mem_univ _) hh

theorem kMid_apply (v2 : FVec Ideal S256x48 .f32) (v53 : IVec S3072x48 1) (v80 : IVec S12x1x48 1) (v83 : IVec S3072x256 1)
    (x : FVec Ideal S256x48 .f32) (z : FVec Ideal S256x144 .f32) (w : FVec Ideal S1x48x48 .f32) (c : FVec Ideal S1x1x48 .f32)
    (P : LayerP) (f : ℕ → Fin 48 → ℝ) (n : Fin 256) (d : Fin 48)
    (h2 : ∀ i j, v2 (ix2 i j) = ((1 : ℝ) : EReal))
    (h53 : ∀ r c, v53 (ix2 r c) = if r.val / 256 = c.val / 4 then 1#1 else 0#1)
    (h80 : ∀ h c, v80 (ix3 h 0 c) = if h.val = c.val / 4 then 1#1 else 0#1)
    (h83 : ∀ r m, v83 (ix2 r m) = if m.val < 244 then 1#1 else 0#1)
    (hx : ∀ d, x (ix2 n d) = ((f n.val d : ℝ) : EReal))
    (hz : ∀ n j, z (ix2 n j) = ((qkvS P f n.val j : ℝ) : EReal))
    (hw : ∀ k j, w (ix3 0 k j) = ((P.aw k j : ℝ) : EReal)) (hc : ∀ j, c (ix3 0 0 j) = ((P.ab j : ℝ) : EReal)) :
    kMid v2 v53 v80 v83 x z w c (ix2 n d) = ((midS P f n.val d : ℝ) : EReal) := by
  have ha := fun c => kAtt_apply v2 v53 v80 v83 z (qkvS P f) n c h2 h53 h80 h83 hz
  pointwise [kMid]
  simp only [ha, hx, hw, hc, ← EReal.coe_mul, coe_sum, ← EReal.coe_add]
  rw [add_assoc]
  rfl

/-- One layer from what is loaded for it. -/
def kLayer (v0 : FVec Ideal S48x48 .f32) (v2 : FVec Ideal S256x48 .f32) (v53 : IVec S3072x48 1) (v80 : IVec S12x1x48 1) (v83 : IVec S3072x256 1)
    (x : FVec Ideal S256x48 .f32) (s1 b1 : FVec Ideal S1x1x48 .f32) (qw : FVec Ideal S1x48x144 .f32) (qb : FVec Ideal S1x1x144 .f32)
    (aw : FVec Ideal S1x48x48 .f32) (ab : FVec Ideal S1x1x48 .f32) (s2 b2 : FVec Ideal S1x1x48 .f32)
    (w1 : FVec Ideal S1x48x192 .f32) (c1 : FVec Ideal S1x1x192 .f32) (w2 : FVec Ideal S1x192x48 .f32) (c2 : FVec Ideal S1x1x48 .f32) : FVec Ideal S256x48 .f32 :=
  kMlp v0 (kMid v2 v53 v80 v83 x (kQkv v0 x (shapeCast S1x48 s1 shapeCasts_S1x1x48_S1x48) (shapeCast S1x48 b1 shapeCasts_S1x1x48_S1x48) qw qb) aw ab)
    (shapeCast S1x48 s2 shapeCasts_S1x1x48_S1x48) (shapeCast S1x48 b2 shapeCasts_S1x1x48_S1x48) w1 c1 w2 c2

/-- The kernel's layer is the network's, on every row. -/
theorem kLayer_apply (v0 : FVec Ideal S48x48 .f32) (v2 : FVec Ideal S256x48 .f32) (v53 : IVec S3072x48 1) (v80 : IVec S12x1x48 1) (v83 : IVec S3072x256 1)
    (x : FVec Ideal S256x48 .f32) (s1 b1 : FVec Ideal S1x1x48 .f32) (qw : FVec Ideal S1x48x144 .f32) (qb : FVec Ideal S1x1x144 .f32)
    (aw : FVec Ideal S1x48x48 .f32) (ab : FVec Ideal S1x1x48 .f32) (s2 b2 : FVec Ideal S1x1x48 .f32)
    (w1 : FVec Ideal S1x48x192 .f32) (c1 : FVec Ideal S1x1x192 .f32) (w2 : FVec Ideal S1x192x48 .f32) (c2 : FVec Ideal S1x1x48 .f32)
    (P : LayerP) (f : ℕ → Fin 48 → ℝ) (hv : ∀ i j, v0 (ix2 i j) = ((1 / 48 : ℝ) : EReal))
    (h2 : ∀ i j, v2 (ix2 i j) = ((1 : ℝ) : EReal))
    (h53 : ∀ r c, v53 (ix2 r c) = if r.val / 256 = c.val / 4 then 1#1 else 0#1)
    (h80 : ∀ h c, v80 (ix3 h 0 c) = if h.val = c.val / 4 then 1#1 else 0#1)
    (h83 : ∀ r m, v83 (ix2 r m) = if m.val < 244 then 1#1 else 0#1)
    (hx : ∀ n d, x (ix2 n d) = ((f n.val d : ℝ) : EReal))
    (hs1 : ∀ j, s1 (ix3 0 0 j) = ((P.n1s j : ℝ) : EReal)) (hb1 : ∀ j, b1 (ix3 0 0 j) = ((P.n1b j : ℝ) : EReal))
    (hqw : ∀ k j, qw (ix3 0 k j) = ((P.qw k j : ℝ) : EReal)) (hqb : ∀ j, qb (ix3 0 0 j) = ((P.qb j : ℝ) : EReal))
    (haw : ∀ k j, aw (ix3 0 k j) = ((P.aw k j : ℝ) : EReal)) (hab : ∀ j, ab (ix3 0 0 j) = ((P.ab j : ℝ) : EReal))
    (hs2 : ∀ j, s2 (ix3 0 0 j) = ((P.n2s j : ℝ) : EReal)) (hb2 : ∀ j, b2 (ix3 0 0 j) = ((P.n2b j : ℝ) : EReal))
    (hw1 : ∀ k j, w1 (ix3 0 k j) = ((P.w1 k j : ℝ) : EReal)) (hc1 : ∀ j, c1 (ix3 0 0 j) = ((P.b1 j : ℝ) : EReal))
    (hw2 : ∀ k j, w2 (ix3 0 k j) = ((P.w2 k j : ℝ) : EReal)) (hc2 : ∀ j, c2 (ix3 0 0 j) = ((P.b2 j : ℝ) : EReal))
    (n : Fin 256) (d : Fin 48) :
    kLayer v0 v2 v53 v80 v83 x s1 b1 qw qb aw ab s2 b2 w1 c1 w2 c2 (ix2 n d) = ((layerS P f n.val d : ℝ) : EReal) := by
  have cast : ∀ (y : FVec Ideal S1x1x48 .f32) (yr : Fin 48 → ℝ), (∀ j, y (ix3 0 0 j) = ((yr j : ℝ) : EReal)) →
      ∀ j, shapeCast S1x48 y shapeCasts_S1x1x48_S1x48 (ix2 0 j) = ((yr j : ℝ) : EReal) := fun y yr h j => by pointwise; rw [h]
  refine kMlp_apply _ _ _ _ _ _ _ _ P (midS P f n.val) n d hv (fun d => ?_) (cast _ _ hs2) (cast _ _ hb2) hw1 hc1 hw2 hc2
  exact kMid_apply _ _ _ _ _ _ _ _ P f n d h2 h53 h80 h83 (hx n)
    (fun n j => kQkv_apply _ _ _ _ _ _ (f n.val) P.n1s P.n1b P.qw P.qb n j hv (hx n) (cast _ _ hs1) (cast _ _ hb1) hqw hqb) haw hab

end Cert.KernelIdeal.KV

end
-- ==== Proof.KChain.lean ====
/-
  The kernel's six layers as its run names them: each is the layer of the network, so that what it computes of real
  features is real again.
-/
module

public import proofs.«01_k».proof.Proof.KLayer

@[expose] public section

set_option synthInstance.maxSize 4096

noncomputable section

namespace Cert.KernelIdeal.KV

open Idealize.ShloMosaic Cert.KernelIdeal.Gen Cert.Spec

/-- The constants and masks that every layer uses: the reciprocal of 48, ones, which head a copy of the queries
    serves, which head a column belongs to, and which rows are tokens. -/
structure Masks (v0 : FVec Ideal S48x48 .f32) (v2 : FVec Ideal S256x48 .f32) (v53 : IVec S3072x48 1) (v80 : IVec S12x1x48 1)
    (v83 : IVec S3072x256 1) : Prop where
  avg : ∀ i j, v0 (ix2 i j) = ((1 / 48 : ℝ) : EReal)
  ones : ∀ i j, v2 (ix2 i j) = ((1 : ℝ) : EReal)
  rows : ∀ r c, v53 (ix2 r c) = if r.val / 256 = c.val / 4 then 1#1 else 0#1
  heads : ∀ h c, v80 (ix3 h 0 c) = if h.val = c.val / 4 then 1#1 else 0#1
  tokens : ∀ r m, v83 (ix2 r m) = if m.val < 244 then 1#1 else 0#1

/-- What is loaded for a layer is the layer's parameters `P`. -/
structure Loaded (P : LayerP) (s1 b1 : FVec Ideal S1x1x48 .f32) (qw : FVec Ideal S1x48x144 .f32) (qb : FVec Ideal S1x1x144 .f32)
    (aw : FVec Ideal S1x48x48 .f32) (ab : FVec Ideal S1x1x48 .f32) (s2 b2 : FVec Ideal S1x1x48 .f32)
    (w1 : FVec Ideal S1x48x192 .f32) (c1 : FVec Ideal S1x1x192 .f32) (w2 : FVec Ideal S1x192x48 .f32) (c2 : FVec Ideal S1x1x48 .f32) : Prop where
  hs1 : ∀ j, s1 (ix3 0 0 j) = ((P.n1s j : ℝ) : EReal)
  hb1 : ∀ j, b1 (ix3 0 0 j) = ((P.n1b j : ℝ) : EReal)
  hqw : ∀ k j, qw (ix3 0 k j) = ((P.qw k j : ℝ) : EReal)
  hqb : ∀ j, qb (ix3 0 0 j) = ((P.qb j : ℝ) : EReal)
  haw : ∀ k j, aw (ix3 0 k j) = ((P.aw k j : ℝ) : EReal)
  hab : ∀ j, ab (ix3 0 0 j) = ((P.ab j : ℝ) : EReal)
  hs2 : ∀ j, s2 (ix3 0 0 j) = ((P.n2s j : ℝ) : EReal)
  hb2 : ∀ j, b2 (ix3 0 0 j) = ((P.n2b j : ℝ) : EReal)
  hw1 : ∀ k j, w1 (ix3 0 k j) = ((P.w1 k j : ℝ) : EReal)
  hc1 : ∀ j, c1 (ix3 0 0 j) = ((P.b1 j : ℝ) : EReal)
  hw2 : ∀ k j, w2 (ix3 0 k j) = ((P.w2 k j : ℝ) : EReal)
  hc2 : ∀ j, c2 (ix3 0 0 j) = ((P.b2 j : ℝ) : EReal)

/-- `kLayer_apply` of the two structures. -/
theorem kLayer_ok {v0 : FVec Ideal S48x48 .f32} {v2 : FVec Ideal S256x48 .f32} {v53 : IVec S3072x48 1} {v80 : IVec S12x1x48 1} {v83 : IVec S3072x256 1}
    {x : FVec Ideal S256x48 .f32} {s1 b1 : FVec Ideal S1x1x48 .f32} {qw : FVec Ideal S1x48x144 .f32} {qb : FVec Ideal S1x1x144 .f32}
    {aw : FVec Ideal S1x48x48 .f32} {ab : FVec Ideal S1x1x48 .f32} {s2 b2 : FVec Ideal S1x1x48 .f32}
    {w1 : FVec Ideal S1x48x192 .f32} {c1 : FVec Ideal S1x1x192 .f32} {w2 : FVec Ideal S1x192x48 .f32} {c2 : FVec Ideal S1x1x48 .f32}
    {P : LayerP} {f : ℕ → Fin 48 → ℝ} (hm : Masks v0 v2 v53 v80 v83) (hl : Loaded P s1 b1 qw qb aw ab s2 b2 w1 c1 w2 c2)
    (hx : ∀ n d, x (ix2 n d) = ((f n.val d : ℝ) : EReal)) (n : Fin 256) (d : Fin 48) :
    kLayer v0 v2 v53 v80 v83 x s1 b1 qw qb aw ab s2 b2 w1 c1 w2 c2 (ix2 n d) = ((layerS P f n.val d : ℝ) : EReal) :=
  kLayer_apply _ _ _ _ _ _ _ _ _ _ _ _ _ _ _ _ _ _ P f hm.avg hm.ones hm.rows hm.heads hm.tokens hx hl.hs1 hl.hb1 hl.hqw hl.hqb
    hl.haw hl.hab hl.hs2 hl.hb2 hl.hw1 hl.hc1 hl.hw2 hl.hc2 n d

/-- Layer 0 of the kernel's run is layer 0 of the network. -/
theorem layer0 {v0 : FVec Ideal S48x48 .f32} {v2 : FVec Ideal S256x48 .f32} {v53 : IVec S3072x48 1} {v80 : IVec S12x1x48 1} {v83 : IVec S3072x256 1} {v86 : IVec S256x48 1} {v93 : FVec Ideal S256x48 .f32} {v170 : FVec Ideal S256x48 .f32} {v174 : FVec Ideal S48x48 .f32} {v175 : Vec Ideal S1x48 .f32} {v183 : Vec Ideal S1x1x48 .f32} {v185 : Vec Ideal S1x1x48 .f32} {v203 : Vec Ideal S1x48x144 .f32} {v208 : Vec Ideal S1x1x144 .f32} {v239 : Vec Ideal S1x48x48 .f32} {v245 : Vec Ideal S1x1x48 .f32} {v249 : Vec Ideal S1x1x48 .f32} {v251 : Vec Ideal S1x1x48 .f32} {v269 : Vec Ideal S1x48x192 .f32} {v274 : Vec Ideal S1x1x192 .f32} {v286 : Vec Ideal S1x192x48 .f32} {v292 : Vec Ideal S1x1x48 .f32}
    {P : LayerP} {f : ℕ → Fin 48 → ℝ} (hm : Masks v0 v2 v53 v80 v83) (hl : Loaded P v183 v185 v203 v208 v239 v245 v249 v251 v269 v274 v286 v292)
    (hx : ∀ n d, ((k0_pay26 v86 v93 v170 v174 v175) : FVec Ideal S256x48 .f32) (ix2 n d) = ((f n.val d : ℝ) : EReal)) (n : Fin 256) (d : Fin 48) :
    (k0_pay38 (k0_pay36 v0 (k0_pay31 v2 v53 v80 v83 (k0_pay26 v86 v93 v170 v174 v175) (k0_pay28 v0 v86 v93 v170 v174 v175 v183 v185 v203 v208) (k0_pay29 v0 v86 v93 v170 v174 v175 v183 v185 v203 v208) (k0_pay30 v0 v86 v93 v170 v174 v175 v183 v185 v203 v208) v239 v245) (k0_pay32 v249) (k0_pay33 v251) (k0_pay34 v2 v53 v80 v83 (k0_pay26 v86 v93 v170 v174 v175) (k0_pay28 v0 v86 v93 v170 v174 v175 v183 v185 v203 v208) (k0_pay29 v0 v86 v93 v170 v174 v175 v183 v185 v203 v208) (k0_pay30 v0 v86 v93 v170 v174 v175 v183 v185 v203 v208) v239 v245) (k0_pay35 v0) v269 v274 v286) (k0_pay37 v292) : FVec Ideal S256x48 .f32) (ix2 n d) = ((layerS P f n.val d : ℝ) : EReal) :=
  (congrFun (show (k0_pay38 (k0_pay36 v0 (k0_pay31 v2 v53 v80 v83 (k0_pay26 v86 v93 v170 v174 v175) (k0_pay28 v0 v86 v93 v170 v174 v175 v183 v185 v203 v208) (k0_pay29 v0 v86 v93 v170 v174 v175 v183 v185 v203 v208) (k0_pay30 v0 v86 v93 v170 v174 v175 v183 v185 v203 v208) v239 v245) (k0_pay32 v249) (k0_pay33 v251) (k0_pay34 v2 v53 v80 v83 (k0_pay26 v86 v93 v170 v174 v175) (k0_pay28 v0 v86 v93 v170 v174 v175 v183 v185 v203 v208) (k0_pay29 v0 v86 v93 v170 v174 v175 v183 v185 v203 v208) (k0_pay30 v0 v86 v93 v170 v174 v175 v183 v185 v203 v208) v239 v245) (k0_pay35 v0) v269 v274 v286) (k0_pay37 v292) : FVec Ideal S256x48 .f32)
    = kLayer v0 v2 v53 v80 v83 (k0_pay26 v86 v93 v170 v174 v175) v183 v185 v203 v208 v239 v245 v249 v251 v269 v274 v286 v292 from rfl) (ix2 n d)).trans (kLayer_ok hm hl hx n d)

/-- Layer 1 of the kernel's run is layer 1 of the network. -/
theorem layer1 {v0 : FVec Ideal S48x48 .f32} {v2 : FVec Ideal S256x48 .f32} {v53 : IVec S3072x48 1} {v80 : IVec S12x1x48 1} {v83 : IVec S3072x256 1} {v291 : FVec Ideal S256x48 .f32} {v294 : FVec Ideal S256x48 .f32} {v296 : Vec Ideal S1x1x48 .f32} {v298 : Vec Ideal S1x1x48 .f32} {v316 : Vec Ideal S1x48x144 .f32} {v321 : Vec Ideal S1x1x144 .f32} {v352 : Vec Ideal S1x48x48 .f32} {v358 : Vec Ideal S1x1x48 .f32} {v362 : Vec Ideal S1x1x48 .f32} {v364 : Vec Ideal S1x1x48 .f32} {v382 : Vec Ideal S1x48x192 .f32} {v387 : Vec Ideal S1x1x192 .f32} {v399 : Vec Ideal S1x192x48 .f32} {v405 : Vec Ideal S1x1x48 .f32}
    {P : LayerP} {f : ℕ → Fin 48 → ℝ} (hm : Masks v0 v2 v53 v80 v83) (hl : Loaded P v296 v298 v316 v321 v352 v358 v362 v364 v382 v387 v399 v405)
    (hx : ∀ n d, ((k0_pay38 v291 v294) : FVec Ideal S256x48 .f32) (ix2 n d) = ((f n.val d : ℝ) : EReal)) (n : Fin 256) (d : Fin 48) :
    (k0_pay47 (k0_pay42 v2 v80 v83 (k0_pay38 v291 v294) (k0_pay40 v0 v291 v294 v296 v298 v316 v321) (k0_pay41 v0 v53 v291 v294 v296 v298 v316 v321) v352 v358) (k0_pay43 v362) (k0_pay44 v364) (k0_pay45 v0 v2 v80 v83 (k0_pay38 v291 v294) (k0_pay40 v0 v291 v294 v296 v298 v316 v321) (k0_pay41 v0 v53 v291 v294 v296 v298 v316 v321) v352 v358) (k0_pay46 v0 v2 v80 v83 (k0_pay38 v291 v294) (k0_pay40 v0 v291 v294 v296 v298 v316 v321) (k0_pay41 v0 v53 v291 v294 v296 v298 v316 v321) v352 v358) v382 v387 v399 v405 : FVec Ideal S256x48 .f32) (ix2 n d) = ((layerS P f n.val d : ℝ) : EReal) :=
  (congrFun (show (k0_pay47 (k0_pay42 v2 v80 v83 (k0_pay38 v291 v294) (k0_pay40 v0 v291 v294 v296 v298 v316 v321) (k0_pay41 v0 v53 v291 v294 v296 v298 v316 v321) v352 v358) (k0_pay43 v362) (k0_pay44 v364) (k0_pay45 v0 v2 v80 v83 (k0_pay38 v291 v294) (k0_pay40 v0 v291 v294 v296 v298 v316 v321) (k0_pay41 v0 v53 v291 v294 v296 v298 v316 v321) v352 v358) (k0_pay46 v0 v2 v80 v83 (k0_pay38 v291 v294) (k0_pay40 v0 v291 v294 v296 v298 v316 v321) (k0_pay41 v0 v53 v291 v294 v296 v298 v316 v321) v352 v358) v382 v387 v399 v405 : FVec Ideal S256x48 .f32)
    = kLayer v0 v2 v53 v80 v83 (k0_pay38 v291 v294) v296 v298 v316 v321 v352 v358 v362 v364 v382 v387 v399 v405 from rfl) (ix2 n d)).trans (kLayer_ok hm hl hx n d)

/-- Layer 2 of the kernel's run is layer 2 of the network. -/
theorem layer2 {v0 : FVec Ideal S48x48 .f32} {v2 : FVec Ideal S256x48 .f32} {v53 : IVec S3072x48 1} {v80 : IVec S12x1x48 1} {v83 : IVec S3072x256 1} {v408 : FVec Ideal S256x48 .f32} {v409 : Vec Ideal S1x1x48 .f32} {v411 : Vec Ideal S1x1x48 .f32} {v429 : Vec Ideal S1x48x144 .f32} {v434 : Vec Ideal S1x1x144 .f32} {v465 : Vec Ideal S1x48x48 .f32} {v471 : Vec Ideal S1x1x48 .f32} {v475 : Vec Ideal S1x1x48 .f32} {v477 : Vec Ideal S1x1x48 .f32} {v495 : Vec Ideal S1x48x192 .f32} {v500 : Vec Ideal S1x1x192 .f32} {v512 : Vec Ideal S1x192x48 .f32} {v518 : Vec Ideal S1x1x48 .f32}
    {P : LayerP} {f : ℕ → Fin 48 → ℝ} (hm : Masks v0 v2 v53 v80 v83) (hl : Loaded P v409 v411 v429 v434 v465 v471 v475 v477 v495 v500 v512 v518)
    (hx : ∀ n d, (v408 : FVec Ideal S256x48 .f32) (ix2 n d) = ((f n.val d : ℝ) : EReal)) (n : Fin 256) (d : Fin 48) :
    (k0_pay56 (k0_pay53 v80 v408 (k0_pay51 v0 v2 v53 v83 v408 (k0_pay48 v409) (k0_pay49 v411) v429 v434) (k0_pay52 v0 v2 v53 v83 v408 (k0_pay48 v409) (k0_pay49 v411) v429 v434) v465 v471) (k0_pay54 v0 v80 v408 (k0_pay51 v0 v2 v53 v83 v408 (k0_pay48 v409) (k0_pay49 v411) v429 v434) (k0_pay52 v0 v2 v53 v83 v408 (k0_pay48 v409) (k0_pay49 v411) v429 v434) v465 v471 v475 v477) (k0_pay55 v495) v500 v512 v518 : FVec Ideal S256x48 .f32) (ix2 n d) = ((layerS P f n.val d : ℝ) : EReal) :=
  (congrFun (show (k0_pay56 (k0_pay53 v80 v408 (k0_pay51 v0 v2 v53 v83 v408 (k0_pay48 v409) (k0_pay49 v411) v429 v434) (k0_pay52 v0 v2 v53 v83 v408 (k0_pay48 v409) (k0_pay49 v411) v429 v434) v465 v471) (k0_pay54 v0 v80 v408 (k0_pay51 v0 v2 v53 v83 v408 (k0_pay48 v409) (k0_pay49 v411) v429 v434) (k0_pay52 v0 v2 v53 v83 v408 (k0_pay48 v409) (k0_pay49 v411) v429 v434) v465 v471 v475 v477) (k0_pay55 v495) v500 v512 v518 : FVec Ideal S256x48 .f32)
    = kLayer v0 v2 v53 v80 v83 v408 v409 v411 v429 v434 v465 v471 v475 v477 v495 v500 v512 v518 from rfl) (ix2 n d)).trans (kLayer_ok hm hl hx n d)

/-- Layer 3 of the kernel's run is layer 3 of the network. -/
theorem layer3 {v0 : FVec Ideal S48x48 .f32} {v2 : FVec Ideal S256x48 .f32} {v53 : IVec S3072x48 1} {v80 : IVec S12x1x48 1} {v83 : IVec S3072x256 1} {v474 : FVec Ideal S256x48 .f32} {v494 : FVec Ideal S256x48 .f32} {v496 : FVec Ideal S48x192 .f32} {v500 : Vec Ideal S1x1x192 .f32} {v512 : Vec Ideal S1x192x48 .f32} {v518 : Vec Ideal S1x1x48 .f32} {v522 : Vec Ideal S1x1x48 .f32} {v524 : Vec Ideal S1x1x48 .f32} {v542 : Vec Ideal S1x48x144 .f32} {v547 : Vec Ideal S1x1x144 .f32} {v578 : Vec Ideal S1x48x48 .f32} {v584 : Vec Ideal S1x1x48 .f32} {v588 : Vec Ideal S1x1x48 .f32} {v590 : Vec Ideal S1x1x48 .f32} {v608 : Vec Ideal S1x48x192 .f32} {v613 : Vec Ideal S1x1x192 .f32} {v625 : Vec Ideal S1x192x48 .f32} {v631 : Vec Ideal S1x1x48 .f32}
    {P : LayerP} {f : ℕ → Fin 48 → ℝ} (hm : Masks v0 v2 v53 v80 v83) (hl : Loaded P v522 v524 v542 v547 v578 v584 v588 v590 v608 v613 v625 v631)
    (hx : ∀ n d, ((k0_pay56 v474 v494 v496 v500 v512 v518) : FVec Ideal S256x48 .f32) (ix2 n d) = ((f n.val d : ℝ) : EReal)) (n : Fin 256) (d : Fin 48) :
    (k0_pay64 (k0_pay62 (k0_pay56 v474 v494 v496 v500 v512 v518) (k0_pay61 v2 v53 v80 v83 (k0_pay57 v522) (k0_pay58 v524) (k0_pay59 v0 v474 v494 v496 v500 v512 v518) (k0_pay60 v0 v474 v494 v496 v500 v512 v518) (Scalar.ofBits .f32 0x3727C5AC#32) v542 v547) v578 v584) (k0_pay63 v0 (k0_pay56 v474 v494 v496 v500 v512 v518) (k0_pay61 v2 v53 v80 v83 (k0_pay57 v522) (k0_pay58 v524) (k0_pay59 v0 v474 v494 v496 v500 v512 v518) (k0_pay60 v0 v474 v494 v496 v500 v512 v518) (Scalar.ofBits .f32 0x3727C5AC#32) v542 v547) v578 v584 v588 v590 v608 v613) v625 v631 : FVec Ideal S256x48 .f32) (ix2 n d) = ((layerS P f n.val d : ℝ) : EReal) :=
  (congrFun (show (k0_pay64 (k0_pay62 (k0_pay56 v474 v494 v496 v500 v512 v518) (k0_pay61 v2 v53 v80 v83 (k0_pay57 v522) (k0_pay58 v524) (k0_pay59 v0 v474 v494 v496 v500 v512 v518) (k0_pay60 v0 v474 v494 v496 v500 v512 v518) (Scalar.ofBits .f32 0x3727C5AC#32) v542 v547) v578 v584) (k0_pay63 v0 (k0_pay56 v474 v494 v496 v500 v512 v518) (k0_pay61 v2 v53 v80 v83 (k0_pay57 v522) (k0_pay58 v524) (k0_pay59 v0 v474 v494 v496 v500 v512 v518) (k0_pay60 v0 v474 v494 v496 v500 v512 v518) (Scalar.ofBits .f32 0x3727C5AC#32) v542 v547) v578 v584 v588 v590 v608 v613) v625 v631 : FVec Ideal S256x48 .f32)
    = kLayer v0 v2 v53 v80 v83 (k0_pay56 v474 v494 v496 v500 v512 v518) v522 v524 v542 v547 v578 v584 v588 v590 v608 v613 v625 v631 from rfl) (ix2 n d)).trans (kLayer_ok hm hl hx n d)

/-- Layer 4 of the kernel's run is layer 4 of the network. -/
theorem layer4 {v0 : FVec Ideal S48x48 .f32} {v2 : FVec Ideal S256x48 .f32} {v53 : IVec S3072x48 1} {v80 : IVec S12x1x48 1} {v83 : IVec S3072x256 1} {v587 : FVec Ideal S256x48 .f32} {v616 : FVec Ideal S256x192 .f32} {v625 : Vec Ideal S1x192x48 .f32} {v631 : Vec Ideal S1x1x48 .f32} {v635 : Vec Ideal S1x1x48 .f32} {v637 : Vec Ideal S1x1x48 .f32} {v655 : Vec Ideal S1x48x144 .f32} {v660 : Vec Ideal S1x1x144 .f32} {v691 : Vec Ideal S1x48x48 .f32} {v697 : Vec Ideal S1x1x48 .f32} {v701 : Vec Ideal S1x1x48 .f32} {v703 : Vec Ideal S1x1x48 .f32} {v721 : Vec Ideal S1x48x192 .f32} {v726 : Vec Ideal S1x1x192 .f32} {v738 : Vec Ideal S1x192x48 .f32} {v744 : Vec Ideal S1x1x48 .f32}
    {P : LayerP} {f : ℕ → Fin 48 → ℝ} (hm : Masks v0 v2 v53 v80 v83) (hl : Loaded P v635 v637 v655 v660 v691 v697 v701 v703 v721 v726 v738 v744)
    (hx : ∀ n d, ((k0_pay64 v587 v616 v625 v631) : FVec Ideal S256x48 .f32) (ix2 n d) = ((f n.val d : ℝ) : EReal)) (n : Fin 256) (d : Fin 48) :
    (k0_pay69 (k0_pay67 (k0_pay66 v2 v53 v80 v83 (k0_pay64 v587 v616 v625 v631) (k0_pay65 v0 v587 v616 v625 v631 v635 v637) v655 v660 v691) v697) (k0_pay68 v0 (k0_pay66 v2 v53 v80 v83 (k0_pay64 v587 v616 v625 v631) (k0_pay65 v0 v587 v616 v625 v631 v635 v637) v655 v660 v691) v697 v701 v703 v721 v726) v738 v744 : FVec Ideal S256x48 .f32) (ix2 n d) = ((layerS P f n.val d : ℝ) : EReal) :=
  (congrFun (show (k0_pay69 (k0_pay67 (k0_pay66 v2 v53 v80 v83 (k0_pay64 v587 v616 v625 v631) (k0_pay65 v0 v587 v616 v625 v631 v635 v637) v655 v660 v691) v697) (k0_pay68 v0 (k0_pay66 v2 v53 v80 v83 (k0_pay64 v587 v616 v625 v631) (k0_pay65 v0 v587 v616 v625 v631 v635 v637) v655 v660 v691) v697 v701 v703 v721 v726) v738 v744 : FVec Ideal S256x48 .f32)
    = kLayer v0 v2 v53 v80 v83 (k0_pay64 v587 v616 v625 v631) v635 v637 v655 v660 v691 v697 v701 v703 v721 v726 v738 v744 from rfl) (ix2 n d)).trans (kLayer_ok hm hl hx n d)

/-- Layer 5 of the kernel's run is layer 5 of the network. -/
theorem layer5 {v0 : FVec Ideal S48x48 .f32} {v2 : FVec Ideal S256x48 .f32} {v53 : IVec S3072x48 1} {v80 : IVec S12x1x48 1} {v83 : IVec S3072x256 1} {v700 : FVec Ideal S256x48 .f32} {v737 : FVec Ideal S256x192 .f32} {v738 : Vec Ideal S1x192x48 .f32} {v744 : Vec Ideal S1x1x48 .f32} {v748 : Vec Ideal S1x1x48 .f32} {v750 : Vec Ideal S1x1x48 .f32} {v768 : Vec Ideal S1x48x144 .f32} {v773 : Vec Ideal S1x1x144 .f32} {v804 : Vec Ideal S1x48x48 .f32} {v810 : Vec Ideal S1x1x48 .f32} {v814 : Vec Ideal S1x1x48 .f32} {v816 : Vec Ideal S1x1x48 .f32} {v834 : Vec Ideal S1x48x192 .f32} {v839 : Vec Ideal S1x1x192 .f32} {v851 : Vec Ideal S1x192x48 .f32} {v857 : Vec Ideal S1x1x48 .f32}
    {P : LayerP} {f : ℕ → Fin 48 → ℝ} (hm : Masks v0 v2 v53 v80 v83) (hl : Loaded P v748 v750 v768 v773 v804 v810 v814 v816 v834 v839 v851 v857)
    (hx : ∀ n d, ((k0_pay69 v700 v737 v738 v744) : FVec Ideal S256x48 .f32) (ix2 n d) = ((f n.val d : ℝ) : EReal)) (n : Fin 256) (d : Fin 48) :
    (addf (k0_pay74 v0 (k0_pay72 v2 v53 v80 v83 (k0_pay69 v700 v737 v738 v744) (k0_pay70 v0 v700 v737 v738 v744 v748 v750 v768) (k0_pay71 v773) v804 v810) (k0_pay73 v814) v816 v834 v839 v851) (broadcastTo S256x48 (shapeCast S1x48 v857 shapeCasts_S1x1x48_S1x48) broadcasts_S1x48_S256x48) : FVec Ideal S256x48 .f32) (ix2 n d) = ((layerS P f n.val d : ℝ) : EReal) :=
  (congrFun (show (addf (k0_pay74 v0 (k0_pay72 v2 v53 v80 v83 (k0_pay69 v700 v737 v738 v744) (k0_pay70 v0 v700 v737 v738 v744 v748 v750 v768) (k0_pay71 v773) v804 v810) (k0_pay73 v814) v816 v834 v839 v851) (broadcastTo S256x48 (shapeCast S1x48 v857 shapeCasts_S1x1x48_S1x48) broadcasts_S1x48_S256x48) : FVec Ideal S256x48 .f32)
    = kLayer v0 v2 v53 v80 v83 (k0_pay69 v700 v737 v738 v744) v748 v750 v768 v773 v804 v810 v814 v816 v834 v839 v851 v857 from rfl) (ix2 n d)).trans (kLayer_ok hm hl hx n d)

end Cert.KernelIdeal.KV

end
-- ==== Proof.KMask.lean ====
/-
  The kernel's constants and masks, entry by entry: what its integer arithmetic on row and column numbers says.
-/
module

public import proofs.«01_k».proof.Proof.KChain

@[expose] public section

set_option synthInstance.maxSize 4096

noncomputable section

namespace Cert.KernelIdeal.KV

open Idealize.ShloMosaic Cert.KernelIdeal.Gen Cert.Spec

/-- Two words that spell small numbers are equal when the numbers are. -/
theorem cmpi_ofNat {a b : ℕ} (ha : a < 2 ^ 32) (hb : b < 2 ^ 32) :
    IntOp.cmpi .eq (BitVec.ofNat 32 a) (BitVec.ofNat 32 b) = if a = b then 1#1 else 0#1 := by
  by_cases h : a = b
  · subst h; simp [IntOp.cmpi]
  · have hne : BitVec.ofNat 32 a ≠ BitVec.ofNat 32 b := fun e => h (by
      have h2 := congrArg BitVec.toNat e
      rwa [BitVec.toNat_ofNat, BitVec.toNat_ofNat, Nat.mod_eq_of_lt ha, Nat.mod_eq_of_lt hb] at h2)
    rw [if_neg h]
    show BitVec.ofBool (BitVec.ofNat 32 a == BitVec.ofNat 32 b) = 0#1
    rw [beq_false_of_ne hne]
    rfl

/-- A choice between one and zero by a word that says whether `p` holds. -/
theorem sel01 {p : Prop} [Decidable p] {w : BitVec 1} (h : w = if p then 1#1 else 0#1) :
    Scalar.select w (1 : EReal) 0 = ((if p then 1 else 0 : ℝ) : EReal) := by
  rw [select_of h, one_real, ite_real_zero]

/-- The quotient of a row's number by 256, as the kernel computes it. -/
theorem row_div (r : Fin 3072) :
    (Scalar.select
        (IntOp.andi
          (IntOp.cmpi CmpIPredicate.ne
            (IntOp.subi (BitVec.setWidth 32 (IntOp.cmpi CmpIPredicate.sgt (BitVec.ofNat 32 r.val) 0#32))
              (BitVec.setWidth 32 (IntOp.cmpi CmpIPredicate.slt (BitVec.ofNat 32 r.val) 0#32)))
            (Scalar.subi (Scalar.extui (Scalar.cmpi CmpIPredicate.sgt 256#32 0#32))
              (Scalar.extui (Scalar.cmpi CmpIPredicate.slt 256#32 0#32))))
          (IntOp.cmpi CmpIPredicate.ne (IntOp.remsi ArithUnit.vector (BitVec.ofNat 32 r.val) 256#32) 0#32))
        (IntOp.subi (IntOp.divsi ArithUnit.vector (BitVec.ofNat 32 r.val) 256#32) 1#32)
        (IntOp.divsi ArithUnit.vector (BitVec.ofNat 32 r.val) 256#32)) = BitVec.ofNat 32 (r.val / 256) := by
  revert r; decide +kernel

/-- The quotient of a column's number by 4, as the kernel computes it. -/
theorem col_div (c : Fin 48) :
    (Scalar.select
        (IntOp.andi
          (IntOp.cmpi CmpIPredicate.ne
            (IntOp.subi (BitVec.setWidth 32 (IntOp.cmpi CmpIPredicate.sgt (BitVec.ofNat 32 c.val) 0#32))
              (BitVec.setWidth 32 (IntOp.cmpi CmpIPredicate.slt (BitVec.ofNat 32 c.val) 0#32)))
            (Scalar.subi (Scalar.extui (Scalar.cmpi CmpIPredicate.sgt 4#32 0#32))
              (Scalar.extui (Scalar.cmpi CmpIPredicate.slt 4#32 0#32))))
          (IntOp.cmpi CmpIPredicate.ne (IntOp.remsi ArithUnit.vector (BitVec.ofNat 32 c.val) 4#32) 0#32))
        (IntOp.subi (IntOp.divsi ArithUnit.vector (BitVec.ofNat 32 c.val) 4#32) 1#32)
        (IntOp.divsi ArithUnit.vector (BitVec.ofNat 32 c.val) 4#32)) = BitVec.ofNat 32 (c.val / 4) := by
  revert c; decide +kernel

/-- The quotient of a number below 2304 by 48, as the kernel computes it. -/
theorem lane_div (q : Fin 2304) :
    (Scalar.select
          (IntOp.andi
            (IntOp.cmpi CmpIPredicate.ne
              (IntOp.subi (BitVec.setWidth 32 (IntOp.cmpi CmpIPredicate.sgt (BitVec.ofNat 32 q.val) 0#32))
                (BitVec.setWidth 32 (IntOp.cmpi CmpIPredicate.slt (BitVec.ofNat 32 q.val) 0#32)))
              (Scalar.subi (Scalar.extui (Scalar.cmpi CmpIPredicate.sgt 48#32 0#32))
                (Scalar.extui (Scalar.cmpi CmpIPredicate.slt 48#32 0#32))))
            (IntOp.cmpi CmpIPredicate.ne (IntOp.remsi ArithUnit.vector (BitVec.ofNat 32 q.val) 48#32) 0#32))
          (IntOp.subi (IntOp.divsi ArithUnit.vector (BitVec.ofNat 32 q.val) 48#32) 1#32)
          (IntOp.divsi ArithUnit.vector (BitVec.ofNat 32 q.val) 48#32)) = BitVec.ofNat 32 (q.val / 48) := by
  revert q; decide +kernel

/-- The remainder of a number below 2304 by 48, as the kernel computes it. -/
theorem lane_mod (q : Fin 2304) :
    (Scalar.select
          (IntOp.andi
            (IntOp.xori
              (IntOp.cmpi CmpIPredicate.slt
                (IntOp.remsi ArithUnit.vector (BitVec.ofNat 32 q.val)
                  (Scalar.select (Scalar.cmpi CmpIPredicate.eq 48#32 0#32) 1#32 48#32))
                0#32)
              (Scalar.cmpi CmpIPredicate.slt (Scalar.select (Scalar.cmpi CmpIPredicate.eq 48#32 0#32) 1#32 48#32) 0#32))
            (IntOp.cmpi CmpIPredicate.ne
              (IntOp.remsi ArithUnit.vector (BitVec.ofNat 32 q.val)
                (Scalar.select (Scalar.cmpi CmpIPredicate.eq 48#32 0#32) 1#32 48#32))
              0#32))
          (IntOp.addi
            (IntOp.remsi ArithUnit.vector (BitVec.ofNat 32 q.val)
              (Scalar.select (Scalar.cmpi CmpIPredicate.eq 48#32 0#32) 1#32 48#32))
            (Scalar.select (Scalar.cmpi CmpIPredicate.eq 48#32 0#32) 1#32 48#32))
          (IntOp.remsi ArithUnit.vector (BitVec.ofNat 32 q.val)
            (Scalar.select (Scalar.cmpi CmpIPredicate.eq 48#32 0#32) 1#32 48#32))) = BitVec.ofNat 32 (q.val % 48) := by
  revert q; decide +kernel

theorem mask53 (r : Fin 3072) (c : Fin 48) :
    k0_pay9 k0_pay5 (iota .tc S3072x48 32 [1] iota_S3072x48_d1_w32) 4#32 k0_pay6 k0_pay7 k0_pay8 (ix2 r c)
      = if r.val / 256 = c.val / 4 then 1#1 else 0#1 := by
  pointwise [k0_pay9, k0_pay5, k0_pay6, k0_pay7, k0_pay8]
  rw [row_div, col_div, cmpi_ofNat (by omega) (by omega)]

theorem mask80 (r : Fin 12) (c : Fin 48) : k0_pay10 (ix3 r 0 c) = if r.val = c.val / 4 then 1#1 else 0#1 := by
  pointwise [k0_pay10]
  revert r c
  decide +kernel

theorem mask83 (r : Fin 3072) (c : Fin 256) : k0_pay11 (ix2 r c) = if c.val < 244 then 1#1 else 0#1 := by
  pointwise [k0_pay11]
  clear r
  revert c
  decide +kernel

theorem mask86 (r : Fin 256) (c : Fin 48) : k0_pay12 (ix2 r c) = if r.val < 196 then 1#1 else 0#1 := by
  pointwise [k0_pay12]
  clear c
  revert r
  decide +kernel

theorem mask90 (r : Fin 256) (c : Fin 48) : k0_pay13 (ix2 r c) = if r.val = c.val + 196 then 1#1 else 0#1 := by
  pointwise [k0_pay13]
  revert r c
  decide +kernel

theorem avg0 (i j : Fin 48) : (k0_pay2 (F := Ideal)) (ix2 i j) = ((1 / 48 : ℝ) : EReal) := by
  pointwise [k0_pay2]
  exact inv_48

theorem ones1 (i j : Fin 48) : (k0_pay3 (F := Ideal)) (ix2 i j) = ((1 : ℝ) : EReal) := by
  pointwise [k0_pay3]; rfl

theorem ones2 (i : Fin 256) (j : Fin 48) : (k0_pay4 (F := Ideal)) (ix2 i j) = ((1 : ℝ) : EReal) := by
  pointwise [k0_pay4]; rfl

/-- The kernel's own masks. -/
theorem masks : Masks k0_pay2 k0_pay4 (k0_pay9 k0_pay5 (iota .tc S3072x48 32 [1] iota_S3072x48_d1_w32) 4#32 k0_pay6 k0_pay7 k0_pay8)
    k0_pay10 k0_pay11 := ⟨avg0, ones2, mask53, mask80, mask83⟩

/-- Which row a point's features go to. -/
theorem sel93 (r : Fin 256) (c : Fin 48) : k0_pay14 (F := Ideal) k0_pay13 (Scalar.ofBits .f32 0x3F800000#32) (ix2 r c)
    = ((if r.val = c.val + 196 then 1 else 0 : ℝ) : EReal) := by
  pointwise [k0_pay14]
  exact sel01 (mask90 r c)

theorem sel123 (j : Fin 48) (q : Fin 2304) : k0_pay15 (F := Ideal) (ix2 j q) = ((if q.val / 48 = j.val then 1 else 0 : ℝ) : EReal) := by
  pointwise [k0_pay15]
  rw [lane_div]
  exact sel01 (cmpi_ofNat (by omega) (by omega))

theorem sel145 (q : Fin 2304) (j : Fin 48) :
    k0_pay19 (F := Ideal) (iota .tc S2304x48 32 [1] iota_S2304x48_d1_w32) (Scalar.select (Scalar.cmpi .eq 48#32 0#32) 1#32 48#32)
      k0_pay16 k0_pay17 k0_pay18 (Scalar.cmpi .slt (Scalar.select (Scalar.cmpi .eq 48#32 0#32) 1#32 48#32) 0#32) (ix2 q j)
      = ((if q.val % 48 = j.val then 1 else 0 : ℝ) : EReal) := by
  pointwise [k0_pay19, k0_pay16, k0_pay17, k0_pay18]
  rw [lane_mod]
  exact sel01 (cmpi_ofNat (by omega) (by omega))

theorem sel151 (i j : Fin 48) : (k0_pay20 (F := Ideal)) (ix2 i j) = ((if i.val = j.val then 1 else 0 : ℝ) : EReal) := by
  pointwise [k0_pay20]
  exact sel01 (cmpi_ofNat (by omega) (by omega))

theorem col153 (i j : Fin 24) : k0_pay21 (ix2 i j) = BitVec.ofNat 32 j.val := by
  pointwise [k0_pay21]

theorem sel157 (i j : Fin 24) : (k0_pay22 (F := Ideal)) (ix2 i j) = ((if j ≤ i then 1 else 0 : ℝ) : EReal) := by
  pointwise [k0_pay22, k0_pay21]
  refine sel01 ?_
  revert i j
  decide +kernel

theorem col159 (i : Fin 24) (j : Fin 224) : (k0_pay23 (F := Ideal)) (ix2 i j) = ((j.val : ℝ) : EReal) := by
  pointwise [k0_pay23]
  have h : (BitVec.ofNat 32 j.val).toInt = (j.val : ℤ) := by revert j; decide +kernel
  show ((((BitVec.ofNat 32 j.val).toInt : ℤ) : ℝ) : EReal) = _
  rw [h]; rfl

end Cert.KernelIdeal.KV

end
-- ==== Proof.KEnds.lean ====
/-
  The kernel's ends: its first features, what its decoder makes of the last layer's features, and its Gaussian maps.
-/
module

public import proofs.«01_k».proof.Proof.KMask
public import proofs.«01_k».proof.Proof.Spec2

@[expose] public section

set_option synthInstance.maxSize 4096

noncomputable section

namespace Cert.KernelIdeal.KV

open Idealize.ShloMosaic Cert.KernelIdeal.Gen Cert.Spec

/-- The kernel's first features. -/
theorem kFeat0 {v86 : IVec S256x48 1} {v93 : FVec Ideal S256x48 .f32} {v160 : Vec Ideal S1x256x256 .f32} {v162 : Vec Ideal S256x48 .f32}
    {v167 : Vec Ideal S1x48 .f32} {v171 : Vec Ideal S1x48x3 .f32} {v173 : Vec Ideal S3x48 .f32} {v175 : Vec Ideal S1x48 .f32}
    {pa : ℕ → Fin 256 → ℝ} {cw : Fin 256 → Fin 48 → ℝ} {cb : Fin 48 → ℝ} {pt : ℕ → Fin 3 → ℝ} {lw : Fin 3 → Fin 48 → ℝ} {lb : Fin 48 → ℝ}
    (h86 : ∀ r c, v86 (ix2 r c) = if r.val < 196 then 1#1 else 0#1)
    (h93 : ∀ r c, v93 (ix2 r c) = ((if r.val = c.val + 196 then 1 else 0 : ℝ) : EReal))
    (h160 : ∀ n k, v160 (ix3 0 n k) = ((pa n.val k : ℝ) : EReal)) (h162 : ∀ k d, v162 (ix2 k d) = ((cw k d : ℝ) : EReal))
    (h167 : ∀ d, v167 (ix2 0 d) = ((cb d : ℝ) : EReal)) (h171 : ∀ n k, v171 (ix3 0 n k) = ((pt n.val k : ℝ) : EReal))
    (h173 : ∀ k d, v173 (ix2 k d) = ((lw k d : ℝ) : EReal)) (h175 : ∀ d, v175 (ix2 0 d) = ((lb d : ℝ) : EReal)) (n : Fin 256) (d : Fin 48) :
    k0_pay26 v86 v93 (k0_pay24 v160 v162 v167) (k0_pay25 v171 v173) v175 (ix2 n d) = ((feat0 pa cw cb pt lw lb n.val d : ℝ) : EReal) := by
  pointwise [k0_pay26, k0_pay24, k0_pay25]
  simp only [select_of (h86 _ _), h93, h160, h162, h167, h171, h173, h175, ← EReal.coe_mul, coe_sum, ← EReal.coe_add, ite_real_zero, ite_mul, one_mul, zero_mul]
  congr 1
  unfold feat0
  by_cases h1 : n.val < 196
  · rw [if_pos h1, if_pos h1]
    exact add_eq_left.2 (Finset.sum_eq_zero fun x _ => if_neg (by omega))
  · rw [if_neg h1, if_neg h1, zero_add]
    by_cases h2 : n.val < 244
    · rw [if_pos h2, Finset.sum_eq_single (⟨n.val - 196, by omega⟩ : Fin 48)]
      · rw [if_pos (by simp; omega)]
      · intro b _ hb; exact if_neg fun e => hb (Fin.ext (by simp; omega))
      · intro hh; exact absurd (Finset.mem_univ _) hh
    · rw [if_neg h2]
      refine Finset.sum_eq_zero fun x _ => if_neg (by omega)

/-- A sum over the pairs of 48 and 48, numbered row by row, that keeps the pairs whose second is `j`. -/
theorem sum_col (j : Fin 48) (f : ℕ → ℝ) : ∑ q : Fin 2304, f q.val * (if q.val % 48 = j.val then 1 else 0) = ∑ i : Fin 48, f (48 * i.val + j.val) := by
  rw [← (finProdFinEquiv (m := 48) (n := 48)).sum_comp, Fintype.sum_prod_type]
  refine Finset.sum_congr rfl fun i _ => ?_
  rw [Finset.sum_eq_single j]
  · have e : (finProdFinEquiv (i, j) : Fin (48 * 48)).val = 48 * i.val + j.val := by simp [finProdFinEquiv]; omega
    rw [e, if_pos (by omega), mul_one]
  · intro b _ hb
    have e : (finProdFinEquiv (i, b) : Fin (48 * 48)).val = 48 * i.val + b.val := by simp [finProdFinEquiv]; omega
    rw [e, if_neg (fun h => hb (Fin.ext (by omega))), mul_zero]
  · intro hh; exact absurd (Finset.mem_univ _) hh

/-- A sum over 256 rows whose terms past the patches' are zero. -/
theorem sum_patches (f : ℕ → ℝ) : ∑ m : Fin 256, (if m.val < 196 then f m.val else 0) = ∑ m : Fin 196, f m.val := by
  rw [Fin.sum_univ_eq_sum_range (fun m => if m < 196 then f m else 0) 256, Fin.sum_univ_eq_sum_range f 196,
    show (256 : ℕ) = 196 + 60 from rfl, Finset.sum_range_add, Finset.sum_eq_zero (s := Finset.range 60), add_zero]
  · exact Finset.sum_congr rfl fun m hm => if_pos (Finset.mem_range.1 hm)
  · intro m _; exact if_neg (by omega)

/-- The features' product with a matrix, after the decoder's layer norm. -/
theorem kProj {v0 : FVec Ideal S48x48 .f32} {v856 : FVec Ideal S256x48 .f32} {v857 : Vec Ideal S1x1x48 .f32} {v861 v863 : Vec Ideal S1x48 .f32}
    {v885 : Vec Ideal S48x48 .f32} {E : EndP} {w : Fin 48 → Fin 48 → ℝ} {f : ℕ → Fin 48 → ℝ} (h0 : ∀ i j, v0 (ix2 i j) = ((1 / 48 : ℝ) : EReal))
    (hf : ∀ n d, (addf v856 (broadcastTo S256x48 (shapeCast S1x48 v857 shapeCasts_S1x1x48_S1x48) broadcasts_S1x48_S256x48) : FVec Ideal S256x48 .f32) (ix2 n d) = ((f n.val d : ℝ) : EReal))
    (h861 : ∀ d, v861 (ix2 0 d) = ((E.dns d : ℝ) : EReal)) (h863 : ∀ d, v863 (ix2 0 d) = ((E.dnb d : ℝ) : EReal))
    (h885 : ∀ k d, v885 (ix2 k d) = ((w k d : ℝ) : EReal)) (n : Fin 256) (j : Fin 48) :
    k0_pay76 v0 v856 v857 v861 v863 v885 (ix2 n j) = ((projS E w f n.val j : ℝ) : EReal) := by
  have hl : ∀ d, k0_pay75 v0 v856 v857 v861 v863 (ix2 n d) = ((lnS E.dns E.dnb (f n.val) d : ℝ) : EReal) := fun d =>
    (congrFun (show k0_pay75 v0 v856 v857 v861 v863 = kLn v0 (addf v856 (broadcastTo S256x48 (shapeCast S1x48 v857 shapeCasts_S1x1x48_S1x48) broadcasts_S1x48_S256x48))
      (shapeCast S1x48 v861 shapeCasts_S1x48_S1x48) (shapeCast S1x48 v863 shapeCasts_S1x48_S1x48) from rfl) (ix2 n d)).trans
    (kLn_apply _ _ _ _ (f n.val) E.dns E.dnb n d h0 (hf n) (fun d => by pointwise; rw [h861]) (fun d => by pointwise; rw [h863]))
  pointwise [k0_pay76]
  simp only [hl, h885, ← EReal.coe_mul, coe_sum]
  rfl

/-- The patches' products, divided by their lengths. -/
theorem kUnit {v0 v1 : FVec Ideal S48x48 .f32} {v856 : FVec Ideal S256x48 .f32} {v857 : Vec Ideal S1x1x48 .f32} {v861 v863 : Vec Ideal S1x48 .f32}
    {v881 : Vec Ideal S48x48 .f32} {E : EndP} {w : Fin 48 → Fin 48 → ℝ} {f : ℕ → Fin 48 → ℝ} (h1 : ∀ i j, v1 (ix2 i j) = ((1 : ℝ) : EReal))
    (hp : ∀ n j, k0_pay76 v0 v856 v857 v861 v863 v881 (ix2 n j) = ((projS E w f n j : ℝ) : EReal)) (n : Fin 256) (j : Fin 48) :
    k0_pay77 v0 v1 v856 v857 v861 v863 v881 (ix2 n j) = ((unitS (projS E w f n.val) j : ℝ) : EReal) := by
  have e : k0_pay77 v0 v1 v856 v857 v861 v863 v881 = mulf (k0_pay76 v0 v856 v857 v861 v863 v881) (rsqrt (matmul dot_S256x48_S48x48_S256x48_1_0_0_1_n_n none
      (truncf .bf16 (mulf (k0_pay76 v0 v856 v857 v861 v863 v881) (k0_pay76 v0 v856 v857 v861 v863 v881)) bitsLt_bf16_f32)
      (truncf .bf16 v1 bitsLt_bf16_f32) (constant S256x48 .f32 0x00000000#32))) := rfl
  rw [e]
  pointwise
  simp only [hp, h1, ← EReal.coe_mul, coe_sum, mul_one]
  exact unit_rsqrt _ j

/-- The points' products, divided by their lengths. -/
theorem kUnit2 {v0 v1 : FVec Ideal S48x48 .f32} {v856 : FVec Ideal S256x48 .f32} {v857 : Vec Ideal S1x1x48 .f32} {v861 v863 : Vec Ideal S1x48 .f32}
    {v885 : Vec Ideal S48x48 .f32} {E : EndP} {w : Fin 48 → Fin 48 → ℝ} {f : ℕ → Fin 48 → ℝ} (h1 : ∀ i j, v1 (ix2 i j) = ((1 : ℝ) : EReal))
    (hp : ∀ n j, k0_pay76 v0 v856 v857 v861 v863 v885 (ix2 n j) = ((projS E w f n j : ℝ) : EReal)) (n : Fin 256) (j : Fin 48) :
    k0_pay76 v0 v856 v857 v861 v863 v885 (ix2 n j) * k0_pay78 v0 v1 v856 v857 v861 v863 v885 (ix2 n j) = ((unitS (projS E w f n.val) j : ℝ) : EReal) := by
  pointwise [k0_pay78]
  simp only [hp, h1, ← EReal.coe_mul, coe_sum, mul_one]
  exact unit_rsqrt _ j

set_option maxHeartbeats 2000000 in
/-- What the last linear map sums, for pair `q` of a row of features and a column of the result. -/
theorem k79 {v0 : FVec Ideal S48x48 .f32} {v86 : IVec S256x48 1} {v93 : FVec Ideal S256x48 .f32} {v123 : FVec Ideal S48x2304 .f32}
    {v888 v894 v899 : FVec Ideal S256x48 .f32} {v905 v907 : Vec Ideal S1x48 .f32} {v935 : Vec Ideal S256x2304 .f32} {E : EndP} {f : ℕ → Fin 48 → ℝ}
    (h0 : ∀ i j, v0 (ix2 i j) = ((1 / 48 : ℝ) : EReal))
    (h86 : ∀ r c, v86 (ix2 r c) = if r.val < 196 then 1#1 else 0#1)
    (h93 : ∀ r c, v93 (ix2 r c) = ((if r.val = c.val + 196 then 1 else 0 : ℝ) : EReal))
    (h123 : ∀ j q, v123 (ix2 j q) = ((if q.val / 48 = j.val then 1 else 0 : ℝ) : EReal))
    (h894 : ∀ n j, v894 (ix2 n j) = ((unitS (projS E E.mw f n.val) j : ℝ) : EReal))
    (h888 : ∀ n j, v888 (ix2 n j) * v899 (ix2 n j) = ((unitS (projS E E.pw f n.val) j : ℝ) : EReal))
    (h905 : ∀ d, v905 (ix2 0 d) = ((E.mns d : ℝ) : EReal)) (h907 : ∀ d, v907 (ix2 0 d) = ((E.mnb d : ℝ) : EReal))
    (h935 : ∀ (n : Fin 256) (q : Fin 2304), v935 (ix2 n q) = ((E.w n.val ⟨q.val / 48, by omega⟩ ⟨q.val % 48, by omega⟩ : ℝ) : EReal)) (q : Fin 2304) :
    k0_pay79 v0 v86 v93 v123 v888 v894 v899 v905 v907 v935 (ix2 0 q)
      = ((∑ n : Fin 196, gmS E f n.val ⟨q.val / 48, by omega⟩ * E.w n.val ⟨q.val / 48, by omega⟩ ⟨q.val % 48, by omega⟩ : ℝ) : EReal) := by
  let pf : FVec Ideal S48x48 .f32 := matmul dot_S256x48_S256x48_S48x48_0_0_1_1_n_n none v93 (mulf v888 v899) (constant S48x48 .f32 0x00000000#32)
  let pm : FVec Ideal S256x48 .f32 := matmul dot_S256x48_S48x48_S256x48_1_1_0_0_n_n none (truncf .bf16 v894 bitsLt_bf16_f32) (truncf .bf16 pf bitsLt_bf16_f32) (constant S256x48 .f32 0x00000000#32)
  let ln : FVec Ideal S256x48 .f32 := kLn v0 pm (shapeCast S1x48 v905 shapeCasts_S1x48_S1x48) (shapeCast S1x48 v907 shapeCasts_S1x48_S1x48)
  have hpf : ∀ j k, pf (ix2 j k) = ((unitS (projS E E.pw f (j.val + 196)) k : ℝ) : EReal) := fun j k => by
    show matmul dot_S256x48_S256x48_S48x48_0_0_1_1_n_n none v93 (mulf v888 v899) (constant S48x48 .f32 0x00000000#32) (ix2 j k) = _
    pointwise
    simp only [h888, h93, ← EReal.coe_mul, coe_sum, ite_mul, one_mul, zero_mul]
    rw [Finset.sum_eq_single (⟨j.val + 196, by omega⟩ : Fin 256)]
    · rw [if_pos rfl]
    · intro b _ hb; exact if_neg fun e => hb (Fin.ext e)
    · intro hh; exact absurd (Finset.mem_univ _) hh
  have hpm : ∀ n j, pm (ix2 n j) = ((simS E f n.val j : ℝ) : EReal) := fun n j => by
    show matmul dot_S256x48_S48x48_S256x48_1_1_0_0_n_n none (truncf .bf16 v894 bitsLt_bf16_f32) (truncf .bf16 pf bitsLt_bf16_f32) (constant S256x48 .f32 0x00000000#32) (ix2 n j) = _
    pointwise
    simp only [hpf, h894, ← EReal.coe_mul, coe_sum]
    rfl
  have hln : ∀ n j, ln (ix2 n j) = ((lnS E.mns E.mnb (simS E f n.val) j : ℝ) : EReal) := fun n j =>
    kLn_apply _ _ _ _ (simS E f n.val) E.mns E.mnb n j h0 (hpm n) (fun d => by pointwise; rw [h905]) (fun d => by pointwise; rw [h907])
  have e : k0_pay79 v0 v86 v93 v123 v888 v894 v899 v905 v907 v935 = shapeCast S1x2304 (multiReduction .add [0] S2304 (mulf (matmul dot_S256x48_S256x2304_S48x2304_0_0_1_1_n_n none
      (truncf .bf16 (select v86 (mulf (mulf (broadcast S256x48 (Scalar.ofBits .f32 0x3F000000#32)) ln) (addf (broadcast S256x48 (Scalar.ofBits .f32 0x3F800000#32))
        (erf (mulf ln (broadcast S256x48 (Scalar.ofBits .f32 0x3F3504F3#32)))))) (broadcast S256x48 (Scalar.ofBits .f32 0x00000000#32))) bitsLt_bf16_f32)
      (truncf .bf16 (shapeCast S256x2304 v935 shapeCasts_S256x2304_S256x2304) bitsLt_bf16_f32) (constant S48x2304 .f32 0x00000000#32)) v123)
      0x00000000#32 reduces_S48x2304_S2304 (.inl rfl) rfl) shapeCasts_S2304_S1x2304 := rfl
  have herf : ∀ x : EReal, FloatOps.erf (F := Ideal) (φ := .f32) x = Ideal.erf x := fun _ => rfl
  rw [e]
  pointwise
  simp only [select_of (h86 _ _), herf, hln, h123, h935, lit_half, lit_invRoot2, one_real, erf_real, ← EReal.coe_mul, coe_sum, ← EReal.coe_add, ite_real_zero, ite_mul, zero_mul]
  congr 1
  rw [Finset.sum_eq_single (⟨q.val / 48, by omega⟩ : Fin 48)]
  · rw [if_pos rfl, mul_one]
    exact sum_patches (fun n => gmS E f n ⟨q.val / 48, by omega⟩ * E.w n ⟨q.val / 48, by omega⟩ ⟨q.val % 48, by omega⟩)
  · intro b _ hb; rw [if_neg fun e => hb (Fin.ext e.symm), mul_zero]
  · intro hh; exact absurd (Finset.mem_univ _) hh

/-- The variances. -/
theorem k81 {v145 : FVec Ideal S2304x48 .f32} {v151 : FVec Ideal S48x48 .f32} {v942 : FVec Ideal S1x2304 .f32} {v944 : Vec Ideal S1x48 .f32} {E : EndP} {f : ℕ → Fin 48 → ℝ}
    (h145 : ∀ q j, v145 (ix2 q j) = ((if q.val % 48 = j.val then 1 else 0 : ℝ) : EReal))
    (h151 : ∀ i j, v151 (ix2 i j) = ((if i.val = j.val then 1 else 0 : ℝ) : EReal))
    (h942 : ∀ q : Fin 2304, v942 (ix2 0 q) = ((∑ n : Fin 196, gmS E f n.val ⟨q.val / 48, by omega⟩ * E.w n.val ⟨q.val / 48, by omega⟩ ⟨q.val % 48, by omega⟩ : ℝ) : EReal))
    (h944 : ∀ d, v944 (ix2 0 d) = ((E.b d : ℝ) : EReal)) (j : Fin 48) :
    k0_pay81 v145 v151 v942 v944 (ix2 j 0) = ((varsS E f j : ℝ) : EReal) := by
  have hs : ∀ x : Fin 48, (∑ q : Fin 2304, (∑ n : Fin 196, gmS E f n.val ⟨q.val / 48, by omega⟩ * E.w n.val ⟨q.val / 48, by omega⟩ ⟨q.val % 48, by omega⟩)
      * (if q.val % 48 = x.val then 1 else 0)) = ∑ n : Fin 196, ∑ i, gmS E f n.val i * E.w n.val i x := fun x => by
    refine (sum_col x (fun q => ∑ n : Fin 196, gmS E f n.val ⟨q / 48 % 48, by omega⟩ * E.w n.val ⟨q / 48 % 48, by omega⟩ ⟨q % 48, by omega⟩) |> Eq.trans ?_).trans ?_
    · refine Finset.sum_congr rfl fun q _ => ?_
      have hq : q.val / 48 % 48 = q.val / 48 := by omega
      simp only [hq]
    · rw [Finset.sum_comm]
      refine Finset.sum_congr rfl fun n _ => Finset.sum_congr rfl fun i _ => ?_
      have h1 : (48 * i.val + x.val) / 48 % 48 = i.val := by omega
      have h2 : (48 * i.val + x.val) % 48 = x.val := by omega
      simp only [h1, h2]
  pointwise [k0_pay81]
  simp only [h145, h151, h942, h944, lit_4, zero_real, ← EReal.coe_mul, coe_sum, ← EReal.coe_add, max_real, min_real, hs, ite_mul, one_mul, zero_mul]
  congr 1
  rw [Finset.sum_eq_single j]
  · rw [if_pos rfl]; rfl
  · intro b _ hb; exact if_neg fun e => hb (Fin.ext e.symm)
  · intro hh; exact absurd (Finset.mem_univ _) hh

end Cert.KernelIdeal.KV

end
-- ==== Proof.KMap.lean ====
/-
  The kernel's Gaussian maps: both halves of its output from the points' coordinates and the variances.
-/
module

public import proofs.«01_k».proof.Proof.KMask
public import proofs.«01_k».proof.Proof.Spec2

@[expose] public section

set_option synthInstance.maxSize 4096

noncomputable section

namespace Cert.KernelIdeal.KV

open Idealize.ShloMosaic Cert.KernelIdeal.Gen Cert.Spec

/-- A small number's word, read back from the number. -/
theorem word_nat {n : ℕ} (h : n ≤ 23) : Ideal.fptosi 32 (((n : ℝ) : ℝ) : EReal) = BitVec.ofNat 32 n := by
  have e : Ideal.toIntClamped (-(2 ^ (32 - 1) : ℕ)) ((2 ^ (32 - 1) : ℕ) - 1) (((n : ℝ) : ℝ) : EReal) = (n : ℤ) := by
    show max _ (min _ (if (0 : ℝ) ≤ (n : ℝ) then ⌊(n : ℝ)⌋ else ⌈(n : ℝ)⌉)) = (n : ℤ)
    rw [if_pos (Nat.cast_nonneg n), Int.floor_natCast]
    norm_num
    omega
  unfold Ideal.fptosi
  rw [e, BitVec.ofInt_natCast]

/-- One less than a count, between zero and 23. -/
theorem clip_nat (n : ℕ) : min (23 : ℝ) (max 0 ((n : ℝ) - 1)) = ((min 23 (n - 1) : ℕ) : ℝ) := by
  rcases Nat.eq_zero_or_pos n with h | h
  · subst h; norm_num
  · have h1 : ((n - 1 : ℕ) : ℝ) = (n : ℝ) - 1 := by rw [Nat.cast_sub h]; norm_num
    rw [← h1, max_eq_right (Nat.cast_nonneg _), Nat.cast_min]; norm_num

section

variable {pr pc vv : Fin 24 → ℝ}

/-- Twice the square of a point's deviation, as the kernel computes it from the counts so far. -/
theorem spread_ok (j : Fin 24) (A : Fin 24 → BitVec 32) (T V W : Fin 24 → EReal) (hA : ∀ x, A x = BitVec.ofNat 32 x.val)
    (hT : ∀ x, T x = ((if x ≤ j then 1 else 0 : ℝ) : EReal)) (hV : ∀ x, V x = ((if okS pr pc x then 1 else 0 : ℝ) : EReal))
    (hW : ∀ x, W x = ((vv x : ℝ) : EReal)) :
    Ideal.ofBits .f32 0x40000000#32 * (∑ x, Scalar.select (IntOp.cmpi .eq (A x) (FloatOps.fptosi (F := Ideal) (φ := .f32) 32
        (min (Ideal.ofBits .f32 0x41B80000#32) (max 0 (∑ x, T x * V x - 1))))) (W x) 0 + Ideal.ofBits .f32 0x40800000#32)
      * (∑ x, Scalar.select (IntOp.cmpi .eq (A x) (FloatOps.fptosi (F := Ideal) (φ := .f32) 32
        (min (Ideal.ofBits .f32 0x41B80000#32) (max 0 (∑ x, T x * V x - 1))))) (W x) 0 + Ideal.ofBits .f32 0x40800000#32)
      = ((spreadS pr pc vv j : ℝ) : EReal) := by
  have hc : ∑ x : Fin 24, (if x ≤ j then if okS pr pc x then (1 : ℝ) else 0 else 0) = (cntS pr pc j : ℝ) := by
    simp only [← ite_and]
    rw [Finset.sum_boole]
    rfl
  have hr : FloatOps.fptosi (F := Ideal) (φ := .f32) 32 (min (Ideal.ofBits .f32 0x41B80000#32) (max 0 (∑ x, T x * V x - 1)))
      = BitVec.ofNat 32 (rankS pr pc j).val := by
    simp only [hT, hV, lit_23, zero_real, one_real, ← EReal.coe_mul, coe_sum, ← EReal.coe_sub, max_real, min_real, ite_mul, one_mul, zero_mul]
    rw [hc, clip_nat]
    exact word_nat (by omega)
  rw [hr]
  have hsel : ∀ x, Scalar.select (IntOp.cmpi .eq (A x) (BitVec.ofNat 32 (rankS pr pc j).val)) (W x) 0
      = ((if x.val = (rankS pr pc j).val then vv x else 0 : ℝ) : EReal) := fun x => by
    rw [hA, select_of (cmpi_ofNat (by omega) (by omega)), hW, ite_real_zero]
  have hs : ∑ x : Fin 24, (if x.val = (rankS pr pc j).val then vv x else 0) = vv (rankS pr pc j) := by
    rw [Finset.sum_eq_single (rankS pr pc j), if_pos rfl]
    · intro b _ hb; exact if_neg fun e => hb (Fin.ext e)
    · intro hh; exact absurd (Finset.mem_univ _) hh
  simp only [hsel, coe_sum, hs, lit_2, lit_4, ← EReal.coe_add, ← EReal.coe_mul]
  rfl

theorem nv_sum : ∑ x : Fin 24, (if okS pr pc x then (1 : ℝ) else 0) = (nvS pr pc : ℝ) := by
  rw [Finset.sum_boole]; rfl

/-- One term of a map. -/
theorem term_ok (hv : ∀ i, 0 ≤ vv i) {a b s v p q : EReal} {n : EReal} (i : Fin 24) (r c : Fin 224) (ha : a = ((r.val : ℝ) : EReal)) (hb : b = ((c.val : ℝ) : EReal))
    (hp : p = ((pr i : ℝ) : EReal)) (hq : q = ((pc i : ℝ) : EReal)) (hs : s = ((spreadS pr pc vv i : ℝ) : EReal))
    (hV : v = ((if okS pr pc i then 1 else 0 : ℝ) : EReal)) (hn : n = (((nvS pr pc : ℝ) : ℝ) : EReal)) :
    Ideal.exp (Ideal.div (0 - (a - p) * (a - p)) s) * Ideal.div v (Ideal.ofBits .f32 0x40490FDB#32 * s * max n 1)
        * Ideal.exp (Ideal.div (0 - (b - q) * (b - q)) s)
      = ((Real.exp ((0 - ((r.val : ℝ) - pr i) * ((r.val : ℝ) - pr i)) / spreadS pr pc vv i)
    * ((if okS pr pc i then 1 else 0) / (piF * spreadS pr pc vv i * max (nvS pr pc : ℝ) 1))
    * Real.exp ((0 - ((c.val : ℝ) - pc i) * ((c.val : ℝ) - pc i)) / spreadS pr pc vv i) : ℝ) : EReal) := by
  subst ha hb hp hq hs hV hn
  have h1 := (spreadS_pos pr pc vv hv i).ne'
  have h2 : piF * spreadS pr pc vv i * max (nvS pr pc : ℝ) 1 ≠ 0 :=
    (mul_pos (mul_pos piF_pos (spreadS_pos pr pc vv hv i)) (lt_max_of_lt_right one_pos)).ne'
  rw [lit_pi, zero_real, one_real, max_real]
  simp only [← EReal.coe_mul, ← EReal.coe_sub]
  rw [div_real _ h1, div_real _ h1, div_real _ h2, Ideal.exp_coe, Ideal.exp_coe, ← EReal.coe_mul, ← EReal.coe_mul]

end

section

variable {pr pc vv : Fin 24 → ℝ}

/-- The first half's stretched map. -/
theorem k87 {v159 : FVec Ideal S24x224 .f32} {v954 v955 v962 v981 : FVec Ideal S24x1 .f32} (hv : ∀ i, 0 ≤ vv i)
    (h159 : ∀ i j, v159 (ix2 i j) = ((j.val : ℝ) : EReal)) (h954 : ∀ i, v954 (ix2 i 0) = ((pr i : ℝ) : EReal)) (h955 : ∀ i, v955 (ix2 i 0) = ((pc i : ℝ) : EReal))
    (h962 : ∀ i, v962 (ix2 i 0) = ((if okS pr pc i then 1 else 0 : ℝ) : EReal)) (h981 : ∀ i, v981 (ix2 i 0) = ((spreadS pr pc vv i : ℝ) : EReal))
    (hn : k0_pay86 v962 = (((nvS pr pc : ℝ) : ℝ) : EReal)) (r c : Fin 224) :
    k0_pay87 v159 v954 v955 v962 v981 (ix2 r c) = stretchE (fun r c => ((hS pr pc vv r c : ℝ) : EReal)) r c := by
  have ht := fun (i : Fin 24) (r c : Fin 224) => term_ok hv i r c (h159 i r) (h159 i c) (h954 i) (h955 i) (h981 i) (h962 i) hn
  pointwise [k0_pay87]
  simp only [ht, coe_sum, lit_2, lit_inf, lit_ninf]
  rfl

/-- The second half's stretched map, zero when no point counts. -/
theorem k95 {v159 : FVec Ideal S24x224 .f32} {v1036 v1037 v1044 v1063 v1069 : FVec Ideal S24x1 .f32} {v1067 : Ideal .f32} (hv : ∀ i, 0 ≤ vv i)
    (h159 : ∀ i j, v159 (ix2 i j) = ((j.val : ℝ) : EReal)) (h1036 : ∀ i, v1036 (ix2 i 0) = ((pr i : ℝ) : EReal)) (h1037 : ∀ i, v1037 (ix2 i 0) = ((pc i : ℝ) : EReal))
    (h1044 : ∀ i, v1044 (ix2 i 0) = ((if okS pr pc i then 1 else 0 : ℝ) : EReal)) (h1063 : ∀ i, v1063 (ix2 i 0) = ((spreadS pr pc vv i : ℝ) : EReal))
    (hn : v1067 = (((nvS pr pc : ℝ) : ℝ) : EReal)) (h1069 : ∀ i, v1069 (ix2 i 0) = Ideal.ofBits .f32 0x40490FDB#32 * v1063 (ix2 i 0)) (r c : Fin 224) :
    k0_pay95 v159 v1036 v1037 v1044 v1063 v1067 v1069 (ix2 r c) = outE pr pc vv r c := by
  have ht := fun (i : Fin 24) (r c : Fin 224) => term_ok hv i r c (h159 i r) (h159 i c) (h1036 i) (h1037 i) (h1063 i) (h1044 i) hn
  unfold outE
  by_cases h : 0 < nvS pr pc
  · rw [if_pos h]
    have h' : (0 : EReal) < v1067 := by rw [hn]; exact_mod_cast h
    pointwise [k0_pay95]
    rw [if_pos h']
    pointwise
    simp only [h1069, ht, coe_sum, lit_2, lit_inf, lit_ninf]
    rfl
  · rw [if_neg h]
    have h' : ¬ (0 : EReal) < v1067 := by rw [hn]; exact_mod_cast h
    pointwise [k0_pay95]
    rw [if_neg h']
    pointwise

/-- The first half's map, zero when no point counts. -/
theorem k88 {v985 : Ideal .f32} {v1029 : FVec Ideal S224x224 .f32} (hn : v985 = (((nvS pr pc : ℝ) : ℝ) : EReal))
    (h : ∀ r c, v1029 (ix2 r c) = stretchE (fun r c => ((hS pr pc vv r c : ℝ) : EReal)) r c) (r c : Fin 224) :
    k0_pay88 v985 v1029 (Scalar.ofBits .f32 0x00000000#32) (ix4 0 0 r c) = outE pr pc vv r c := by
  unfold outE
  by_cases h0 : 0 < nvS pr pc
  · rw [if_pos h0]
    have h' : (0 : EReal) < v985 := by rw [hn]; exact_mod_cast h0
    pointwise [k0_pay88]
    rw [if_pos h', h]
  · rw [if_neg h0]
    have h' : ¬ (0 : EReal) < v985 := by rw [hn]; exact_mod_cast h0
    pointwise [k0_pay88]
    rw [if_neg h']
    pointwise

end

section

variable {pt : ℕ → Fin 3 → ℝ} {va : Fin 48 → ℝ}

/-- One where a point counts and zero elsewhere. -/
theorem ok_if (x y : ℝ) : (if (0 : EReal) < max (x : EReal) (y : EReal) then (1 : EReal) else 0) = ((if 0 < max x y then 1 else 0 : ℝ) : EReal) := by
  rw [max_real]
  by_cases h : 0 < max x y
  · rw [if_pos h, if_pos (by exact_mod_cast h)]; rfl
  · rw [if_neg h, if_neg (by exact_mod_cast h)]; rfl

/-- The first half of the kernel's output. -/
theorem kPhase0 {v145 : FVec Ideal S2304x48 .f32} {v151 : FVec Ideal S48x48 .f32} {v153 : IVec S24x24 32} {v157 : FVec Ideal S24x24 .f32} {v159 : FVec Ideal S24x224 .f32}
    {v942 : FVec Ideal S1x2304 .f32} {v944 : Vec Ideal S1x48 .f32} {v951 : Vec Ideal S1x48x3 .f32}
    (h153 : ∀ i j, v153 (ix2 i j) = BitVec.ofNat 32 j.val) (h157 : ∀ i j, v157 (ix2 i j) = ((if j ≤ i then 1 else 0 : ℝ) : EReal))
    (h159 : ∀ i j, v159 (ix2 i j) = ((j.val : ℝ) : EReal)) (hv : ∀ j, 0 ≤ va j)
    (h951 : ∀ n k, v951 (ix3 0 n k) = ((pt n.val k : ℝ) : EReal)) (h81 : ∀ j, k0_pay81 v145 v151 v942 v944 (ix2 j 0) = ((va j : ℝ) : EReal)) (r c : Fin 224) :
    k0_pay88 (k0_pay86 (k0_pay84 v951)) (k0_pay87 v159 (k0_pay82 v951) (k0_pay83 v951) (k0_pay84 v951) (k0_pay85 v145 v151 v153 v157 v942 v944 v951))
      (Scalar.ofBits .f32 0x00000000#32) (ix4 0 0 r c)
      = outE (fun i => pt i.val 0) (fun i => pt i.val 1) (fun i => va ⟨i.val, by omega⟩) r c := by
  have h0 : ∀ i, k0_pay82 v951 (ix2 i 0) = ((pt i.val 0 : ℝ) : EReal) := fun i => by pointwise [k0_pay82, k0_pay80]; rw [h951]
  have h1 : ∀ i, k0_pay83 v951 (ix2 i 0) = ((pt i.val 1 : ℝ) : EReal) := fun i => by pointwise [k0_pay83, k0_pay80]; rw [h951]
  have h2 : ∀ i, k0_pay84 v951 (ix2 i 0) = ((if okS (fun i => pt i.val 0) (fun i => pt i.val 1) i then 1 else 0 : ℝ) : EReal) := fun i => by
    pointwise [k0_pay84]; rw [h0, h1]; exact ok_if _ _
  have hn : k0_pay86 (k0_pay84 v951) = (((nvS (fun i => pt i.val 0) (fun i => pt i.val 1) : ℝ) : ℝ) : EReal) := by
    pointwise [k0_pay86]
    simp only [h2, coe_sum, Finset.univ_unique, Finset.sum_singleton]
    rw [nv_sum]
  refine k88 hn (k87 (fun i => hv _) h159 h0 h1 h2 (fun i => ?_) hn) r c
  pointwise [k0_pay85]
  exact spread_ok i (fun x => v153 (ix2 i x)) (fun x => v157 (ix2 i x)) (fun x => k0_pay84 v951 (ix2 x 0))
    (fun x => k0_pay81 v145 v151 v942 v944 (ix2 ⟨x.val, by omega⟩ 0)) (fun x => h153 i x) (fun x => h157 i x) h2 (fun x => h81 _)

/-- The second half of the kernel's output. -/
theorem kPhase1 {v153 : IVec S24x24 32} {v157 : FVec Ideal S24x24 .f32} {v159 : FVec Ideal S24x224 .f32} {v953 : FVec Ideal S48x1 .f32} {v951 : Vec Ideal S1x48x3 .f32}
    (h153 : ∀ i j, v153 (ix2 i j) = BitVec.ofNat 32 j.val) (h157 : ∀ i j, v157 (ix2 i j) = ((if j ≤ i then 1 else 0 : ℝ) : EReal))
    (h159 : ∀ i j, v159 (ix2 i j) = ((j.val : ℝ) : EReal)) (hv : ∀ j, 0 ≤ va j)
    (h951 : ∀ n k, v951 (ix3 0 n k) = ((pt n.val k : ℝ) : EReal)) (h81 : ∀ j, v953 (ix2 j 0) = ((va j : ℝ) : EReal)) (r c : Fin 224) :
    k0_pay95 v159 (k0_pay89 (k0_pay80 v951)) (k0_pay90 (k0_pay80 v951)) (k0_pay91 (k0_pay80 v951)) (k0_pay92 v153 v157 (k0_pay80 v951) v953)
      (k0_pay93 (k0_pay80 v951)) (k0_pay94 v153 v157 (k0_pay80 v951) v953) (ix2 r c)
      = outE (fun i => pt (24 + i.val) 0) (fun i => pt (24 + i.val) 1) (fun i => va ⟨24 + i.val, by omega⟩) r c := by
  have h0 : ∀ i, k0_pay89 (k0_pay80 v951) (ix2 i 0) = ((pt (24 + i.val) 0 : ℝ) : EReal) := fun i => by pointwise [k0_pay89, k0_pay80]; rw [h951]
  have h1 : ∀ i, k0_pay90 (k0_pay80 v951) (ix2 i 0) = ((pt (24 + i.val) 1 : ℝ) : EReal) := fun i => by pointwise [k0_pay90, k0_pay80]; rw [h951]
  have h2 : ∀ i, k0_pay91 (k0_pay80 v951) (ix2 i 0)
      = ((if okS (fun i => pt (24 + i.val) 0) (fun i => pt (24 + i.val) 1) i then 1 else 0 : ℝ) : EReal) := fun i => by
    pointwise [k0_pay91]; rw [h0, h1]; exact ok_if _ _
  have hn : k0_pay93 (k0_pay80 v951) = (((nvS (fun i => pt (24 + i.val) 0) (fun i => pt (24 + i.val) 1) : ℝ) : ℝ) : EReal) := by
    pointwise [k0_pay93]
    simp only [h2, coe_sum, Finset.univ_unique, Finset.sum_singleton]
    rw [nv_sum]
  refine k95 (fun i => hv _) h159 h0 h1 h2 (fun i => ?_) hn (fun i => ?_) r c
  · pointwise [k0_pay92]
    exact spread_ok i (fun x => v153 (ix2 i x)) (fun x => v157 (ix2 i x)) (fun x => k0_pay91 (k0_pay80 v951) (ix2 x 0))
      (fun x => v953 (ix2 ⟨24 + x.val, by omega⟩ 0)) (fun x => h153 i x) (fun x => h157 i x) h2 (fun x => h81 _)
  · pointwise [k0_pay94]

end

end Cert.KernelIdeal.KV

end
-- ==== Proof.KOut.lean ====
/-
  One block of the kernel's output: what its run writes is the two Gaussian maps of one image, drawn from the variances
  that the network computes of it.
-/
module

public import proofs.«01_k».proof.Proof.Launch.KernelIdealFrame
public import Idealize.ShloMosaic.Lib.Pipeline.Value
public import Idealize.ShloMosaic.Lib.Pipeline.ValueKit.Tiles
public import proofs.«01_k».proof.Proof.Spec3
public import proofs.«01_k».proof.Proof.KChain
public import proofs.«01_k».proof.Proof.KEnds
public import proofs.«01_k».proof.Proof.KMap

@[expose] public section

set_option synthInstance.maxSize 4096

noncomputable section

namespace Cert.KernelIdeal.KV

open Idealize.ShloMosaic Cert.KernelIdeal.Gen Cert.Spec

/-- A load of a whole block. -/
theorem rdW {S : Shape} {a : Memref sig .tc .vmem S .f32} (h : a.IsWhole) (x : Vec Ideal S .f32) {off : Fin S.rank → ℕ} (h0 : off = fun _ => 0)
    (inb : ∀ a, off a + S.size a ≤ S.size a) : View.readAt (Elt Ideal) a.view (Rect.unit off S.size inb).toLoadRect (h.unread x) = x := by
  rw [View.readAt_eq_ld, h.read_unread, View.ld_unit_zero h0]

theorem off2 : (![0, 0] : Fin 2 → ℕ) = fun _ => 0 := by decide
theorem off3 : (![0, 0, 0] : Fin 3 → ℕ) = fun _ => 0 := by decide

/-- A load of one layer's part of a block. -/
theorem rd3 {n m k : ℕ} {a : Memref sig .tc .vmem ⟨3, ![n, m, k]⟩ .f32} (h : a.IsWhole) (x : Vec Ideal ⟨3, ![n, m, k]⟩ .f32) (p : ℕ)
    (inb : ∀ a : Fin 3, (![p, 0, 0] : Fin 3 → ℕ) a + (![1, m, k] : Fin 3 → ℕ) a ≤ (![n, m, k] : Fin 3 → ℕ) a) (hp : p < n) (r : Fin m) (c : Fin k) :
    View.readAt (Elt Ideal) a.view (Rect.unit (s := ⟨3, ![n, m, k]⟩) ![p, 0, 0] ![1, m, k] inb).toLoadRect (h.unread x) (ix3 (0 : Fin 1) r c) = x (ix3 ⟨p, hp⟩ r c) := by
  rw [View.readAt_eq_ld, h.read_unread]
  refine View.ld_unit_apply_of x _ _ _ _ _ fun a => ?_
  fin_cases a
  · rfl
  · exact (Nat.zero_add _).symm
  · exact (Nat.zero_add _).symm

/-- The reshape that gives the map of the second half its leading axes. -/
theorem pay1_apply (v : FVec Ideal S224x224 .f32) (r s : Fin 224) : k0_pay1 v (ix4 0 0 r s) = v (ix2 r s) := by
  pointwise [k0_pay1]

variable {N : NetP} {pa : ℕ → Fin 256 → ℝ} {pt : ℕ → Fin 3 → ℝ}

set_option maxRecDepth 8192 in
set_option maxHeartbeats 4000000 in
/-- The block's second half. -/
theorem out_half1 (c : _) (i : grid0.Coords) (a1 : Memref sig .tc .vmem S1x256x256 .f32) (h1 : a1.IsWhole) (a2 : Memref sig .tc .vmem S1x48x3 .f32) (h2 : a2.IsWhole) (a3 : Memref sig .tc .vmem S256x48 .f32) (h3 : a3.IsWhole) (a4 : Memref sig .tc .vmem S1x48 .f32) (h4 : a4.IsWhole) (a5 : Memref sig .tc .vmem S3x48 .f32) (h5 : a5.IsWhole) (a6 : Memref sig .tc .vmem S1x48 .f32) (h6 : a6.IsWhole) (a7 : Memref sig .tc .vmem S6x1x48 .f32) (h7 : a7.IsWhole) (a8 : Memref sig .tc .vmem S6x1x48 .f32) (h8 : a8.IsWhole) (a9 : Memref sig .tc .vmem S6x48x144 .f32) (h9 : a9.IsWhole) (a10 : Memref sig .tc .vmem S6x1x144 .f32) (h10 : a10.IsWhole) (a11 : Memref sig .tc .vmem S6x48x48 .f32) (h11 : a11.IsWhole) (a12 : Memref sig .tc .vmem S6x1x48 .f32) (h12 : a12.IsWhole) (a13 : Memref sig .tc .vmem S6x1x48 .f32) (h13 : a13.IsWhole) (a14 : Memref sig .tc .vmem S6x1x48 .f32) (h14 : a14.IsWhole) (a15 : Memref sig .tc .vmem S6x48x192 .f32) (h15 : a15.IsWhole) (a16 : Memref sig .tc .vmem S6x1x192 .f32) (h16 : a16.IsWhole) (a17 : Memref sig .tc .vmem S6x192x48 .f32) (h17 : a17.IsWhole) (a18 : Memref sig .tc .vmem S6x1x48 .f32) (h18 : a18.IsWhole) (a19 : Memref sig .tc .vmem S48x48 .f32) (h19 : a19.IsWhole) (a20 : Memref sig .tc .vmem S48x48 .f32) (h20 : a20.IsWhole) (a21 : Memref sig .tc .vmem S1x48 .f32) (h21 : a21.IsWhole) (a22 : Memref sig .tc .vmem S1x48 .f32) (h22 : a22.IsWhole) (a23 : Memref sig .tc .vmem S1x48 .f32) (h23 : a23.IsWhole) (a24 : Memref sig .tc .vmem S1x48 .f32) (h24 : a24.IsWhole) (a25 : Memref sig .tc .vmem S256x2304 .f32) (h25 : a25.IsWhole) (a26 : Memref sig .tc .vmem S1x48 .f32) (h26 : a26.IsWhole) (a27 : Memref sig .tc .vmem S1x2x224x224 .f32) (h27 : a27.IsWhole) (a28 : Memref sig .tc .vmem S8x128 .f32) (h28 : a28.IsWhole) (x0 : Vec Ideal S1x256x256 .f32) (x1 : Vec Ideal S1x48x3 .f32) (x2 : Vec Ideal S256x48 .f32) (x3 : Vec Ideal S1x48 .f32) (x4 : Vec Ideal S3x48 .f32) (x5 : Vec Ideal S1x48 .f32) (x6 : Vec Ideal S6x1x48 .f32) (x7 : Vec Ideal S6x1x48 .f32) (x8 : Vec Ideal S6x48x144 .f32) (x9 : Vec Ideal S6x1x144 .f32) (x10 : Vec Ideal S6x48x48 .f32) (x11 : Vec Ideal S6x1x48 .f32) (x12 : Vec Ideal S6x1x48 .f32) (x13 : Vec Ideal S6x1x48 .f32) (x14 : Vec Ideal S6x48x192 .f32) (x15 : Vec Ideal S6x1x192 .f32) (x16 : Vec Ideal S6x192x48 .f32) (x17 : Vec Ideal S6x1x48 .f32) (x18 : Vec Ideal S48x48 .f32) (x19 : Vec Ideal S48x48 .f32) (x20 : Vec Ideal S1x48 .f32) (x21 : Vec Ideal S1x48 .f32) (x22 : Vec Ideal S1x48 .f32) (x23 : Vec Ideal S1x48 .f32) (x24 : Vec Ideal S256x2304 .f32) (x25 : Vec Ideal S1x48 .f32)
    (hx0 : ∀ n k, x0 (ix3 0 n k) = ((pa n.val k : ℝ) : EReal))
    (hx1 : ∀ n k, x1 (ix3 0 n k) = ((pt n.val k : ℝ) : EReal))
    (hx2 : ∀ k d, x2 (ix2 k d) = ((N.cw k d : ℝ) : EReal))
    (hx3 : ∀ d, x3 (ix2 0 d) = ((N.cb d : ℝ) : EReal))
    (hx4 : ∀ k d, x4 (ix2 k d) = ((N.lw k d : ℝ) : EReal))
    (hx5 : ∀ d, x5 (ix2 0 d) = ((N.lb d : ℝ) : EReal))
    (hx6 : ∀ i j, x6 (ix3 i 0 j) = (((N.L i).n1s j : ℝ) : EReal))
    (hx7 : ∀ i j, x7 (ix3 i 0 j) = (((N.L i).n1b j : ℝ) : EReal))
    (hx8 : ∀ i k j, x8 (ix3 i k j) = (((N.L i).qw k j : ℝ) : EReal))
    (hx9 : ∀ i j, x9 (ix3 i 0 j) = (((N.L i).qb j : ℝ) : EReal))
    (hx10 : ∀ i k j, x10 (ix3 i k j) = (((N.L i).aw k j : ℝ) : EReal))
    (hx11 : ∀ i j, x11 (ix3 i 0 j) = (((N.L i).ab j : ℝ) : EReal))
    (hx12 : ∀ i j, x12 (ix3 i 0 j) = (((N.L i).n2s j : ℝ) : EReal))
    (hx13 : ∀ i j, x13 (ix3 i 0 j) = (((N.L i).n2b j : ℝ) : EReal))
    (hx14 : ∀ i k j, x14 (ix3 i k j) = (((N.L i).w1 k j : ℝ) : EReal))
    (hx15 : ∀ i j, x15 (ix3 i 0 j) = (((N.L i).b1 j : ℝ) : EReal))
    (hx16 : ∀ i k j, x16 (ix3 i k j) = (((N.L i).w2 k j : ℝ) : EReal))
    (hx17 : ∀ i j, x17 (ix3 i 0 j) = (((N.L i).b2 j : ℝ) : EReal))
    (hx18 : ∀ k d, x18 (ix2 k d) = ((N.E.mw k d : ℝ) : EReal))
    (hx19 : ∀ k d, x19 (ix2 k d) = ((N.E.pw k d : ℝ) : EReal))
    (hx20 : ∀ d, x20 (ix2 0 d) = ((N.E.dns d : ℝ) : EReal))
    (hx21 : ∀ d, x21 (ix2 0 d) = ((N.E.dnb d : ℝ) : EReal))
    (hx22 : ∀ d, x22 (ix2 0 d) = ((N.E.mns d : ℝ) : EReal))
    (hx23 : ∀ d, x23 (ix2 0 d) = ((N.E.mnb d : ℝ) : EReal))
    (hx24 : ∀ (n : Fin 256) (q : Fin 2304), x24 (ix2 n q) = ((N.E.w n.val ⟨q.val / 48, by omega⟩ ⟨q.val % 48, by omega⟩ : ℝ) : EReal))
    (hx25 : ∀ d, x25 (ix2 0 d) = ((N.E.b d : ℝ) : EReal))
    (r s : Fin 224) : out0_A_26 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 x0 x1 x2 x3 x4 x5 x6 x7 x8 x9 x10 x11 x12 x13 x14 x15 x16 x17 x18 x19 x20 x21 x22 x23 x24 x25 (ix4 0 1 r s) = netOut N pa pt 1 r s := by
  unfold out0_A_26
  rw [View.read_writes_eq_canon _ _ _ (cover0_A_26 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 x0 x1 x2 x3 x4 x5 x6 x7 x8 x9 x10 x11 x12 x13 x14 x15 x16 x17 x18 x19 x20 x21 x22 x23 x24 x25)]
  unfold kernelRun0_A
  dsimp only
  sl_unfold_words
  rw [show (ix4 0 1 r s : S1x2x224x224.Idx) = (Rect.unit (s := S1x2x224x224) ![0, 1, 0, 0] ![1, 1, 224, 224] inb_S1x2x224x224_S1x1x224x224_0_1_0_0).emb (ix4 0 0 r s) from
    funext fun a => Fin.ext (by fin_cases a <;> simp [Rect.emb_apply])]
  rw [View.canon_cons_emb]
  refine (pay1_apply _ r s).trans ?_

  refine kPhase1 col153 sel157 col159 (varsS_nonneg N.E (netF N pa pt)) (fun n k => (congrFun (rdW h2 x1 off3 _) (ix3 0 n k)).trans (hx1 n k)) (fun j => ?_) r s
  exact k81 sel145 sel151 (fun q => k79 avg0 mask86 sel93 sel123 (kUnit ones1 (kProj avg0 (layer5 masks
    ⟨fun j => (rd3 h7 x6 5 _ (by omega) 0 j).trans (hx6 _ j),
      fun j => (rd3 h8 x7 5 _ (by omega) 0 j).trans (hx7 _ j),
      fun k j => (rd3 h9 x8 5 _ (by omega) k j).trans (hx8 _ k j),
      fun j => (rd3 h10 x9 5 _ (by omega) 0 j).trans (hx9 _ j),
      fun k j => (rd3 h11 x10 5 _ (by omega) k j).trans (hx10 _ k j),
      fun j => (rd3 h12 x11 5 _ (by omega) 0 j).trans (hx11 _ j),
      fun j => (rd3 h13 x12 5 _ (by omega) 0 j).trans (hx12 _ j),
      fun j => (rd3 h14 x13 5 _ (by omega) 0 j).trans (hx13 _ j),
      fun k j => (rd3 h15 x14 5 _ (by omega) k j).trans (hx14 _ k j),
      fun j => (rd3 h16 x15 5 _ (by omega) 0 j).trans (hx15 _ j),
      fun k j => (rd3 h17 x16 5 _ (by omega) k j).trans (hx16 _ k j),
      fun j => (rd3 h18 x17 5 _ (by omega) 0 j).trans (hx17 _ j)⟩
    (layer4 masks
    ⟨fun j => (rd3 h7 x6 4 _ (by omega) 0 j).trans (hx6 _ j),
      fun j => (rd3 h8 x7 4 _ (by omega) 0 j).trans (hx7 _ j),
      fun k j => (rd3 h9 x8 4 _ (by omega) k j).trans (hx8 _ k j),
      fun j => (rd3 h10 x9 4 _ (by omega) 0 j).trans (hx9 _ j),
      fun k j => (rd3 h11 x10 4 _ (by omega) k j).trans (hx10 _ k j),
      fun j => (rd3 h12 x11 4 _ (by omega) 0 j).trans (hx11 _ j),
      fun j => (rd3 h13 x12 4 _ (by omega) 0 j).trans (hx12 _ j),
      fun j => (rd3 h14 x13 4 _ (by omega) 0 j).trans (hx13 _ j),
      fun k j => (rd3 h15 x14 4 _ (by omega) k j).trans (hx14 _ k j),
      fun j => (rd3 h16 x15 4 _ (by omega) 0 j).trans (hx15 _ j),
      fun k j => (rd3 h17 x16 4 _ (by omega) k j).trans (hx16 _ k j),
      fun j => (rd3 h18 x17 4 _ (by omega) 0 j).trans (hx17 _ j)⟩
    (layer3 masks
    ⟨fun j => (rd3 h7 x6 3 _ (by omega) 0 j).trans (hx6 _ j),
      fun j => (rd3 h8 x7 3 _ (by omega) 0 j).trans (hx7 _ j),
      fun k j => (rd3 h9 x8 3 _ (by omega) k j).trans (hx8 _ k j),
      fun j => (rd3 h10 x9 3 _ (by omega) 0 j).trans (hx9 _ j),
      fun k j => (rd3 h11 x10 3 _ (by omega) k j).trans (hx10 _ k j),
      fun j => (rd3 h12 x11 3 _ (by omega) 0 j).trans (hx11 _ j),
      fun j => (rd3 h13 x12 3 _ (by omega) 0 j).trans (hx12 _ j),
      fun j => (rd3 h14 x13 3 _ (by omega) 0 j).trans (hx13 _ j),
      fun k j => (rd3 h15 x14 3 _ (by omega) k j).trans (hx14 _ k j),
      fun j => (rd3 h16 x15 3 _ (by omega) 0 j).trans (hx15 _ j),
      fun k j => (rd3 h17 x16 3 _ (by omega) k j).trans (hx16 _ k j),
      fun j => (rd3 h18 x17 3 _ (by omega) 0 j).trans (hx17 _ j)⟩
    (layer2 masks
    ⟨fun j => (rd3 h7 x6 2 _ (by omega) 0 j).trans (hx6 _ j),
      fun j => (rd3 h8 x7 2 _ (by omega) 0 j).trans (hx7 _ j),
      fun k j => (rd3 h9 x8 2 _ (by omega) k j).trans (hx8 _ k j),
      fun j => (rd3 h10 x9 2 _ (by omega) 0 j).trans (hx9 _ j),
      fun k j => (rd3 h11 x10 2 _ (by omega) k j).trans (hx10 _ k j),
      fun j => (rd3 h12 x11 2 _ (by omega) 0 j).trans (hx11 _ j),
      fun j => (rd3 h13 x12 2 _ (by omega) 0 j).trans (hx12 _ j),
      fun j => (rd3 h14 x13 2 _ (by omega) 0 j).trans (hx13 _ j),
      fun k j => (rd3 h15 x14 2 _ (by omega) k j).trans (hx14 _ k j),
      fun j => (rd3 h16 x15 2 _ (by omega) 0 j).trans (hx15 _ j),
      fun k j => (rd3 h17 x16 2 _ (by omega) k j).trans (hx16 _ k j),
      fun j => (rd3 h18 x17 2 _ (by omega) 0 j).trans (hx17 _ j)⟩
    (layer1 masks
    ⟨fun j => (rd3 h7 x6 1 _ (by omega) 0 j).trans (hx6 _ j),
      fun j => (rd3 h8 x7 1 _ (by omega) 0 j).trans (hx7 _ j),
      fun k j => (rd3 h9 x8 1 _ (by omega) k j).trans (hx8 _ k j),
      fun j => (rd3 h10 x9 1 _ (by omega) 0 j).trans (hx9 _ j),
      fun k j => (rd3 h11 x10 1 _ (by omega) k j).trans (hx10 _ k j),
      fun j => (rd3 h12 x11 1 _ (by omega) 0 j).trans (hx11 _ j),
      fun j => (rd3 h13 x12 1 _ (by omega) 0 j).trans (hx12 _ j),
      fun j => (rd3 h14 x13 1 _ (by omega) 0 j).trans (hx13 _ j),
      fun k j => (rd3 h15 x14 1 _ (by omega) k j).trans (hx14 _ k j),
      fun j => (rd3 h16 x15 1 _ (by omega) 0 j).trans (hx15 _ j),
      fun k j => (rd3 h17 x16 1 _ (by omega) k j).trans (hx16 _ k j),
      fun j => (rd3 h18 x17 1 _ (by omega) 0 j).trans (hx17 _ j)⟩
    (layer0 masks
    ⟨fun j => (rd3 h7 x6 0 _ (by omega) 0 j).trans (hx6 _ j),
      fun j => (rd3 h8 x7 0 _ (by omega) 0 j).trans (hx7 _ j),
      fun k j => (rd3 h9 x8 0 _ (by omega) k j).trans (hx8 _ k j),
      fun j => (rd3 h10 x9 0 _ (by omega) 0 j).trans (hx9 _ j),
      fun k j => (rd3 h11 x10 0 _ (by omega) k j).trans (hx10 _ k j),
      fun j => (rd3 h12 x11 0 _ (by omega) 0 j).trans (hx11 _ j),
      fun j => (rd3 h13 x12 0 _ (by omega) 0 j).trans (hx12 _ j),
      fun j => (rd3 h14 x13 0 _ (by omega) 0 j).trans (hx13 _ j),
      fun k j => (rd3 h15 x14 0 _ (by omega) k j).trans (hx14 _ k j),
      fun j => (rd3 h16 x15 0 _ (by omega) 0 j).trans (hx15 _ j),
      fun k j => (rd3 h17 x16 0 _ (by omega) k j).trans (hx16 _ k j),
      fun j => (rd3 h18 x17 0 _ (by omega) 0 j).trans (hx17 _ j)⟩
    (kFeat0 mask86 sel93 (fun n k => (congrFun (rdW h1 x0 off3 _) (ix3 0 n k)).trans (hx0 n k)) (fun k d => (congrFun (rdW h3 x2 off2 _) (ix2 k d)).trans (hx2 k d)) (fun d => (congrFun (rdW h4 x3 off2 _) (ix2 0 d)).trans (hx3 d)) (fun n k => (congrFun (rdW h2 x1 off3 _) (ix3 0 n k)).trans (hx1 n k)) (fun k d => (congrFun (rdW h5 x4 off2 _) (ix2 k d)).trans (hx4 k d)) (fun d => (congrFun (rdW h6 x5 off2 _) (ix2 0 d)).trans (hx5 d))))))))) (fun d => (congrFun (rdW h21 x20 off2 _) (ix2 0 d)).trans (hx20 d)) (fun d => (congrFun (rdW h22 x21 off2 _) (ix2 0 d)).trans (hx21 d)) (fun k d => (congrFun (rdW h19 x18 off2 _) (ix2 k d)).trans (hx18 k d)))) (kUnit2 ones1 (kProj avg0 (layer5 masks
    ⟨fun j => (rd3 h7 x6 5 _ (by omega) 0 j).trans (hx6 _ j),
      fun j => (rd3 h8 x7 5 _ (by omega) 0 j).trans (hx7 _ j),
      fun k j => (rd3 h9 x8 5 _ (by omega) k j).trans (hx8 _ k j),
      fun j => (rd3 h10 x9 5 _ (by omega) 0 j).trans (hx9 _ j),
      fun k j => (rd3 h11 x10 5 _ (by omega) k j).trans (hx10 _ k j),
      fun j => (rd3 h12 x11 5 _ (by omega) 0 j).trans (hx11 _ j),
      fun j => (rd3 h13 x12 5 _ (by omega) 0 j).trans (hx12 _ j),
      fun j => (rd3 h14 x13 5 _ (by omega) 0 j).trans (hx13 _ j),
      fun k j => (rd3 h15 x14 5 _ (by omega) k j).trans (hx14 _ k j),
      fun j => (rd3 h16 x15 5 _ (by omega) 0 j).trans (hx15 _ j),
      fun k j => (rd3 h17 x16 5 _ (by omega) k j).trans (hx16 _ k j),
      fun j => (rd3 h18 x17 5 _ (by omega) 0 j).trans (hx17 _ j)⟩
    (layer4 masks
    ⟨fun j => (rd3 h7 x6 4 _ (by omega) 0 j).trans (hx6 _ j),
      fun j => (rd3 h8 x7 4 _ (by omega) 0 j).trans (hx7 _ j),
      fun k j => (rd3 h9 x8 4 _ (by omega) k j).trans (hx8 _ k j),
      fun j => (rd3 h10 x9 4 _ (by omega) 0 j).trans (hx9 _ j),
      fun k j => (rd3 h11 x10 4 _ (by omega) k j).trans (hx10 _ k j),
      fun j => (rd3 h12 x11 4 _ (by omega) 0 j).trans (hx11 _ j),
      fun j => (rd3 h13 x12 4 _ (by omega) 0 j).trans (hx12 _ j),
      fun j => (rd3 h14 x13 4 _ (by omega) 0 j).trans (hx13 _ j),
      fun k j => (rd3 h15 x14 4 _ (by omega) k j).trans (hx14 _ k j),
      fun j => (rd3 h16 x15 4 _ (by omega) 0 j).trans (hx15 _ j),
      fun k j => (rd3 h17 x16 4 _ (by omega) k j).trans (hx16 _ k j),
      fun j => (rd3 h18 x17 4 _ (by omega) 0 j).trans (hx17 _ j)⟩
    (layer3 masks
    ⟨fun j => (rd3 h7 x6 3 _ (by omega) 0 j).trans (hx6 _ j),
      fun j => (rd3 h8 x7 3 _ (by omega) 0 j).trans (hx7 _ j),
      fun k j => (rd3 h9 x8 3 _ (by omega) k j).trans (hx8 _ k j),
      fun j => (rd3 h10 x9 3 _ (by omega) 0 j).trans (hx9 _ j),
      fun k j => (rd3 h11 x10 3 _ (by omega) k j).trans (hx10 _ k j),
      fun j => (rd3 h12 x11 3 _ (by omega) 0 j).trans (hx11 _ j),
      fun j => (rd3 h13 x12 3 _ (by omega) 0 j).trans (hx12 _ j),
      fun j => (rd3 h14 x13 3 _ (by omega) 0 j).trans (hx13 _ j),
      fun k j => (rd3 h15 x14 3 _ (by omega) k j).trans (hx14 _ k j),
      fun j => (rd3 h16 x15 3 _ (by omega) 0 j).trans (hx15 _ j),
      fun k j => (rd3 h17 x16 3 _ (by omega) k j).trans (hx16 _ k j),
      fun j => (rd3 h18 x17 3 _ (by omega) 0 j).trans (hx17 _ j)⟩
    (layer2 masks
    ⟨fun j => (rd3 h7 x6 2 _ (by omega) 0 j).trans (hx6 _ j),
      fun j => (rd3 h8 x7 2 _ (by omega) 0 j).trans (hx7 _ j),
      fun k j => (rd3 h9 x8 2 _ (by omega) k j).trans (hx8 _ k j),
      fun j => (rd3 h10 x9 2 _ (by omega) 0 j).trans (hx9 _ j),
      fun k j => (rd3 h11 x10 2 _ (by omega) k j).trans (hx10 _ k j),
      fun j => (rd3 h12 x11 2 _ (by omega) 0 j).trans (hx11 _ j),
      fun j => (rd3 h13 x12 2 _ (by omega) 0 j).trans (hx12 _ j),
      fun j => (rd3 h14 x13 2 _ (by omega) 0 j).trans (hx13 _ j),
      fun k j => (rd3 h15 x14 2 _ (by omega) k j).trans (hx14 _ k j),
      fun j => (rd3 h16 x15 2 _ (by omega) 0 j).trans (hx15 _ j),
      fun k j => (rd3 h17 x16 2 _ (by omega) k j).trans (hx16 _ k j),
      fun j => (rd3 h18 x17 2 _ (by omega) 0 j).trans (hx17 _ j)⟩
    (layer1 masks
    ⟨fun j => (rd3 h7 x6 1 _ (by omega) 0 j).trans (hx6 _ j),
      fun j => (rd3 h8 x7 1 _ (by omega) 0 j).trans (hx7 _ j),
      fun k j => (rd3 h9 x8 1 _ (by omega) k j).trans (hx8 _ k j),
      fun j => (rd3 h10 x9 1 _ (by omega) 0 j).trans (hx9 _ j),
      fun k j => (rd3 h11 x10 1 _ (by omega) k j).trans (hx10 _ k j),
      fun j => (rd3 h12 x11 1 _ (by omega) 0 j).trans (hx11 _ j),
      fun j => (rd3 h13 x12 1 _ (by omega) 0 j).trans (hx12 _ j),
      fun j => (rd3 h14 x13 1 _ (by omega) 0 j).trans (hx13 _ j),
      fun k j => (rd3 h15 x14 1 _ (by omega) k j).trans (hx14 _ k j),
      fun j => (rd3 h16 x15 1 _ (by omega) 0 j).trans (hx15 _ j),
      fun k j => (rd3 h17 x16 1 _ (by omega) k j).trans (hx16 _ k j),
      fun j => (rd3 h18 x17 1 _ (by omega) 0 j).trans (hx17 _ j)⟩
    (layer0 masks
    ⟨fun j => (rd3 h7 x6 0 _ (by omega) 0 j).trans (hx6 _ j),
      fun j => (rd3 h8 x7 0 _ (by omega) 0 j).trans (hx7 _ j),
      fun k j => (rd3 h9 x8 0 _ (by omega) k j).trans (hx8 _ k j),
      fun j => (rd3 h10 x9 0 _ (by omega) 0 j).trans (hx9 _ j),
      fun k j => (rd3 h11 x10 0 _ (by omega) k j).trans (hx10 _ k j),
      fun j => (rd3 h12 x11 0 _ (by omega) 0 j).trans (hx11 _ j),
      fun j => (rd3 h13 x12 0 _ (by omega) 0 j).trans (hx12 _ j),
      fun j => (rd3 h14 x13 0 _ (by omega) 0 j).trans (hx13 _ j),
      fun k j => (rd3 h15 x14 0 _ (by omega) k j).trans (hx14 _ k j),
      fun j => (rd3 h16 x15 0 _ (by omega) 0 j).trans (hx15 _ j),
      fun k j => (rd3 h17 x16 0 _ (by omega) k j).trans (hx16 _ k j),
      fun j => (rd3 h18 x17 0 _ (by omega) 0 j).trans (hx17 _ j)⟩
    (kFeat0 mask86 sel93 (fun n k => (congrFun (rdW h1 x0 off3 _) (ix3 0 n k)).trans (hx0 n k)) (fun k d => (congrFun (rdW h3 x2 off2 _) (ix2 k d)).trans (hx2 k d)) (fun d => (congrFun (rdW h4 x3 off2 _) (ix2 0 d)).trans (hx3 d)) (fun n k => (congrFun (rdW h2 x1 off3 _) (ix3 0 n k)).trans (hx1 n k)) (fun k d => (congrFun (rdW h5 x4 off2 _) (ix2 k d)).trans (hx4 k d)) (fun d => (congrFun (rdW h6 x5 off2 _) (ix2 0 d)).trans (hx5 d))))))))) (fun d => (congrFun (rdW h21 x20 off2 _) (ix2 0 d)).trans (hx20 d)) (fun d => (congrFun (rdW h22 x21 off2 _) (ix2 0 d)).trans (hx21 d)) (fun k d => (congrFun (rdW h20 x19 off2 _) (ix2 k d)).trans (hx19 k d)))) (fun d => (congrFun (rdW h23 x22 off2 _) (ix2 0 d)).trans (hx22 d)) (fun d => (congrFun (rdW h24 x23 off2 _) (ix2 0 d)).trans (hx23 d)) (fun k d => (congrFun (rdW h25 x24 off2 _) (ix2 k d)).trans (hx24 k d)) q) (fun d => (congrFun (rdW h26 x25 off2 _) (ix2 0 d)).trans (hx25 d)) j

end Cert.KernelIdeal.KV

end
-- ==== Proof.KOut0.lean ====
/-
  The first half of one block of the kernel's output.
-/
module

public import proofs.«01_k».proof.Proof.Launch.KernelIdealFrame
public import Idealize.ShloMosaic.Lib.Pipeline.Value
public import Idealize.ShloMosaic.Lib.Pipeline.ValueKit.Tiles
public import proofs.«01_k».proof.Proof.KOut
public import proofs.«01_k».proof.Proof.Spec3
public import proofs.«01_k».proof.Proof.KChain
public import proofs.«01_k».proof.Proof.KEnds
public import proofs.«01_k».proof.Proof.KMap

@[expose] public section

set_option synthInstance.maxSize 4096

noncomputable section

namespace Cert.KernelIdeal.KV

open Idealize.ShloMosaic Cert.KernelIdeal.Gen Cert.Spec

/-- The first half's maps, without the offset. -/
theorem netOut_zero (N : NetP) (pa : ℕ → Fin 256 → ℝ) (pt : ℕ → Fin 3 → ℝ) (r s : Fin 224) : netOut N pa pt 0 r s
    = outE (fun i : Fin 24 => pt i.val 0) (fun i => pt i.val 1) (fun i => varsS N.E (netF N pa pt) ⟨i.val, by omega⟩) r s := by
  have e : ∀ n : ℕ, 24 * ((0 : Fin 2) : ℕ) + n = n := fun n => by simp
  unfold netOut
  simp only [e]

/-- The second half's store leaves the first half as it is. -/
theorem not_mem_half (r s : Fin 224) : (ix4 0 0 r s : S1x2x224x224.Idx)
    ∉ (Rect.unit (s := S1x2x224x224) ![0, 1, 0, 0] S1x1x224x224.size inb_S1x2x224x224_S1x1x224x224_0_1_0_0).set := by
  rw [← Rect.map_emb_univ, Finset.mem_map]
  rintro ⟨j, _, hj⟩
  have h := congrArg (fun i : S1x2x224x224.Idx => (i 1 : ℕ)) hj
  simp [Rect.emb_apply] at h

/-- The first half of a block that its two stores wrote is what the first half's store wrote. -/
theorem canon_half0 (w1 w0 : FVec Ideal S1x1x224x224 .f32) (r s : Fin 224) :
    View.canon (Val := Elt Ideal) (e := .f32) [⟨Rect.unit (s := S1x2x224x224) ![0, 1, 0, 0] S1x1x224x224.size inb_S1x2x224x224_S1x1x224x224_0_1_0_0, w1⟩,
      ⟨Rect.unit (s := S1x2x224x224) ![0, 0, 0, 0] S1x1x224x224.size inb_S1x2x224x224_S1x1x224x224_0_0_0_0, w0⟩] (ix4 0 0 r s) = w0 (ix4 0 0 r s) := by
  refine (View.canon_cons_of_not_mem (Val := Elt Ideal) (e := .f32) ⟨Rect.unit (s := S1x2x224x224) ![0, 1, 0, 0] S1x1x224x224.size inb_S1x2x224x224_S1x1x224x224_0_1_0_0, w1⟩ [⟨Rect.unit (s := S1x2x224x224) ![0, 0, 0, 0] S1x1x224x224.size inb_S1x2x224x224_S1x1x224x224_0_0_0_0, w0⟩] (not_mem_half r s)).trans ?_
  rw [show (ix4 0 0 r s : S1x2x224x224.Idx) = (Rect.unit (s := S1x2x224x224) ![0, 0, 0, 0] S1x1x224x224.size inb_S1x2x224x224_S1x1x224x224_0_0_0_0).emb (ix4 0 0 r s) from
    funext fun a => Fin.ext (by fin_cases a <;> simp [Rect.emb_apply])]
  exact View.canon_cons_emb _ _ _ _

variable {N : NetP} {pa : ℕ → Fin 256 → ℝ} {pt : ℕ → Fin 3 → ℝ}

set_option maxRecDepth 8192 in
set_option maxHeartbeats 4000000 in
/-- The block's first half. -/
theorem out_half0 (c : _) (i : grid0.Coords) (a1 : Memref sig .tc .vmem S1x256x256 .f32) (h1 : a1.IsWhole) (a2 : Memref sig .tc .vmem S1x48x3 .f32) (h2 : a2.IsWhole) (a3 : Memref sig .tc .vmem S256x48 .f32) (h3 : a3.IsWhole) (a4 : Memref sig .tc .vmem S1x48 .f32) (h4 : a4.IsWhole) (a5 : Memref sig .tc .vmem S3x48 .f32) (h5 : a5.IsWhole) (a6 : Memref sig .tc .vmem S1x48 .f32) (h6 : a6.IsWhole) (a7 : Memref sig .tc .vmem S6x1x48 .f32) (h7 : a7.IsWhole) (a8 : Memref sig .tc .vmem S6x1x48 .f32) (h8 : a8.IsWhole) (a9 : Memref sig .tc .vmem S6x48x144 .f32) (h9 : a9.IsWhole) (a10 : Memref sig .tc .vmem S6x1x144 .f32) (h10 : a10.IsWhole) (a11 : Memref sig .tc .vmem S6x48x48 .f32) (h11 : a11.IsWhole) (a12 : Memref sig .tc .vmem S6x1x48 .f32) (h12 : a12.IsWhole) (a13 : Memref sig .tc .vmem S6x1x48 .f32) (h13 : a13.IsWhole) (a14 : Memref sig .tc .vmem S6x1x48 .f32) (h14 : a14.IsWhole) (a15 : Memref sig .tc .vmem S6x48x192 .f32) (h15 : a15.IsWhole) (a16 : Memref sig .tc .vmem S6x1x192 .f32) (h16 : a16.IsWhole) (a17 : Memref sig .tc .vmem S6x192x48 .f32) (h17 : a17.IsWhole) (a18 : Memref sig .tc .vmem S6x1x48 .f32) (h18 : a18.IsWhole) (a19 : Memref sig .tc .vmem S48x48 .f32) (h19 : a19.IsWhole) (a20 : Memref sig .tc .vmem S48x48 .f32) (h20 : a20.IsWhole) (a21 : Memref sig .tc .vmem S1x48 .f32) (h21 : a21.IsWhole) (a22 : Memref sig .tc .vmem S1x48 .f32) (h22 : a22.IsWhole) (a23 : Memref sig .tc .vmem S1x48 .f32) (h23 : a23.IsWhole) (a24 : Memref sig .tc .vmem S1x48 .f32) (h24 : a24.IsWhole) (a25 : Memref sig .tc .vmem S256x2304 .f32) (h25 : a25.IsWhole) (a26 : Memref sig .tc .vmem S1x48 .f32) (h26 : a26.IsWhole) (a27 : Memref sig .tc .vmem S1x2x224x224 .f32) (h27 : a27.IsWhole) (a28 : Memref sig .tc .vmem S8x128 .f32) (h28 : a28.IsWhole) (x0 : Vec Ideal S1x256x256 .f32) (x1 : Vec Ideal S1x48x3 .f32) (x2 : Vec Ideal S256x48 .f32) (x3 : Vec Ideal S1x48 .f32) (x4 : Vec Ideal S3x48 .f32) (x5 : Vec Ideal S1x48 .f32) (x6 : Vec Ideal S6x1x48 .f32) (x7 : Vec Ideal S6x1x48 .f32) (x8 : Vec Ideal S6x48x144 .f32) (x9 : Vec Ideal S6x1x144 .f32) (x10 : Vec Ideal S6x48x48 .f32) (x11 : Vec Ideal S6x1x48 .f32) (x12 : Vec Ideal S6x1x48 .f32) (x13 : Vec Ideal S6x1x48 .f32) (x14 : Vec Ideal S6x48x192 .f32) (x15 : Vec Ideal S6x1x192 .f32) (x16 : Vec Ideal S6x192x48 .f32) (x17 : Vec Ideal S6x1x48 .f32) (x18 : Vec Ideal S48x48 .f32) (x19 : Vec Ideal S48x48 .f32) (x20 : Vec Ideal S1x48 .f32) (x21 : Vec Ideal S1x48 .f32) (x22 : Vec Ideal S1x48 .f32) (x23 : Vec Ideal S1x48 .f32) (x24 : Vec Ideal S256x2304 .f32) (x25 : Vec Ideal S1x48 .f32)
    (hx0 : ∀ n k, x0 (ix3 0 n k) = ((pa n.val k : ℝ) : EReal))
    (hx1 : ∀ n k, x1 (ix3 0 n k) = ((pt n.val k : ℝ) : EReal))
    (hx2 : ∀ k d, x2 (ix2 k d) = ((N.cw k d : ℝ) : EReal))
    (hx3 : ∀ d, x3 (ix2 0 d) = ((N.cb d : ℝ) : EReal))
    (hx4 : ∀ k d, x4 (ix2 k d) = ((N.lw k d : ℝ) : EReal))
    (hx5 : ∀ d, x5 (ix2 0 d) = ((N.lb d : ℝ) : EReal))
    (hx6 : ∀ i j, x6 (ix3 i 0 j) = (((N.L i).n1s j : ℝ) : EReal))
    (hx7 : ∀ i j, x7 (ix3 i 0 j) = (((N.L i).n1b j : ℝ) : EReal))
    (hx8 : ∀ i k j, x8 (ix3 i k j) = (((N.L i).qw k j : ℝ) : EReal))
    (hx9 : ∀ i j, x9 (ix3 i 0 j) = (((N.L i).qb j : ℝ) : EReal))
    (hx10 : ∀ i k j, x10 (ix3 i k j) = (((N.L i).aw k j : ℝ) : EReal))
    (hx11 : ∀ i j, x11 (ix3 i 0 j) = (((N.L i).ab j : ℝ) : EReal))
    (hx12 : ∀ i j, x12 (ix3 i 0 j) = (((N.L i).n2s j : ℝ) : EReal))
    (hx13 : ∀ i j, x13 (ix3 i 0 j) = (((N.L i).n2b j : ℝ) : EReal))
    (hx14 : ∀ i k j, x14 (ix3 i k j) = (((N.L i).w1 k j : ℝ) : EReal))
    (hx15 : ∀ i j, x15 (ix3 i 0 j) = (((N.L i).b1 j : ℝ) : EReal))
    (hx16 : ∀ i k j, x16 (ix3 i k j) = (((N.L i).w2 k j : ℝ) : EReal))
    (hx17 : ∀ i j, x17 (ix3 i 0 j) = (((N.L i).b2 j : ℝ) : EReal))
    (hx18 : ∀ k d, x18 (ix2 k d) = ((N.E.mw k d : ℝ) : EReal))
    (hx19 : ∀ k d, x19 (ix2 k d) = ((N.E.pw k d : ℝ) : EReal))
    (hx20 : ∀ d, x20 (ix2 0 d) = ((N.E.dns d : ℝ) : EReal))
    (hx21 : ∀ d, x21 (ix2 0 d) = ((N.E.dnb d : ℝ) : EReal))
    (hx22 : ∀ d, x22 (ix2 0 d) = ((N.E.mns d : ℝ) : EReal))
    (hx23 : ∀ d, x23 (ix2 0 d) = ((N.E.mnb d : ℝ) : EReal))
    (hx24 : ∀ (n : Fin 256) (q : Fin 2304), x24 (ix2 n q) = ((N.E.w n.val ⟨q.val / 48, by omega⟩ ⟨q.val % 48, by omega⟩ : ℝ) : EReal))
    (hx25 : ∀ d, x25 (ix2 0 d) = ((N.E.b d : ℝ) : EReal))
    (r s : Fin 224) : out0_A_26 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 x0 x1 x2 x3 x4 x5 x6 x7 x8 x9 x10 x11 x12 x13 x14 x15 x16 x17 x18 x19 x20 x21 x22 x23 x24 x25 (ix4 0 0 r s) = netOut N pa pt 0 r s := by
  unfold out0_A_26
  rw [View.read_writes_eq_canon _ _ _ (cover0_A_26 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 x0 x1 x2 x3 x4 x5 x6 x7 x8 x9 x10 x11 x12 x13 x14 x15 x16 x17 x18 x19 x20 x21 x22 x23 x24 x25)]
  unfold kernelRun0_A
  dsimp only
  sl_unfold_words
  refine (canon_half0 _ _ r s).trans ?_
  refine (?_ : _ = outE (fun i : Fin 24 => pt i.val 0) (fun i => pt i.val 1) (fun i => varsS N.E (netF N pa pt) ⟨i.val, by omega⟩) r s).trans (netOut_zero N pa pt r s).symm
  refine kPhase0 col153 sel157 col159 (varsS_nonneg N.E (netF N pa pt)) (fun n k => (congrFun (rdW h2 x1 off3 _) (ix3 0 n k)).trans (hx1 n k)) (fun j => ?_) r s
  exact k81 sel145 sel151 (fun q => k79 avg0 mask86 sel93 sel123 (kUnit ones1 (kProj avg0 (layer5 masks
    ⟨fun j => (rd3 h7 x6 5 _ (by omega) 0 j).trans (hx6 _ j),
      fun j => (rd3 h8 x7 5 _ (by omega) 0 j).trans (hx7 _ j),
      fun k j => (rd3 h9 x8 5 _ (by omega) k j).trans (hx8 _ k j),
      fun j => (rd3 h10 x9 5 _ (by omega) 0 j).trans (hx9 _ j),
      fun k j => (rd3 h11 x10 5 _ (by omega) k j).trans (hx10 _ k j),
      fun j => (rd3 h12 x11 5 _ (by omega) 0 j).trans (hx11 _ j),
      fun j => (rd3 h13 x12 5 _ (by omega) 0 j).trans (hx12 _ j),
      fun j => (rd3 h14 x13 5 _ (by omega) 0 j).trans (hx13 _ j),
      fun k j => (rd3 h15 x14 5 _ (by omega) k j).trans (hx14 _ k j),
      fun j => (rd3 h16 x15 5 _ (by omega) 0 j).trans (hx15 _ j),
      fun k j => (rd3 h17 x16 5 _ (by omega) k j).trans (hx16 _ k j),
      fun j => (rd3 h18 x17 5 _ (by omega) 0 j).trans (hx17 _ j)⟩
    (layer4 masks
    ⟨fun j => (rd3 h7 x6 4 _ (by omega) 0 j).trans (hx6 _ j),
      fun j => (rd3 h8 x7 4 _ (by omega) 0 j).trans (hx7 _ j),
      fun k j => (rd3 h9 x8 4 _ (by omega) k j).trans (hx8 _ k j),
      fun j => (rd3 h10 x9 4 _ (by omega) 0 j).trans (hx9 _ j),
      fun k j => (rd3 h11 x10 4 _ (by omega) k j).trans (hx10 _ k j),
      fun j => (rd3 h12 x11 4 _ (by omega) 0 j).trans (hx11 _ j),
      fun j => (rd3 h13 x12 4 _ (by omega) 0 j).trans (hx12 _ j),
      fun j => (rd3 h14 x13 4 _ (by omega) 0 j).trans (hx13 _ j),
      fun k j => (rd3 h15 x14 4 _ (by omega) k j).trans (hx14 _ k j),
      fun j => (rd3 h16 x15 4 _ (by omega) 0 j).trans (hx15 _ j),
      fun k j => (rd3 h17 x16 4 _ (by omega) k j).trans (hx16 _ k j),
      fun j => (rd3 h18 x17 4 _ (by omega) 0 j).trans (hx17 _ j)⟩
    (layer3 masks
    ⟨fun j => (rd3 h7 x6 3 _ (by omega) 0 j).trans (hx6 _ j),
      fun j => (rd3 h8 x7 3 _ (by omega) 0 j).trans (hx7 _ j),
      fun k j => (rd3 h9 x8 3 _ (by omega) k j).trans (hx8 _ k j),
      fun j => (rd3 h10 x9 3 _ (by omega) 0 j).trans (hx9 _ j),
      fun k j => (rd3 h11 x10 3 _ (by omega) k j).trans (hx10 _ k j),
      fun j => (rd3 h12 x11 3 _ (by omega) 0 j).trans (hx11 _ j),
      fun j => (rd3 h13 x12 3 _ (by omega) 0 j).trans (hx12 _ j),
      fun j => (rd3 h14 x13 3 _ (by omega) 0 j).trans (hx13 _ j),
      fun k j => (rd3 h15 x14 3 _ (by omega) k j).trans (hx14 _ k j),
      fun j => (rd3 h16 x15 3 _ (by omega) 0 j).trans (hx15 _ j),
      fun k j => (rd3 h17 x16 3 _ (by omega) k j).trans (hx16 _ k j),
      fun j => (rd3 h18 x17 3 _ (by omega) 0 j).trans (hx17 _ j)⟩
    (layer2 masks
    ⟨fun j => (rd3 h7 x6 2 _ (by omega) 0 j).trans (hx6 _ j),
      fun j => (rd3 h8 x7 2 _ (by omega) 0 j).trans (hx7 _ j),
      fun k j => (rd3 h9 x8 2 _ (by omega) k j).trans (hx8 _ k j),
      fun j => (rd3 h10 x9 2 _ (by omega) 0 j).trans (hx9 _ j),
      fun k j => (rd3 h11 x10 2 _ (by omega) k j).trans (hx10 _ k j),
      fun j => (rd3 h12 x11 2 _ (by omega) 0 j).trans (hx11 _ j),
      fun j => (rd3 h13 x12 2 _ (by omega) 0 j).trans (hx12 _ j),
      fun j => (rd3 h14 x13 2 _ (by omega) 0 j).trans (hx13 _ j),
      fun k j => (rd3 h15 x14 2 _ (by omega) k j).trans (hx14 _ k j),
      fun j => (rd3 h16 x15 2 _ (by omega) 0 j).trans (hx15 _ j),
      fun k j => (rd3 h17 x16 2 _ (by omega) k j).trans (hx16 _ k j),
      fun j => (rd3 h18 x17 2 _ (by omega) 0 j).trans (hx17 _ j)⟩
    (layer1 masks
    ⟨fun j => (rd3 h7 x6 1 _ (by omega) 0 j).trans (hx6 _ j),
      fun j => (rd3 h8 x7 1 _ (by omega) 0 j).trans (hx7 _ j),
      fun k j => (rd3 h9 x8 1 _ (by omega) k j).trans (hx8 _ k j),
      fun j => (rd3 h10 x9 1 _ (by omega) 0 j).trans (hx9 _ j),
      fun k j => (rd3 h11 x10 1 _ (by omega) k j).trans (hx10 _ k j),
      fun j => (rd3 h12 x11 1 _ (by omega) 0 j).trans (hx11 _ j),
      fun j => (rd3 h13 x12 1 _ (by omega) 0 j).trans (hx12 _ j),
      fun j => (rd3 h14 x13 1 _ (by omega) 0 j).trans (hx13 _ j),
      fun k j => (rd3 h15 x14 1 _ (by omega) k j).trans (hx14 _ k j),
      fun j => (rd3 h16 x15 1 _ (by omega) 0 j).trans (hx15 _ j),
      fun k j => (rd3 h17 x16 1 _ (by omega) k j).trans (hx16 _ k j),
      fun j => (rd3 h18 x17 1 _ (by omega) 0 j).trans (hx17 _ j)⟩
    (layer0 masks
    ⟨fun j => (rd3 h7 x6 0 _ (by omega) 0 j).trans (hx6 _ j),
      fun j => (rd3 h8 x7 0 _ (by omega) 0 j).trans (hx7 _ j),
      fun k j => (rd3 h9 x8 0 _ (by omega) k j).trans (hx8 _ k j),
      fun j => (rd3 h10 x9 0 _ (by omega) 0 j).trans (hx9 _ j),
      fun k j => (rd3 h11 x10 0 _ (by omega) k j).trans (hx10 _ k j),
      fun j => (rd3 h12 x11 0 _ (by omega) 0 j).trans (hx11 _ j),
      fun j => (rd3 h13 x12 0 _ (by omega) 0 j).trans (hx12 _ j),
      fun j => (rd3 h14 x13 0 _ (by omega) 0 j).trans (hx13 _ j),
      fun k j => (rd3 h15 x14 0 _ (by omega) k j).trans (hx14 _ k j),
      fun j => (rd3 h16 x15 0 _ (by omega) 0 j).trans (hx15 _ j),
      fun k j => (rd3 h17 x16 0 _ (by omega) k j).trans (hx16 _ k j),
      fun j => (rd3 h18 x17 0 _ (by omega) 0 j).trans (hx17 _ j)⟩
    (kFeat0 mask86 sel93 (fun n k => (congrFun (rdW h1 x0 off3 _) (ix3 0 n k)).trans (hx0 n k)) (fun k d => (congrFun (rdW h3 x2 off2 _) (ix2 k d)).trans (hx2 k d)) (fun d => (congrFun (rdW h4 x3 off2 _) (ix2 0 d)).trans (hx3 d)) (fun n k => (congrFun (rdW h2 x1 off3 _) (ix3 0 n k)).trans (hx1 n k)) (fun k d => (congrFun (rdW h5 x4 off2 _) (ix2 k d)).trans (hx4 k d)) (fun d => (congrFun (rdW h6 x5 off2 _) (ix2 0 d)).trans (hx5 d))))))))) (fun d => (congrFun (rdW h21 x20 off2 _) (ix2 0 d)).trans (hx20 d)) (fun d => (congrFun (rdW h22 x21 off2 _) (ix2 0 d)).trans (hx21 d)) (fun k d => (congrFun (rdW h19 x18 off2 _) (ix2 k d)).trans (hx18 k d)))) (kUnit2 ones1 (kProj avg0 (layer5 masks
    ⟨fun j => (rd3 h7 x6 5 _ (by omega) 0 j).trans (hx6 _ j),
      fun j => (rd3 h8 x7 5 _ (by omega) 0 j).trans (hx7 _ j),
      fun k j => (rd3 h9 x8 5 _ (by omega) k j).trans (hx8 _ k j),
      fun j => (rd3 h10 x9 5 _ (by omega) 0 j).trans (hx9 _ j),
      fun k j => (rd3 h11 x10 5 _ (by omega) k j).trans (hx10 _ k j),
      fun j => (rd3 h12 x11 5 _ (by omega) 0 j).trans (hx11 _ j),
      fun j => (rd3 h13 x12 5 _ (by omega) 0 j).trans (hx12 _ j),
      fun j => (rd3 h14 x13 5 _ (by omega) 0 j).trans (hx13 _ j),
      fun k j => (rd3 h15 x14 5 _ (by omega) k j).trans (hx14 _ k j),
      fun j => (rd3 h16 x15 5 _ (by omega) 0 j).trans (hx15 _ j),
      fun k j => (rd3 h17 x16 5 _ (by omega) k j).trans (hx16 _ k j),
      fun j => (rd3 h18 x17 5 _ (by omega) 0 j).trans (hx17 _ j)⟩
    (layer4 masks
    ⟨fun j => (rd3 h7 x6 4 _ (by omega) 0 j).trans (hx6 _ j),
      fun j => (rd3 h8 x7 4 _ (by omega) 0 j).trans (hx7 _ j),
      fun k j => (rd3 h9 x8 4 _ (by omega) k j).trans (hx8 _ k j),
      fun j => (rd3 h10 x9 4 _ (by omega) 0 j).trans (hx9 _ j),
      fun k j => (rd3 h11 x10 4 _ (by omega) k j).trans (hx10 _ k j),
      fun j => (rd3 h12 x11 4 _ (by omega) 0 j).trans (hx11 _ j),
      fun j => (rd3 h13 x12 4 _ (by omega) 0 j).trans (hx12 _ j),
      fun j => (rd3 h14 x13 4 _ (by omega) 0 j).trans (hx13 _ j),
      fun k j => (rd3 h15 x14 4 _ (by omega) k j).trans (hx14 _ k j),
      fun j => (rd3 h16 x15 4 _ (by omega) 0 j).trans (hx15 _ j),
      fun k j => (rd3 h17 x16 4 _ (by omega) k j).trans (hx16 _ k j),
      fun j => (rd3 h18 x17 4 _ (by omega) 0 j).trans (hx17 _ j)⟩
    (layer3 masks
    ⟨fun j => (rd3 h7 x6 3 _ (by omega) 0 j).trans (hx6 _ j),
      fun j => (rd3 h8 x7 3 _ (by omega) 0 j).trans (hx7 _ j),
      fun k j => (rd3 h9 x8 3 _ (by omega) k j).trans (hx8 _ k j),
      fun j => (rd3 h10 x9 3 _ (by omega) 0 j).trans (hx9 _ j),
      fun k j => (rd3 h11 x10 3 _ (by omega) k j).trans (hx10 _ k j),
      fun j => (rd3 h12 x11 3 _ (by omega) 0 j).trans (hx11 _ j),
      fun j => (rd3 h13 x12 3 _ (by omega) 0 j).trans (hx12 _ j),
      fun j => (rd3 h14 x13 3 _ (by omega) 0 j).trans (hx13 _ j),
      fun k j => (rd3 h15 x14 3 _ (by omega) k j).trans (hx14 _ k j),
      fun j => (rd3 h16 x15 3 _ (by omega) 0 j).trans (hx15 _ j),
      fun k j => (rd3 h17 x16 3 _ (by omega) k j).trans (hx16 _ k j),
      fun j => (rd3 h18 x17 3 _ (by omega) 0 j).trans (hx17 _ j)⟩
    (layer2 masks
    ⟨fun j => (rd3 h7 x6 2 _ (by omega) 0 j).trans (hx6 _ j),
      fun j => (rd3 h8 x7 2 _ (by omega) 0 j).trans (hx7 _ j),
      fun k j => (rd3 h9 x8 2 _ (by omega) k j).trans (hx8 _ k j),
      fun j => (rd3 h10 x9 2 _ (by omega) 0 j).trans (hx9 _ j),
      fun k j => (rd3 h11 x10 2 _ (by omega) k j).trans (hx10 _ k j),
      fun j => (rd3 h12 x11 2 _ (by omega) 0 j).trans (hx11 _ j),
      fun j => (rd3 h13 x12 2 _ (by omega) 0 j).trans (hx12 _ j),
      fun j => (rd3 h14 x13 2 _ (by omega) 0 j).trans (hx13 _ j),
      fun k j => (rd3 h15 x14 2 _ (by omega) k j).trans (hx14 _ k j),
      fun j => (rd3 h16 x15 2 _ (by omega) 0 j).trans (hx15 _ j),
      fun k j => (rd3 h17 x16 2 _ (by omega) k j).trans (hx16 _ k j),
      fun j => (rd3 h18 x17 2 _ (by omega) 0 j).trans (hx17 _ j)⟩
    (layer1 masks
    ⟨fun j => (rd3 h7 x6 1 _ (by omega) 0 j).trans (hx6 _ j),
      fun j => (rd3 h8 x7 1 _ (by omega) 0 j).trans (hx7 _ j),
      fun k j => (rd3 h9 x8 1 _ (by omega) k j).trans (hx8 _ k j),
      fun j => (rd3 h10 x9 1 _ (by omega) 0 j).trans (hx9 _ j),
      fun k j => (rd3 h11 x10 1 _ (by omega) k j).trans (hx10 _ k j),
      fun j => (rd3 h12 x11 1 _ (by omega) 0 j).trans (hx11 _ j),
      fun j => (rd3 h13 x12 1 _ (by omega) 0 j).trans (hx12 _ j),
      fun j => (rd3 h14 x13 1 _ (by omega) 0 j).trans (hx13 _ j),
      fun k j => (rd3 h15 x14 1 _ (by omega) k j).trans (hx14 _ k j),
      fun j => (rd3 h16 x15 1 _ (by omega) 0 j).trans (hx15 _ j),
      fun k j => (rd3 h17 x16 1 _ (by omega) k j).trans (hx16 _ k j),
      fun j => (rd3 h18 x17 1 _ (by omega) 0 j).trans (hx17 _ j)⟩
    (layer0 masks
    ⟨fun j => (rd3 h7 x6 0 _ (by omega) 0 j).trans (hx6 _ j),
      fun j => (rd3 h8 x7 0 _ (by omega) 0 j).trans (hx7 _ j),
      fun k j => (rd3 h9 x8 0 _ (by omega) k j).trans (hx8 _ k j),
      fun j => (rd3 h10 x9 0 _ (by omega) 0 j).trans (hx9 _ j),
      fun k j => (rd3 h11 x10 0 _ (by omega) k j).trans (hx10 _ k j),
      fun j => (rd3 h12 x11 0 _ (by omega) 0 j).trans (hx11 _ j),
      fun j => (rd3 h13 x12 0 _ (by omega) 0 j).trans (hx12 _ j),
      fun j => (rd3 h14 x13 0 _ (by omega) 0 j).trans (hx13 _ j),
      fun k j => (rd3 h15 x14 0 _ (by omega) k j).trans (hx14 _ k j),
      fun j => (rd3 h16 x15 0 _ (by omega) 0 j).trans (hx15 _ j),
      fun k j => (rd3 h17 x16 0 _ (by omega) k j).trans (hx16 _ k j),
      fun j => (rd3 h18 x17 0 _ (by omega) 0 j).trans (hx17 _ j)⟩
    (kFeat0 mask86 sel93 (fun n k => (congrFun (rdW h1 x0 off3 _) (ix3 0 n k)).trans (hx0 n k)) (fun k d => (congrFun (rdW h3 x2 off2 _) (ix2 k d)).trans (hx2 k d)) (fun d => (congrFun (rdW h4 x3 off2 _) (ix2 0 d)).trans (hx3 d)) (fun n k => (congrFun (rdW h2 x1 off3 _) (ix3 0 n k)).trans (hx1 n k)) (fun k d => (congrFun (rdW h5 x4 off2 _) (ix2 k d)).trans (hx4 k d)) (fun d => (congrFun (rdW h6 x5 off2 _) (ix2 0 d)).trans (hx5 d))))))))) (fun d => (congrFun (rdW h21 x20 off2 _) (ix2 0 d)).trans (hx20 d)) (fun d => (congrFun (rdW h22 x21 off2 _) (ix2 0 d)).trans (hx21 d)) (fun k d => (congrFun (rdW h20 x19 off2 _) (ix2 k d)).trans (hx19 k d)))) (fun d => (congrFun (rdW h23 x22 off2 _) (ix2 0 d)).trans (hx22 d)) (fun d => (congrFun (rdW h24 x23 off2 _) (ix2 0 d)).trans (hx23 d)) (fun k d => (congrFun (rdW h25 x24 off2 _) (ix2 k d)).trans (hx24 k d)) q) (fun d => (congrFun (rdW h26 x25 off2 _) (ix2 0 d)).trans (hx25 d)) j

end Cert.KernelIdeal.KV

end
-- ==== Proof.KArr.lean ====
/-
  The kernel's blocks as functions of the arrays it is launched with, and its result array.
-/
module

public import proofs.«01_k».proof.Proof.Launch.KernelIdealValue
public import proofs.«01_k».proof.Proof.Arrs
public import proofs.«01_k».proof.Proof.KOut
public import proofs.«01_k».proof.Proof.KOut0
public import Idealize.ShloMosaic.Lib.Pipeline.ValueKit
public import Idealize.ShloMosaic.Lib.KernelVsHost

@[expose] public section

set_option synthInstance.maxSize 4096

noncomputable section

namespace Cert.KernelIdeal.KV

open Cert.KernelIdeal Cert.KernelIdeal.Gen Idealize.ShloMosaic Idealize.ShloMosaic.TcCoe Cert.Spec

variable (m : (ℓ : Loc nD τ sig) → Buf (Elt Ideal) ℓ) (c : Dev nD)

/-- The kernel's arrays as launched. -/
def arrs : Arrs where
  a1 := m ((c : Thread nD τ).loc main_arg1)
  a2 := m ((c : Thread nD τ).loc main_arg2)
  a3 := m ((c : Thread nD τ).loc main_arg3)
  a4 := m ((c : Thread nD τ).loc main_arg4)
  a5 := m ((c : Thread nD τ).loc main_arg5)
  a6 := m ((c : Thread nD τ).loc main_arg6)
  a7 := m ((c : Thread nD τ).loc main_arg7)
  a8 := m ((c : Thread nD τ).loc main_arg8)
  a9 := m ((c : Thread nD τ).loc main_arg9)
  a10 := m ((c : Thread nD τ).loc main_arg10)
  a11 := m ((c : Thread nD τ).loc main_arg11)
  a12 := m ((c : Thread nD τ).loc main_arg12)
  a13 := m ((c : Thread nD τ).loc main_arg13)
  a14 := m ((c : Thread nD τ).loc main_arg14)
  a15 := m ((c : Thread nD τ).loc main_arg15)
  a16 := m ((c : Thread nD τ).loc main_arg16)
  a17 := m ((c : Thread nD τ).loc main_arg17)
  a18 := m ((c : Thread nD τ).loc main_arg18)
  a19 := m ((c : Thread nD τ).loc main_arg19)
  a20 := m ((c : Thread nD τ).loc main_arg20)
  a21 := m ((c : Thread nD τ).loc main_arg21)
  a22 := m ((c : Thread nD τ).loc main_arg22)
  a23 := m ((c : Thread nD τ).loc main_arg23)
  a24 := m ((c : Thread nD τ).loc main_arg24)
  a25 := m ((c : Thread nD τ).loc main_arg25)
  a26 := m ((c : Thread nD τ).loc main_arg26)

/-- The padded rows: the first 196 are the operand's, the rest the padding. -/
theorem pad24 (X : FVec Ideal S196x2304 .f32) (z : FVec Ideal S_ .f32) (n : Fin 256) (q : Fin 2304) :
    (pad S256x2304 ![0, 0] ![60, 0] ![0, 0] X z pads_S196x2304_S256x2304_0600_000 h_S_ : FVec Ideal S256x2304 .f32) (ix2 n q) = if h : n.val < 196 then X (ix2 ⟨n.val, h⟩ q) else z (Shape.Idx.first h_S_) := by
  split
  · rename_i h
    exact pad_apply_of_inside _ _ _ X z _ _ _ (ix2 ⟨n.val, h⟩ q) (fun a => by
      match a with
      | ⟨0, _⟩ => show n.val = 0 + n.val * 1; omega
      | ⟨1, _⟩ => show q.val = 0 + q.val * 1; omega)
  · rename_i h
    exact pad_apply_of_not_inside _ _ _ X z _ _ _ (0 : Fin 2) (fun hh => h (by
      have h2 : (n.val - 0) / 1 < 196 := hh.2.2
      omega))
/-- The padded patches: the first 196 rows are the operand's, the rest the padding. -/
theorem pad0 (X : FVec Ideal S32x196x256 .f32) (z : FVec Ideal S_ .f32) (b : Fin 32) (n : Fin 256) (q : Fin 256) :
    (pad S32x256x256 ![0, 0, 0] ![0, 60, 0] ![0, 0, 0] X z pads_S32x196x256_S32x256x256_000_0600_000 h_S_ : FVec Ideal S32x256x256 .f32) (ix3 b n q) = if h : n.val < 196 then X (ix3 b ⟨n.val, h⟩ q) else z (Shape.Idx.first h_S_) := by
  split
  · rename_i h
    exact pad_apply_of_inside _ _ _ X z _ _ _ (ix3 b ⟨n.val, h⟩ q) (fun a => by
      match a with
      | ⟨0, _⟩ => show b.val = 0 + b.val * 1; omega
      | ⟨1, _⟩ => show n.val = 0 + n.val * 1; omega
      | ⟨2, _⟩ => show q.val = 0 + q.val * 1; omega)
  · rename_i h
    exact pad_apply_of_not_inside _ _ _ X z _ _ _ (1 : Fin 3) (fun hh => h (by
      have h2 : (n.val - 0) / 1 < 196 := hh.2.2
      omega))

/-- The padding is zero. -/
theorem zero_read : (sitofp .f32 (constantI S_ 32 0#32) : FVec Ideal S_ .f32) (Shape.Idx.first h_S_) = ((0 : ℝ) : EReal) := by
  show (((0#32 : BitVec 32).toInt : ℝ) : EReal) = _
  simp

/-- A row of the regrouped weights. -/
theorem rows_read (X : FVec Ideal S9408x48 .f32) (n : Fin 196) (q : Fin 2304) : (shapeCast S196x2304 (shapeCast S196x48x48 X shapeCasts_S9408x48_S196x48x48) shapeCasts_S196x48x48_S196x2304 : FVec Ideal S196x2304 .f32) (ix2 n q) = X (ix2 ⟨48 * n.val + q.val / 48, by omega⟩ ⟨q.val % 48, by omega⟩) := by
  pointwise
  simp only [Nat.mul_comm 16, Nat.mul_comm 48]

/-- A patch is a square of the mask. -/
theorem patch_read (X : FVec Ideal S32x1x224x224 .f32) (b : Fin 32) (n : Fin 196) (k : Fin 256) : (shapeCast S32x196x256 (transpose S32x14x14x16x16 [0, 1, 3, 2, 4] (shapeCast S32x14x16x14x16 X shapeCasts_S32x1x224x224_S32x14x16x14x16 : FVec Ideal S32x14x16x14x16 .f32) transposes_S32x14x16x14x16_S32x14x14x16x16_0_1_3_2_4) shapeCasts_S32x14x14x16x16_S32x196x256 : FVec Ideal S32x196x256 .f32) (ix3 b n k) = X (ix4 b 0 ⟨16 * (n.val / 14) + k.val / 16, by omega⟩ ⟨16 * (n.val % 14) + k.val % 16, by omega⟩) := by
  pointwise
  simp only [Nat.mul_comm 16, Nat.mul_comm 48]

/-- The patch kernel, one column per feature. -/
theorem kern_read (X : FVec Ideal S48x1x16x16 .f32) (k : Fin 256) (j : Fin 48) : (transpose S256x48 [1, 0] (shapeCast S48x256 X shapeCasts_S48x1x16x16_S48x256 : FVec Ideal S48x256 .f32) transposes_S48x256_S256x48_1_0 : FVec Ideal S256x48 .f32) (ix2 k j) = X (ix4 j 0 ⟨k.val / 16, by omega⟩ ⟨k.val % 16, by omega⟩) := by
  pointwise

/-! Which block of its array each window holds at a grid point. -/
theorem idx0 : ∀ t : Fin cfg0.N, win0_0.index t = ![t.val, 0, 0] := (by decide +kernel : ∀ t : Fin grid0.N, _)
theorem idx1 : ∀ t : Fin cfg0.N, win0_1.index t = ![t.val, 0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0, 0] := (by decide +kernel : ∀ t : Fin grid0.N, _)
theorem idx7 : ∀ t : Fin cfg0.N, win0_7.index t = ![0, 0, 0] := (by decide +kernel : ∀ t : Fin grid0.N, _)
theorem idx8 : ∀ t : Fin cfg0.N, win0_8.index t = ![0, 0, 0] := (by decide +kernel : ∀ t : Fin grid0.N, _)
theorem idx9 : ∀ t : Fin cfg0.N, win0_9.index t = ![0, 0, 0] := (by decide +kernel : ∀ t : Fin grid0.N, _)
theorem idx10 : ∀ t : Fin cfg0.N, win0_10.index t = ![0, 0, 0] := (by decide +kernel : ∀ t : Fin grid0.N, _)
theorem idx11 : ∀ t : Fin cfg0.N, win0_11.index t = ![0, 0, 0] := (by decide +kernel : ∀ t : Fin grid0.N, _)
theorem idx12 : ∀ t : Fin cfg0.N, win0_12.index t = ![0, 0, 0] := (by decide +kernel : ∀ t : Fin grid0.N, _)
theorem idx13 : ∀ t : Fin cfg0.N, win0_13.index t = ![0, 0, 0] := (by decide +kernel : ∀ t : Fin grid0.N, _)
theorem idx14 : ∀ t : Fin cfg0.N, win0_14.index t = ![0, 0, 0] := (by decide +kernel : ∀ t : Fin grid0.N, _)
theorem idx15 : ∀ t : Fin cfg0.N, win0_15.index t = ![0, 0, 0] := (by decide +kernel : ∀ t : Fin grid0.N, _)
theorem idx16 : ∀ t : Fin cfg0.N, win0_16.index t = ![0, 0, 0] := (by decide +kernel : ∀ t : Fin grid0.N, _)
theorem idx17 : ∀ t : Fin cfg0.N, win0_17.index t = ![0, 0, 0] := (by decide +kernel : ∀ t : Fin grid0.N, _)
theorem idx18 : ∀ t : Fin cfg0.N, win0_18.index t = ![0, 0] := (by decide +kernel : ∀ t : Fin grid0.N, _)
theorem idx19 : ∀ t : Fin cfg0.N, win0_19.index t = ![0, 0] := (by decide +kernel : ∀ t : Fin grid0.N, _)
theorem idx20 : ∀ t : Fin cfg0.N, win0_20.index t = ![0, 0] := (by decide +kernel : ∀ t : Fin grid0.N, _)
theorem idx21 : ∀ t : Fin cfg0.N, win0_21.index t = ![0, 0] := (by decide +kernel : ∀ t : Fin grid0.N, _)
theorem idx22 : ∀ t : Fin cfg0.N, win0_22.index t = ![0, 0] := (by decide +kernel : ∀ t : Fin grid0.N, _)
theorem idx23 : ∀ t : Fin cfg0.N, win0_23.index t = ![0, 0] := (by decide +kernel : ∀ t : Fin grid0.N, _)
theorem idx24 : ∀ t : Fin cfg0.N, win0_24.index t = ![0, 0] := (by decide +kernel : ∀ t : Fin grid0.N, _)
theorem idx25 : ∀ t : Fin cfg0.N, win0_25.index t = ![0, 0] := (by decide +kernel : ∀ t : Fin grid0.N, _)
theorem idx26 : ∀ t : Fin cfg0.N, win0_26.index t = ![t.val, 0, 0, 0] := (by decide +kernel : ∀ t : Fin grid0.N, _)

variable (t : Fin cfg0.N)

/-! The arrays the host lines make. -/
theorem V_v9 : V m c main_v9 = shapeCast S1x48 (m ((c : Thread nD τ).loc main_arg4)) shapeCasts_S48_S1x48 := by
  simp only [V, hostOps0, hostOps0_1, hostOps0_2, hostOps0_3, hostOps0_4, List.flatten_cons, List.flatten_nil, List.append_nil, List.cons_append, List.nil_append]
  entry_read
  rfl
theorem V_v10 : V m c main_v10 = shapeCast S1x48 (m ((c : Thread nD τ).loc main_arg6)) shapeCasts_S48_S1x48 := by
  simp only [V, hostOps0, hostOps0_1, hostOps0_2, hostOps0_3, hostOps0_4, List.flatten_cons, List.flatten_nil, List.append_nil, List.cons_append, List.nil_append]
  entry_read
  rfl
theorem V_v11 : V m c main_v11 = shapeCast S6x1x48 (m ((c : Thread nD τ).loc main_arg7)) shapeCasts_S6x48_S6x1x48 := by
  simp only [V, hostOps0, hostOps0_1, hostOps0_2, hostOps0_3, hostOps0_4, List.flatten_cons, List.flatten_nil, List.append_nil, List.cons_append, List.nil_append]
  entry_read
  rfl
theorem V_v12 : V m c main_v12 = shapeCast S6x1x48 (m ((c : Thread nD τ).loc main_arg8)) shapeCasts_S6x48_S6x1x48 := by
  simp only [V, hostOps0, hostOps0_1, hostOps0_2, hostOps0_3, hostOps0_4, List.flatten_cons, List.flatten_nil, List.append_nil, List.cons_append, List.nil_append]
  entry_read
  rfl
theorem V_v13 : V m c main_v13 = shapeCast S6x1x144 (m ((c : Thread nD τ).loc main_arg10)) shapeCasts_S6x144_S6x1x144 := by
  simp only [V, hostOps0, hostOps0_1, hostOps0_2, hostOps0_3, hostOps0_4, List.flatten_cons, List.flatten_nil, List.append_nil, List.cons_append, List.nil_append]
  entry_read
  rfl
theorem V_v14 : V m c main_v14 = shapeCast S6x1x48 (m ((c : Thread nD τ).loc main_arg12)) shapeCasts_S6x48_S6x1x48 := by
  simp only [V, hostOps0, hostOps0_1, hostOps0_2, hostOps0_3, hostOps0_4, List.flatten_cons, List.flatten_nil, List.append_nil, List.cons_append, List.nil_append]
  entry_read
  rfl
theorem V_v15 : V m c main_v15 = shapeCast S6x1x48 (m ((c : Thread nD τ).loc main_arg13)) shapeCasts_S6x48_S6x1x48 := by
  simp only [V, hostOps0, hostOps0_1, hostOps0_2, hostOps0_3, hostOps0_4, List.flatten_cons, List.flatten_nil, List.append_nil, List.cons_append, List.nil_append]
  entry_read
  rfl
theorem V_v16 : V m c main_v16 = shapeCast S6x1x48 (m ((c : Thread nD τ).loc main_arg14)) shapeCasts_S6x48_S6x1x48 := by
  simp only [V, hostOps0, hostOps0_1, hostOps0_2, hostOps0_3, hostOps0_4, List.flatten_cons, List.flatten_nil, List.append_nil, List.cons_append, List.nil_append]
  entry_read
  rfl
theorem V_v17 : V m c main_v17 = shapeCast S6x1x192 (m ((c : Thread nD τ).loc main_arg16)) shapeCasts_S6x192_S6x1x192 := by
  simp only [V, hostOps0, hostOps0_1, hostOps0_2, hostOps0_3, hostOps0_4, List.flatten_cons, List.flatten_nil, List.append_nil, List.cons_append, List.nil_append]
  entry_read
  rfl
theorem V_v18 : V m c main_v18 = shapeCast S6x1x48 (m ((c : Thread nD τ).loc main_arg18)) shapeCasts_S6x48_S6x1x48 := by
  simp only [V, hostOps0, hostOps0_1, hostOps0_2, hostOps0_3, hostOps0_4, List.flatten_cons, List.flatten_nil, List.append_nil, List.cons_append, List.nil_append]
  entry_read
  rfl
theorem V_v19 : V m c main_v19 = shapeCast S1x48 (m ((c : Thread nD τ).loc main_arg21)) shapeCasts_S48_S1x48 := by
  simp only [V, hostOps0, hostOps0_1, hostOps0_2, hostOps0_3, hostOps0_4, List.flatten_cons, List.flatten_nil, List.append_nil, List.cons_append, List.nil_append]
  entry_read
  rfl
theorem V_v20 : V m c main_v20 = shapeCast S1x48 (m ((c : Thread nD τ).loc main_arg22)) shapeCasts_S48_S1x48 := by
  simp only [V, hostOps0, hostOps0_1, hostOps0_2, hostOps0_3, hostOps0_4, List.flatten_cons, List.flatten_nil, List.append_nil, List.cons_append, List.nil_append]
  entry_read
  rfl
theorem V_v21 : V m c main_v21 = shapeCast S1x48 (m ((c : Thread nD τ).loc main_arg23)) shapeCasts_S48_S1x48 := by
  simp only [V, hostOps0, hostOps0_1, hostOps0_2, hostOps0_3, hostOps0_4, List.flatten_cons, List.flatten_nil, List.append_nil, List.cons_append, List.nil_append]
  entry_read
  rfl
theorem V_v22 : V m c main_v22 = shapeCast S1x48 (m ((c : Thread nD τ).loc main_arg24)) shapeCasts_S48_S1x48 := by
  simp only [V, hostOps0, hostOps0_1, hostOps0_2, hostOps0_3, hostOps0_4, List.flatten_cons, List.flatten_nil, List.append_nil, List.cons_append, List.nil_append]
  entry_read
  rfl
theorem V_v23 : V m c main_v23 = shapeCast S1x48 (m ((c : Thread nD τ).loc main_arg26)) shapeCasts_S48_S1x48 := by
  simp only [V, hostOps0, hostOps0_1, hostOps0_2, hostOps0_3, hostOps0_4, List.flatten_cons, List.flatten_nil, List.append_nil, List.cons_append, List.nil_append]
  entry_read
  rfl
theorem V_v8 : V m c main_v8 = (pad S256x2304 ![0, 0] ![60, 0] ![0, 0] (shapeCast S196x2304 (shapeCast S196x48x48 (m ((c : Thread nD τ).loc main_arg25)) shapeCasts_S9408x48_S196x48x48) shapeCasts_S196x48x48_S196x2304 : FVec Ideal S196x2304 .f32) (sitofp .f32 (constantI S_ 32 0#32) : FVec Ideal S_ .f32) pads_S196x2304_S256x2304_0600_000 h_S_ : FVec Ideal S256x2304 .f32) := by
  simp only [V, hostOps0, hostOps0_1, hostOps0_2, hostOps0_3, hostOps0_4, List.flatten_cons, List.flatten_nil, List.append_nil, List.cons_append, List.nil_append]
  entry_read
  rfl
theorem V_v3 : V m c main_v3 = (pad S32x256x256 ![0, 0, 0] ![0, 60, 0] ![0, 0, 0] (shapeCast S32x196x256 (transpose S32x14x14x16x16 [0, 1, 3, 2, 4] (shapeCast S32x14x16x14x16 (m ((c : Thread nD τ).loc main_arg1)) shapeCasts_S32x1x224x224_S32x14x16x14x16 : FVec Ideal S32x14x16x14x16 .f32) transposes_S32x14x16x14x16_S32x14x14x16x16_0_1_3_2_4) shapeCasts_S32x14x14x16x16_S32x196x256 : FVec Ideal S32x196x256 .f32) (sitofp .f32 (constantI S_ 32 0#32) : FVec Ideal S_ .f32) pads_S32x196x256_S32x256x256_000_0600_000 h_S_ : FVec Ideal S32x256x256 .f32) := by
  simp only [V, hostOps0, hostOps0_1, hostOps0_2, hostOps0_3, hostOps0_4, List.flatten_cons, List.flatten_nil, List.append_nil, List.cons_append, List.nil_append]
  entry_read
  rfl
theorem V_v5 : V m c main_v5 = (transpose S256x48 [1, 0] (shapeCast S48x256 (m ((c : Thread nD τ).loc main_arg3)) shapeCasts_S48x1x16x16_S48x256 : FVec Ideal S48x256 .f32) transposes_S48x256_S256x48_1_0 : FVec Ideal S256x48 .f32) := by
  simp only [V, hostOps0, hostOps0_1, hostOps0_2, hostOps0_3, hostOps0_4, List.flatten_cons, List.flatten_nil, List.append_nil, List.cons_append, List.nil_append]
  entry_read
  rfl

/-! Each window's block, entry by entry. -/
theorem blk1 (i : Fin 48) (j : Fin 3) : (iblk m c 1 t : FVec Ideal S1x48x3 .f32) (ix3 0 i j) = m ((c : Thread nD τ).loc main_arg2) (ix3 ⟨t.val, t.isLt⟩ i j) := by
  blk_ext! [iblk, V, idx1 t]
theorem blk3 (j : Fin 48) : (iblk m c 3 t : FVec Ideal S1x48 .f32) (ix2 0 j) = m ((c : Thread nD τ).loc main_arg4) (ix1 j) := by
  have e : (iblk m c 3 t : FVec Ideal S1x48 .f32) (ix2 0 j) = V m c main_v9 (ix2 0 j) := by blk_ext [iblk, idx3 t]
  rw [e, V_v9]
  pointwise
theorem blk4 (i : Fin 3) (j : Fin 48) : (iblk m c 4 t : FVec Ideal S3x48 .f32) (ix2 i j) = m ((c : Thread nD τ).loc main_arg5) (ix2 i j) := by
  blk_ext! [iblk, V, idx4 t]
theorem blk5 (j : Fin 48) : (iblk m c 5 t : FVec Ideal S1x48 .f32) (ix2 0 j) = m ((c : Thread nD τ).loc main_arg6) (ix1 j) := by
  have e : (iblk m c 5 t : FVec Ideal S1x48 .f32) (ix2 0 j) = V m c main_v10 (ix2 0 j) := by blk_ext [iblk, idx5 t]
  rw [e, V_v10]
  pointwise
theorem blk6 (i : Fin 6) (j : Fin 48) : (iblk m c 6 t : FVec Ideal S6x1x48 .f32) (ix3 i 0 j) = m ((c : Thread nD τ).loc main_arg7) (ix2 i j) := by
  have e : (iblk m c 6 t : FVec Ideal S6x1x48 .f32) (ix3 i 0 j) = V m c main_v11 (ix3 i 0 j) := by blk_ext [iblk, idx6 t]
  rw [e, V_v11]
  pointwise
theorem blk7 (i : Fin 6) (j : Fin 48) : (iblk m c 7 t : FVec Ideal S6x1x48 .f32) (ix3 i 0 j) = m ((c : Thread nD τ).loc main_arg8) (ix2 i j) := by
  have e : (iblk m c 7 t : FVec Ideal S6x1x48 .f32) (ix3 i 0 j) = V m c main_v12 (ix3 i 0 j) := by blk_ext [iblk, idx7 t]
  rw [e, V_v12]
  pointwise
theorem blk8 (i : Fin 6) (k : Fin 48) (j : Fin 144) : (iblk m c 8 t : FVec Ideal S6x48x144 .f32) (ix3 i k j) = m ((c : Thread nD τ).loc main_arg9) (ix3 i k j) := by
  blk_ext! [iblk, V, idx8 t]
theorem blk9 (i : Fin 6) (j : Fin 144) : (iblk m c 9 t : FVec Ideal S6x1x144 .f32) (ix3 i 0 j) = m ((c : Thread nD τ).loc main_arg10) (ix2 i j) := by
  have e : (iblk m c 9 t : FVec Ideal S6x1x144 .f32) (ix3 i 0 j) = V m c main_v13 (ix3 i 0 j) := by blk_ext [iblk, idx9 t]
  rw [e, V_v13]
  pointwise
theorem blk10 (i : Fin 6) (k : Fin 48) (j : Fin 48) : (iblk m c 10 t : FVec Ideal S6x48x48 .f32) (ix3 i k j) = m ((c : Thread nD τ).loc main_arg11) (ix3 i k j) := by
  blk_ext! [iblk, V, idx10 t]
theorem blk11 (i : Fin 6) (j : Fin 48) : (iblk m c 11 t : FVec Ideal S6x1x48 .f32) (ix3 i 0 j) = m ((c : Thread nD τ).loc main_arg12) (ix2 i j) := by
  have e : (iblk m c 11 t : FVec Ideal S6x1x48 .f32) (ix3 i 0 j) = V m c main_v14 (ix3 i 0 j) := by blk_ext [iblk, idx11 t]
  rw [e, V_v14]
  pointwise
theorem blk12 (i : Fin 6) (j : Fin 48) : (iblk m c 12 t : FVec Ideal S6x1x48 .f32) (ix3 i 0 j) = m ((c : Thread nD τ).loc main_arg13) (ix2 i j) := by
  have e : (iblk m c 12 t : FVec Ideal S6x1x48 .f32) (ix3 i 0 j) = V m c main_v15 (ix3 i 0 j) := by blk_ext [iblk, idx12 t]
  rw [e, V_v15]
  pointwise
theorem blk13 (i : Fin 6) (j : Fin 48) : (iblk m c 13 t : FVec Ideal S6x1x48 .f32) (ix3 i 0 j) = m ((c : Thread nD τ).loc main_arg14) (ix2 i j) := by
  have e : (iblk m c 13 t : FVec Ideal S6x1x48 .f32) (ix3 i 0 j) = V m c main_v16 (ix3 i 0 j) := by blk_ext [iblk, idx13 t]
  rw [e, V_v16]
  pointwise
theorem blk14 (i : Fin 6) (k : Fin 48) (j : Fin 192) : (iblk m c 14 t : FVec Ideal S6x48x192 .f32) (ix3 i k j) = m ((c : Thread nD τ).loc main_arg15) (ix3 i k j) := by
  blk_ext! [iblk, V, idx14 t]
theorem blk15 (i : Fin 6) (j : Fin 192) : (iblk m c 15 t : FVec Ideal S6x1x192 .f32) (ix3 i 0 j) = m ((c : Thread nD τ).loc main_arg16) (ix2 i j) := by
  have e : (iblk m c 15 t : FVec Ideal S6x1x192 .f32) (ix3 i 0 j) = V m c main_v17 (ix3 i 0 j) := by blk_ext [iblk, idx15 t]
  rw [e, V_v17]
  pointwise
theorem blk16 (i : Fin 6) (k : Fin 192) (j : Fin 48) : (iblk m c 16 t : FVec Ideal S6x192x48 .f32) (ix3 i k j) = m ((c : Thread nD τ).loc main_arg17) (ix3 i k j) := by
  blk_ext! [iblk, V, idx16 t]
theorem blk17 (i : Fin 6) (j : Fin 48) : (iblk m c 17 t : FVec Ideal S6x1x48 .f32) (ix3 i 0 j) = m ((c : Thread nD τ).loc main_arg18) (ix2 i j) := by
  have e : (iblk m c 17 t : FVec Ideal S6x1x48 .f32) (ix3 i 0 j) = V m c main_v18 (ix3 i 0 j) := by blk_ext [iblk, idx17 t]
  rw [e, V_v18]
  pointwise
theorem blk18 (i : Fin 48) (j : Fin 48) : (iblk m c 18 t : FVec Ideal S48x48 .f32) (ix2 i j) = m ((c : Thread nD τ).loc main_arg19) (ix2 i j) := by
  blk_ext! [iblk, V, idx18 t]
theorem blk19 (i : Fin 48) (j : Fin 48) : (iblk m c 19 t : FVec Ideal S48x48 .f32) (ix2 i j) = m ((c : Thread nD τ).loc main_arg20) (ix2 i j) := by
  blk_ext! [iblk, V, idx19 t]
theorem blk20 (j : Fin 48) : (iblk m c 20 t : FVec Ideal S1x48 .f32) (ix2 0 j) = m ((c : Thread nD τ).loc main_arg21) (ix1 j) := by
  have e : (iblk m c 20 t : FVec Ideal S1x48 .f32) (ix2 0 j) = V m c main_v19 (ix2 0 j) := by blk_ext [iblk, idx20 t]
  rw [e, V_v19]
  pointwise
theorem blk21 (j : Fin 48) : (iblk m c 21 t : FVec Ideal S1x48 .f32) (ix2 0 j) = m ((c : Thread nD τ).loc main_arg22) (ix1 j) := by
  have e : (iblk m c 21 t : FVec Ideal S1x48 .f32) (ix2 0 j) = V m c main_v20 (ix2 0 j) := by blk_ext [iblk, idx21 t]
  rw [e, V_v20]
  pointwise
theorem blk22 (j : Fin 48) : (iblk m c 22 t : FVec Ideal S1x48 .f32) (ix2 0 j) = m ((c : Thread nD τ).loc main_arg23) (ix1 j) := by
  have e : (iblk m c 22 t : FVec Ideal S1x48 .f32) (ix2 0 j) = V m c main_v21 (ix2 0 j) := by blk_ext [iblk, idx22 t]
  rw [e, V_v21]
  pointwise
theorem blk23 (j : Fin 48) : (iblk m c 23 t : FVec Ideal S1x48 .f32) (ix2 0 j) = m ((c : Thread nD τ).loc main_arg24) (ix1 j) := by
  have e : (iblk m c 23 t : FVec Ideal S1x48 .f32) (ix2 0 j) = V m c main_v22 (ix2 0 j) := by blk_ext [iblk, idx23 t]
  rw [e, V_v22]
  pointwise
theorem blk25 (j : Fin 48) : (iblk m c 25 t : FVec Ideal S1x48 .f32) (ix2 0 j) = m ((c : Thread nD τ).loc main_arg26) (ix1 j) := by
  have e : (iblk m c 25 t : FVec Ideal S1x48 .f32) (ix2 0 j) = V m c main_v23 (ix2 0 j) := by blk_ext [iblk, idx25 t]
  rw [e, V_v23]
  pointwise
theorem blk2 (k : Fin 256) (j : Fin 48) : (iblk m c 2 t : FVec Ideal S256x48 .f32) (ix2 k j) = m ((c : Thread nD τ).loc main_arg3) (ix4 j 0 ⟨k.val / 16, by omega⟩ ⟨k.val % 16, by omega⟩) := by
  have e : (iblk m c 2 t : FVec Ideal S256x48 .f32) (ix2 k j) = V m c main_v5 (ix2 k j) := by blk_ext [iblk, idx2 t]
  rw [e, V_v5]
  exact kern_read _ k j
theorem blk24 (hr : (arrs m c).IsReal) (n : Fin 256) (q : Fin 2304) : (iblk m c 24 t : FVec Ideal S256x2304 .f32) (ix2 n q) = (((arrs m c).net.E.w n.val ⟨q.val / 48, by omega⟩ ⟨q.val % 48, by omega⟩ : ℝ) : EReal) := by
  have e : (iblk m c 24 t : FVec Ideal S256x2304 .f32) (ix2 n q) = V m c main_v8 (ix2 n q) := by blk_ext [iblk, idx24 t]
  rw [e, V_v8]
  refine (pad24 _ _ n q).trans ?_
  show _ = (((if h : n.val < 196 then _ else _ : ℝ)) : EReal)
  split
  · rename_i h
    exact (rows_read _ ⟨n.val, h⟩ q).trans (hr.r25 _)
  · exact zero_read
theorem blk0 (hr : (arrs m c).IsReal) (n : Fin 256) (k : Fin 256) : (iblk m c 0 t : FVec Ideal S1x256x256 .f32) (ix3 0 n k) = (((arrs m c).pa ⟨t.val, t.isLt⟩ n.val k : ℝ) : EReal) := by
  have e : (iblk m c 0 t : FVec Ideal S1x256x256 .f32) (ix3 0 n k) = V m c main_v3 (ix3 ⟨t.val, t.isLt⟩ n k) := by blk_ext [iblk, idx0 t]
  rw [e, V_v3]
  refine (pad0 _ _ _ n k).trans ?_
  unfold Arrs.pa
  split
  · rename_i h
    exact (patch_read _ _ ⟨n.val, h⟩ k).trans (hr.r1 _)
  · exact zero_read
theorem blk1r (hr : (arrs m c).IsReal) (n : Fin 48) (k : Fin 3) : (iblk m c 1 t : FVec Ideal S1x48x3 .f32) (ix3 0 n k) = (((arrs m c).pt ⟨t.val, t.isLt⟩ n.val k : ℝ) : EReal) := by
  unfold Arrs.pt
  rw [dif_pos n.isLt]
  exact (blk1 m c t n k).trans (hr.r2 _)

/-- A point's block of the result. -/
theorem block_eq (hr : (arrs m c).IsReal) (p : Fin 2) (r s : Fin 224) :
    out0_A_26 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (ix4 0 p r s) = (arrs m c).out ⟨t.val, t.isLt⟩ p r s := by
  match p with
  | ⟨0, _⟩ =>
    exact out_half0 (N := (arrs m c).net) (pa := (arrs m c).pa ⟨t.val, t.isLt⟩) (pt := (arrs m c).pt ⟨t.val, t.isLt⟩) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)
      (blk0 m c t hr)
      (blk1r m c t hr)
      (fun k d => (blk2 m c t k d).trans (hr.r3 _))
      (fun d => (blk3 m c t d).trans (hr.r4 _))
      (fun k d => (blk4 m c t k d).trans (hr.r5 _))
      (fun d => (blk5 m c t d).trans (hr.r6 _))
      (fun i d => (blk6 m c t i d).trans (hr.r7 _))
      (fun i d => (blk7 m c t i d).trans (hr.r8 _))
      (fun i k d => (blk8 m c t i k d).trans (hr.r9 _))
      (fun i d => (blk9 m c t i d).trans (hr.r10 _))
      (fun i k d => (blk10 m c t i k d).trans (hr.r11 _))
      (fun i d => (blk11 m c t i d).trans (hr.r12 _))
      (fun i d => (blk12 m c t i d).trans (hr.r13 _))
      (fun i d => (blk13 m c t i d).trans (hr.r14 _))
      (fun i k d => (blk14 m c t i k d).trans (hr.r15 _))
      (fun i d => (blk15 m c t i d).trans (hr.r16 _))
      (fun i k d => (blk16 m c t i k d).trans (hr.r17 _))
      (fun i d => (blk17 m c t i d).trans (hr.r18 _))
      (fun k d => (blk18 m c t k d).trans (hr.r19 _))
      (fun k d => (blk19 m c t k d).trans (hr.r20 _))
      (fun d => (blk20 m c t d).trans (hr.r21 _))
      (fun d => (blk21 m c t d).trans (hr.r22 _))
      (fun d => (blk22 m c t d).trans (hr.r23 _))
      (fun d => (blk23 m c t d).trans (hr.r24 _))
      (blk24 m c t hr)
      (fun d => (blk25 m c t d).trans (hr.r26 _)) r s
  | ⟨1, _⟩ =>
    exact out_half1 (N := (arrs m c).net) (pa := (arrs m c).pa ⟨t.val, t.isLt⟩) (pt := (arrs m c).pt ⟨t.val, t.isLt⟩) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)
      (blk0 m c t hr)
      (blk1r m c t hr)
      (fun k d => (blk2 m c t k d).trans (hr.r3 _))
      (fun d => (blk3 m c t d).trans (hr.r4 _))
      (fun k d => (blk4 m c t k d).trans (hr.r5 _))
      (fun d => (blk5 m c t d).trans (hr.r6 _))
      (fun i d => (blk6 m c t i d).trans (hr.r7 _))
      (fun i d => (blk7 m c t i d).trans (hr.r8 _))
      (fun i k d => (blk8 m c t i k d).trans (hr.r9 _))
      (fun i d => (blk9 m c t i d).trans (hr.r10 _))
      (fun i k d => (blk10 m c t i k d).trans (hr.r11 _))
      (fun i d => (blk11 m c t i d).trans (hr.r12 _))
      (fun i d => (blk12 m c t i d).trans (hr.r13 _))
      (fun i d => (blk13 m c t i d).trans (hr.r14 _))
      (fun i k d => (blk14 m c t i k d).trans (hr.r15 _))
      (fun i d => (blk15 m c t i d).trans (hr.r16 _))
      (fun i k d => (blk16 m c t i k d).trans (hr.r17 _))
      (fun i d => (blk17 m c t i d).trans (hr.r18 _))
      (fun k d => (blk18 m c t k d).trans (hr.r19 _))
      (fun k d => (blk19 m c t k d).trans (hr.r20 _))
      (fun d => (blk20 m c t d).trans (hr.r21 _))
      (fun d => (blk21 m c t d).trans (hr.r22 _))
      (fun d => (blk22 m c t d).trans (hr.r23 _))
      (fun d => (blk23 m c t d).trans (hr.r24 _))
      (blk24 m c t hr)
      (fun d => (blk25 m c t d).trans (hr.r26 _)) r s

/-- The whole result. -/
def outArr (A : Arrs) : FVec Ideal S32x2x224x224 .f32 := fun j => A.out (j 0) (j 1) (j 2) (j 3)

/-- The block of a point sits at its image. -/
theorem emb26 (j : S1x2x224x224.Idx) : ((cfg0.win 26).blk t).view.emb j = (ix4 (⟨t.val, t.isLt⟩ : Fin 32) (j 1) (j 2) (j 3) : S32x2x224x224.Idx) := by
  have e : win0_26.index t = _ := idx26 t
  have e0 : win0_26.index t (0 : Fin 4) = t.val := congrFun e 0
  have e1 : win0_26.index t (1 : Fin 4) = 0 := congrFun e 1
  have e2 : win0_26.index t (2 : Fin 4) = 0 := congrFun e 2
  have e3 : win0_26.index t (3 : Fin 4) = 0 := congrFun e 3
  have h0 : (j 0).val < 1 := (j 0).isLt
  funext a; apply Fin.ext
  match a with
  | ⟨0, _⟩ => show win0_26.index t (0 : Fin 4) * 1 + 1 * (j 0).val = t.val; omega
  | ⟨1, _⟩ => show win0_26.index t (1 : Fin 4) * 2 + 1 * (j 1).val = (j 1).val; omega
  | ⟨2, _⟩ => show win0_26.index t (2 : Fin 4) * 224 + 1 * (j 2).val = (j 2).val; omega
  | ⟨3, _⟩ => show win0_26.index t (3 : Fin 4) * 224 + 1 * (j 3).val = (j 3).val; omega

theorem eta4 (j : S1x2x224x224.Idx) : j = ix4 0 (j 1) (j 2) (j 3) := by
  funext a
  match a with
  | ⟨0, _⟩ => exact Subsingleton.elim (α := Fin 1) _ _
  | ⟨1, _⟩ => rfl
  | ⟨2, _⟩ => rfl
  | ⟨3, _⟩ => rfl

/-- What a point writes back is its block of the whole result. -/
theorem flushed_eq (hr : (arrs m c).IsReal) :
    (dats m 0 c).flushed 26 t = ((cfg0.win 26).blk t).view.read (Elt Ideal) (outArr (arrs m c)) := by
  rw [Cert.KernelIdeal.Value.flushed26_A]
  funext j
  show (out0_A_26 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) : FVec Ideal S1x2x224x224 .f32) j = outArr (arrs m c) (((cfg0.win 26).blk t).view.emb j)
  rw [emb26]
  exact (congrArg _ (eta4 j)).trans (block_eq m c t hr (j 1) (j 2) (j 3))

/-- Every index of the result is in a point's block. -/
theorem covered (i : S32x2x224x224.Idx) :
    ∃ t : Fin cfg0.N, (cfg0.win 26).flush t = true ∧ i ∈ ((cfg0.win 26).blk t).view.set :=
  ⟨(⟨(i 0).val, (i 0).isLt⟩ : Fin cfg0.N), flush0_26 _, by
    have h := ((cfg0.win 26).blk (⟨(i 0).val, (i 0).isLt⟩ : Fin cfg0.N)).view.emb_mem_set (ix4 (0 : Fin 1) (i 1) (i 2) (i 3) : S1x2x224x224.Idx)
    rw [emb26] at h
    have e : (ix4 (⟨(i 0).val, (i 0).isLt⟩ : Fin 32) (i 1) (i 2) (i 3) : S32x2x224x224.Idx) = i := by
      funext a
      match a with
      | ⟨0, _⟩ => rfl
      | ⟨1, _⟩ => rfl
      | ⟨2, _⟩ => rfl
      | ⟨3, _⟩ => rfl
    exact e ▸ h⟩

/-- The kernel's result array. -/
theorem final_eq (hr : (arrs m c).IsReal) : (dats m 0 c).arrAt 26 cfg0.N = outArr (arrs m c) :=
  (dats m 0 c).arrAt_eq_of_cover 26 (outArr (arrs m c)) (fun t _ => flushed_eq m c t hr) covered

end Cert.KernelIdeal.KV

end
-- ==== Proof.RLayer.lean ====
/-
  One layer of the reference network is one layer of the network over real numbers.
-/
module

public import proofs.«01_k».proof.Proof.Spec3
public import proofs.«01_k».proof.Proof.Gen.ReferenceIdeal
public import Idealize.ShloMosaic.Lib.Pointwise

@[expose] public section

set_option synthInstance.maxSize 4096

noncomputable section

namespace Cert.ReferenceIdeal.RV

open Idealize.ShloMosaic Cert.ReferenceIdeal Cert.ReferenceIdeal.Gen Cert.Spec

/-- Division by the square root of a variance and the stabilizing term. -/
theorem div_sqrt_eps (x : Fin 48 → ℝ) (a : ℝ) : Ideal.div (a : EReal) (Ideal.sqrt ((var48 x + eps : ℝ) : EReal)) = ((a / Real.sqrt (var48 x + eps) : ℝ) : EReal) := by
  rw [sqrt_real (var48_eps_pos x).le, div_real _ (Real.sqrt_pos.2 (var48_eps_pos x)).ne']

theorem n48 : (48 : ℝ) ≠ 0 := by norm_num

/-- Twice a half of the gelu, written with the complementary error function. -/
theorem gelu_erfc (y : ℝ) : ((1 / 2 * y : ℝ) : EReal) * Ideal.erfc (-(y : EReal) * ((invRoot2 : ℝ) : EReal)) = ((geluS y : ℝ) : EReal) := by
  rw [EReal.neg_mul, Ideal.erfc_neg, ← EReal.coe_mul y, erf_real, one_real, ← EReal.coe_add, ← EReal.coe_mul]
  rfl

/-- The largest of finitely many real numbers is a real number. -/
theorem fold_max_real {n : ℕ} (h : 0 < n) (f : Fin n → ℝ) : ∃ M : ℝ, Finset.univ.fold max (⊥ : EReal) (fun k => ((f k : ℝ) : EReal)) = (M : EReal) := by
  have key : ∀ s : Finset (Fin n), s.fold max (⊥ : EReal) (fun k => ((f k : ℝ) : EReal)) = ⊥ ∧ s = ∅
      ∨ ∃ M : ℝ, s.fold max (⊥ : EReal) (fun k => ((f k : ℝ) : EReal)) = (M : EReal) := by
    intro s
    induction s using Finset.induction_on with
    | empty => exact .inl ⟨rfl, rfl⟩
    | insert a s ha ih =>
      rw [Finset.fold_insert ha]
      rcases ih with ⟨e, _⟩ | ⟨M, e⟩
      · exact .inr ⟨f a, by rw [e]; exact max_eq_left bot_le⟩
      · exact .inr ⟨max (f a) M, by rw [e, max_real]⟩
  rcases key Finset.univ with ⟨_, e⟩ | h
  · exact absurd (Finset.mem_univ (⟨0, h⟩ : Fin n)) (by rw [e]; exact Finset.notMem_empty _)
  · exact h

section ln

variable (X : FVec Ideal S32x244x48 .f32) (s b : FVec Ideal S48 .f32)

/-- Each token's mean. -/
def rMean : FVec Ideal S32x244x1 .f32 :=
  Host.divf (broadcastInDim S32x244x1 ![0, 1] bcast_S32x244_S32x244x1_0_1 (Host.reduceAdd X (constant S_ .f32 0x00000000#32) reducesTo_S32x244x48_S32x244_d2 h_S_)) (broadcastInDim S32x244x1 ![] bcast_S_S32x244x1 (constant S_ .f32 0x42400000#32))

/-- Each token less its mean. -/
def rCen : FVec Ideal S32x244x48 .f32 := subf X (broadcastInDim S32x244x48 ![0, 1, 2] bcast_S32x244x1_S32x244x48_0_1_2 (rMean X))

/-- The layer norm of each token. -/
def rLn : FVec Ideal S32x244x48 .f32 :=
  addf (mulf (Host.divf (subf X (broadcastInDim S32x244x48 ![0, 1, 2] bcast_S32x244x1_S32x244x48_0_1_2 (rMean X))) (broadcastInDim S32x244x48 ![0, 1, 2] bcast_S32x244x1_S32x244x48_0_1_2 (Host.sqrt (addf (Host.divf (broadcastInDim S32x244x1 ![0, 1] bcast_S32x244_S32x244x1_0_1 (Host.reduceAdd (mulf (rCen X) (rCen X)) (constant S_ .f32 0x00000000#32) reducesTo_S32x244x48_S32x244_d2 h_S_)) (broadcastInDim S32x244x1 ![] bcast_S_S32x244x1 (constant S_ .f32 0x42400000#32))) (broadcastInDim S32x244x1 ![] bcast_S_S32x244x1 (constant S_ .f32 0x3727C5AC#32)))))) (broadcastInDim S32x244x48 ![0, 1, 2] bcast_S1x1x48_S32x244x48_0_1_2 (broadcastInDim S1x1x48 ![2] bcast_S48_S1x1x48_2 s))) (broadcastInDim S32x244x48 ![0, 1, 2] bcast_S1x1x48_S32x244x48_0_1_2 (broadcastInDim S1x1x48 ![2] bcast_S48_S1x1x48_2 b))

variable {X s b} {x s' b' : Fin 48 → ℝ} {i : Fin 32} {n : Fin 244}

theorem rMean_apply (hX : ∀ d, X (ix3 i n d) = ((x d : ℝ) : EReal)) : rMean X (ix3 i n 0) = ((mean48 x : ℝ) : EReal) := by
  pointwise [rMean]
  simp only [hX, lit_48, coe_sum, div_real _ n48]
  rfl

theorem rCen_apply (hX : ∀ d, X (ix3 i n d) = ((x d : ℝ) : EReal)) (d : Fin 48) : rCen X (ix3 i n d) = ((x d - mean48 x : ℝ) : EReal) := by
  pointwise [rCen]
  rw [hX, rMean_apply hX, ← EReal.coe_sub]

theorem rLn_apply (hX : ∀ d, X (ix3 i n d) = ((x d : ℝ) : EReal)) (hs : ∀ d, s (ix1 d) = ((s' d : ℝ) : EReal))
    (hb : ∀ d, b (ix1 d) = ((b' d : ℝ) : EReal)) (d : Fin 48) : rLn X s b (ix3 i n d) = ((lnS s' b' x d : ℝ) : EReal) := by
  pointwise [rLn]
  simp only [hX, hs, hb, rMean_apply hX, rCen_apply hX, lit_48, lit_eps, ← EReal.coe_mul, coe_sum, div_real _ n48, ← EReal.coe_sub, ← EReal.coe_add]
  rw [show (∑ k, (x k - mean48 x) * (x k - mean48 x)) / 48 = var48 x from rfl, div_sqrt_eps, ← EReal.coe_mul, ← EReal.coe_add]
  rfl

end ln

section attention

variable (X : FVec Ideal S32x244x48 .f32) (Z : FVec Ideal S32x244x3x12x4 .f32)
  (s b : FVec Ideal S48 .f32) (qw : FVec Ideal S48x144 .f32) (qb : FVec Ideal S144 .f32) (aw : FVec Ideal S48x48 .f32) (ab : FVec Ideal S48 .f32)

/-- Queries, keys and values. -/
def rQkv : FVec Ideal S32x244x3x12x4 .f32 :=
  shapeCast _ (addf (Host.dotGeneral dot_S32x244x48_S48x144_S32x244x144_2_0_01_1_n_n none (rLn X s b) qw) (broadcastInDim S32x244x144 ![0, 1, 2] bcast_S1x1x144_S32x244x144_0_1_2 (broadcastInDim S1x1x144 ![2] bcast_S144_S1x1x144_2 qb))) shapeCasts_S32x244x144_S32x244x3x12x4

/-- The halved products of queries and keys. -/
def rScore : FVec Ideal S32x12x244x244 .f32 :=
  mulf (Host.dotGeneral dot_S32x12x244x4_S32x12x244x4_S32x12x244x244_3_3_2_2_01_01 none (transpose S32x12x244x4 [0, 2, 1, 3] (shapeCast _ (extractStridedSlice S32x244x1x12x4 ![0, 0, 0, 0, 0] Z slices_S32x244x3x12x4_S32x244x1x12x4_0_0_0_0_0) shapeCasts_S32x244x1x12x4_S32x244x12x4) transposes_S32x244x12x4_S32x12x244x4_0_2_1_3) (transpose S32x12x244x4 [0, 2, 1, 3] (shapeCast _ (extractStridedSlice S32x244x1x12x4 ![0, 0, 1, 0, 0] Z slices_S32x244x3x12x4_S32x244x1x12x4_0_0_1_0_0) shapeCasts_S32x244x1x12x4_S32x244x12x4) transposes_S32x244x12x4_S32x12x244x4_0_2_1_3)) (broadcastInDim S32x12x244x244 ![] bcast_S_S32x12x244x244 (constant S_ .f32 0x3F000000#32))

/-- One number for each row, spread over the row. -/
def rSpread (M : FVec Ideal S32x12x244 .f32) : FVec Ideal S32x12x244x244 .f32 :=
  broadcastInDim S32x12x244x244 ![0, 1, 2, 3] bcast_S32x12x244x1_S32x12x244x244_0_1_2_3 (broadcastInDim S32x12x244x1 ![0, 1, 2] bcast_S32x12x244_S32x12x244x1_0_1_2 M)

/-- The largest of each row. -/
def rMax (S : FVec Ideal S32x12x244x244 .f32) : FVec Ideal S32x12x244 .f32 :=
  maximumf (broadcastInDim S32x12x244 ![] bcast_S_S32x12x244 (constant S_ .f32 0xFF800000#32)) (Host.reduce FloatOps.maximumf S (constant S_ .f32 0xFF800000#32) reducesTo_S32x12x244x244_S32x12x244_d3 h_S_)

/-- The exponentials of the scores less the largest. -/
def rExp : FVec Ideal S32x12x244x244 .f32 := Host.exp (subf (rScore Z) (rSpread (rMax (rScore Z))))

/-- Each row divided by its sum. -/
def rWgt (E : FVec Ideal S32x12x244x244 .f32) : FVec Ideal S32x12x244x244 .f32 :=
  Host.divf E (rSpread (Host.reduceAdd E (constant S_ .f32 0x00000000#32) reducesTo_S32x12x244x244_S32x12x244_d3 h_S_))

/-- The means of the values with given weights. -/
def rCtx (A : FVec Ideal S32x12x244x244 .f32) : FVec Ideal S32x12x244x4 .f32 :=
  Host.dotGeneral dot_S32x12x244x244_S32x12x244x4_S32x12x244x4_3_2_2_3_01_01 none A (transpose S32x12x244x4 [0, 2, 1, 3] (shapeCast _ (extractStridedSlice S32x244x1x12x4 ![0, 0, 2, 0, 0] Z slices_S32x244x3x12x4_S32x244x1x12x4_0_0_2_0_0) shapeCasts_S32x244x1x12x4_S32x244x12x4) transposes_S32x244x12x4_S32x12x244x4_0_2_1_3)

/-- The heads side by side. -/
def rHeads (C : FVec Ideal S32x12x244x4 .f32) : FVec Ideal S32x244x48 .f32 :=
  shapeCast _ (transpose S32x244x12x4 [0, 2, 1, 3] C transposes_S32x12x244x4_S32x244x12x4_0_2_1_3) shapeCasts_S32x244x12x4_S32x244x48

/-- The attention's output. -/
def rAtt : FVec Ideal S32x244x48 .f32 := rHeads (rCtx Z (rWgt (rExp Z)))

/-- A layer's first half. -/
def rMid : FVec Ideal S32x244x48 .f32 :=
  addf X (addf (Host.dotGeneral dot_S32x244x48_S48x48_S32x244x48_2_0_01_1_n_n none (rAtt Z) aw) (broadcastInDim S32x244x48 ![0, 1, 2] bcast_S1x1x48_S32x244x48_0_1_2 (broadcastInDim S1x1x48 ![2] bcast_S48_S1x1x48_2 ab)))

variable {X Z s b qw qb aw ab} {P : LayerP} {f : ℕ → Fin 48 → ℝ} {z : ℕ → Fin 144 → ℝ} {i : Fin 32}

theorem rQkv_apply (hX : ∀ n d, X (ix3 i n d) = ((f n.val d : ℝ) : EReal)) (hs : ∀ d, s (ix1 d) = ((P.n1s d : ℝ) : EReal))
    (hb : ∀ d, b (ix1 d) = ((P.n1b d : ℝ) : EReal)) (hqw : ∀ k d, qw (ix2 k d) = ((P.qw k d : ℝ) : EReal))
    (hqb : ∀ d, qb (ix1 d) = ((P.qb d : ℝ) : EReal)) (n : Fin 244) (k : Fin 3) (h : Fin 12) (t : Fin 4) :
    rQkv X s b qw qb (ix5 i n k h t) = ((qkvS P f n.val ⟨48 * k.val + (4 * h.val + t.val), by omega⟩ : ℝ) : EReal) := by
  pointwise [rQkv]
  simp only [rLn_apply (hX _) hs hb, hqw, hqb, ← EReal.coe_mul, coe_sum, ← EReal.coe_add]
  refine congrArg (fun q : Fin 144 => ((linS P.qw P.qb (lnS P.n1s P.n1b (f n.val)) q : ℝ) : EReal)) (Fin.ext ?_)
  show k.val * 48 + h.val * 4 + t.val = 48 * k.val + (4 * h.val + t.val)
  omega

theorem rScore_apply (hZ : ∀ n k h t, Z (ix5 i n k h t) = ((z n.val ⟨48 * k.val + (4 * h.val + t.val), by omega⟩ : ℝ) : EReal)) (h : Fin 12) (n m : Fin 244) :
    rScore Z (ix4 i h n m) = ((scoreS z n.val m.val h * (1 / 2) : ℝ) : EReal) := by
  pointwise [rScore]
  have e0 : ∀ t : Fin 4, (⟨48 * ((0 : Fin 3) : ℕ) + (4 * h.val + t.val), by simp; omega⟩ : Fin 144) = ⟨4 * h.val + t.val, by omega⟩ := fun t => Fin.ext (by simp)
  have e1 : ∀ t : Fin 4, (⟨48 * ((1 : Fin 3) : ℕ) + (4 * h.val + t.val), by simp; omega⟩ : Fin 144) = ⟨48 + (4 * h.val + t.val), by omega⟩ := fun t => Fin.ext (by simp)
  simp only [hZ, e0, e1, lit_half, ← EReal.coe_mul, coe_sum]
  rfl

theorem bot_max_apply (R : FVec Ideal S32x12x244 .f32) (h : Fin 12) (n : Fin 244) :
    (maximumf (broadcastInDim S32x12x244 ![] bcast_S_S32x12x244 (constant S_ .f32 0xFF800000#32)) R : FVec Ideal S32x12x244 .f32) (ix3 i h n) = R (ix3 i h n) := by
  pointwise
  rw [lit_ninf]
  exact max_eq_right bot_le

theorem rowMax_apply (S : FVec Ideal S32x12x244x244 .f32) (h : Fin 12) (n : Fin 244) :
    (Host.reduce FloatOps.maximumf S (constant S_ .f32 0xFF800000#32) reducesTo_S32x12x244x244_S32x12x244_d3 h_S_ : FVec Ideal S32x12x244 .f32) (ix3 i h n)
      = Finset.univ.fold max (⊥ : EReal) fun m : Fin 244 => S (ix4 i h n m) := by
  pointwise
  rw [lit_ninf]

theorem rMax_apply (S : FVec Ideal S32x12x244x244 .f32) (h : Fin 12) (n : Fin 244) :
    rMax S (ix3 i h n) = Finset.univ.fold max (⊥ : EReal) fun m : Fin 244 => S (ix4 i h n m) := by
  unfold rMax
  rw [bot_max_apply, rowMax_apply]

theorem rSpread_apply (M : FVec Ideal S32x12x244 .f32) (h : Fin 12) (n m : Fin 244) : rSpread M (ix4 i h n m) = M (ix3 i h n) := by
  pointwise [rSpread]

theorem rowSum_apply (S : FVec Ideal S32x12x244x244 .f32) (h : Fin 12) (n : Fin 244) :
    (Host.reduceAdd S (constant S_ .f32 0x00000000#32) reducesTo_S32x12x244x244_S32x12x244_d3 h_S_ : FVec Ideal S32x12x244 .f32) (ix3 i h n)
      = ∑ m : Fin 244, S (ix4 i h n m) := by
  pointwise

theorem rWgt_apply (E : FVec Ideal S32x12x244x244 .f32) (h : Fin 12) (n m : Fin 244) :
    rWgt E (ix4 i h n m) = Ideal.div (E (ix4 i h n m)) (∑ m : Fin 244, E (ix4 i h n m)) := by
  unfold rWgt
  refine Eq.trans (b := Ideal.div (E (ix4 i h n m)) (rSpread _ (ix4 i h n m))) rfl ?_
  rw [rSpread_apply, rowSum_apply]

theorem rCtx_apply (A : FVec Ideal S32x12x244x244 .f32) (h : Fin 12) (n : Fin 244) (t : Fin 4) :
    rCtx Z A (ix4 i h n t) = ∑ m : Fin 244, A (ix4 i h n m) * Z (ix5 i m 2 h t) := by
  pointwise [rCtx]

theorem rHeads_apply (C : FVec Ideal S32x12x244x4 .f32) (n : Fin 244) (c : Fin 48) :
    rHeads C (ix3 i n c) = C (ix4 i (headOf c) n ⟨c.val % 4, by omega⟩) := by
  pointwise [rHeads]
  rfl

theorem rExp_apply (hZ : ∀ n k h t, Z (ix5 i n k h t) = ((z n.val ⟨48 * k.val + (4 * h.val + t.val), by omega⟩ : ℝ) : EReal)) (h : Fin 12) (n : Fin 244) :
    ∃ M : ℝ, ∀ m : Fin 244, rExp Z (ix4 i h n m) = ((wgtS z n.val m.val h * Real.exp (-M) : ℝ) : EReal) := by
  obtain ⟨M, hM⟩ := fold_max_real (n := 244) (by omega) (fun m => scoreS z n.val m.val h * (1 / 2))
  refine ⟨M, fun m => ?_⟩
  unfold rExp
  refine Eq.trans (b := Ideal.exp (rScore Z (ix4 i h n m) - rSpread (rMax (rScore Z)) (ix4 i h n m))) rfl ?_
  rw [rSpread_apply, rMax_apply]
  simp only [rScore_apply hZ]
  rw [hM, ← EReal.coe_sub, Ideal.exp_coe, sub_eq_add_neg, Real.exp_add]
  rfl

theorem rAtt_apply (hZ : ∀ n k h t, Z (ix5 i n k h t) = ((z n.val ⟨48 * k.val + (4 * h.val + t.val), by omega⟩ : ℝ) : EReal)) (n : Fin 244) (c : Fin 48) :
    rAtt Z (ix3 i n c) = ((attS z n.val c : ℝ) : EReal) := by
  obtain ⟨M, hM⟩ := rExp_apply hZ (headOf c) n
  have hp : (0 : ℝ) < ∑ m : Fin 244, wgtS z n.val m.val (headOf c) * Real.exp (-M) :=
    Finset.sum_pos (fun _ _ => mul_pos (Real.exp_pos _) (Real.exp_pos _)) ⟨0, Finset.mem_univ _⟩
  unfold rAtt
  rw [rHeads_apply, rCtx_apply]
  simp only [rWgt_apply, hM, hZ, coe_sum, div_real _ hp.ne', ← EReal.coe_mul]
  refine congrArg ((↑) : ℝ → EReal) ?_
  unfold attS
  rw [Finset.sum_div]
  refine Finset.sum_congr rfl fun m _ => ?_
  rw [← Finset.sum_mul, mul_div_mul_right _ _ (Real.exp_pos _).ne', div_mul_eq_mul_div]
  refine congrArg (fun q : Fin 144 => wgtS z n.val m.val (headOf c) * z m.val q / ∑ m : Fin 244, wgtS z n.val m.val (headOf c)) (Fin.ext ?_)
  show 48 * 2 + (4 * (c.val / 4) + c.val % 4) = 96 + c.val
  omega

theorem rMid_apply (hX : ∀ n d, X (ix3 i n d) = ((f n.val d : ℝ) : EReal))
    (hZ : ∀ n k h t, Z (ix5 i n k h t) = ((qkvS P f n.val ⟨48 * k.val + (4 * h.val + t.val), by omega⟩ : ℝ) : EReal))
    (haw : ∀ k d, aw (ix2 k d) = ((P.aw k d : ℝ) : EReal)) (hab : ∀ d, ab (ix1 d) = ((P.ab d : ℝ) : EReal)) (n : Fin 244) (d : Fin 48) :
    rMid X Z aw ab (ix3 i n d) = ((midS P f n.val d : ℝ) : EReal) := by
  pointwise [rMid]
  simp only [hX, rAtt_apply hZ, haw, hab, ← EReal.coe_mul, coe_sum, ← EReal.coe_add]
  rfl

end attention

section mlp

variable (X : FVec Ideal S32x244x48 .f32) (s b : FVec Ideal S48 .f32) (w1 : FVec Ideal S48x192 .f32) (b1 : FVec Ideal S192 .f32)
  (w2 : FVec Ideal S192x48 .f32) (b2 : FVec Ideal S48 .f32)

/-- The wide linear map of a layer's second half. -/
def rFc : FVec Ideal S32x244x192 .f32 :=
  addf (Host.dotGeneral dot_S32x244x48_S48x192_S32x244x192_2_0_01_1_n_n none (rLn X s b) w1) (broadcastInDim S32x244x192 ![0, 1, 2] bcast_S1x1x192_S32x244x192_0_1_2 (broadcastInDim S1x1x192 ![2] bcast_S192_S1x1x192_2 b1))

/-- A layer's second half. -/
def rMlp : FVec Ideal S32x244x48 .f32 :=
  addf X (addf (Host.dotGeneral dot_S32x244x192_S192x48_S32x244x48_2_0_01_1_n_n none (mulf (mulf (broadcastInDim S32x244x192 ![] bcast_S_S32x244x192 (constant S_ .f32 0x3F000000#32)) (rFc X s b w1 b1)) (Host.erfc (mulf (Host.negf (rFc X s b w1 b1)) (broadcastInDim S32x244x192 ![] bcast_S_S32x244x192 (constant S_ .f32 0x3F3504F3#32))))) w2) (broadcastInDim S32x244x48 ![0, 1, 2] bcast_S1x1x48_S32x244x48_0_1_2 (broadcastInDim S1x1x48 ![2] bcast_S48_S1x1x48_2 b2)))

variable {X s b w1 b1 w2 b2} {P : LayerP} {g : Fin 48 → ℝ} {i : Fin 32} {n : Fin 244}

theorem rFc_apply (hX : ∀ d, X (ix3 i n d) = ((g d : ℝ) : EReal)) (hs : ∀ d, s (ix1 d) = ((P.n2s d : ℝ) : EReal))
    (hb : ∀ d, b (ix1 d) = ((P.n2b d : ℝ) : EReal)) (hw1 : ∀ k d, w1 (ix2 k d) = ((P.w1 k d : ℝ) : EReal))
    (hb1 : ∀ d, b1 (ix1 d) = ((P.b1 d : ℝ) : EReal)) (j : Fin 192) :
    rFc X s b w1 b1 (ix3 i n j) = ((linS P.w1 P.b1 (lnS P.n2s P.n2b g) j : ℝ) : EReal) := by
  pointwise [rFc]
  simp only [rLn_apply hX hs hb, hw1, hb1, ← EReal.coe_mul, coe_sum, ← EReal.coe_add]
  rfl

theorem rMlp_apply (hX : ∀ d, X (ix3 i n d) = ((g d : ℝ) : EReal)) (hs : ∀ d, s (ix1 d) = ((P.n2s d : ℝ) : EReal))
    (hb : ∀ d, b (ix1 d) = ((P.n2b d : ℝ) : EReal)) (hw1 : ∀ k d, w1 (ix2 k d) = ((P.w1 k d : ℝ) : EReal))
    (hb1 : ∀ d, b1 (ix1 d) = ((P.b1 d : ℝ) : EReal)) (hw2 : ∀ k d, w2 (ix2 k d) = ((P.w2 k d : ℝ) : EReal))
    (hb2 : ∀ d, b2 (ix1 d) = ((P.b2 d : ℝ) : EReal)) (d : Fin 48) :
    rMlp X s b w1 b1 w2 b2 (ix3 i n d) = ((mlpS P g d : ℝ) : EReal) := by
  pointwise [rMlp]
  simp only [hX, rFc_apply hX hs hb hw1 hb1, lit_half, lit_invRoot2, gelu_erfc, hw2, hb2, ← EReal.coe_mul, coe_sum, ← EReal.coe_add]
  rfl

end mlp

end Cert.ReferenceIdeal.RV

end
-- ==== Proof.RChain.lean ====
/-
  The reference network's six layers, one after the other.
-/
module

public import proofs.«01_k».proof.Proof.RLayer
public import proofs.«01_k».proof.Proof.Arrs
public import proofs.«01_k».proof.Proof.Gen.ReferenceIdeal.Run

@[expose] public section

set_option synthInstance.maxSize 4096

noncomputable section

namespace Cert.ReferenceIdeal.RV

open Idealize.ShloMosaic Cert.ReferenceIdeal Cert.ReferenceIdeal.Gen Cert.ReferenceIdeal.Value Cert.Spec

/-- A layer of the reference network. -/
theorem rLayer_apply {X : FVec Ideal S32x244x48 .f32} {n1s n1b ab n2s n2b b2 : FVec Ideal S48 .f32} {qw : FVec Ideal S48x144 .f32} {qb : FVec Ideal S144 .f32}
    {aw : FVec Ideal S48x48 .f32} {w1 : FVec Ideal S48x192 .f32} {b1 : FVec Ideal S192 .f32} {w2 : FVec Ideal S192x48 .f32} {Z : FVec Ideal S32x244x3x12x4 .f32}
    {M R : FVec Ideal S32x244x48 .f32} {P : LayerP} {f : ℕ → Fin 48 → ℝ} {i : Fin 32}
    (eZ : Z = rQkv X n1s n1b qw qb) (eM : M = rMid X Z aw ab) (eR : R = rMlp M n2s n2b w1 b1 w2 b2)
    (hX : ∀ n d, X (ix3 i n d) = ((f n.val d : ℝ) : EReal))
    (h1 : ∀ d, n1s (ix1 d) = ((P.n1s d : ℝ) : EReal)) (h2 : ∀ d, n1b (ix1 d) = ((P.n1b d : ℝ) : EReal)) (h3 : ∀ k d, qw (ix2 k d) = ((P.qw k d : ℝ) : EReal))
    (h4 : ∀ d, qb (ix1 d) = ((P.qb d : ℝ) : EReal)) (h5 : ∀ k d, aw (ix2 k d) = ((P.aw k d : ℝ) : EReal)) (h6 : ∀ d, ab (ix1 d) = ((P.ab d : ℝ) : EReal))
    (h7 : ∀ d, n2s (ix1 d) = ((P.n2s d : ℝ) : EReal)) (h8 : ∀ d, n2b (ix1 d) = ((P.n2b d : ℝ) : EReal)) (h9 : ∀ k d, w1 (ix2 k d) = ((P.w1 k d : ℝ) : EReal))
    (h10 : ∀ d, b1 (ix1 d) = ((P.b1 d : ℝ) : EReal)) (h11 : ∀ k d, w2 (ix2 k d) = ((P.w2 k d : ℝ) : EReal)) (h12 : ∀ d, b2 (ix1 d) = ((P.b2 d : ℝ) : EReal))
    (n : Fin 244) (d : Fin 48) : R (ix3 i n d) = ((layerS P f n.val d : ℝ) : EReal) := by
  rw [eR]
  refine rMlp_apply (fun d => ?_) h7 h8 h9 h10 h11 h12 d
  rw [eM]
  refine rMid_apply hX (fun n k h t => ?_) h5 h6 n d
  rw [eZ]
  exact rQkv_apply hX h1 h2 h3 h4 n k h t

variable (V0 : Valuation τ sig (Elt Ideal))

/-- The reference's arrays. -/
def arrs : Arrs where
  a1 := V0 (Proc.devRef .tc main_arg1)
  a2 := V0 (Proc.devRef .tc main_arg2)
  a3 := V0 (Proc.devRef .tc main_arg3)
  a4 := V0 (Proc.devRef .tc main_arg4)
  a5 := V0 (Proc.devRef .tc main_arg5)
  a6 := V0 (Proc.devRef .tc main_arg6)
  a7 := V0 (Proc.devRef .tc main_arg7)
  a8 := V0 (Proc.devRef .tc main_arg8)
  a9 := V0 (Proc.devRef .tc main_arg9)
  a10 := V0 (Proc.devRef .tc main_arg10)
  a11 := V0 (Proc.devRef .tc main_arg11)
  a12 := V0 (Proc.devRef .tc main_arg12)
  a13 := V0 (Proc.devRef .tc main_arg13)
  a14 := V0 (Proc.devRef .tc main_arg14)
  a15 := V0 (Proc.devRef .tc main_arg15)
  a16 := V0 (Proc.devRef .tc main_arg16)
  a17 := V0 (Proc.devRef .tc main_arg17)
  a18 := V0 (Proc.devRef .tc main_arg18)
  a19 := V0 (Proc.devRef .tc main_arg19)
  a20 := V0 (Proc.devRef .tc main_arg20)
  a21 := V0 (Proc.devRef .tc main_arg21)
  a22 := V0 (Proc.devRef .tc main_arg22)
  a23 := V0 (Proc.devRef .tc main_arg23)
  a24 := V0 (Proc.devRef .tc main_arg24)
  a25 := V0 (Proc.devRef .tc main_arg25)
  a26 := V0 (Proc.devRef .tc main_arg26)

variable {V0} {f : ℕ → Fin 48 → ℝ} {i : Fin 32}

set_option maxRecDepth 8192 in
theorem res_qkv0 : (res_main_v48 V0 : FVec Ideal S32x244x3x12x4 .f32) = rQkv (res_main_v11 V0) (shapeCast S48 (extractStridedSlice S1x48 ![0, 0] (arrs V0).a7 slices_S6x48_S1x48_0_0) shapeCasts_S1x48_S48)
    (shapeCast S48 (extractStridedSlice S1x48 ![0, 0] (arrs V0).a8 slices_S6x48_S1x48_0_0) shapeCasts_S1x48_S48) (shapeCast S48x144 (extractStridedSlice S1x48x144 ![0, 0, 0] (arrs V0).a9 slices_S6x48x144_S1x48x144_0_0_0) shapeCasts_S1x48x144_S48x144) (shapeCast S144 (extractStridedSlice S1x144 ![0, 0] (arrs V0).a10 slices_S6x144_S1x144_0_0) shapeCasts_S1x144_S144) := by
  unfold res_main_v48 res_main_v21 res_main_v19 rQkv rLn rCen rMean
  rfl

set_option maxRecDepth 8192 in
theorem res_mid0 : (res_main_v83 V0 : FVec Ideal S32x244x48 .f32) = rMid (res_main_v11 V0) (res_main_v48 V0) (shapeCast S48x48 (extractStridedSlice S1x48x48 ![0, 0, 0] (arrs V0).a11 slices_S6x48x48_S1x48x48_0_0_0) shapeCasts_S1x48x48_S48x48) (shapeCast S48 (extractStridedSlice S1x48 ![0, 0] (arrs V0).a12 slices_S6x48_S1x48_0_0) shapeCasts_S1x48_S48) := by
  unfold res_main_v83 res_main_v67 res_main_v60 rMid rAtt rHeads rCtx rWgt rExp rMax rSpread rScore
  rfl

set_option maxRecDepth 8192 in
theorem res_mlp0 : (res_main_v135 V0 : FVec Ideal S32x244x48 .f32) = rMlp (res_main_v83 V0) (shapeCast S48 (extractStridedSlice S1x48 ![0, 0] (arrs V0).a13 slices_S6x48_S1x48_0_0) shapeCasts_S1x48_S48)
    (shapeCast S48 (extractStridedSlice S1x48 ![0, 0] (arrs V0).a14 slices_S6x48_S1x48_0_0) shapeCasts_S1x48_S48) (shapeCast S48x192 (extractStridedSlice S1x48x192 ![0, 0, 0] (arrs V0).a15 slices_S6x48x192_S1x48x192_0_0_0) shapeCasts_S1x48x192_S48x192) (shapeCast S192 (extractStridedSlice S1x192 ![0, 0] (arrs V0).a16 slices_S6x192_S1x192_0_0) shapeCasts_S1x192_S192) (shapeCast S192x48 (extractStridedSlice S1x192x48 ![0, 0, 0] (arrs V0).a17 slices_S6x192x48_S1x192x48_0_0_0) shapeCasts_S1x192x48_S192x48) (shapeCast S48 (extractStridedSlice S1x48 ![0, 0] (arrs V0).a18 slices_S6x48_S1x48_0_0) shapeCasts_S1x48_S48) := by
  unfold res_main_v135 res_main_v119 res_main_v93 res_main_v91 rMlp rFc rLn rCen rMean
  rfl

theorem res_layer0 (hr : (arrs V0).IsReal) (hX : ∀ n d, (res_main_v11 V0 : FVec Ideal S32x244x48 .f32) (ix3 i n d) = ((f n.val d : ℝ) : EReal)) (n : Fin 244) (d : Fin 48) :
    (res_main_v135 V0 : FVec Ideal S32x244x48 .f32) (ix3 i n d) = ((layerS ((arrs V0).layer 0) f n.val d : ℝ) : EReal) :=
  rLayer_apply (P := (arrs V0).layer 0) res_qkv0 res_mid0 res_mlp0 hX
    (fun d => by pointwise; exact hr.r7 _)
    (fun d => by pointwise; exact hr.r8 _)
    (fun k d => by pointwise; exact hr.r9 _)
    (fun d => by pointwise; exact hr.r10 _)
    (fun k d => by pointwise; exact hr.r11 _)
    (fun d => by pointwise; exact hr.r12 _)
    (fun d => by pointwise; exact hr.r13 _)
    (fun d => by pointwise; exact hr.r14 _)
    (fun k d => by pointwise; exact hr.r15 _)
    (fun d => by pointwise; exact hr.r16 _)
    (fun k d => by pointwise; exact hr.r17 _)
    (fun d => by pointwise; exact hr.r18 _) n d

set_option maxRecDepth 8192 in
theorem res_qkv1 : (res_main_v172 V0 : FVec Ideal S32x244x3x12x4 .f32) = rQkv (res_main_v135 V0) (shapeCast S48 (extractStridedSlice S1x48 ![1, 0] (arrs V0).a7 slices_S6x48_S1x48_1_0) shapeCasts_S1x48_S48)
    (shapeCast S48 (extractStridedSlice S1x48 ![1, 0] (arrs V0).a8 slices_S6x48_S1x48_1_0) shapeCasts_S1x48_S48) (shapeCast S48x144 (extractStridedSlice S1x48x144 ![1, 0, 0] (arrs V0).a9 slices_S6x48x144_S1x48x144_1_0_0) shapeCasts_S1x48x144_S48x144) (shapeCast S144 (extractStridedSlice S1x144 ![1, 0] (arrs V0).a10 slices_S6x144_S1x144_1_0) shapeCasts_S1x144_S144) := by
  unfold res_main_v172 res_main_v145 res_main_v143 rQkv rLn rCen rMean
  rfl

set_option maxRecDepth 8192 in
theorem res_mid1 : (res_main_v207 V0 : FVec Ideal S32x244x48 .f32) = rMid (res_main_v135 V0) (res_main_v172 V0) (shapeCast S48x48 (extractStridedSlice S1x48x48 ![1, 0, 0] (arrs V0).a11 slices_S6x48x48_S1x48x48_1_0_0) shapeCasts_S1x48x48_S48x48) (shapeCast S48 (extractStridedSlice S1x48 ![1, 0] (arrs V0).a12 slices_S6x48_S1x48_1_0) shapeCasts_S1x48_S48) := by
  unfold res_main_v207 res_main_v191 res_main_v184 rMid rAtt rHeads rCtx rWgt rExp rMax rSpread rScore
  rfl

set_option maxRecDepth 8192 in
theorem res_mlp1 : (res_main_v259 V0 : FVec Ideal S32x244x48 .f32) = rMlp (res_main_v207 V0) (shapeCast S48 (extractStridedSlice S1x48 ![1, 0] (arrs V0).a13 slices_S6x48_S1x48_1_0) shapeCasts_S1x48_S48)
    (shapeCast S48 (extractStridedSlice S1x48 ![1, 0] (arrs V0).a14 slices_S6x48_S1x48_1_0) shapeCasts_S1x48_S48) (shapeCast S48x192 (extractStridedSlice S1x48x192 ![1, 0, 0] (arrs V0).a15 slices_S6x48x192_S1x48x192_1_0_0) shapeCasts_S1x48x192_S48x192) (shapeCast S192 (extractStridedSlice S1x192 ![1, 0] (arrs V0).a16 slices_S6x192_S1x192_1_0) shapeCasts_S1x192_S192) (shapeCast S192x48 (extractStridedSlice S1x192x48 ![1, 0, 0] (arrs V0).a17 slices_S6x192x48_S1x192x48_1_0_0) shapeCasts_S1x192x48_S192x48) (shapeCast S48 (extractStridedSlice S1x48 ![1, 0] (arrs V0).a18 slices_S6x48_S1x48_1_0) shapeCasts_S1x48_S48) := by
  unfold res_main_v259 res_main_v243 res_main_v217 res_main_v215 rMlp rFc rLn rCen rMean
  rfl

theorem res_layer1 (hr : (arrs V0).IsReal) (hX : ∀ n d, (res_main_v135 V0 : FVec Ideal S32x244x48 .f32) (ix3 i n d) = ((f n.val d : ℝ) : EReal)) (n : Fin 244) (d : Fin 48) :
    (res_main_v259 V0 : FVec Ideal S32x244x48 .f32) (ix3 i n d) = ((layerS ((arrs V0).layer 1) f n.val d : ℝ) : EReal) :=
  rLayer_apply (P := (arrs V0).layer 1) res_qkv1 res_mid1 res_mlp1 hX
    (fun d => by pointwise; exact hr.r7 _)
    (fun d => by pointwise; exact hr.r8 _)
    (fun k d => by pointwise; exact hr.r9 _)
    (fun d => by pointwise; exact hr.r10 _)
    (fun k d => by pointwise; exact hr.r11 _)
    (fun d => by pointwise; exact hr.r12 _)
    (fun d => by pointwise; exact hr.r13 _)
    (fun d => by pointwise; exact hr.r14 _)
    (fun k d => by pointwise; exact hr.r15 _)
    (fun d => by pointwise; exact hr.r16 _)
    (fun k d => by pointwise; exact hr.r17 _)
    (fun d => by pointwise; exact hr.r18 _) n d

set_option maxRecDepth 8192 in
theorem res_qkv2 : (res_main_v296 V0 : FVec Ideal S32x244x3x12x4 .f32) = rQkv (res_main_v259 V0) (shapeCast S48 (extractStridedSlice S1x48 ![2, 0] (arrs V0).a7 slices_S6x48_S1x48_2_0) shapeCasts_S1x48_S48)
    (shapeCast S48 (extractStridedSlice S1x48 ![2, 0] (arrs V0).a8 slices_S6x48_S1x48_2_0) shapeCasts_S1x48_S48) (shapeCast S48x144 (extractStridedSlice S1x48x144 ![2, 0, 0] (arrs V0).a9 slices_S6x48x144_S1x48x144_2_0_0) shapeCasts_S1x48x144_S48x144) (shapeCast S144 (extractStridedSlice S1x144 ![2, 0] (arrs V0).a10 slices_S6x144_S1x144_2_0) shapeCasts_S1x144_S144) := by
  unfold res_main_v296 res_main_v269 res_main_v267 rQkv rLn rCen rMean
  rfl

set_option maxRecDepth 8192 in
theorem res_mid2 : (res_main_v331 V0 : FVec Ideal S32x244x48 .f32) = rMid (res_main_v259 V0) (res_main_v296 V0) (shapeCast S48x48 (extractStridedSlice S1x48x48 ![2, 0, 0] (arrs V0).a11 slices_S6x48x48_S1x48x48_2_0_0) shapeCasts_S1x48x48_S48x48) (shapeCast S48 (extractStridedSlice S1x48 ![2, 0] (arrs V0).a12 slices_S6x48_S1x48_2_0) shapeCasts_S1x48_S48) := by
  unfold res_main_v331 res_main_v315 res_main_v308 rMid rAtt rHeads rCtx rWgt rExp rMax rSpread rScore
  rfl

set_option maxRecDepth 8192 in
theorem res_mlp2 : (res_main_v383 V0 : FVec Ideal S32x244x48 .f32) = rMlp (res_main_v331 V0) (shapeCast S48 (extractStridedSlice S1x48 ![2, 0] (arrs V0).a13 slices_S6x48_S1x48_2_0) shapeCasts_S1x48_S48)
    (shapeCast S48 (extractStridedSlice S1x48 ![2, 0] (arrs V0).a14 slices_S6x48_S1x48_2_0) shapeCasts_S1x48_S48) (shapeCast S48x192 (extractStridedSlice S1x48x192 ![2, 0, 0] (arrs V0).a15 slices_S6x48x192_S1x48x192_2_0_0) shapeCasts_S1x48x192_S48x192) (shapeCast S192 (extractStridedSlice S1x192 ![2, 0] (arrs V0).a16 slices_S6x192_S1x192_2_0) shapeCasts_S1x192_S192) (shapeCast S192x48 (extractStridedSlice S1x192x48 ![2, 0, 0] (arrs V0).a17 slices_S6x192x48_S1x192x48_2_0_0) shapeCasts_S1x192x48_S192x48) (shapeCast S48 (extractStridedSlice S1x48 ![2, 0] (arrs V0).a18 slices_S6x48_S1x48_2_0) shapeCasts_S1x48_S48) := by
  unfold res_main_v383 res_main_v367 res_main_v341 res_main_v339 rMlp rFc rLn rCen rMean
  rfl

theorem res_layer2 (hr : (arrs V0).IsReal) (hX : ∀ n d, (res_main_v259 V0 : FVec Ideal S32x244x48 .f32) (ix3 i n d) = ((f n.val d : ℝ) : EReal)) (n : Fin 244) (d : Fin 48) :
    (res_main_v383 V0 : FVec Ideal S32x244x48 .f32) (ix3 i n d) = ((layerS ((arrs V0).layer 2) f n.val d : ℝ) : EReal) :=
  rLayer_apply (P := (arrs V0).layer 2) res_qkv2 res_mid2 res_mlp2 hX
    (fun d => by pointwise; exact hr.r7 _)
    (fun d => by pointwise; exact hr.r8 _)
    (fun k d => by pointwise; exact hr.r9 _)
    (fun d => by pointwise; exact hr.r10 _)
    (fun k d => by pointwise; exact hr.r11 _)
    (fun d => by pointwise; exact hr.r12 _)
    (fun d => by pointwise; exact hr.r13 _)
    (fun d => by pointwise; exact hr.r14 _)
    (fun k d => by pointwise; exact hr.r15 _)
    (fun d => by pointwise; exact hr.r16 _)
    (fun k d => by pointwise; exact hr.r17 _)
    (fun d => by pointwise; exact hr.r18 _) n d

set_option maxRecDepth 8192 in
theorem res_qkv3 : (res_main_v420 V0 : FVec Ideal S32x244x3x12x4 .f32) = rQkv (res_main_v383 V0) (shapeCast S48 (extractStridedSlice S1x48 ![3, 0] (arrs V0).a7 slices_S6x48_S1x48_3_0) shapeCasts_S1x48_S48)
    (shapeCast S48 (extractStridedSlice S1x48 ![3, 0] (arrs V0).a8 slices_S6x48_S1x48_3_0) shapeCasts_S1x48_S48) (shapeCast S48x144 (extractStridedSlice S1x48x144 ![3, 0, 0] (arrs V0).a9 slices_S6x48x144_S1x48x144_3_0_0) shapeCasts_S1x48x144_S48x144) (shapeCast S144 (extractStridedSlice S1x144 ![3, 0] (arrs V0).a10 slices_S6x144_S1x144_3_0) shapeCasts_S1x144_S144) := by
  unfold res_main_v420 res_main_v393 res_main_v391 rQkv rLn rCen rMean
  rfl

set_option maxRecDepth 8192 in
theorem res_mid3 : (res_main_v455 V0 : FVec Ideal S32x244x48 .f32) = rMid (res_main_v383 V0) (res_main_v420 V0) (shapeCast S48x48 (extractStridedSlice S1x48x48 ![3, 0, 0] (arrs V0).a11 slices_S6x48x48_S1x48x48_3_0_0) shapeCasts_S1x48x48_S48x48) (shapeCast S48 (extractStridedSlice S1x48 ![3, 0] (arrs V0).a12 slices_S6x48_S1x48_3_0) shapeCasts_S1x48_S48) := by
  unfold res_main_v455 res_main_v439 res_main_v432 rMid rAtt rHeads rCtx rWgt rExp rMax rSpread rScore
  rfl

set_option maxRecDepth 8192 in
theorem res_mlp3 : (res_main_v507 V0 : FVec Ideal S32x244x48 .f32) = rMlp (res_main_v455 V0) (shapeCast S48 (extractStridedSlice S1x48 ![3, 0] (arrs V0).a13 slices_S6x48_S1x48_3_0) shapeCasts_S1x48_S48)
    (shapeCast S48 (extractStridedSlice S1x48 ![3, 0] (arrs V0).a14 slices_S6x48_S1x48_3_0) shapeCasts_S1x48_S48) (shapeCast S48x192 (extractStridedSlice S1x48x192 ![3, 0, 0] (arrs V0).a15 slices_S6x48x192_S1x48x192_3_0_0) shapeCasts_S1x48x192_S48x192) (shapeCast S192 (extractStridedSlice S1x192 ![3, 0] (arrs V0).a16 slices_S6x192_S1x192_3_0) shapeCasts_S1x192_S192) (shapeCast S192x48 (extractStridedSlice S1x192x48 ![3, 0, 0] (arrs V0).a17 slices_S6x192x48_S1x192x48_3_0_0) shapeCasts_S1x192x48_S192x48) (shapeCast S48 (extractStridedSlice S1x48 ![3, 0] (arrs V0).a18 slices_S6x48_S1x48_3_0) shapeCasts_S1x48_S48) := by
  unfold res_main_v507 res_main_v491 res_main_v465 res_main_v463 rMlp rFc rLn rCen rMean
  rfl

theorem res_layer3 (hr : (arrs V0).IsReal) (hX : ∀ n d, (res_main_v383 V0 : FVec Ideal S32x244x48 .f32) (ix3 i n d) = ((f n.val d : ℝ) : EReal)) (n : Fin 244) (d : Fin 48) :
    (res_main_v507 V0 : FVec Ideal S32x244x48 .f32) (ix3 i n d) = ((layerS ((arrs V0).layer 3) f n.val d : ℝ) : EReal) :=
  rLayer_apply (P := (arrs V0).layer 3) res_qkv3 res_mid3 res_mlp3 hX
    (fun d => by pointwise; exact hr.r7 _)
    (fun d => by pointwise; exact hr.r8 _)
    (fun k d => by pointwise; exact hr.r9 _)
    (fun d => by pointwise; exact hr.r10 _)
    (fun k d => by pointwise; exact hr.r11 _)
    (fun d => by pointwise; exact hr.r12 _)
    (fun d => by pointwise; exact hr.r13 _)
    (fun d => by pointwise; exact hr.r14 _)
    (fun k d => by pointwise; exact hr.r15 _)
    (fun d => by pointwise; exact hr.r16 _)
    (fun k d => by pointwise; exact hr.r17 _)
    (fun d => by pointwise; exact hr.r18 _) n d

set_option maxRecDepth 8192 in
theorem res_qkv4 : (res_main_v544 V0 : FVec Ideal S32x244x3x12x4 .f32) = rQkv (res_main_v507 V0) (shapeCast S48 (extractStridedSlice S1x48 ![4, 0] (arrs V0).a7 slices_S6x48_S1x48_4_0) shapeCasts_S1x48_S48)
    (shapeCast S48 (extractStridedSlice S1x48 ![4, 0] (arrs V0).a8 slices_S6x48_S1x48_4_0) shapeCasts_S1x48_S48) (shapeCast S48x144 (extractStridedSlice S1x48x144 ![4, 0, 0] (arrs V0).a9 slices_S6x48x144_S1x48x144_4_0_0) shapeCasts_S1x48x144_S48x144) (shapeCast S144 (extractStridedSlice S1x144 ![4, 0] (arrs V0).a10 slices_S6x144_S1x144_4_0) shapeCasts_S1x144_S144) := by
  unfold res_main_v544 res_main_v517 res_main_v515 rQkv rLn rCen rMean
  rfl

set_option maxRecDepth 8192 in
theorem res_mid4 : (res_main_v579 V0 : FVec Ideal S32x244x48 .f32) = rMid (res_main_v507 V0) (res_main_v544 V0) (shapeCast S48x48 (extractStridedSlice S1x48x48 ![4, 0, 0] (arrs V0).a11 slices_S6x48x48_S1x48x48_4_0_0) shapeCasts_S1x48x48_S48x48) (shapeCast S48 (extractStridedSlice S1x48 ![4, 0] (arrs V0).a12 slices_S6x48_S1x48_4_0) shapeCasts_S1x48_S48) := by
  unfold res_main_v579 res_main_v563 res_main_v556 rMid rAtt rHeads rCtx rWgt rExp rMax rSpread rScore
  rfl

set_option maxRecDepth 8192 in
theorem res_mlp4 : (res_main_v631 V0 : FVec Ideal S32x244x48 .f32) = rMlp (res_main_v579 V0) (shapeCast S48 (extractStridedSlice S1x48 ![4, 0] (arrs V0).a13 slices_S6x48_S1x48_4_0) shapeCasts_S1x48_S48)
    (shapeCast S48 (extractStridedSlice S1x48 ![4, 0] (arrs V0).a14 slices_S6x48_S1x48_4_0) shapeCasts_S1x48_S48) (shapeCast S48x192 (extractStridedSlice S1x48x192 ![4, 0, 0] (arrs V0).a15 slices_S6x48x192_S1x48x192_4_0_0) shapeCasts_S1x48x192_S48x192) (shapeCast S192 (extractStridedSlice S1x192 ![4, 0] (arrs V0).a16 slices_S6x192_S1x192_4_0) shapeCasts_S1x192_S192) (shapeCast S192x48 (extractStridedSlice S1x192x48 ![4, 0, 0] (arrs V0).a17 slices_S6x192x48_S1x192x48_4_0_0) shapeCasts_S1x192x48_S192x48) (shapeCast S48 (extractStridedSlice S1x48 ![4, 0] (arrs V0).a18 slices_S6x48_S1x48_4_0) shapeCasts_S1x48_S48) := by
  unfold res_main_v631 res_main_v615 res_main_v589 res_main_v587 rMlp rFc rLn rCen rMean
  rfl

theorem res_layer4 (hr : (arrs V0).IsReal) (hX : ∀ n d, (res_main_v507 V0 : FVec Ideal S32x244x48 .f32) (ix3 i n d) = ((f n.val d : ℝ) : EReal)) (n : Fin 244) (d : Fin 48) :
    (res_main_v631 V0 : FVec Ideal S32x244x48 .f32) (ix3 i n d) = ((layerS ((arrs V0).layer 4) f n.val d : ℝ) : EReal) :=
  rLayer_apply (P := (arrs V0).layer 4) res_qkv4 res_mid4 res_mlp4 hX
    (fun d => by pointwise; exact hr.r7 _)
    (fun d => by pointwise; exact hr.r8 _)
    (fun k d => by pointwise; exact hr.r9 _)
    (fun d => by pointwise; exact hr.r10 _)
    (fun k d => by pointwise; exact hr.r11 _)
    (fun d => by pointwise; exact hr.r12 _)
    (fun d => by pointwise; exact hr.r13 _)
    (fun d => by pointwise; exact hr.r14 _)
    (fun k d => by pointwise; exact hr.r15 _)
    (fun d => by pointwise; exact hr.r16 _)
    (fun k d => by pointwise; exact hr.r17 _)
    (fun d => by pointwise; exact hr.r18 _) n d

set_option maxRecDepth 8192 in
theorem res_qkv5 : (res_main_v668 V0 : FVec Ideal S32x244x3x12x4 .f32) = rQkv (res_main_v631 V0) (shapeCast S48 (extractStridedSlice S1x48 ![5, 0] (arrs V0).a7 slices_S6x48_S1x48_5_0) shapeCasts_S1x48_S48)
    (shapeCast S48 (extractStridedSlice S1x48 ![5, 0] (arrs V0).a8 slices_S6x48_S1x48_5_0) shapeCasts_S1x48_S48) (shapeCast S48x144 (extractStridedSlice S1x48x144 ![5, 0, 0] (arrs V0).a9 slices_S6x48x144_S1x48x144_5_0_0) shapeCasts_S1x48x144_S48x144) (shapeCast S144 (extractStridedSlice S1x144 ![5, 0] (arrs V0).a10 slices_S6x144_S1x144_5_0) shapeCasts_S1x144_S144) := by
  unfold res_main_v668 res_main_v641 res_main_v639 rQkv rLn rCen rMean
  rfl

set_option maxRecDepth 8192 in
theorem res_mid5 : (res_main_v703 V0 : FVec Ideal S32x244x48 .f32) = rMid (res_main_v631 V0) (res_main_v668 V0) (shapeCast S48x48 (extractStridedSlice S1x48x48 ![5, 0, 0] (arrs V0).a11 slices_S6x48x48_S1x48x48_5_0_0) shapeCasts_S1x48x48_S48x48) (shapeCast S48 (extractStridedSlice S1x48 ![5, 0] (arrs V0).a12 slices_S6x48_S1x48_5_0) shapeCasts_S1x48_S48) := by
  unfold res_main_v703 res_main_v687 res_main_v680 rMid rAtt rHeads rCtx rWgt rExp rMax rSpread rScore
  rfl

set_option maxRecDepth 8192 in
theorem res_mlp5 : (res_main_v755 V0 : FVec Ideal S32x244x48 .f32) = rMlp (res_main_v703 V0) (shapeCast S48 (extractStridedSlice S1x48 ![5, 0] (arrs V0).a13 slices_S6x48_S1x48_5_0) shapeCasts_S1x48_S48)
    (shapeCast S48 (extractStridedSlice S1x48 ![5, 0] (arrs V0).a14 slices_S6x48_S1x48_5_0) shapeCasts_S1x48_S48) (shapeCast S48x192 (extractStridedSlice S1x48x192 ![5, 0, 0] (arrs V0).a15 slices_S6x48x192_S1x48x192_5_0_0) shapeCasts_S1x48x192_S48x192) (shapeCast S192 (extractStridedSlice S1x192 ![5, 0] (arrs V0).a16 slices_S6x192_S1x192_5_0) shapeCasts_S1x192_S192) (shapeCast S192x48 (extractStridedSlice S1x192x48 ![5, 0, 0] (arrs V0).a17 slices_S6x192x48_S1x192x48_5_0_0) shapeCasts_S1x192x48_S192x48) (shapeCast S48 (extractStridedSlice S1x48 ![5, 0] (arrs V0).a18 slices_S6x48_S1x48_5_0) shapeCasts_S1x48_S48) := by
  unfold res_main_v755 res_main_v739 res_main_v713 res_main_v711 rMlp rFc rLn rCen rMean
  rfl

theorem res_layer5 (hr : (arrs V0).IsReal) (hX : ∀ n d, (res_main_v631 V0 : FVec Ideal S32x244x48 .f32) (ix3 i n d) = ((f n.val d : ℝ) : EReal)) (n : Fin 244) (d : Fin 48) :
    (res_main_v755 V0 : FVec Ideal S32x244x48 .f32) (ix3 i n d) = ((layerS ((arrs V0).layer 5) f n.val d : ℝ) : EReal) :=
  rLayer_apply (P := (arrs V0).layer 5) res_qkv5 res_mid5 res_mlp5 hX
    (fun d => by pointwise; exact hr.r7 _)
    (fun d => by pointwise; exact hr.r8 _)
    (fun k d => by pointwise; exact hr.r9 _)
    (fun d => by pointwise; exact hr.r10 _)
    (fun k d => by pointwise; exact hr.r11 _)
    (fun d => by pointwise; exact hr.r12 _)
    (fun d => by pointwise; exact hr.r13 _)
    (fun d => by pointwise; exact hr.r14 _)
    (fun k d => by pointwise; exact hr.r15 _)
    (fun d => by pointwise; exact hr.r16 _)
    (fun k d => by pointwise; exact hr.r17 _)
    (fun d => by pointwise; exact hr.r18 _) n d

end Cert.ReferenceIdeal.RV

end
-- ==== Proof.RFeat.lean ====
/-
  The reference network's first features.
-/
module

public import proofs.«01_k».proof.Proof.Arrs
public import proofs.«01_k».proof.Proof.Gen.ReferenceIdeal

@[expose] public section

set_option synthInstance.maxSize 4096

noncomputable section

namespace Cert.ReferenceIdeal.RV

open Idealize.ShloMosaic Cert.ReferenceIdeal Cert.ReferenceIdeal.Gen Cert.Spec

variable (A : Arrs)

/-- The patches' features. -/
def rPatch : FVec Ideal S32x196x48 .f32 :=
  shapeCast _ (addf (Host.dotGeneral dot_S32x14x16x14x16_S48x16x16_S32x14x14x48_24_12_013_0_n_n none (shapeCast _ A.a1 shapeCasts_S32x1x224x224_S32x14x16x14x16) (shapeCast _ A.a3 shapeCasts_S48x1x16x16_S48x16x16)) (broadcastInDim S32x14x14x48 ![0, 1, 2, 3] bcast_S1x1x1x48_S32x14x14x48_0_1_2_3 (broadcastInDim S1x1x1x48 ![3] bcast_S48_S1x1x1x48_3 A.a4))) shapeCasts_S32x14x14x48_S32x196x48

/-- The points' features. -/
def rPoint : FVec Ideal S32x48x48 .f32 :=
  addf (Host.dotGeneral dot_S32x48x3_S3x48_S32x48x48_2_0_01_1_n_n none A.a2 A.a5) (broadcastInDim S32x48x48 ![0, 1, 2] bcast_S1x1x48_S32x48x48_0_1_2 (broadcastInDim S1x1x48 ![2] bcast_S48_S1x1x48_2 A.a6))

/-- The first features. -/
def rFeat (X : FVec Ideal S32x196x48 .f32) (Y : FVec Ideal S32x48x48 .f32) : FVec Ideal S32x244x48 .f32 :=
  concatenate S32x244x48 1 [⟨S32x196x48, X⟩, ⟨S32x48x48, Y⟩] concatenates_S32x196x48_S32x48x48_S32x244x48_d1

variable {A} {i : Fin 32}

theorem rPoint_apply (hr : A.IsReal) (n d : Fin 48) :
    rPoint A (ix3 i n d) = (((∑ k, A.pt i n.val k * A.net.lw k d) + A.net.lb d : ℝ) : EReal) := by
  have h2 : ∀ k, A.a2 (ix3 i n k) = ((A.pt i n.val k : ℝ) : EReal) := fun k => by
    rw [hr.r2]; unfold Arrs.pt; rw [dif_pos n.isLt]
  have h5 : ∀ k, A.a5 (ix2 k d) = ((A.net.lw k d : ℝ) : EReal) := fun k => hr.r5 _
  have h6 : A.a6 (ix1 d) = ((A.net.lb d : ℝ) : EReal) := hr.r6 _
  pointwise [rPoint]
  simp only [h2, h5, h6, ← EReal.coe_mul, coe_sum, ← EReal.coe_add]

theorem rFeat_lo (X : FVec Ideal S32x196x48 .f32) (Y : FVec Ideal S32x48x48 .f32) (n : Fin 244) (h : n.val < 196) (d : Fin 48) :
    rFeat X Y (ix3 i n d) = X (ix3 i ⟨n.val, h⟩ d) := by
  pointwise [rFeat]
  rw [dif_pos h]

theorem rFeat_hi (X : FVec Ideal S32x196x48 .f32) (Y : FVec Ideal S32x48x48 .f32) (n : Fin 244) (h : ¬ n.val < 196) (d : Fin 48) :
    rFeat X Y (ix3 i n d) = Y (ix3 i ⟨n.val - 196, by omega⟩ d) := by
  pointwise [rFeat]
  rw [dif_neg h]

/-- A sum over 256 entries is one over 16 rows of 16. -/
theorem sum_square (g : Fin 256 → ℝ) : ∑ k, g k = ∑ x : Fin 16, ∑ y : Fin 16, g ⟨16 * x.val + y.val, by omega⟩ := by
  rw [← (finProdFinEquiv (m := 16) (n := 16)).sum_comp, Fintype.sum_prod_type]
  refine Finset.sum_congr rfl fun x _ => Finset.sum_congr rfl fun y _ => congrArg g (Fin.ext ?_)
  simp [finProdFinEquiv]
  omega

theorem rPatch_apply (hr : A.IsReal) (n : Fin 196) (d : Fin 48) :
    rPatch A (ix3 i n d) = (((∑ k, A.pa i n.val k * A.net.cw k d) + A.net.cb d : ℝ) : EReal) := by
  have h4 : A.a4 (ix1 d) = ((A.net.cb d : ℝ) : EReal) := hr.r4 _
  have h1 : ∀ x y : Fin 16, A.a1 (ix4 i 0 ⟨n.val / 14 * 16 + x.val, by omega⟩ ⟨n.val % 14 * 16 + y.val, by omega⟩)
      = ((A.pa i n.val ⟨16 * x.val + y.val, by omega⟩ : ℝ) : EReal) := fun x y => by
    rw [hr.r1]
    unfold Arrs.pa
    rw [dif_pos n.isLt]
    congr 4 <;> refine Fin.ext ?_ <;> dsimp only <;> omega
  have h3 : ∀ x y : Fin 16, A.a3 (ix4 d 0 x y) = ((A.net.cw ⟨16 * x.val + y.val, by omega⟩ d : ℝ) : EReal) := fun x y => by
    rw [hr.r3]
    unfold Arrs.net
    dsimp only
    congr 4 <;> refine Fin.ext ?_ <;> dsimp only <;> omega
  pointwise [rPatch]
  simp only [h1, h3, h4, ← EReal.coe_mul, coe_sum, ← EReal.coe_add]
  rw [sum_square]

/-- The reference's first features are the network's. -/
theorem feat_apply (hr : A.IsReal) (n : Fin 244) (d : Fin 48) : rFeat (rPatch A) (rPoint A) (ix3 i n d)
    = ((feat0 (A.pa i) A.net.cw A.net.cb (A.pt i) A.net.lw A.net.lb n.val d : ℝ) : EReal) := by
  unfold feat0
  by_cases h : n.val < 196
  · rw [rFeat_lo _ _ n h, rPatch_apply hr, if_pos h]
  · rw [rFeat_hi _ _ n h, rPoint_apply hr, if_neg h, if_pos n.isLt]

end Cert.ReferenceIdeal.RV

end
-- ==== Proof.REnd.lean ====
/-
  The reference network's decoder: from the last layer's features to the variances.
-/
module

public import proofs.«01_k».proof.Proof.RLayer

@[expose] public section

set_option synthInstance.maxSize 4096

noncomputable section

namespace Cert.ReferenceIdeal.RV

open Idealize.ShloMosaic Cert.ReferenceIdeal Cert.ReferenceIdeal.Gen Cert.Spec

section defs

variable (Y : FVec Ideal S32x244x48 .f32) (w : FVec Ideal S48x48 .f32)

/-- The patches' products with a matrix. -/
def rProjM : FVec Ideal S32x196x48 .f32 :=
  Host.dotGeneral dot_S32x196x48_S48x48_S32x196x48_2_0_01_1_n_n none (extractStridedSlice S32x196x48 ![0, 0, 0] Y slices_S32x244x48_S32x196x48_0_0_0) w

/-- The points' products with a matrix. -/
def rProjP : FVec Ideal S32x48x48 .f32 :=
  Host.dotGeneral dot_S32x48x48_S48x48_S32x48x48_2_0_01_1_n_n none (extractStridedSlice S32x48x48 ![0, 196, 0] Y slices_S32x244x48_S32x48x48_0_196_0) w

/-- The patches' lengths. -/
def rLenM (P : FVec Ideal S32x196x48 .f32) : FVec Ideal S32x196x1 .f32 :=
  Host.sqrt (broadcastInDim S32x196x1 ![0, 1] bcast_S32x196_S32x196x1_0_1 (Host.reduceAdd (mulf P P) (constant S_ .f32 0x00000000#32) reducesTo_S32x196x48_S32x196_d2 h_S_))

/-- The points' lengths. -/
def rLenP (P : FVec Ideal S32x48x48 .f32) : FVec Ideal S32x48x1 .f32 :=
  Host.sqrt (broadcastInDim S32x48x1 ![0, 1] bcast_S32x48_S32x48x1_0_1 (Host.reduceAdd (mulf P P) (constant S_ .f32 0x00000000#32) reducesTo_S32x48x48_S32x48_d2 h_S_))

/-- The patches divided by their lengths. -/
def rUnitM (P : FVec Ideal S32x196x48 .f32) : FVec Ideal S32x196x48 .f32 :=
  Host.divf P (broadcastInDim S32x196x48 ![0, 1, 2] bcast_S32x196x1_S32x196x48_0_1_2 (select (cmpf .ogt (rLenM P) (broadcastInDim S32x196x1 ![] bcast_S_S32x196x1 (constant S_ .f32 0x00000000#32))) (rLenM P) (broadcastInDim S32x196x1 ![] bcast_S_S32x196x1 (constant S_ .f32 0x3F800000#32))))

/-- The points divided by their lengths. -/
def rUnitP (P : FVec Ideal S32x48x48 .f32) : FVec Ideal S32x48x48 .f32 :=
  Host.divf P (broadcastInDim S32x48x48 ![0, 1, 2] bcast_S32x48x1_S32x48x48_0_1_2 (select (cmpf .ogt (rLenP P) (broadcastInDim S32x48x1 ![] bcast_S_S32x48x1 (constant S_ .f32 0x00000000#32))) (rLenP P) (broadcastInDim S32x48x1 ![] bcast_S_S32x48x1 (constant S_ .f32 0x3F800000#32))))

/-- The likenesses of patches and points. -/
def rSim (U : FVec Ideal S32x196x48 .f32) (V : FVec Ideal S32x48x48 .f32) : FVec Ideal S32x196x48 .f32 :=
  Host.dotGeneral dot_S32x196x48_S32x48x48_S32x196x48_2_2_1_1_0_0 none U V

variable (X : FVec Ideal S32x196x48 .f32) (s b : FVec Ideal S48 .f32)

/-- Each patch's mean. -/
def rMean2 : FVec Ideal S32x196x1 .f32 :=
  Host.divf (broadcastInDim S32x196x1 ![0, 1] bcast_S32x196_S32x196x1_0_1 (Host.reduceAdd X (constant S_ .f32 0x00000000#32) reducesTo_S32x196x48_S32x196_d2 h_S_)) (broadcastInDim S32x196x1 ![] bcast_S_S32x196x1 (constant S_ .f32 0x42400000#32))

/-- Each patch less its mean. -/
def rCen2 : FVec Ideal S32x196x48 .f32 := subf X (broadcastInDim S32x196x48 ![0, 1, 2] bcast_S32x196x1_S32x196x48_0_1_2 (rMean2 X))

/-- The layer norm of each patch. -/
def rLn2 : FVec Ideal S32x196x48 .f32 :=
  addf (mulf (Host.divf (subf X (broadcastInDim S32x196x48 ![0, 1, 2] bcast_S32x196x1_S32x196x48_0_1_2 (rMean2 X))) (broadcastInDim S32x196x48 ![0, 1, 2] bcast_S32x196x1_S32x196x48_0_1_2 (Host.sqrt (addf (Host.divf (broadcastInDim S32x196x1 ![0, 1] bcast_S32x196_S32x196x1_0_1 (Host.reduceAdd (mulf (rCen2 X) (rCen2 X)) (constant S_ .f32 0x00000000#32) reducesTo_S32x196x48_S32x196_d2 h_S_)) (broadcastInDim S32x196x1 ![] bcast_S_S32x196x1 (constant S_ .f32 0x42400000#32))) (broadcastInDim S32x196x1 ![] bcast_S_S32x196x1 (constant S_ .f32 0x3727C5AC#32)))))) (broadcastInDim S32x196x48 ![0, 1, 2] bcast_S1x1x48_S32x196x48_0_1_2 (broadcastInDim S1x1x48 ![2] bcast_S48_S1x1x48_2 s))) (broadcastInDim S32x196x48 ![0, 1, 2] bcast_S1x1x48_S32x196x48_0_1_2 (broadcastInDim S1x1x48 ![2] bcast_S48_S1x1x48_2 b))

/-- The patches' rows laid side by side. -/
def rFlat : FVec Ideal S32x9408 .f32 := shapeCast _ X shapeCasts_S32x196x48_S32x9408

/-- The variances of what the last norm left. -/
def rVars (G : FVec Ideal S32x9408 .f32) (w : FVec Ideal S9408x48 .f32) : FVec Ideal S32x48 .f32 :=
  minimumf (broadcastInDim S32x48 ![] bcast_S_S32x48 (constant S_ .f32 0x40800000#32)) (maximumf (broadcastInDim S32x48 ![] bcast_S_S32x48 (constant S_ .f32 0x00000000#32)) (addf (Host.dotGeneral dot_S32x9408_S9408x48_S32x48_1_0_0_1_n_n none (mulf (mulf (broadcastInDim S32x9408 ![] bcast_S_S32x9408 (constant S_ .f32 0x3F000000#32)) G) (Host.erfc (mulf (Host.negf G) (broadcastInDim S32x9408 ![] bcast_S_S32x9408 (constant S_ .f32 0x3F3504F3#32))))) w) (broadcastInDim S32x48 ![0, 1] bcast_S1x48_S32x48_0_1 (broadcastInDim S1x48 ![1] bcast_S48_S1x48_1 b))))

end defs

/-- A number divided by a length, or by one where the length is zero. -/
theorem div_len (x : Fin 48 → ℝ) (d : Fin 48) : Ideal.div ((x d : ℝ) : EReal)
    (if (0 : EReal) < Ideal.sqrt ((sq48 x : ℝ) : EReal) then Ideal.sqrt ((sq48 x : ℝ) : EReal) else 1) = ((unitS x d : ℝ) : EReal) := by
  rw [sqrt_real (sq48_nonneg x)]
  unfold unitS
  by_cases h : 0 < Real.sqrt (sq48 x)
  · rw [if_pos (by exact_mod_cast h), if_pos h, div_real _ h.ne']
  · rw [if_neg (by exact_mod_cast h), if_neg h, one_real, div_real _ one_ne_zero]

variable {E : EndP} {f : ℕ → Fin 48 → ℝ} {i : Fin 32}

theorem rProjM_apply {Y : FVec Ideal S32x244x48 .f32} {w : FVec Ideal S48x48 .f32} {w' : Fin 48 → Fin 48 → ℝ}
    (hY : ∀ n d, Y (ix3 i n d) = ((lnS E.dns E.dnb (f n.val) d : ℝ) : EReal)) (hw : ∀ k d, w (ix2 k d) = ((w' k d : ℝ) : EReal)) (n : Fin 196) (j : Fin 48) :
    rProjM Y w (ix3 i n j) = ((projS E w' f n.val j : ℝ) : EReal) := by
  pointwise [rProjM]
  simp only [hY, hw, ← EReal.coe_mul, coe_sum]
  rfl

theorem rProjP_apply {Y : FVec Ideal S32x244x48 .f32} {w : FVec Ideal S48x48 .f32} {w' : Fin 48 → Fin 48 → ℝ}
    (hY : ∀ n d, Y (ix3 i n d) = ((lnS E.dns E.dnb (f n.val) d : ℝ) : EReal)) (hw : ∀ k d, w (ix2 k d) = ((w' k d : ℝ) : EReal)) (n : Fin 48) (j : Fin 48) :
    rProjP Y w (ix3 i n j) = ((projS E w' f (n.val + 196) j : ℝ) : EReal) := by
  pointwise [rProjP]
  simp only [hY, hw, ← EReal.coe_mul, coe_sum, Nat.add_comm 196]
  rfl

theorem rUnitM_apply {P : FVec Ideal S32x196x48 .f32} {n : Fin 196} {x : Fin 48 → ℝ} (hP : ∀ j, P (ix3 i n j) = ((x j : ℝ) : EReal)) (j : Fin 48) :
    rUnitM P (ix3 i n j) = ((unitS x j : ℝ) : EReal) := by
  have hl : rLenM P (ix3 i n 0) = Ideal.sqrt ((sq48 x : ℝ) : EReal) := by
    pointwise [rLenM]
    simp only [hP, ← EReal.coe_mul, coe_sum]
    rfl
  pointwise [rUnitM]
  simp only [hl, hP]
  exact div_len x j

theorem rUnitP_apply {P : FVec Ideal S32x48x48 .f32} {n : Fin 48} {x : Fin 48 → ℝ} (hP : ∀ j, P (ix3 i n j) = ((x j : ℝ) : EReal)) (j : Fin 48) :
    rUnitP P (ix3 i n j) = ((unitS x j : ℝ) : EReal) := by
  have hl : rLenP P (ix3 i n 0) = Ideal.sqrt ((sq48 x : ℝ) : EReal) := by
    pointwise [rLenP]
    simp only [hP, ← EReal.coe_mul, coe_sum]
    rfl
  pointwise [rUnitP]
  simp only [hl, hP]
  exact div_len x j

theorem rSim_apply {U : FVec Ideal S32x196x48 .f32} {V : FVec Ideal S32x48x48 .f32} (hU : ∀ n j, U (ix3 i n j) = ((unitS (projS E E.mw f n.val) j : ℝ) : EReal))
    (hV : ∀ n j, V (ix3 i n j) = ((unitS (projS E E.pw f (n.val + 196)) j : ℝ) : EReal)) (n : Fin 196) (j : Fin 48) :
    rSim U V (ix3 i n j) = ((simS E f n.val j : ℝ) : EReal) := by
  pointwise [rSim]
  simp only [hU, hV, ← EReal.coe_mul, coe_sum]
  rfl

section ln

variable {X : FVec Ideal S32x196x48 .f32} {s b : FVec Ideal S48 .f32} {x s' b' : Fin 48 → ℝ} {n : Fin 196}

theorem rMean2_apply (hX : ∀ d, X (ix3 i n d) = ((x d : ℝ) : EReal)) : rMean2 X (ix3 i n 0) = ((mean48 x : ℝ) : EReal) := by
  pointwise [rMean2]
  simp only [hX, lit_48, coe_sum, div_real _ n48]
  rfl

theorem rCen2_apply (hX : ∀ d, X (ix3 i n d) = ((x d : ℝ) : EReal)) (d : Fin 48) : rCen2 X (ix3 i n d) = ((x d - mean48 x : ℝ) : EReal) := by
  pointwise [rCen2]
  rw [hX, rMean2_apply hX, ← EReal.coe_sub]

theorem rLn2_apply (hX : ∀ d, X (ix3 i n d) = ((x d : ℝ) : EReal)) (hs : ∀ d, s (ix1 d) = ((s' d : ℝ) : EReal))
    (hb : ∀ d, b (ix1 d) = ((b' d : ℝ) : EReal)) (d : Fin 48) : rLn2 X s b (ix3 i n d) = ((lnS s' b' x d : ℝ) : EReal) := by
  pointwise [rLn2]
  simp only [hX, hs, hb, rMean2_apply hX, rCen2_apply hX, lit_48, lit_eps, ← EReal.coe_mul, coe_sum, div_real _ n48, ← EReal.coe_sub, ← EReal.coe_add]
  rw [show (∑ k, (x k - mean48 x) * (x k - mean48 x)) / 48 = var48 x from rfl, div_sqrt_eps, ← EReal.coe_mul, ← EReal.coe_add]
  rfl

end ln

theorem rFlat_apply (X : FVec Ideal S32x196x48 .f32) (q : Fin 9408) :
    rFlat X (ix2 i q) = X (ix3 i ⟨q.val / 48, by omega⟩ ⟨q.val % 48, by omega⟩) := by
  pointwise [rFlat]

/-- A sum over all entries of 196 rows of 48. -/
theorem sum_rows (g : Fin 9408 → ℝ) : ∑ k, g k = ∑ x : Fin 196, ∑ y : Fin 48, g ⟨48 * x.val + y.val, by omega⟩ := by
  rw [← (finProdFinEquiv (m := 196) (n := 48)).sum_comp, Fintype.sum_prod_type]
  refine Finset.sum_congr rfl fun x _ => Finset.sum_congr rfl fun y _ => congrArg g (Fin.ext ?_)
  simp [finProdFinEquiv]
  omega

theorem rVars_apply {G : FVec Ideal S32x9408 .f32} {w : FVec Ideal S9408x48 .f32} {b : FVec Ideal S48 .f32}
    (hG : ∀ q : Fin 9408, G (ix2 i q) = ((lnS E.mns E.mnb (simS E f (q.val / 48)) ⟨q.val % 48, by omega⟩ : ℝ) : EReal))
    (hw : ∀ (q : Fin 9408) j, w (ix2 q j) = ((E.w (q.val / 48) ⟨q.val % 48, by omega⟩ j : ℝ) : EReal)) (hb : ∀ j, b (ix1 j) = ((E.b j : ℝ) : EReal)) (j : Fin 48) :
    rVars b G w (ix2 i j) = ((varsS E f j : ℝ) : EReal) := by
  pointwise [rVars]
  simp only [hG, hw, hb, lit_half, lit_invRoot2, lit_4, zero_real, gelu_erfc, ← EReal.coe_mul, coe_sum, ← EReal.coe_add, max_real, min_real]
  refine congrArg ((↑) : ℝ → EReal) ?_
  unfold varsS
  rw [sum_rows]
  refine congrArg (fun t : ℝ => min 4 (max 0 (t + E.b j))) (Finset.sum_congr rfl fun x _ => Finset.sum_congr rfl fun y _ => ?_)
  have h1 : (48 * x.val + y.val) / 48 = x.val := by omega
  have h2 : (48 * x.val + y.val) % 48 = y.val := by omega
  simp only [h1, h2]
  rfl

end Cert.ReferenceIdeal.RV

end
-- ==== Proof.RTail.lean ====
/-
  The reference network from its first features to its variances.
-/
module

public import proofs.«01_k».proof.Proof.RChain
public import proofs.«01_k».proof.Proof.RFeat
public import proofs.«01_k».proof.Proof.REnd

@[expose] public section

set_option synthInstance.maxSize 4096

noncomputable section

namespace Cert.ReferenceIdeal.RV

open Idealize.ShloMosaic Cert.ReferenceIdeal Cert.ReferenceIdeal.Gen Cert.ReferenceIdeal.Value Cert.Spec

variable {V0 : Valuation τ sig (Elt Ideal)} {i : Fin 32}

/-! The generated terms, as the functions above of one another. -/

set_option maxRecDepth 8192 in
theorem res_feat : (res_main_v11 V0 : FVec Ideal S32x244x48 .f32) = rFeat (rPatch (arrs V0)) (rPoint (arrs V0)) := by
  unfold res_main_v11 rFeat rPatch rPoint
  rfl

set_option maxRecDepth 8192 in
theorem res_ln : (res_main_v779 V0 : FVec Ideal S32x244x48 .f32) = rLn (res_main_v755 V0) (arrs V0).a21 (arrs V0).a22 := by
  unfold res_main_v779 res_main_v761 res_main_v759 rLn rCen rMean
  rfl

set_option maxRecDepth 8192 in
theorem res_projM : (res_main_v781 V0 : FVec Ideal S32x196x48 .f32) = rProjM (res_main_v779 V0) (arrs V0).a19 := by
  unfold res_main_v781 rProjM
  rfl

set_option maxRecDepth 8192 in
theorem res_projP : (res_main_v792 V0 : FVec Ideal S32x48x48 .f32) = rProjP (res_main_v779 V0) (arrs V0).a20 := by
  unfold res_main_v792 rProjP
  rfl

set_option maxRecDepth 8192 in
theorem res_sim : (res_main_v802 V0 : FVec Ideal S32x196x48 .f32) = rSim (rUnitM (res_main_v781 V0)) (rUnitP (res_main_v792 V0)) := by
  unfold res_main_v802 res_main_v796 res_main_v785 rSim rUnitM rUnitP rLenM rLenP
  rfl

set_option maxRecDepth 8192 in
theorem res_flat : (res_main_v827 V0 : FVec Ideal S32x9408 .f32) = rFlat (rLn2 (res_main_v802 V0) (arrs V0).a23 (arrs V0).a24) := by
  unfold res_main_v827 res_main_v808 res_main_v806 rFlat rLn2 rCen2 rMean2
  rfl

set_option maxRecDepth 8192 in
theorem res_vars : (res_main_v839 V0 : FVec Ideal S32x48 .f32) = rVars (arrs V0).a26 (res_main_v827 V0) (arrs V0).a25 := by
  unfold res_main_v839 rVars
  rfl

/-- The features after the six layers. -/
theorem res_net (hr : (arrs V0).IsReal) (n : Fin 244) (d : Fin 48) : (res_main_v755 V0 : FVec Ideal S32x244x48 .f32) (ix3 i n d)
    = ((netF (arrs V0).net ((arrs V0).pa i) ((arrs V0).pt i) n.val d : ℝ) : EReal) :=
  res_layer5 hr (fun n d => res_layer4 hr (fun n d => res_layer3 hr (fun n d => res_layer2 hr (fun n d => res_layer1 hr (fun n d => res_layer0 hr
    (fun n d => (congrFun res_feat _).trans (feat_apply hr n d)) n d) n d) n d) n d) n d) n d

/-- The variances. -/
theorem res_var (hr : (arrs V0).IsReal) (j : Fin 48) : (res_main_v839 V0 : FVec Ideal S32x48 .f32) (ix2 i j)
    = ((varsS (arrs V0).net.E (netF (arrs V0).net ((arrs V0).pa i) ((arrs V0).pt i)) j : ℝ) : EReal) := by
  have hln : ∀ n d, (res_main_v779 V0 : FVec Ideal S32x244x48 .f32) (ix3 i n d)
      = ((lnS (arrs V0).net.E.dns (arrs V0).net.E.dnb (netF (arrs V0).net ((arrs V0).pa i) ((arrs V0).pt i) n.val) d : ℝ) : EReal) := fun n d =>
    (congrFun res_ln _).trans (rLn_apply (fun d => res_net hr n d) (fun d => hr.r21 _) (fun d => hr.r22 _) d)
  have hm := fun n j => (congrFun res_projM (ix3 i n j)).trans (rProjM_apply (E := (arrs V0).net.E) (w' := (arrs V0).net.E.mw) hln (fun k d => hr.r19 _) n j)
  have hp := fun n j => (congrFun res_projP (ix3 i n j)).trans (rProjP_apply (E := (arrs V0).net.E) (w' := (arrs V0).net.E.pw) hln (fun k d => hr.r20 _) n j)
  have hs := fun n j => (congrFun res_sim (ix3 i n j)).trans (rSim_apply (fun n j => rUnitM_apply (fun j => hm n j) j) (fun n j => rUnitP_apply (fun j => hp n j) j) n j)
  rw [res_vars]
  refine rVars_apply (E := (arrs V0).net.E) (fun q => ?_) (fun q j => ?_) (fun j => hr.r26 _) j
  · rw [res_flat, rFlat_apply]
    exact rLn2_apply (fun d => hs _ d) (fun d => hr.r23 _) (fun d => hr.r24 _) _
  · refine (hr.r25 _).trans ?_
    show _ = (((if h : q.val / 48 < 196 then _ else _ : ℝ)) : EReal)
    rw [dif_pos (show q.val / 48 < 196 by omega)]
    have e : (ix2 (⟨48 * (q.val / 48) + q.val % 48, by omega⟩ : Fin 9408) j) = ix2 q j := by
      rw [show (⟨48 * (q.val / 48) + q.val % 48, by omega⟩ : Fin 9408) = q from Fin.ext (Nat.div_add_mod _ _)]
    exact congrArg (fun k => (((arrs V0).a25 k).toReal : EReal)) e.symm

end Cert.ReferenceIdeal.RV

end
-- ==== Proof.RMap.lean ====
/-
  The reference's Gaussian maps: one half of its output from the points' coordinates and the variances.
-/
module

public import proofs.«01_k».proof.Proof.RLayer
public import proofs.«01_k».proof.Proof.Spec2
public import Idealize.ShloMosaic.Lib.StableHlo.Predicate
public import Idealize.ShloMosaic.Lib.Routing.Ops

@[expose] public section

set_option synthInstance.maxSize 4096

noncomputable section

namespace Cert.ReferenceIdeal.RV

open Idealize.ShloMosaic Cert.ReferenceIdeal Cert.ReferenceIdeal.Gen Cert.Spec

section defs

variable (Q : FVec Ideal S32x24x2 .f32) (W : FVec Ideal S32x24 .f32)

/-- Which points count. -/
def rOk : IVec S32x24 1 :=
  cmpf .ogt (Host.reduce FloatOps.maximumf Q (constant S_ .f32 0xFF800000#32) reducesTo_S32x24x2_S32x24_d2 h_S_) (broadcastInDim S32x24 ![] bcast_S_S32x24 (constant S_ .f32 0x00000000#32))

/-- How many of the first points count. -/
def rCnt (V : IVec S32x24 1) : IVec S32x24 32 :=
  Host.reduceWindow IntOp.addi ![1, 24] ![1, 1] ![0, 23] ![0, 0] (extui 32 V natLt_1_32) (broadcastInDim S_ ![] bcast_S_S_ (constantI S_ 32 0#32)) reduceWindows_S32x24_S32x24_w1s1p0_0_w24s1p23_0 h_S_

/-- Each point's position among those that count. -/
def rRank (C : IVec S32x24 32) : IVec S32x24 32 :=
  minsi (broadcastInDim S32x24 ![] bcast_S_S32x24 (constantI S_ 32 23#32)) (maxsi (broadcastInDim S32x24 ![] bcast_S_S32x24 (constantI S_ 32 0#32)) (subi C (broadcastInDim S32x24 ![] bcast_S_S32x24 (constantI S_ 32 1#32))))

/-- The positions as a table of indices. -/
def rIdx (R : IVec S32x24 32) : IVec S32x24x1 32 :=
  shapeCast _ (select (cmpi .slt R (broadcastInDim S32x24 ![] bcast_S_S32x24 (constantI S_ 32 0#32))) (addi R (broadcastInDim S32x24 ![] bcast_S_S32x24 (constantI S_ 32 24#32))) R) shapeCasts_S32x24_S32x24x1

/-- Which indices lie within the table. -/
def rIn (I : IVec S32x24x1 32) : IVec S32x24 1 :=
  Host.reduce IntOp.andi (andi (cmpi .sge I (broadcastInDim S32x24x1 ![] bcast_S_S32x24x1 (constantI S_ 32 0#32))) (cmpi .sle I (broadcastInDim S32x24x1 ![0, 1, 2] bcast_S1x1x1_S32x24x1_0_1_2 (broadcastInDim S1x1x1 ![2] bcast_S1_S1x1x1_2 (constantI S1 32 23#32))))) (constantI S_ 1 1#1) reducesTo_S32x24x1_S32x24_d2 h_S_

/-- The entries that the indices name. -/
def rTake (I : IVec S32x24x1 32) : FVec Ideal S32x24 .f32 := Host.gather gather_S32x24_S32x24x1_S32x24_n_1_0_0_1_2_11 W I

/-- Each point's deviation. -/
def rDev (I : IVec S32x24x1 32) : FVec Ideal S32x24 .f32 :=
  addf (select (rIn I) (rTake W I) (broadcastInDim S32x24 ![] bcast_S_S32x24 (constant S_ .f32 0x7FC00000#32))) (broadcastInDim S32x24 ![] bcast_S_S32x24 (constant S_ .f32 0x40800000#32))

/-- Twice the square of each point's deviation. -/
def rSp (D : FVec Ideal S32x24 .f32) : FVec Ideal S32x24 .f32 := mulf (broadcastInDim S32x24 ![] bcast_S_S32x24 (constant S_ .f32 0x40000000#32)) (mulf D D)

/-- The rows less each point's row. -/
def rOff0 : FVec Ideal S32x24x224 .f32 :=
  subf (broadcastInDim S32x24x224 ![0, 1, 2] bcast_S1x1x224_S32x24x224_0_1_2 (broadcastInDim S1x1x224 ![2] bcast_S224_S1x1x224_2 (sitofp .f32 (iotaInDim S224 32 0)))) (broadcastInDim S32x24x224 ![0, 1, 2] bcast_S32x24x1_S32x24x224_0_1_2 (extractStridedSlice S32x24x1 ![0, 0, 0] Q slices_S32x24x2_S32x24x1_0_0_0))

/-- The columns less each point's column. -/
def rOff1 : FVec Ideal S32x24x224 .f32 :=
  subf (broadcastInDim S32x24x224 ![0, 1, 2] bcast_S1x1x224_S32x24x224_0_1_2 (broadcastInDim S1x1x224 ![2] bcast_S224_S1x1x224_2 (sitofp .f32 (iotaInDim S224 32 0)))) (broadcastInDim S32x24x224 ![0, 1, 2] bcast_S32x24x1_S32x24x224_0_1_2 (extractStridedSlice S32x24x1 ![0, 0, 1] Q slices_S32x24x2_S32x24x1_0_0_1))

/-- How many points count. -/
def rN (V : IVec S32x24 1) : IVec S32 32 := Host.reduce IntOp.addi (extui 32 V natLt_1_32) (constantI S_ 32 0#32) reducesTo_S32x24_S32_d1 h_S_

/-- The mean of the Gaussian maps. -/
def rH (V : IVec S32x24 1) (N : IVec S32 32) (s : FVec Ideal S32x24 .f32) (a b : FVec Ideal S32x24x224 .f32) : FVec Ideal S32x224x224 .f32 :=
  Host.divf (Host.reduceAdd (mulf (Host.divf (Host.exp (Host.divf (Host.negf (addf (broadcastInDim S32x24x224x224 ![0, 1, 2, 3] bcast_S32x24x224x1_S32x24x224x224_0_1_2_3 (broadcastInDim S32x24x224x1 ![0, 1, 2] bcast_S32x24x224_S32x24x224x1_0_1_2 (mulf a a))) (broadcastInDim S32x24x224x224 ![0, 1, 2, 3] bcast_S32x24x1x224_S32x24x224x224_0_1_2_3 (broadcastInDim S32x24x1x224 ![0, 1, 3] bcast_S32x24x224_S32x24x1x224_0_1_3 (mulf b b))))) (broadcastInDim S32x24x224x224 ![0, 1, 2, 3] bcast_S32x24x1x1_S32x24x224x224_0_1_2_3 (broadcastInDim S32x24x1x1 ![0, 1] bcast_S32x24_S32x24x1x1_0_1 s)))) (broadcastInDim S32x24x224x224 ![0, 1, 2, 3] bcast_S32x24x1x1_S32x24x224x224_0_1_2_3 (broadcastInDim S32x24x1x1 ![0, 1] bcast_S32x24_S32x24x1x1_0_1 (mulf (broadcastInDim S32x24 ![] bcast_S_S32x24 (constant S_ .f32 0x40490FDB#32)) s)))) (broadcastInDim S32x24x224x224 ![0, 1, 2, 3] bcast_S32x24x1x1_S32x24x224x224_0_1_2_3 (uitofp .f32 (broadcastInDim S32x24x1x1 ![0, 1] bcast_S32x24_S32x24x1x1_0_1 V)))) (constant S_ .f32 0x00000000#32) reducesTo_S32x24x224x224_S32x224x224_d1 h_S_) (broadcastInDim S32x224x224 ![0, 1, 2] bcast_S32x1x1_S32x224x224_0_1_2 (sitofp .f32 (broadcastInDim S32x1x1 ![0] bcast_S32_S32x1x1_0 (maxsi N (broadcastInDim S32 ![] bcast_S_S32 (constantI S_ 32 1#32))))))

variable (H : FVec Ideal S32x224x224 .f32)

/-- The least entry of each map. -/
def rLo : FVec Ideal S32x1x1 .f32 := broadcastInDim S32x1x1 ![0] bcast_S32_S32x1x1_0 (Host.reduce FloatOps.minimumf H (constant S_ .f32 0x7F800000#32) reducesTo_S32x224x224_S32_d1_2 h_S_)

/-- The greatest entry of each map. -/
def rHi : FVec Ideal S32x1x1 .f32 := broadcastInDim S32x1x1 ![0] bcast_S32_S32x1x1_0 (Host.reduce FloatOps.maximumf H (constant S_ .f32 0xFF800000#32) reducesTo_S32x224x224_S32_d1_2 h_S_)

/-- Each map stretched, zero when no point counts. -/
def rStretch (N : IVec S32 32) : FVec Ideal S32x224x224 .f32 :=
  select (broadcastInDim S32x224x224 ![0, 1, 2] bcast_S32x1x1_S32x224x224_0_1_2 (broadcastInDim S32x1x1 ![0] bcast_S32_S32x1x1_0 (cmpi .sgt N (broadcastInDim S32 ![] bcast_S_S32 (constantI S_ 32 0#32))))) (subf (Host.divf (mulf (broadcastInDim S32x224x224 ![] bcast_S_S32x224x224 (constant S_ .f32 0x40000000#32)) (subf H (broadcastInDim S32x224x224 ![0, 1, 2] bcast_S32x1x1_S32x224x224_0_1_2 (rLo H)))) (broadcastInDim S32x224x224 ![0, 1, 2] bcast_S32x1x1_S32x224x224_0_1_2 (select (cmpf .ogt (rHi H) (rLo H)) (subf (rHi H) (rLo H)) (broadcastInDim S32x1x1 ![] bcast_S_S32x1x1 (constant S_ .f32 0x3F800000#32))))) (broadcastInDim S32x224x224 ![] bcast_S_S32x224x224 (constant S_ .f32 0x3F800000#32))) (broadcastInDim S32x224x224 ![] bcast_S_S32x224x224 (constant S_ .f32 0x00000000#32))

end defs

/-! ### Words of small numbers -/

theorem rank_word : ∀ n : Fin 25, IntOp.minsi 23#32 (IntOp.maxsi 0#32 (IntOp.subi (BitVec.ofNat 32 n.val) 1#32)) = BitVec.ofNat 32 (min 23 (n.val - 1)) := by decide

theorem idx_word : ∀ n : Fin 24, Scalar.select (IntOp.cmpi .slt (BitVec.ofNat 32 n.val) 0#32) (IntOp.addi (BitVec.ofNat 32 n.val) 24#32) (BitVec.ofNat 32 n.val)
    = BitVec.ofNat 32 n.val := by decide

theorem in_word : ∀ n : Fin 24, IntOp.andi (IntOp.andi (IntOp.cmpi .sge (BitVec.ofNat 32 n.val) 0#32) (IntOp.cmpi .sle (BitVec.ofNat 32 n.val) 23#32)) 1#1 = 1#1 := by decide

theorem take_word : ∀ n : Fin 24, min (BitVec.ofNat 32 n.val).toInt.toNat 23 = n.val := by decide

theorem count_word : ∀ n : Fin 25, (IntOp.maxsi (BitVec.ofNat 32 n.val) 1#32).toInt = ((max n.val 1 : ℕ) : ℤ) := by decide

theorem some_word : ∀ n : Fin 25, IntOp.cmpi .sgt (BitVec.ofNat 32 n.val) 0#32 = BitVec.ofBool (decide (0 < n.val)) := by decide

variable {Q : FVec Ideal S32x24x2 .f32} {W : FVec Ideal S32x24 .f32} {b : Fin 32} {pr pc vv : Fin 24 → ℝ}

theorem rOk_apply (h0 : ∀ i, Q (ix3 b i 0) = ((pr i : ℝ) : EReal)) (h1 : ∀ i, Q (ix3 b i 1) = ((pc i : ℝ) : EReal)) (i : Fin 24) :
    rOk Q (ix2 b i) = BitVec.ofBool (decide (okS pr pc i)) := by
  have e : Finset.fold max ⊥ (fun x : Fin 2 => Q (ix3 b i x)) Finset.univ = ((max (pr i) (pc i) : ℝ) : EReal) := by
    rw [show (Finset.univ : Finset (Fin 2)) = {0, 1} from rfl, Finset.fold_insert (by decide), Finset.fold_singleton, h0, h1, max_bot_right, max_real]
  pointwise [rOk]
  rw [lit_ninf, e]
  refine congrArg BitVec.ofBool (decide_eq_decide.2 ?_)
  exact_mod_cast Iff.rfl

/-- A row of a table, whose entries count up as the table's do. -/
theorem rCnt_row (x : IVec S32x24 32) (init : IVec S_ 32) (hi : init ix0 = 0#32) (i : Fin 24) :
    Host.reduceWindow IntOp.addi ![1, 24] ![1, 1] ![0, 23] ![0, 0] x init reduceWindows_S32x24_S32x24_w1s1p0_0_w24s1p23_0 h_S_ (ix2 b i)
      = Host.reduceWindow (s := ⟨2, ![1, 24]⟩) (t := ⟨2, ![1, 24]⟩) (u := ⟨0, ![]⟩) IntOp.addi ![1, 24] ![1, 1] ![0, 23] ![0, 0]
          (fun j => x (ix2 b (j 1))) init (by decide) (by decide) (ix2 0 i) := by
  unfold Host.reduceWindow
  dsimp only
  refine congrArg (fun f => List.foldl f _ _) (funext fun r => funext fun n => congrArg (IntOp.addi r) ?_)
  have w0 : (((⟨2, ![1, 24]⟩ : Shape).rowMajor.symm n) 0).val = 0 := by
    have := (((⟨2, ![1, 24]⟩ : Shape).rowMajor.symm n) 0).isLt
    change _ < 1 at this
    omega
  have hb := b.isLt
  by_cases h : 23 ≤ i.val * 1 + (((⟨2, ![1, 24]⟩ : Shape).rowMajor.symm n) 1).val ∧ i.val * 1 + (((⟨2, ![1, 24]⟩ : Shape).rowMajor.symm n) 1).val - 23 < 24
  · rw [dif_pos, dif_pos]
    · refine congrArg x (funext fun a => Fin.ext ?_)
      match a with
      | ⟨0, _⟩ =>
        change b.val * 1 + (((⟨2, ![1, 24]⟩ : Shape).rowMajor.symm n) 0).val - 0 = b.val
        omega
      | ⟨1, _⟩ => rfl
    · intro a
      match a with
      | ⟨0, _⟩ =>
        change 0 ≤ 0 * 1 + (((⟨2, ![1, 24]⟩ : Shape).rowMajor.symm n) 0).val ∧ 0 * 1 + (((⟨2, ![1, 24]⟩ : Shape).rowMajor.symm n) 0).val - 0 < 1
        omega
      | ⟨1, _⟩ => exact h
    · intro a
      match a with
      | ⟨0, _⟩ =>
        change 0 ≤ b.val * 1 + (((⟨2, ![1, 24]⟩ : Shape).rowMajor.symm n) 0).val ∧ b.val * 1 + (((⟨2, ![1, 24]⟩ : Shape).rowMajor.symm n) 0).val - 0 < 32
        omega
      | ⟨1, _⟩ => exact h
  · rw [dif_neg fun hh => h (hh 1), dif_neg fun hh => h (hh 1)]

/-- The counting words hold the counts. -/
theorem count_eq (i : Fin 24) : ((List.range (i.val + 1)).map fun k => if ∃ h : k < 24, okS pr pc ⟨k, h⟩ then 1 else 0).sum = cntS pr pc i := by
  classical
  rw [Routing.sum_map_ite, Nat.count_eq_card_filter_range]
  unfold cntS
  refine (Finset.card_bij (fun k _ => k.val) (fun k hk => ?_) (fun a _ c _ e => Fin.ext e) (fun k hk => ?_)).symm
  · obtain ⟨_, h1, h2⟩ := Finset.mem_filter.1 hk
    exact Finset.mem_filter.2 ⟨Finset.mem_range.2 (Nat.lt_succ_of_le h1), k.isLt, h2⟩
  · obtain ⟨h1, h2, h3⟩ := Finset.mem_filter.1 hk
    exact ⟨⟨k, h2⟩, Finset.mem_filter.2 ⟨Finset.mem_univ _, Nat.lt_succ_iff.1 (Finset.mem_range.1 h1), h3⟩, rfl⟩

theorem bit_word (p : Prop) [Decidable p] : BitVec.setWidth 32 (BitVec.ofBool (decide p)) = BitVec.ofNat 32 (if p then 1 else 0) := by
  by_cases h : p
  · rw [if_pos h, decide_eq_true h]; rfl
  · rw [if_neg h, decide_eq_false h]; rfl

theorem rCnt_apply {V : IVec S32x24 1} (hV : ∀ i, V (ix2 b i) = BitVec.ofBool (decide (okS pr pc i))) (i : Fin 24) :
    rCnt V (ix2 b i) = BitVec.ofNat 32 (cntS pr pc i) := by
  classical
  unfold rCnt
  refine (rCnt_row _ _ rfl i).trans ((Routing.cumsum2 (N := 24) (Nm1 := 23) rfl _ (fun k => if ∃ h : k < 24, okS pr pc ⟨k, h⟩ then 1 else 0)
    (fun k => ?_) _ rfl (by decide) (by decide) i).trans (congrArg (BitVec.ofNat 32) (count_eq i)))
  show BitVec.setWidth 32 (V (ix2 b k)) = _
  rw [hV, bit_word]
  exact congrArg (BitVec.ofNat 32) (if_congr ⟨fun h => ⟨k.isLt, h⟩, fun ⟨_, h⟩ => h⟩ rfl rfl)

theorem cntS_lt (i : Fin 24) : cntS pr pc i < 25 := Nat.lt_succ_of_le ((Finset.card_le_univ _).trans (by simp))

theorem nvS_lt : nvS pr pc < 25 := Nat.lt_succ_of_le ((Finset.card_le_univ _).trans (by simp))

theorem rIdx_apply {C : IVec S32x24 32} (hC : ∀ i, C (ix2 b i) = BitVec.ofNat 32 (cntS pr pc i)) (i : Fin 24) :
    rIdx (rRank C) (ix3 b i 0) = BitVec.ofNat 32 (rankS pr pc i).val := by
  have h : rRank C (ix2 b i) = BitVec.ofNat 32 (rankS pr pc i).val := by
    pointwise [rRank]
    rw [hC]
    exact rank_word ⟨_, cntS_lt i⟩
  pointwise [rIdx]
  rw [h]
  exact idx_word _

theorem rIn_apply {I : IVec S32x24x1 32} (hI : ∀ i, I (ix3 b i 0) = BitVec.ofNat 32 (rankS pr pc i).val) (i : Fin 24) : rIn I (ix2 b i) = 1#1 := by
  pointwise [rIn]
  rw [Finset.univ_unique, Finset.fold_singleton, show (default : Fin 1) = 0 from rfl, hI]
  exact in_word _

theorem rTake_apply {I : IVec S32x24x1 32} (hI : ∀ i, I (ix3 b i 0) = BitVec.ofNat 32 (rankS pr pc i).val) (i : Fin 24) :
    rTake W I (ix2 b i) = W (ix2 b (rankS pr pc i)) := by
  unfold rTake Host.gather
  refine congrArg W (funext fun a => Fin.ext ?_)
  match a with
  | ⟨0, _⟩ =>
    show gather_S32x24_S32x24x1_S32x24_n_1_0_0_1_2_11.start (ix2 b i) I (0 : Fin 2) + gather_S32x24_S32x24x1_S32x24_n_1_0_0_1_2_11.batchCoord (ix2 b i) (0 : Fin 2) + gather_S32x24_S32x24x1_S32x24_n_1_0_0_1_2_11.offCoord (ix2 b i) (0 : Fin 2) = b.val
    rw [GatherDims.start_batching _ _ _ _ (by decide), GatherDims.offCoord_eq_zero _ _ _ (by decide)]
    unfold GatherDims.batchCoord
    rw [dif_pos (by decide)]
    rw [Nat.zero_add, Nat.add_zero]
    rfl
  | ⟨1, _⟩ =>
    show gather_S32x24_S32x24x1_S32x24_n_1_0_0_1_2_11.start (ix2 b i) I (1 : Fin 2) + gather_S32x24_S32x24x1_S32x24_n_1_0_0_1_2_11.batchCoord (ix2 b i) (1 : Fin 2) + gather_S32x24_S32x24x1_S32x24_n_1_0_0_1_2_11.offCoord (ix2 b i) (1 : Fin 2) = (rankS pr pc i).val
    rw [GatherDims.batchCoord_eq_zero _ _ _ (by decide), GatherDims.offCoord_eq_zero _ _ _ (by decide), Nat.add_zero]
    unfold GatherDims.start
    rw [dif_pos (by decide)]
    have e : GatherDims.siIdx gather_S32x24_S32x24x1_S32x24_n_1_0_0_1_2_11 (ix2 b i) ⟨List.idxOf 1 [1], by decide⟩ = ix3 b i 0 := by
      funext a
      match a with
      | ⟨0, _⟩ => rfl
      | ⟨1, _⟩ => rfl
      | ⟨2, _⟩ => rfl
    refine (congrArg (fun k => min (BitVec.toInt (I k)).toNat 23) e).trans ?_
    rw [hI]
    exact take_word _

theorem rSp_apply {I : IVec S32x24x1 32} (hI : ∀ i, I (ix3 b i 0) = BitVec.ofNat 32 (rankS pr pc i).val) (hW : ∀ i, W (ix2 b i) = ((vv i : ℝ) : EReal)) (i : Fin 24) :
    rSp (rDev W I) (ix2 b i) = ((spreadS pr pc vv i : ℝ) : EReal) := by
  have h : rDev W I (ix2 b i) = ((vv (rankS pr pc i) + 4 : ℝ) : EReal) := by
    pointwise [rDev]
    rw [rIn_apply hI, rTake_apply hI, hW, lit_4]
    rfl
  pointwise [rSp]
  rw [h, lit_2, ← EReal.coe_mul, ← EReal.coe_mul, ← mul_assoc]
  rfl

/-- A coordinate's number. -/
theorem coord (r : Fin 224) : FloatOps.sitofp (F := Ideal) FTy.f32 (BitVec.ofNat 32 r.val) = ((r.val : ℝ) : EReal) := by
  have h : ∀ r : Fin 224, (BitVec.ofNat 32 r.val).toInt = (r.val : ℤ) := by decide
  show (((BitVec.ofNat 32 r.val).toInt : ℝ) : EReal) = _
  rw [h, Int.cast_natCast]

theorem rOff0_apply (h0 : ∀ i, Q (ix3 b i 0) = ((pr i : ℝ) : EReal)) (i : Fin 24) (r : Fin 224) : rOff0 Q (ix3 b i r) = (((r.val : ℝ) - pr i : ℝ) : EReal) := by
  pointwise [rOff0]
  rw [h0, coord, ← EReal.coe_sub]

theorem rOff1_apply (h1 : ∀ i, Q (ix3 b i 1) = ((pc i : ℝ) : EReal)) (i : Fin 24) (r : Fin 224) : rOff1 Q (ix3 b i r) = (((r.val : ℝ) - pc i : ℝ) : EReal) := by
  pointwise [rOff1]
  rw [h1, coord, ← EReal.coe_sub]

theorem rN_apply {V : IVec S32x24 1} (hV : ∀ i, V (ix2 b i) = BitVec.ofBool (decide (okS pr pc i))) : rN V (ix1 b) = BitVec.ofNat 32 (nvS pr pc) := by
  have hb : ∀ i, (BitVec.setWidth 32 (V (ix2 b i))).toNat = if okS pr pc i then 1 else 0 := fun i => by
    rw [hV, bit_word]
    split_ifs <;> rfl
  have hs : ∑ i, (BitVec.setWidth 32 (V (ix2 b i))).toNat = nvS pr pc := by
    rw [Finset.sum_congr rfl fun i _ => hb i, ← Finset.card_filter]
    rfl
  pointwise [rN]
  refine BitVec.eq_of_toNat_eq ?_
  rw [StableHlo.Predicate.toNat_fold_addi _ _ (by rw [hs]; exact nvS_lt.trans (by norm_num)), hs, BitVec.toNat_ofNat, Nat.mod_eq_of_lt (nvS_lt.trans (by norm_num))]

/-- One product of two Gaussians, over the points' mean. -/
theorem gauss_mul (a c s n o : ℝ) :
    Real.exp (-(a * a + c * c) / s) / (piF * s) * o / n = Real.exp ((0 - a * a) / s) * (o / (piF * s * n)) * Real.exp ((0 - c * c) / s) := by
  have h : -(a * a + c * c) / s = (0 - a * a) / s + (0 - c * c) / s := by ring
  rw [h, Real.exp_add]
  simp only [div_eq_mul_inv, mul_inv]
  ring

theorem uitofp_bit (p : Prop) [Decidable p] : FloatOps.uitofp (F := Ideal) FTy.f32 (BitVec.ofBool (decide p)) = ((if p then 1 else 0 : ℝ) : EReal) := by
  by_cases h : p
  · rw [if_pos h, decide_eq_true h]
    show (((1 : ℕ) : ℝ) : EReal) = _
    rw [Nat.cast_one]
  · rw [if_neg h, decide_eq_false h]
    show (((0 : ℕ) : ℝ) : EReal) = _
    rw [Nat.cast_zero]

theorem rH_apply {V : IVec S32x24 1} {N : IVec S32 32} {s : FVec Ideal S32x24 .f32} {x y : FVec Ideal S32x24x224 .f32} (hv : ∀ i, 0 ≤ vv i)
    (hV : ∀ i, V (ix2 b i) = BitVec.ofBool (decide (okS pr pc i))) (hN : N (ix1 b) = BitVec.ofNat 32 (nvS pr pc))
    (hs : ∀ i, s (ix2 b i) = ((spreadS pr pc vv i : ℝ) : EReal)) (hx : ∀ i r, x (ix3 b i r) = (((r.val : ℝ) - pr i : ℝ) : EReal))
    (hy : ∀ i r, y (ix3 b i r) = (((r.val : ℝ) - pc i : ℝ) : EReal)) (r c : Fin 224) :
    rH V N s x y (ix3 b r c) = ((hS pr pc vv r c : ℝ) : EReal) := by
  have hn : FloatOps.sitofp (F := Ideal) FTy.f32 (IntOp.maxsi (BitVec.ofNat 32 (nvS pr pc)) 1#32) = ((max (nvS pr pc : ℝ) 1 : ℝ) : EReal) := by
    show (((IntOp.maxsi (BitVec.ofNat 32 (nvS pr pc)) 1#32).toInt : ℝ) : EReal) = _
    rw [count_word ⟨_, nvS_lt⟩, Int.cast_natCast, Nat.cast_max, Nat.cast_one]
  have h1 : max (nvS pr pc : ℝ) 1 ≠ 0 := (lt_max_of_lt_right one_pos).ne'
  have h2 : ∀ i, spreadS pr pc vv i ≠ 0 := fun i => (spreadS_pos pr pc vv hv i).ne'
  have h3 : ∀ i, piF * spreadS pr pc vv i ≠ 0 := fun i => mul_ne_zero piF_pos.ne' (h2 i)
  pointwise [rH]
  simp only [hV, hN, hs, hx, hy, hn, lit_pi, uitofp_bit, ← EReal.coe_mul, ← EReal.coe_add, ← EReal.coe_neg, div_real _ (h2 _), div_real _ (h3 _), Ideal.exp_coe, coe_sum, div_real _ h1]
  refine congrArg ((↑) : ℝ → EReal) ?_
  unfold hS
  rw [Finset.sum_div]
  exact Finset.sum_congr rfl fun i _ => gauss_mul _ _ _ _ _

theorem rStretch_apply {H : FVec Ideal S32x224x224 .f32} {N : IVec S32 32} (hN : N (ix1 b) = BitVec.ofNat 32 (nvS pr pc))
    (hH : ∀ r c, H (ix3 b r c) = ((hS pr pc vv r c : ℝ) : EReal)) (r c : Fin 224) : rStretch H N (ix3 b r c) = outE pr pc vv r c := by
  have hlo : rLo H (ix3 b 0 0) = Finset.fold min ⊤ (fun x : Fin 224 × Fin 224 => ((hS pr pc vv x.1 x.2 : ℝ) : EReal)) Finset.univ := by
    pointwise [rLo]
    simp only [hH, lit_inf]
  have hhi : rHi H (ix3 b 0 0) = Finset.fold max ⊥ (fun x : Fin 224 × Fin 224 => ((hS pr pc vv x.1 x.2 : ℝ) : EReal)) Finset.univ := by
    pointwise [rHi]
    simp only [hH, lit_ninf]
  unfold outE stretchE
  pointwise [rStretch]
  rw [hlo, hhi, hN, hH, lit_2, some_word ⟨_, nvS_lt⟩]
  by_cases h : 0 < nvS pr pc
  · rw [if_pos h, decide_eq_true h]; rfl
  · rw [if_neg h, decide_eq_false h]; rfl

/-- One half of the reference's output. -/
theorem rPhase_apply (hv : ∀ i, 0 ≤ vv i) (h0 : ∀ i, Q (ix3 b i 0) = ((pr i : ℝ) : EReal)) (h1 : ∀ i, Q (ix3 b i 1) = ((pc i : ℝ) : EReal))
    (hW : ∀ i, W (ix2 b i) = ((vv i : ℝ) : EReal)) (r c : Fin 224) :
    rStretch (rH (rOk Q) (rN (rOk Q)) (rSp (rDev W (rIdx (rRank (rCnt (rOk Q)))))) (rOff0 Q) (rOff1 Q)) (rN (rOk Q)) (ix3 b r c) = outE pr pc vv r c :=
  rStretch_apply (rN_apply (rOk_apply h0 h1))
    (rH_apply hv (rOk_apply h0 h1) (rN_apply (rOk_apply h0 h1)) (rSp_apply (rIdx_apply (rCnt_apply (rOk_apply h0 h1))) hW) (rOff0_apply h0) (rOff1_apply h1)) r c

end Cert.ReferenceIdeal.RV

end
-- ==== Proof.ROut.lean ====
/-
  The reference network's result.
-/
module

public import proofs.«01_k».proof.Proof.RTail
public import proofs.«01_k».proof.Proof.RMap

@[expose] public section

set_option synthInstance.maxSize 4096

noncomputable section

namespace Cert.ReferenceIdeal.RV

open Idealize.ShloMosaic Idealize.ShloMosaic.StableHlo Idealize.SL.Sem Cert.ReferenceIdeal Cert.ReferenceIdeal.Gen Cert.ReferenceIdeal.Value Cert.Spec

variable {V0 : Valuation τ sig (Elt Ideal)} {i : Fin 32}

/-! The generated terms of the two maps, as functions of one another. -/
set_option maxRecDepth 8192 in
theorem res_ok0 : (res_main_v845 V0 : IVec S32x24 1) = rOk (res_main_v842 V0) := by
  unfold res_main_v845 rOk
  rfl

set_option maxRecDepth 8192 in
theorem res_rank0 : (res_main_v849 V0 : IVec S32x24 32) = rRank (rCnt (res_main_v845 V0)) := by
  unfold res_main_v849 rRank rCnt
  rfl

set_option maxRecDepth 8192 in
theorem res_idx0 : (res_main_call5_v5 V0 : IVec S32x24x1 32) = rIdx (res_main_v849 V0) := by
  unfold res_main_call5_v5 rIdx
  rfl

set_option maxRecDepth 8192 in
theorem res_dev0 : (res_main_v852 V0 : FVec Ideal S32x24 .f32) = rDev (extractStridedSlice S32x24 ![0, 0] (res_main_v839 V0) slices_S32x48_S32x24_0_0) (res_main_call5_v5 V0) := by
  unfold res_main_v852 rDev rIn rTake
  rfl

set_option maxRecDepth 8192 in
theorem res_sp0 : (res_main_v869 V0 : FVec Ideal S32x24 .f32) = rSp (res_main_v852 V0) := by
  unfold res_main_v869 rSp
  rfl

set_option maxRecDepth 8192 in
theorem res_offa0 : (res_main_v859 V0 : FVec Ideal S32x24x224 .f32) = rOff0 (res_main_v842 V0) := by
  unfold res_main_v859 rOff0
  rfl

set_option maxRecDepth 8192 in
theorem res_offb0 : (res_main_v865 V0 : FVec Ideal S32x24x224 .f32) = rOff1 (res_main_v842 V0) := by
  unfold res_main_v865 rOff1
  rfl

set_option maxRecDepth 8192 in
theorem res_n0 : (res_main_v890 V0 : IVec S32 32) = rN (res_main_v845 V0) := by
  unfold res_main_v890 rN
  rfl

set_option maxRecDepth 8192 in
theorem res_h0 : (res_main_v897 V0 : FVec Ideal S32x224x224 .f32) = rH (res_main_v845 V0) (res_main_v890 V0) (res_main_v869 V0) (res_main_v859 V0) (res_main_v865 V0) := by
  unfold res_main_v897 rH
  rfl

set_option maxRecDepth 8192 in
theorem res_lo0 : (res_main_v899 V0 : FVec Ideal S32x1x1 .f32) = rLo (res_main_v897 V0) := by
  unfold res_main_v899 rLo
  rfl

set_option maxRecDepth 8192 in
theorem res_hi0 : (res_main_v901 V0 : FVec Ideal S32x1x1 .f32) = rHi (res_main_v897 V0) := by
  unfold res_main_v901 rHi
  rfl

theorem pts00 (hr : (arrs V0).IsReal) (b : Fin 32) (i : Fin 24) : (res_main_v842 V0 : FVec Ideal S32x24x2 .f32) (ix3 b i 0) = (((arrs V0).pt b (24 * 0 + i.val) 0 : ℝ) : EReal) := by
  have e : (res_main_v842 V0 : FVec Ideal S32x24x2 .f32) (ix3 b i 0) = (arrs V0).a2 (ix3 b ⟨i.val, by omega⟩ 0) := by
    pointwise [res_main_v842, arrs]
  rw [e, hr.r2]
  unfold Arrs.pt
  rw [dif_pos (show 24 * 0 + i.val < 48 by omega)]
  exact congrArg (fun n => (((arrs V0).a2 (ix3 b n 0)).toReal : EReal)) (Fin.ext (by show _ = 24 * 0 + i.val; simp))

theorem pts01 (hr : (arrs V0).IsReal) (b : Fin 32) (i : Fin 24) : (res_main_v842 V0 : FVec Ideal S32x24x2 .f32) (ix3 b i 1) = (((arrs V0).pt b (24 * 0 + i.val) 1 : ℝ) : EReal) := by
  have e : (res_main_v842 V0 : FVec Ideal S32x24x2 .f32) (ix3 b i 1) = (arrs V0).a2 (ix3 b ⟨i.val, by omega⟩ 1) := by
    pointwise [res_main_v842, arrs]
  rw [e, hr.r2]
  unfold Arrs.pt
  rw [dif_pos (show 24 * 0 + i.val < 48 by omega)]
  exact congrArg (fun n => (((arrs V0).a2 (ix3 b n 1)).toReal : EReal)) (Fin.ext (by show _ = 24 * 0 + i.val; simp))

/-- One of the two maps. -/
theorem map0 (hr : (arrs V0).IsReal) (b : Fin 32) (r c : Fin 224) : rStretch (res_main_v897 V0) (res_main_v890 V0) (ix3 b r c) = (arrs V0).out b 0 r c := by
  rw [res_h0, res_offa0, res_offb0, res_sp0, res_dev0, res_idx0, res_rank0, res_n0, res_ok0]
  refine rPhase_apply (Q := res_main_v842 V0) (W := (extractStridedSlice S32x24 ![0, 0] (res_main_v839 V0) slices_S32x48_S32x24_0_0)) (b := b)
    (pr := fun i => (arrs V0).pt b (24 * 0 + i.val) 0) (pc := fun i => (arrs V0).pt b (24 * 0 + i.val) 1)
    (vv := fun i => varsS (arrs V0).net.E (netF (arrs V0).net ((arrs V0).pa b) ((arrs V0).pt b)) ⟨24 * 0 + i.val, by omega⟩)
    (fun i => varsS_nonneg _ _ _) (fun i => pts00 hr b i) (fun i => pts01 hr b i) (fun i => ?_) r c
  refine Eq.trans ?_ (res_var hr (i := b) ⟨24 * 0 + i.val, by omega⟩)
  pointwise
  try rfl
  try (exact congrArg (fun n => (res_main_v839 V0 : FVec Ideal S32x48 .f32) (ix2 b n)) (Fin.ext (by show _ = 24 * 0 + i.val; simp)))

set_option maxRecDepth 8192 in
theorem res_ok1 : (res_main_v923 V0 : IVec S32x24 1) = rOk (res_main_v920 V0) := by
  unfold res_main_v923 rOk
  rfl

set_option maxRecDepth 8192 in
theorem res_rank1 : (res_main_v927 V0 : IVec S32x24 32) = rRank (rCnt (res_main_v923 V0)) := by
  unfold res_main_v927 rRank rCnt
  rfl

set_option maxRecDepth 8192 in
theorem res_idx1 : (res_main_call10_v5 V0 : IVec S32x24x1 32) = rIdx (res_main_v927 V0) := by
  unfold res_main_call10_v5 rIdx
  rfl

set_option maxRecDepth 8192 in
theorem res_dev1 : (res_main_v930 V0 : FVec Ideal S32x24 .f32) = rDev (extractStridedSlice S32x24 ![0, 24] (res_main_v839 V0) slices_S32x48_S32x24_0_24) (res_main_call10_v5 V0) := by
  unfold res_main_v930 rDev rIn rTake
  rfl

set_option maxRecDepth 8192 in
theorem res_sp1 : (res_main_v947 V0 : FVec Ideal S32x24 .f32) = rSp (res_main_v930 V0) := by
  unfold res_main_v947 rSp
  rfl

set_option maxRecDepth 8192 in
theorem res_offa1 : (res_main_v937 V0 : FVec Ideal S32x24x224 .f32) = rOff0 (res_main_v920 V0) := by
  unfold res_main_v937 rOff0
  rfl

set_option maxRecDepth 8192 in
theorem res_offb1 : (res_main_v943 V0 : FVec Ideal S32x24x224 .f32) = rOff1 (res_main_v920 V0) := by
  unfold res_main_v943 rOff1
  rfl

set_option maxRecDepth 8192 in
theorem res_n1 : (res_main_v968 V0 : IVec S32 32) = rN (res_main_v923 V0) := by
  unfold res_main_v968 rN
  rfl

set_option maxRecDepth 8192 in
theorem res_h1 : (res_main_v975 V0 : FVec Ideal S32x224x224 .f32) = rH (res_main_v923 V0) (res_main_v968 V0) (res_main_v947 V0) (res_main_v937 V0) (res_main_v943 V0) := by
  unfold res_main_v975 rH
  rfl

set_option maxRecDepth 8192 in
theorem res_lo1 : (res_main_v977 V0 : FVec Ideal S32x1x1 .f32) = rLo (res_main_v975 V0) := by
  unfold res_main_v977 rLo
  rfl

set_option maxRecDepth 8192 in
theorem res_hi1 : (res_main_v979 V0 : FVec Ideal S32x1x1 .f32) = rHi (res_main_v975 V0) := by
  unfold res_main_v979 rHi
  rfl

theorem pts10 (hr : (arrs V0).IsReal) (b : Fin 32) (i : Fin 24) : (res_main_v920 V0 : FVec Ideal S32x24x2 .f32) (ix3 b i 0) = (((arrs V0).pt b (24 * 1 + i.val) 0 : ℝ) : EReal) := by
  have e : (res_main_v920 V0 : FVec Ideal S32x24x2 .f32) (ix3 b i 0) = (arrs V0).a2 (ix3 b ⟨24 + i.val, by omega⟩ 0) := by
    pointwise [res_main_v920, arrs]
  rw [e, hr.r2]
  unfold Arrs.pt
  rw [dif_pos (show 24 * 1 + i.val < 48 by omega)]

theorem pts11 (hr : (arrs V0).IsReal) (b : Fin 32) (i : Fin 24) : (res_main_v920 V0 : FVec Ideal S32x24x2 .f32) (ix3 b i 1) = (((arrs V0).pt b (24 * 1 + i.val) 1 : ℝ) : EReal) := by
  have e : (res_main_v920 V0 : FVec Ideal S32x24x2 .f32) (ix3 b i 1) = (arrs V0).a2 (ix3 b ⟨24 + i.val, by omega⟩ 1) := by
    pointwise [res_main_v920, arrs]
  rw [e, hr.r2]
  unfold Arrs.pt
  rw [dif_pos (show 24 * 1 + i.val < 48 by omega)]

/-- One of the two maps. -/
theorem map1 (hr : (arrs V0).IsReal) (b : Fin 32) (r c : Fin 224) : rStretch (res_main_v975 V0) (res_main_v968 V0) (ix3 b r c) = (arrs V0).out b 1 r c := by
  rw [res_h1, res_offa1, res_offb1, res_sp1, res_dev1, res_idx1, res_rank1, res_n1, res_ok1]
  refine rPhase_apply (Q := res_main_v920 V0) (W := (extractStridedSlice S32x24 ![0, 24] (res_main_v839 V0) slices_S32x48_S32x24_0_24)) (b := b)
    (pr := fun i => (arrs V0).pt b (24 * 1 + i.val) 0) (pc := fun i => (arrs V0).pt b (24 * 1 + i.val) 1)
    (vv := fun i => varsS (arrs V0).net.E (netF (arrs V0).net ((arrs V0).pa b) ((arrs V0).pt b)) ⟨24 * 1 + i.val, by omega⟩)
    (fun i => varsS_nonneg _ _ _) (fun i => pts10 hr b i) (fun i => pts11 hr b i) (fun i => ?_) r c
  refine Eq.trans ?_ (res_var hr (i := b) ⟨24 * 1 + i.val, by omega⟩)
  pointwise
  try rfl
  try (exact congrArg (fun n => (res_main_v839 V0 : FVec Ideal S32x48 .f32) (ix2 b n)) (Fin.ext (by show _ = 24 * 1 + i.val; simp)))

/-- The two maps of every image, one after the other. -/
def rJoin (X Y : FVec Ideal S32x224x224 .f32) : FVec Ideal S32x2x224x224 .f32 :=
  concatenate S32x2x224x224 1 [⟨S32x1x224x224, broadcastInDim S32x1x224x224 ![0, 2, 3] bcast_S32x224x224_S32x1x224x224_0_2_3 X⟩, ⟨S32x1x224x224, broadcastInDim S32x1x224x224 ![0, 2, 3] bcast_S32x224x224_S32x1x224x224_0_2_3 Y⟩] concatenates_S32x1x224x224_S32x1x224x224_S32x2x224x224_d1

theorem rJoin_lo (X Y : FVec Ideal S32x224x224 .f32) (b : Fin 32) (r c : Fin 224) : rJoin X Y (ix4 b 0 r c) = X (ix3 b r c) := by
  pointwise [rJoin]

theorem rJoin_hi (X Y : FVec Ideal S32x224x224 .f32) (b : Fin 32) (r c : Fin 224) : rJoin X Y (ix4 b 1 r c) = Y (ix3 b r c) := by
  pointwise [rJoin]

/-- The joined maps are the network's result. -/
theorem join_apply (hr : (arrs V0).IsReal) (b : Fin 32) (p : Fin 2) (r c : Fin 224) :
    rJoin (rStretch (res_main_v897 V0) (res_main_v890 V0)) (rStretch (res_main_v975 V0) (res_main_v968 V0)) (ix4 b p r c) = (arrs V0).out b p r c := by
  match p with
  | ⟨0, _⟩ => exact (rJoin_lo _ _ b r c).trans (map0 hr b r c)
  | ⟨1, _⟩ => exact (rJoin_hi _ _ b r c).trans (map1 hr b r c)

/-- The whole result. -/
def outArr (A : Arrs) : FVec Ideal S32x2x224x224 .f32 := fun j => A.out (j 0) (j 1) (j 2) (j 3)

theorem join_eq (hr : (arrs V0).IsReal) :
    rJoin (rStretch (res_main_v897 V0) (res_main_v890 V0)) (rStretch (res_main_v975 V0) (res_main_v968 V0)) = outArr (arrs V0) := by
  funext j
  have e : j = ix4 (j 0) (j 1) (j 2) (j 3) := by
    funext a
    match a with
    | ⟨0, _⟩ => rfl
    | ⟨1, _⟩ => rfl
    | ⟨2, _⟩ => rfl
    | ⟨3, _⟩ => rfl
  exact (congrArg _ e).trans (join_apply hr (j 0) (j 1) (j 2) (j 3))

variable (m : (ℓ : Loc nD τ sig) → Buf (Elt Ideal) ℓ) (ρ : Dev nD → PrngReg)

set_option maxRecDepth 8192 in
/-- The reference network's run: the result is the network's, the arguments stay. -/
theorem run_net (hr : ∀ c : Dev nD, (arrs (launchContents m c)).IsReal) :
    θ_run defs (onTc (τ := τ) (main (F := Ideal))) ⟨m, fun _ => 0, ρ⟩ fun r => ∀ c : Dev nD,
      r.2.mem ((c.tc : Thread nD τ).loc main_v998) = outArr (arrs (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26) := by
  refine (θ_run defs _ _).mono (fun _ h c => ⟨(h c).1.trans (Eq.trans ?_ (join_eq (hr c))), (h c).2⟩) (run m ρ)
  unfold rJoin rStretch rLo rHi res_main_v899 res_main_v901 res_main_v977 res_main_v979
  rfl

end Cert.ReferenceIdeal.RV

end
-- ==== Proof.Finite.lean ====
/-
  The precondition says that every entry of the arrays is a real number.
-/
module

public import proofs.«01_k».proof.Proof.Arrs
public import proofs.«01_k».proof.Proof.Real
public import proofs.«01_k».proof.Pre_finite
public import Idealize.ShloMosaic.Lib.ReduceAll

@[expose] public section

noncomputable section

namespace Cert.Spec

open Idealize.ShloMosaic

/-- A word less in size than infinity is a real number. -/
theorem real_of_lt {x : EReal} (h : FloatOps.cmpf (F := Ideal) (φ := FTy.f32) .olt (FloatOps.absf (F := Ideal) (φ := FTy.f32) x) (Ideal.ofBits .f32 0x7F800000#32) = 1#1) :
    x = ((x.toReal : ℝ) : EReal) := by
  rw [lit_inf] at h
  have h2 : max x (-x) < (⊤ : EReal) := by
    by_contra hn
    have : FloatOps.cmpf (F := Ideal) (φ := FTy.f32) .olt (FloatOps.absf (F := Ideal) (φ := FTy.f32) x) (⊤ : EReal) = 0#1 := by
      show BitVec.ofBool (decide (max x (-x) < (⊤ : EReal))) = 0#1
      rw [decide_eq_false hn]
      rfl
    rw [this] at h
    exact absurd h (by decide)
  refine (EReal.coe_toReal ?_ ?_).symm
  · rintro rfl
    simp at h2
  · rintro rfl
    simp at h2

/-- An array whose every entry passes the test has real entries. -/
theorem real_of_all {s : Shape} {axes : List (Fin s.rank)} (x : FVec Ideal s .f32) (hb : Cert.Pre_finite.S_.BroadcastsInDim s ![]) (hr : s.ReducesTo axes Cert.Pre_finite.S_)
    (h0 : 0 < Cert.Pre_finite.S_.numel) (j : Cert.Pre_finite.S_.Idx)
    (e : Host.reduce IntOp.andi (cmpf .olt (Host.absf x) (broadcastInDim s ![] hb (constant Cert.Pre_finite.S_ .f32 0x7F800000#32))) (constantI Cert.Pre_finite.S_ 1 1#1) hr h0 j = 1#1) (i : s.Idx) :
    x i = (((x i).toReal : ℝ) : EReal) :=
  real_of_lt (Host.reduce_andi_all _ _ hr h0 j e i)

theorem andi_at (x y : IVec Cert.Pre_finite.S_ 1) (j : Cert.Pre_finite.S_.Idx) : andi x y j = 1#1 ↔ x j = 1#1 ∧ y j = 1#1 := IntOp.andi_eq_one

/-- The precondition of the arrays. -/
theorem real_of_pre [Cert.Pre_finite.Facts] (a0 : FVec Ideal Cert.Pre_finite.S32x3x224x224 .f32) (A : Arrs)
    (h : Cert.Pre_finite.fn (F := Ideal) a0 A.a1 A.a2 A.a3 A.a4 A.a5 A.a6 A.a7 A.a8 A.a9 A.a10 A.a11 A.a12 A.a13 A.a14 A.a15 A.a16 A.a17 A.a18 A.a19 A.a20 A.a21 A.a22 A.a23 A.a24 A.a25 A.a26 = fun _ => 1#1) : A.IsReal := by
  have h1 := congrFun h (Shape.Idx.first Cert.Pre_finite.Facts.h_S_)
  unfold Cert.Pre_finite.fn Cert.Pre_finite.fn_part1 Cert.Pre_finite.fn_part2 Cert.Pre_finite.fn_part3 Cert.Pre_finite.fn_part4 Cert.Pre_finite.fn_part5 Cert.Pre_finite.fn_part6 Cert.Pre_finite.fn_part7 at h1
  simp only [andi_at, and_assoc] at h1
  obtain ⟨e1, e2, e3, e4, e5, e6, e7, e8, e9, e10, e11, e12, e13, e14, e15, e16, e17, e18, e19, e20, e21, e22, e23, e24, e25, e26⟩ := h1
  exact ⟨real_of_all _ _ _ _ _ e1, real_of_all _ _ _ _ _ e2, real_of_all _ _ _ _ _ e3, real_of_all _ _ _ _ _ e4, real_of_all _ _ _ _ _ e5, real_of_all _ _ _ _ _ e6, real_of_all _ _ _ _ _ e7, real_of_all _ _ _ _ _ e8, real_of_all _ _ _ _ _ e9, real_of_all _ _ _ _ _ e10, real_of_all _ _ _ _ _ e11, real_of_all _ _ _ _ _ e12, real_of_all _ _ _ _ _ e13, real_of_all _ _ _ _ _ e14, real_of_all _ _ _ _ _ e15, real_of_all _ _ _ _ _ e16, real_of_all _ _ _ _ _ e17, real_of_all _ _ _ _ _ e18, real_of_all _ _ _ _ _ e19, real_of_all _ _ _ _ _ e20, real_of_all _ _ _ _ _ e21, real_of_all _ _ _ _ _ e22, real_of_all _ _ _ _ _ e23, real_of_all _ _ _ _ _ e24, real_of_all _ _ _ _ _ e25, real_of_all _ _ _ _ _ e26⟩

end Cert.Spec

end
-- ==== Proof.Algebraic.lean ====
/- The equality of the two ideal programs' results. -/
module

public import proofs.«01_k».proof.Proof.Frames
public import proofs.«01_k».proof.Proof.Gen.Pre_finite
public import proofs.«01_k».proof.Proof.KArr
public import proofs.«01_k».proof.Proof.ROut
public import proofs.«01_k».proof.Proof.Finite

@[expose] public section

noncomputable section

namespace Cert.Proof

open Idealize.ShloMosaic Idealize.SL.Sem

/-- The ideal kernel's frame, where the arrays are finite. -/
theorem frame_pi_finite : quiescent_KernelIdeal_pre_finite := fun m ρ _ => frame_pi m ρ trivial

/-- The ideal reference's frame, where the arrays are finite. -/
theorem frame_ri_finite : quiescent_ReferenceIdeal_pre_finite := fun m ρ _ => frame_ri m ρ trivial

/-- Two families of arrays are one when they are so array by array. -/
theorem arrs_ext {A B : Cert.Spec.Arrs} (h1 : A.a1 = B.a1) (h2 : A.a2 = B.a2) (h3 : A.a3 = B.a3) (h4 : A.a4 = B.a4) (h5 : A.a5 = B.a5) (h6 : A.a6 = B.a6) (h7 : A.a7 = B.a7) (h8 : A.a8 = B.a8) (h9 : A.a9 = B.a9) (h10 : A.a10 = B.a10) (h11 : A.a11 = B.a11) (h12 : A.a12 = B.a12) (h13 : A.a13 = B.a13) (h14 : A.a14 = B.a14) (h15 : A.a15 = B.a15) (h16 : A.a16 = B.a16) (h17 : A.a17 = B.a17) (h18 : A.a18 = B.a18) (h19 : A.a19 = B.a19) (h20 : A.a20 = B.a20) (h21 : A.a21 = B.a21) (h22 : A.a22 = B.a22) (h23 : A.a23 = B.a23) (h24 : A.a24 = B.a24) (h25 : A.a25 = B.a25) (h26 : A.a26 = B.a26) : A = B := by
  obtain ⟨x1, x2, x3, x4, x5, x6, x7, x8, x9, x10, x11, x12, x13, x14, x15, x16, x17, x18, x19, x20, x21, x22, x23, x24, x25, x26⟩ := A
  obtain ⟨y1, y2, y3, y4, y5, y6, y7, y8, y9, y10, y11, y12, y13, y14, y15, y16, y17, y18, y19, y20, y21, y22, y23, y24, y25, y26⟩ := B
  subst h1 h2 h3 h4 h5 h6 h7 h8 h9 h10 h11 h12 h13 h14 h15 h16 h17 h18 h19 h20 h21 h22 h23 h24 h25 h26
  rfl

set_option maxRecDepth 8192 in
/-- On arrays of real numbers the two ideal programs end with the same result: the network's. -/
theorem algebraic : algebraic_KernelIdeal_ReferenceIdeal_pre_finite := by
  intro m ρ m' ρ' hpre hagree
  have hk : ∀ c : Dev Cert.KernelIdeal.nD, (Cert.KernelIdeal.KV.arrs m c).IsReal := fun c =>
    Cert.Spec.real_of_pre _ (Cert.KernelIdeal.KV.arrs m c) (hpre c)
  have ha : ∀ c : Dev Cert.ReferenceIdeal.nD,
      Cert.ReferenceIdeal.RV.arrs (StableHlo.launchContents m' c) = Cert.KernelIdeal.KV.arrs m c := by
    intro c
    obtain ⟨_, h1, h2, h3, h4, h5, h6, h7, h8, h9, h10, h11, h12, h13, h14, h15, h16, h17, h18, h19, h20, h21, h22, h23, h24, h25, h26⟩ := hagree c
    exact arrs_ext h1 h2 h3 h4 h5 h6 h7 h8 h9 h10 h11 h12 h13 h14 h15 h16 h17 h18 h19 h20 h21 h22 h23 h24 h25 h26
  have hr : ∀ c : Dev Cert.ReferenceIdeal.nD,
      (Cert.ReferenceIdeal.RV.arrs (StableHlo.launchContents m' c)).IsReal := fun c => (ha c).symm ▸ hk c
  refine ⟨fun c => Cert.KernelIdeal.KV.outArr (Cert.KernelIdeal.KV.arrs m c), ?_, ?_⟩
  · exact (θ_run Cert.KernelIdeal.defs _ _).mono
      (fun _ h c => ⟨(h c).1.trans (Cert.KernelIdeal.KV.final_eq m c (hk c)), (h c).2⟩)
      (Cert.KernelIdeal.Value.run_blocks m ρ)
  · exact (θ_run Cert.ReferenceIdeal.defs _ _).mono
      (fun _ h c => ⟨(h c).1.trans (congrArg Cert.ReferenceIdeal.RV.outArr (ha c)), (h c).2⟩)
      (Cert.ReferenceIdeal.RV.run_net m' ρ' hr)

end Cert.Proof

end
-- ==== Proof.lean ====
/- The certificate: the programs' side conditions, the frames, the idealization and the
   equality of the two ideal programs. -/
module

public import proofs.«01_k».proof.Proof.Frames
public import proofs.«01_k».proof.Proof.Algebraic
public import proofs.«01_k».proof.Proof.Gen.Pre_finite

@[expose] public section

noncomputable section

namespace Cert.Proof

/-- Every claim of the certificate. -/
theorem claim : Cert.Claim :=
  ⟨Cert.Kernel.Gen.facts, Cert.KernelIdeal.Gen.facts, Cert.ReferenceIdeal.Gen.facts, Cert.Pre_finite.Gen.facts,
   frame_p, frame_pi, frame_pi_finite, frame_ri, frame_ri_finite, preserves, algebraic⟩

end Cert.Proof

end
